-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_BranchDx (m : (ℓ : Loc Cert.BranchDx.nD Cert.BranchDx.τ Cert.BranchDx.sig) → Buf (Elt Bits) ℓ) : Prop :=
  True

def Pre_BranchDxIdeal (m : (ℓ : Loc Cert.BranchDxIdeal.nD Cert.BranchDxIdeal.τ Cert.BranchDxIdeal.sig) → Buf (Elt Ideal) ℓ) : Prop :=
  True

def Pre_BranchDxRefIdeal (m : (ℓ : Loc Cert.BranchDxRefIdeal.nD Cert.BranchDxRefIdeal.τ Cert.BranchDxRefIdeal.sig) → Buf (Elt Ideal) ℓ) : Prop :=
  True

def Pre_SquareDw (m : (ℓ : Loc Cert.SquareDw.nD Cert.SquareDw.τ Cert.SquareDw.sig) → Buf (Elt Bits) ℓ) : Prop :=
  True

def Pre_SquareDwIdeal (m : (ℓ : Loc Cert.SquareDwIdeal.nD Cert.SquareDwIdeal.τ Cert.SquareDwIdeal.sig) → Buf (Elt Ideal) ℓ) : Prop :=
  True

def Pre_SquareDwRefIdeal (m : (ℓ : Loc Cert.SquareDwRefIdeal.nD Cert.SquareDwRefIdeal.τ Cert.SquareDwRefIdeal.sig) → Buf (Elt Ideal) ℓ) : Prop :=
  True

def Pre_ProjDx (m : (ℓ : Loc Cert.ProjDx.nD Cert.ProjDx.τ Cert.ProjDx.sig) → Buf (Elt Bits) ℓ) : Prop :=
  True

def Pre_ProjDxIdeal (m : (ℓ : Loc Cert.ProjDxIdeal.nD Cert.ProjDxIdeal.τ Cert.ProjDxIdeal.sig) → Buf (Elt Ideal) ℓ) : Prop :=
  True

def Pre_ProjDxRefIdeal (m : (ℓ : Loc Cert.ProjDxRefIdeal.nD Cert.ProjDxRefIdeal.τ Cert.ProjDxRefIdeal.sig) → Buf (Elt Ideal) ℓ) : Prop :=
  True

def Pre_ProjDw (m : (ℓ : Loc Cert.ProjDw.nD Cert.ProjDw.τ Cert.ProjDw.sig) → Buf (Elt Bits) ℓ) : Prop :=
  True

def Pre_ProjDwIdeal (m : (ℓ : Loc Cert.ProjDwIdeal.nD Cert.ProjDwIdeal.τ Cert.ProjDwIdeal.sig) → Buf (Elt Ideal) ℓ) : Prop :=
  True

def Pre_ProjDwRefIdeal (m : (ℓ : Loc Cert.ProjDwRefIdeal.nD Cert.ProjDwRefIdeal.τ Cert.ProjDwRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchRefIdeal (m : (ℓ : Loc Cert.BranchRefIdeal.nD Cert.BranchRefIdeal.τ Cert.BranchRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdRefIdeal (m : (ℓ : Loc Cert.ConvBwdRefIdeal.nD Cert.ConvBwdRefIdeal.τ Cert.ConvBwdRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_SwaFwd (m : (ℓ : Loc Cert.SwaFwd.nD Cert.SwaFwd.τ Cert.SwaFwd.sig) → Buf (Elt Bits) ℓ) : Prop :=
  True

def Pre_SwaFwdIdeal (m : (ℓ : Loc Cert.SwaFwdIdeal.nD Cert.SwaFwdIdeal.τ Cert.SwaFwdIdeal.sig) → Buf (Elt Ideal) ℓ) : Prop :=
  True

def Pre_SwaFwdRefIdeal (m : (ℓ : Loc Cert.SwaFwdRefIdeal.nD Cert.SwaFwdRefIdeal.τ Cert.SwaFwdRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_AdamSquare (m : (ℓ : Loc Cert.AdamSquare.nD Cert.AdamSquare.τ Cert.AdamSquare.sig) → Buf (Elt Bits) ℓ) : Prop :=
  True

def Pre_AdamSquareIdeal (m : (ℓ : Loc Cert.AdamSquareIdeal.nD Cert.AdamSquareIdeal.τ Cert.AdamSquareIdeal.sig) → Buf (Elt Ideal) ℓ) : Prop :=
  True

def Pre_AdamSquareRefIdeal (m : (ℓ : Loc Cert.AdamSquareRefIdeal.nD Cert.AdamSquareRefIdeal.τ Cert.AdamSquareRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_BranchDx [hBranchDx : Cert.BranchDx.Facts] : Prop :=
  ∀ (m : (ℓ : Loc Cert.BranchDx.nD Cert.BranchDx.τ Cert.BranchDx.sig) → Buf (Elt Bits) ℓ) (g : Dev Cert.BranchDx.nD → PrngReg), Pre_BranchDx m →
    θ_run (Cert.BranchDx.defs (F := Bits)) (onTc (τ := Cert.BranchDx.τ) (Cert.BranchDx.main (F := Bits))) ⟨m, fun _ => 0, g⟩ (fun r => (∀ c : Dev Cert.BranchDx.nD,
      r.2.mem ((c.tc : Thread Cert.BranchDx.nD Cert.BranchDx.τ).loc Cert.BranchDx.main_arg0) = m ((c.tc : Thread Cert.BranchDx.nD Cert.BranchDx.τ).loc Cert.BranchDx.main_arg0)
      ∧ r.2.mem ((c.tc : Thread Cert.BranchDx.nD Cert.BranchDx.τ).loc Cert.BranchDx.main_arg1) = m ((c.tc : Thread Cert.BranchDx.nD Cert.BranchDx.τ).loc Cert.BranchDx.main_arg1))
      ∧ r.2.sem = fun _ => 0)

def quiescent_BranchDxIdeal [hBranchDxIdeal : Cert.BranchDxIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg), Pre_BranchDxIdeal m →
    θ_run (Cert.BranchDxIdeal.defs (F := Ideal)) (onTc (τ := Cert.BranchDxIdeal.τ) (Cert.BranchDxIdeal.main (F := Ideal))) ⟨m, fun _ => 0, g⟩ (fun r => (∀ c : Dev Cert.BranchDxIdeal.nD,
      r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
      ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1))
      ∧ r.2.sem = fun _ => 0)

def quiescent_BranchDxRefIdeal [hBranchDxRefIdeal : Cert.BranchDxRefIdeal.Facts] : Prop :=
  ∀ (m : (ℓ : Loc Cert.BranchDxRefIdeal.nD Cert.BranchDxRefIdeal.τ Cert.BranchDxRefIdeal.sig) → Buf (Elt Ideal) ℓ) (g : Dev Cert.BranchDxRefIdeal.nD → PrngReg), Pre_BranchDxRefIdeal m →
    θ_run (Cert.BranchDxRefIdeal.defs (F := Ideal)) (onTc (τ := Cert.BranchDxRefIdeal.τ) (Cert.BranchDxRefIdeal.main (F := Ideal))) ⟨m, fun _ => 0, g⟩ (fun r => (∀ c : Dev Cert.BranchDxRefIdeal.nD,
      r.2.mem ((c.tc : Thread Cert.BranchDxRefIdeal.nD Cert.BranchDxRefIdeal.τ).loc Cert.BranchDxRefIdeal.main_arg0) = m ((c.tc : Thread Cert.BranchDxRefIdeal.nD Cert.BranchDxRefIdeal.τ).loc Cert.BranchDxRefIdeal.main_arg0)
      ∧ r.2.mem ((c.tc : Thread Cert.BranchDxRefIdeal.nD Cert.BranchDxRefIdeal.τ).loc Cert.BranchDxRefIdeal.main_arg1) = m ((c.tc : Thread Cert.BranchDxRefIdeal.nD Cert.BranchDxRefIdeal.τ).loc Cert.BranchDxRefIdeal.main_arg1))
      ∧ r.2.sem = fun _ => 0)

def quiescent_SquareDw [hSquareDw : Cert.SquareDw.Facts] : Prop :=
  ∀ (m : (ℓ : Loc Cert.SquareDw.nD Cert.SquareDw.τ Cert.SquareDw.sig) → Buf (Elt Bits) ℓ) (g : Dev Cert.SquareDw.nD → PrngReg), Pre_SquareDw m →
    θ_run (Cert.SquareDw.defs (F := Bits)) (onTc (τ := Cert.SquareDw.τ) (Cert.SquareDw.main (F := Bits))) ⟨m, fun _ => 0, g⟩ (fun r => (∀ c : Dev Cert.SquareDw.nD,
      r.2.mem ((c.tc : Thread Cert.SquareDw.nD Cert.SquareDw.τ).loc Cert.SquareDw.main_arg0) = m ((c.tc : Thread Cert.SquareDw.nD Cert.SquareDw.τ).loc Cert.SquareDw.main_arg0)
      ∧ r.2.mem ((c.tc : Thread Cert.SquareDw.nD Cert.SquareDw.τ).loc Cert.SquareDw.main_arg1) = m ((c.tc : Thread Cert.SquareDw.nD Cert.SquareDw.τ).loc Cert.SquareDw.main_arg1))
      ∧ r.2.sem = fun _ => 0)

def quiescent_SquareDwIdeal [hSquareDwIdeal : Cert.SquareDwIdeal.Facts] : Prop :=
  ∀ (m : (ℓ : Loc Cert.SquareDwIdeal.nD Cert.SquareDwIdeal.τ Cert.SquareDwIdeal.sig) → Buf (Elt Ideal) ℓ) (g : Dev Cert.SquareDwIdeal.nD → PrngReg), Pre_SquareDwIdeal m →
    θ_run (Cert.SquareDwIdeal.defs (F := Ideal)) (onTc (τ := Cert.SquareDwIdeal.τ) (Cert.SquareDwIdeal.main (F := Ideal))) ⟨m, fun _ => 0, g⟩ (fun r => (∀ c : Dev Cert.SquareDwIdeal.nD,
      r.2.mem ((c.tc : Thread Cert.SquareDwIdeal.nD Cert.SquareDwIdeal.τ).loc Cert.SquareDwIdeal.main_arg0) = m ((c.tc : Thread Cert.SquareDwIdeal.nD Cert.SquareDwIdeal.τ).loc Cert.SquareDwIdeal.main_arg0)
      ∧ r.2.mem ((c.tc : Thread Cert.SquareDwIdeal.nD Cert.SquareDwIdeal.τ).loc Cert.SquareDwIdeal.main_arg1) = m ((c.tc : Thread Cert.SquareDwIdeal.nD Cert.SquareDwIdeal.τ).loc Cert.SquareDwIdeal.main_arg1))
      ∧ r.2.sem = fun _ => 0)

def quiescent_SquareDwRefIdeal [hSquareDwRefIdeal : Cert.SquareDwRefIdeal.Facts] : Prop :=
  ∀ (m : (ℓ : Loc Cert.SquareDwRefIdeal.nD Cert.SquareDwRefIdeal.τ Cert.SquareDwRefIdeal.sig) → Buf (Elt Ideal) ℓ) (g : Dev Cert.SquareDwRefIdeal.nD → PrngReg), Pre_SquareDwRefIdeal m →
    θ_run (Cert.SquareDwRefIdeal.defs (F := Ideal)) (onTc (τ := Cert.SquareDwRefIdeal.τ) (Cert.SquareDwRefIdeal.main (F := Ideal))) ⟨m, fun _ => 0, g⟩ (fun r => (∀ c : Dev Cert.SquareDwRefIdeal.nD,
      r.2.mem ((c.tc : Thread Cert.SquareDwRefIdeal.nD Cert.SquareDwRefIdeal.τ).loc Cert.SquareDwRefIdeal.main_arg0) = m ((c.tc : Thread Cert.SquareDwRefIdeal.nD Cert.SquareDwRefIdeal.τ).loc Cert.SquareDwRefIdeal.main_arg0)
      ∧ r.2.mem ((c.tc : Thread Cert.SquareDwRefIdeal.nD Cert.SquareDwRefIdeal.τ).loc Cert.SquareDwRefIdeal.main_arg1) = m ((c.tc : Thread Cert.SquareDwRefIdeal.nD Cert.SquareDwRefIdeal.τ).loc Cert.SquareDwRefIdeal.main_arg1))
      ∧ r.2.sem = fun _ => 0)

def quiescent_ProjDx [hProjDx : Cert.ProjDx.Facts] : Prop :=
  ∀ (m : (ℓ : Loc Cert.ProjDx.nD Cert.ProjDx.τ Cert.ProjDx.sig) → Buf (Elt Bits) ℓ) (g : Dev Cert.ProjDx.nD → PrngReg), Pre_ProjDx m →
    θ_run (Cert.ProjDx.defs (F := Bits)) (onTc (τ := Cert.ProjDx.τ) (Cert.ProjDx.main (F := Bits))) ⟨m, fun _ => 0, g⟩ (fun r => (∀ c : Dev Cert.ProjDx.nD,
      r.2.mem ((c.tc : Thread Cert.ProjDx.nD Cert.ProjDx.τ).loc Cert.ProjDx.main_arg0) = m ((c.tc : Thread Cert.ProjDx.nD Cert.ProjDx.τ).loc Cert.ProjDx.main_arg0)
      ∧ r.2.mem ((c.tc : Thread Cert.ProjDx.nD Cert.ProjDx.τ).loc Cert.ProjDx.main_arg1) = m ((c.tc : Thread Cert.ProjDx.nD Cert.ProjDx.τ).loc Cert.ProjDx.main_arg1))
      ∧ r.2.sem = fun _ => 0)

def quiescent_ProjDxIdeal [hProjDxIdeal : Cert.ProjDxIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg), Pre_ProjDxIdeal m →
    θ_run (Cert.ProjDxIdeal.defs (F := Ideal)) (onTc (τ := Cert.ProjDxIdeal.τ) (Cert.ProjDxIdeal.main (F := Ideal))) ⟨m, fun _ => 0, g⟩ (fun r => (∀ c : Dev Cert.ProjDxIdeal.nD,
      r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
      ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1))
      ∧ r.2.sem = fun _ => 0)

def quiescent_ProjDxRefIdeal [hProjDxRefIdeal : Cert.ProjDxRefIdeal.Facts] : Prop :=
  ∀ (m : (ℓ : Loc Cert.ProjDxRefIdeal.nD Cert.ProjDxRefIdeal.τ Cert.ProjDxRefIdeal.sig) → Buf (Elt Ideal) ℓ) (g : Dev Cert.ProjDxRefIdeal.nD → PrngReg), Pre_ProjDxRefIdeal m →
    θ_run (Cert.ProjDxRefIdeal.defs (F := Ideal)) (onTc (τ := Cert.ProjDxRefIdeal.τ) (Cert.ProjDxRefIdeal.main (F := Ideal))) ⟨m, fun _ => 0, g⟩ (fun r => (∀ c : Dev Cert.ProjDxRefIdeal.nD,
      r.2.mem ((c.tc : Thread Cert.ProjDxRefIdeal.nD Cert.ProjDxRefIdeal.τ).loc Cert.ProjDxRefIdeal.main_arg0) = m ((c.tc : Thread Cert.ProjDxRefIdeal.nD Cert.ProjDxRefIdeal.τ).loc Cert.ProjDxRefIdeal.main_arg0)
      ∧ r.2.mem ((c.tc : Thread Cert.ProjDxRefIdeal.nD Cert.ProjDxRefIdeal.τ).loc Cert.ProjDxRefIdeal.main_arg1) = m ((c.tc : Thread Cert.ProjDxRefIdeal.nD Cert.ProjDxRefIdeal.τ).loc Cert.ProjDxRefIdeal.main_arg1))
      ∧ r.2.sem = fun _ => 0)

def quiescent_ProjDw [hProjDw : Cert.ProjDw.Facts] : Prop :=
  ∀ (m : (ℓ : Loc Cert.ProjDw.nD Cert.ProjDw.τ Cert.ProjDw.sig) → Buf (Elt Bits) ℓ) (g : Dev Cert.ProjDw.nD → PrngReg), Pre_ProjDw m →
    θ_run (Cert.ProjDw.defs (F := Bits)) (onTc (τ := Cert.ProjDw.τ) (Cert.ProjDw.main (F := Bits))) ⟨m, fun _ => 0, g⟩ (fun r => (∀ c : Dev Cert.ProjDw.nD,
      r.2.mem ((c.tc : Thread Cert.ProjDw.nD Cert.ProjDw.τ).loc Cert.ProjDw.main_arg0) = m ((c.tc : Thread Cert.ProjDw.nD Cert.ProjDw.τ).loc Cert.ProjDw.main_arg0)
      ∧ r.2.mem ((c.tc : Thread Cert.ProjDw.nD Cert.ProjDw.τ).loc Cert.ProjDw.main_arg1) = m ((c.tc : Thread Cert.ProjDw.nD Cert.ProjDw.τ).loc Cert.ProjDw.main_arg1))
      ∧ r.2.sem = fun _ => 0)

def quiescent_ProjDwIdeal [hProjDwIdeal : Cert.ProjDwIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg), Pre_ProjDwIdeal m →
    θ_run (Cert.ProjDwIdeal.defs (F := Ideal)) (onTc (τ := Cert.ProjDwIdeal.τ) (Cert.ProjDwIdeal.main (F := Ideal))) ⟨m, fun _ => 0, g⟩ (fun r => (∀ c : Dev Cert.ProjDwIdeal.nD,
      r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
      ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ r.2.sem = fun _ => 0)

def quiescent_ProjDwRefIdeal [hProjDwRefIdeal : Cert.ProjDwRefIdeal.Facts] : Prop :=
  ∀ (m : (ℓ : Loc Cert.ProjDwRefIdeal.nD Cert.ProjDwRefIdeal.τ Cert.ProjDwRefIdeal.sig) → Buf (Elt Ideal) ℓ) (g : Dev Cert.ProjDwRefIdeal.nD → PrngReg), Pre_ProjDwRefIdeal m →
    θ_run (Cert.ProjDwRefIdeal.defs (F := Ideal)) (onTc (τ := Cert.ProjDwRefIdeal.τ) (Cert.ProjDwRefIdeal.main (F := Ideal))) ⟨m, fun _ => 0, g⟩ (fun r => (∀ c : Dev Cert.ProjDwRefIdeal.nD,
      r.2.mem ((c.tc : Thread Cert.ProjDwRefIdeal.nD Cert.ProjDwRefIdeal.τ).loc Cert.ProjDwRefIdeal.main_arg0) = m ((c.tc : Thread Cert.ProjDwRefIdeal.nD Cert.ProjDwRefIdeal.τ).loc Cert.ProjDwRefIdeal.main_arg0)
      ∧ r.2.mem ((c.tc : Thread Cert.ProjDwRefIdeal.nD Cert.ProjDwRefIdeal.τ).loc Cert.ProjDwRefIdeal.main_arg1) = m ((c.tc : Thread Cert.ProjDwRefIdeal.nD Cert.ProjDwRefIdeal.τ).loc Cert.ProjDwRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ r.2.sem = fun _ => 0)

def quiescent_BranchRefIdeal [hBranchRefIdeal : Cert.BranchRefIdeal.Facts] : Prop :=
  ∀ (m : (ℓ : Loc Cert.BranchRefIdeal.nD Cert.BranchRefIdeal.τ Cert.BranchRefIdeal.sig) → Buf (Elt Ideal) ℓ) (g : Dev Cert.BranchRefIdeal.nD → PrngReg), Pre_BranchRefIdeal m →
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0)
      ∧ r.2.mem ((c.tc : Thread Cert.BranchRefIdeal.nD Cert.BranchRefIdeal.τ).loc Cert.BranchRefIdeal.main_arg1) = m ((c.tc : Thread Cert.BranchRefIdeal.nD Cert.BranchRefIdeal.τ).loc Cert.BranchRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2)
      ∧ r.2.mem ((c.tc : Thread Cert.ConvBwdRefIdeal.nD Cert.ConvBwdRefIdeal.τ).loc Cert.ConvBwdRefIdeal.main_arg3) = m ((c.tc : Thread Cert.ConvBwdRefIdeal.nD Cert.ConvBwdRefIdeal.τ).loc Cert.ConvBwdRefIdeal.main_arg3))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1))
      ∧ r.2.sem = fun _ => 0)

def quiescent_SwaFwd [hSwaFwd : Cert.SwaFwd.Facts] : Prop :=
  ∀ (m : (ℓ : Loc Cert.SwaFwd.nD Cert.SwaFwd.τ Cert.SwaFwd.sig) → Buf (Elt Bits) ℓ) (g : Dev Cert.SwaFwd.nD → PrngReg), Pre_SwaFwd m →
    θ_run (Cert.SwaFwd.defs (F := Bits)) (onTc (τ := Cert.SwaFwd.τ) (Cert.SwaFwd.main (F := Bits))) ⟨m, fun _ => 0, g⟩ (fun r => (∀ c : Dev Cert.SwaFwd.nD,
      r.2.mem ((c.tc : Thread Cert.SwaFwd.nD Cert.SwaFwd.τ).loc Cert.SwaFwd.main_arg0) = m ((c.tc : Thread Cert.SwaFwd.nD Cert.SwaFwd.τ).loc Cert.SwaFwd.main_arg0)
      ∧ r.2.mem ((c.tc : Thread Cert.SwaFwd.nD Cert.SwaFwd.τ).loc Cert.SwaFwd.main_arg1) = m ((c.tc : Thread Cert.SwaFwd.nD Cert.SwaFwd.τ).loc Cert.SwaFwd.main_arg1)
      ∧ r.2.mem ((c.tc : Thread Cert.SwaFwd.nD Cert.SwaFwd.τ).loc Cert.SwaFwd.main_arg2) = m ((c.tc : Thread Cert.SwaFwd.nD Cert.SwaFwd.τ).loc Cert.SwaFwd.main_arg2)
      ∧ r.2.mem ((c.tc : Thread Cert.SwaFwd.nD Cert.SwaFwd.τ).loc Cert.SwaFwd.main_arg3) = m ((c.tc : Thread Cert.SwaFwd.nD Cert.SwaFwd.τ).loc Cert.SwaFwd.main_arg3))
      ∧ r.2.sem = fun _ => 0)

def quiescent_SwaFwdIdeal [hSwaFwdIdeal : Cert.SwaFwdIdeal.Facts] : Prop :=
  ∀ (m : (ℓ : Loc Cert.SwaFwdIdeal.nD Cert.SwaFwdIdeal.τ Cert.SwaFwdIdeal.sig) → Buf (Elt Ideal) ℓ) (g : Dev Cert.SwaFwdIdeal.nD → PrngReg), Pre_SwaFwdIdeal m →
    θ_run (Cert.SwaFwdIdeal.defs (F := Ideal)) (onTc (τ := Cert.SwaFwdIdeal.τ) (Cert.SwaFwdIdeal.main (F := Ideal))) ⟨m, fun _ => 0, g⟩ (fun r => (∀ c : Dev Cert.SwaFwdIdeal.nD,
      r.2.mem ((c.tc : Thread Cert.SwaFwdIdeal.nD Cert.SwaFwdIdeal.τ).loc Cert.SwaFwdIdeal.main_arg0) = m ((c.tc : Thread Cert.SwaFwdIdeal.nD Cert.SwaFwdIdeal.τ).loc Cert.SwaFwdIdeal.main_arg0)
      ∧ r.2.mem ((c.tc : Thread Cert.SwaFwdIdeal.nD Cert.SwaFwdIdeal.τ).loc Cert.SwaFwdIdeal.main_arg1) = m ((c.tc : Thread Cert.SwaFwdIdeal.nD Cert.SwaFwdIdeal.τ).loc Cert.SwaFwdIdeal.main_arg1)
      ∧ r.2.mem ((c.tc : Thread Cert.SwaFwdIdeal.nD Cert.SwaFwdIdeal.τ).loc Cert.SwaFwdIdeal.main_arg2) = m ((c.tc : Thread Cert.SwaFwdIdeal.nD Cert.SwaFwdIdeal.τ).loc Cert.SwaFwdIdeal.main_arg2)
      ∧ r.2.mem ((c.tc : Thread Cert.SwaFwdIdeal.nD Cert.SwaFwdIdeal.τ).loc Cert.SwaFwdIdeal.main_arg3) = m ((c.tc : Thread Cert.SwaFwdIdeal.nD Cert.SwaFwdIdeal.τ).loc Cert.SwaFwdIdeal.main_arg3))
      ∧ r.2.sem = fun _ => 0)

def quiescent_SwaFwdRefIdeal [hSwaFwdRefIdeal : Cert.SwaFwdRefIdeal.Facts] : Prop :=
  ∀ (m : (ℓ : Loc Cert.SwaFwdRefIdeal.nD Cert.SwaFwdRefIdeal.τ Cert.SwaFwdRefIdeal.sig) → Buf (Elt Ideal) ℓ) (g : Dev Cert.SwaFwdRefIdeal.nD → PrngReg), Pre_SwaFwdRefIdeal m →
    θ_run (Cert.SwaFwdRefIdeal.defs (F := Ideal)) (onTc (τ := Cert.SwaFwdRefIdeal.τ) (Cert.SwaFwdRefIdeal.main (F := Ideal))) ⟨m, fun _ => 0, g⟩ (fun r => (∀ c : Dev Cert.SwaFwdRefIdeal.nD,
      r.2.mem ((c.tc : Thread Cert.SwaFwdRefIdeal.nD Cert.SwaFwdRefIdeal.τ).loc Cert.SwaFwdRefIdeal.main_arg0) = m ((c.tc : Thread Cert.SwaFwdRefIdeal.nD Cert.SwaFwdRefIdeal.τ).loc Cert.SwaFwdRefIdeal.main_arg0)
      ∧ r.2.mem ((c.tc : Thread Cert.SwaFwdRefIdeal.nD Cert.SwaFwdRefIdeal.τ).loc Cert.SwaFwdRefIdeal.main_arg1) = m ((c.tc : Thread Cert.SwaFwdRefIdeal.nD Cert.SwaFwdRefIdeal.τ).loc Cert.SwaFwdRefIdeal.main_arg1)
      ∧ r.2.mem ((c.tc : Thread Cert.SwaFwdRefIdeal.nD Cert.SwaFwdRefIdeal.τ).loc Cert.SwaFwdRefIdeal.main_arg2) = m ((c.tc : Thread Cert.SwaFwdRefIdeal.nD Cert.SwaFwdRefIdeal.τ).loc Cert.SwaFwdRefIdeal.main_arg2)
      ∧ r.2.mem ((c.tc : Thread Cert.SwaFwdRefIdeal.nD Cert.SwaFwdRefIdeal.τ).loc Cert.SwaFwdRefIdeal.main_arg3) = m ((c.tc : Thread Cert.SwaFwdRefIdeal.nD Cert.SwaFwdRefIdeal.τ).loc Cert.SwaFwdRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_AdamSquare [hAdamSquare : Cert.AdamSquare.Facts] : Prop :=
  ∀ (m : (ℓ : Loc Cert.AdamSquare.nD Cert.AdamSquare.τ Cert.AdamSquare.sig) → Buf (Elt Bits) ℓ) (g : Dev Cert.AdamSquare.nD → PrngReg), Pre_AdamSquare m →
    θ_run (Cert.AdamSquare.defs (F := Bits)) (onTc (τ := Cert.AdamSquare.τ) (Cert.AdamSquare.main (F := Bits))) ⟨m, fun _ => 0, g⟩ (fun r => (∀ c : Dev Cert.AdamSquare.nD,
      r.2.mem ((c.tc : Thread Cert.AdamSquare.nD Cert.AdamSquare.τ).loc Cert.AdamSquare.main_arg0) = m ((c.tc : Thread Cert.AdamSquare.nD Cert.AdamSquare.τ).loc Cert.AdamSquare.main_arg0)
      ∧ r.2.mem ((c.tc : Thread Cert.AdamSquare.nD Cert.AdamSquare.τ).loc Cert.AdamSquare.main_arg1) = m ((c.tc : Thread Cert.AdamSquare.nD Cert.AdamSquare.τ).loc Cert.AdamSquare.main_arg1)
      ∧ r.2.mem ((c.tc : Thread Cert.AdamSquare.nD Cert.AdamSquare.τ).loc Cert.AdamSquare.main_arg2) = m ((c.tc : Thread Cert.AdamSquare.nD Cert.AdamSquare.τ).loc Cert.AdamSquare.main_arg2)
      ∧ r.2.mem ((c.tc : Thread Cert.AdamSquare.nD Cert.AdamSquare.τ).loc Cert.AdamSquare.main_arg3) = m ((c.tc : Thread Cert.AdamSquare.nD Cert.AdamSquare.τ).loc Cert.AdamSquare.main_arg3)
      ∧ r.2.mem ((c.tc : Thread Cert.AdamSquare.nD Cert.AdamSquare.τ).loc Cert.AdamSquare.main_arg4) = m ((c.tc : Thread Cert.AdamSquare.nD Cert.AdamSquare.τ).loc Cert.AdamSquare.main_arg4)
      ∧ r.2.mem ((c.tc : Thread Cert.AdamSquare.nD Cert.AdamSquare.τ).loc Cert.AdamSquare.main_arg5) = m ((c.tc : Thread Cert.AdamSquare.nD Cert.AdamSquare.τ).loc Cert.AdamSquare.main_arg5)
      ∧ r.2.mem ((c.tc : Thread Cert.AdamSquare.nD Cert.AdamSquare.τ).loc Cert.AdamSquare.main_arg6) = m ((c.tc : Thread Cert.AdamSquare.nD Cert.AdamSquare.τ).loc Cert.AdamSquare.main_arg6))
      ∧ r.2.sem = fun _ => 0)

def quiescent_AdamSquareIdeal [hAdamSquareIdeal : Cert.AdamSquareIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg), Pre_AdamSquareIdeal m →
    θ_run (Cert.AdamSquareIdeal.defs (F := Ideal)) (onTc (τ := Cert.AdamSquareIdeal.τ) (Cert.AdamSquareIdeal.main (F := Ideal))) ⟨m, fun _ => 0, g⟩ (fun r => (∀ c : Dev Cert.AdamSquareIdeal.nD,
      r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
      ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
      ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
      ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3)
      ∧ r.2.mem ((c.tc : Thread Cert.AdamSquareIdeal.nD Cert.AdamSquareIdeal.τ).loc Cert.AdamSquareIdeal.main_arg4) = m ((c.tc : Thread Cert.AdamSquareIdeal.nD Cert.AdamSquareIdeal.τ).loc Cert.AdamSquareIdeal.main_arg4)
      ∧ r.2.mem ((c.tc : Thread Cert.AdamSquareIdeal.nD Cert.AdamSquareIdeal.τ).loc Cert.AdamSquareIdeal.main_arg5) = m ((c.tc : Thread Cert.AdamSquareIdeal.nD Cert.AdamSquareIdeal.τ).loc Cert.AdamSquareIdeal.main_arg5)
      ∧ r.2.mem ((c.tc : Thread Cert.AdamSquareIdeal.nD Cert.AdamSquareIdeal.τ).loc Cert.AdamSquareIdeal.main_arg6) = m ((c.tc : Thread Cert.AdamSquareIdeal.nD Cert.AdamSquareIdeal.τ).loc Cert.AdamSquareIdeal.main_arg6))
      ∧ r.2.sem = fun _ => 0)

def quiescent_AdamSquareRefIdeal [hAdamSquareRefIdeal : Cert.AdamSquareRefIdeal.Facts] : Prop :=
  ∀ (m : (ℓ : Loc Cert.AdamSquareRefIdeal.nD Cert.AdamSquareRefIdeal.τ Cert.AdamSquareRefIdeal.sig) → Buf (Elt Ideal) ℓ) (g : Dev Cert.AdamSquareRefIdeal.nD → PrngReg), Pre_AdamSquareRefIdeal m →
    θ_run (Cert.AdamSquareRefIdeal.defs (F := Ideal)) (onTc (τ := Cert.AdamSquareRefIdeal.τ) (Cert.AdamSquareRefIdeal.main (F := Ideal))) ⟨m, fun _ => 0, g⟩ (fun r => (∀ c : Dev Cert.AdamSquareRefIdeal.nD,
      r.2.mem ((c.tc : Thread Cert.AdamSquareRefIdeal.nD Cert.AdamSquareRefIdeal.τ).loc Cert.AdamSquareRefIdeal.main_arg0) = m ((c.tc : Thread Cert.AdamSquareRefIdeal.nD Cert.AdamSquareRefIdeal.τ).loc Cert.AdamSquareRefIdeal.main_arg0)
      ∧ r.2.mem ((c.tc : Thread Cert.AdamSquareRefIdeal.nD Cert.AdamSquareRefIdeal.τ).loc Cert.AdamSquareRefIdeal.main_arg1) = m ((c.tc : Thread Cert.AdamSquareRefIdeal.nD Cert.AdamSquareRefIdeal.τ).loc Cert.AdamSquareRefIdeal.main_arg1)
      ∧ r.2.mem ((c.tc : Thread Cert.AdamSquareRefIdeal.nD Cert.AdamSquareRefIdeal.τ).loc Cert.AdamSquareRefIdeal.main_arg2) = m ((c.tc : Thread Cert.AdamSquareRefIdeal.nD Cert.AdamSquareRefIdeal.τ).loc Cert.AdamSquareRefIdeal.main_arg2)
      ∧ r.2.mem ((c.tc : Thread Cert.AdamSquareRefIdeal.nD Cert.AdamSquareRefIdeal.τ).loc Cert.AdamSquareRefIdeal.main_arg3) = m ((c.tc : Thread Cert.AdamSquareRefIdeal.nD Cert.AdamSquareRefIdeal.τ).loc Cert.AdamSquareRefIdeal.main_arg3)
      ∧ r.2.mem ((c.tc : Thread Cert.AdamSquareRefIdeal.nD Cert.AdamSquareRefIdeal.τ).loc Cert.AdamSquareRefIdeal.main_arg4) = m ((c.tc : Thread Cert.AdamSquareRefIdeal.nD Cert.AdamSquareRefIdeal.τ).loc Cert.AdamSquareRefIdeal.main_arg4)
      ∧ r.2.mem ((c.tc : Thread Cert.AdamSquareRefIdeal.nD Cert.AdamSquareRefIdeal.τ).loc Cert.AdamSquareRefIdeal.main_arg5) = m ((c.tc : Thread Cert.AdamSquareRefIdeal.nD Cert.AdamSquareRefIdeal.τ).loc Cert.AdamSquareRefIdeal.main_arg5)
      ∧ r.2.mem ((c.tc : Thread Cert.AdamSquareRefIdeal.nD Cert.AdamSquareRefIdeal.τ).loc Cert.AdamSquareRefIdeal.main_arg6) = m ((c.tc : Thread Cert.AdamSquareRefIdeal.nD Cert.AdamSquareRefIdeal.τ).loc Cert.AdamSquareRefIdeal.main_arg6))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)) (v2 : (c : Dev Cert.KernelIdeal.nD) → Buf (Elt Ideal) ((c.tc : Thread Cert.KernelIdeal.nD Cert.KernelIdeal.τ).loc Cert.KernelIdeal.main_v19_2)) (v3 : (c : Dev Cert.KernelIdeal.nD) → Buf (Elt Ideal) ((c.tc : Thread Cert.KernelIdeal.nD Cert.KernelIdeal.τ).loc Cert.KernelIdeal.main_v19_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_v19_2) = v2 c
          ∧ r.2.mem ((c.tc : Thread Cert.KernelIdeal.nD Cert.KernelIdeal.τ).loc Cert.KernelIdeal.main_v19_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v186) = v0 c
          ∧ r.2.mem ((c.tc : Thread Cert.ReferenceIdeal.nD Cert.ReferenceIdeal.τ).loc Cert.ReferenceIdeal.main_v187) = v1 c
          ∧ r.2.mem ((c.tc : Thread Cert.ReferenceIdeal.nD Cert.ReferenceIdeal.τ).loc Cert.ReferenceIdeal.main_v188) = v2 c
          ∧ r.2.mem ((c.tc : Thread Cert.ReferenceIdeal.nD Cert.ReferenceIdeal.τ).loc Cert.ReferenceIdeal.main_v189) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)
      ∧ m' ((c.tc : Thread Cert.DownDxRefIdeal.nD Cert.DownDxRefIdeal.τ).loc Cert.DownDxRefIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v14) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1)
          ∧ r.2.mem ((c.tc : Thread Cert.DownDxRefIdeal.nD Cert.DownDxRefIdeal.τ).loc Cert.DownDxRefIdeal.main_arg2) = m' ((c.tc : Thread Cert.DownDxRefIdeal.nD Cert.DownDxRefIdeal.τ).loc Cert.DownDxRefIdeal.main_arg2))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v6) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v4) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v6) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v4) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_BranchDx_BranchDxIdeal : Prop :=
  True

def algebraic_BranchDxIdeal_BranchDxRefIdeal [hBranchDxIdeal : Cert.BranchDxIdeal.Facts] [hBranchDxRefIdeal : Cert.BranchDxRefIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg)
    (m' : (ℓ : Loc Cert.BranchDxRefIdeal.nD Cert.BranchDxRefIdeal.τ Cert.BranchDxRefIdeal.sig) → Buf (Elt Ideal) ℓ) (g' : Dev Cert.BranchDxRefIdeal.nD → PrngReg), Pre_BranchDxIdeal m →
    (∀ c : Dev Cert.BranchDxIdeal.nD,
      m' ((c.tc : Thread Cert.BranchDxRefIdeal.nD Cert.BranchDxRefIdeal.τ).loc Cert.BranchDxRefIdeal.main_arg0) = m ((c.tc : Thread Cert.BranchDxIdeal.nD Cert.BranchDxIdeal.τ).loc Cert.BranchDxIdeal.main_arg0)
      ∧ m' ((c.tc : Thread Cert.BranchDxRefIdeal.nD Cert.BranchDxRefIdeal.τ).loc Cert.BranchDxRefIdeal.main_arg1) = m ((c.tc : Thread Cert.BranchDxIdeal.nD Cert.BranchDxIdeal.τ).loc Cert.BranchDxIdeal.main_arg1)) →
    ∃ (v0 : (c : Dev Cert.BranchDxIdeal.nD) → Buf (Elt Ideal) ((c.tc : Thread Cert.BranchDxIdeal.nD Cert.BranchDxIdeal.τ).loc Cert.BranchDxIdeal.main_v0)),
      θ_run (Cert.BranchDxIdeal.defs (F := Ideal)) (onTc (τ := Cert.BranchDxIdeal.τ) (Cert.BranchDxIdeal.main (F := Ideal))) ⟨m, fun _ => 0, g⟩ (fun r => ∀ c : Dev Cert.BranchDxIdeal.nD,
          r.2.mem ((c.tc : Thread Cert.BranchDxIdeal.nD Cert.BranchDxIdeal.τ).loc Cert.BranchDxIdeal.main_v0) = v0 c
          ∧ r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
          ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1))
      ∧ θ_run (Cert.BranchDxRefIdeal.defs (F := Ideal)) (onTc (τ := Cert.BranchDxRefIdeal.τ) (Cert.BranchDxRefIdeal.main (F := Ideal))) ⟨m', fun _ => 0, g'⟩ (fun r => ∀ c : Dev Cert.BranchDxRefIdeal.nD,
          r.2.mem ((c.tc : Thread Cert.BranchDxRefIdeal.nD Cert.BranchDxRefIdeal.τ).loc Cert.BranchDxRefIdeal.main_v5) = v0 c
          ∧ r.2.mem ((c.tc : Thread Cert.BranchDxRefIdeal.nD Cert.BranchDxRefIdeal.τ).loc Cert.BranchDxRefIdeal.main_arg0) = m' ((c.tc : Thread Cert.BranchDxRefIdeal.nD Cert.BranchDxRefIdeal.τ).loc Cert.BranchDxRefIdeal.main_arg0)
          ∧ r.2.mem ((c.tc : Thread Cert.BranchDxRefIdeal.nD Cert.BranchDxRefIdeal.τ).loc Cert.BranchDxRefIdeal.main_arg1) = m' ((c.tc : Thread Cert.BranchDxRefIdeal.nD Cert.BranchDxRefIdeal.τ).loc Cert.BranchDxRefIdeal.main_arg1))

def preserves_SquareDw_SquareDwIdeal : Prop :=
  True

def algebraic_SquareDwIdeal_SquareDwRefIdeal [hSquareDwIdeal : Cert.SquareDwIdeal.Facts] [hSquareDwRefIdeal : Cert.SquareDwRefIdeal.Facts] : Prop :=
  ∀ (m : (ℓ : Loc Cert.SquareDwIdeal.nD Cert.SquareDwIdeal.τ Cert.SquareDwIdeal.sig) → Buf (Elt Ideal) ℓ) (g : Dev Cert.SquareDwIdeal.nD → PrngReg)
    (m' : (ℓ : Loc Cert.SquareDwRefIdeal.nD Cert.SquareDwRefIdeal.τ Cert.SquareDwRefIdeal.sig) → Buf (Elt Ideal) ℓ) (g' : Dev Cert.SquareDwRefIdeal.nD → PrngReg), Pre_SquareDwIdeal m →
    (∀ c : Dev Cert.SquareDwIdeal.nD,
      m' ((c.tc : Thread Cert.SquareDwRefIdeal.nD Cert.SquareDwRefIdeal.τ).loc Cert.SquareDwRefIdeal.main_arg0) = m ((c.tc : Thread Cert.SquareDwIdeal.nD Cert.SquareDwIdeal.τ).loc Cert.SquareDwIdeal.main_arg0)
      ∧ m' ((c.tc : Thread Cert.SquareDwRefIdeal.nD Cert.SquareDwRefIdeal.τ).loc Cert.SquareDwRefIdeal.main_arg1) = m ((c.tc : Thread Cert.SquareDwIdeal.nD Cert.SquareDwIdeal.τ).loc Cert.SquareDwIdeal.main_arg1)) →
    ∃ (v0 : (c : Dev Cert.SquareDwIdeal.nD) → Buf (Elt Ideal) ((c.tc : Thread Cert.SquareDwIdeal.nD Cert.SquareDwIdeal.τ).loc Cert.SquareDwIdeal.main_v0)),
      θ_run (Cert.SquareDwIdeal.defs (F := Ideal)) (onTc (τ := Cert.SquareDwIdeal.τ) (Cert.SquareDwIdeal.main (F := Ideal))) ⟨m, fun _ => 0, g⟩ (fun r => ∀ c : Dev Cert.SquareDwIdeal.nD,
          r.2.mem ((c.tc : Thread Cert.SquareDwIdeal.nD Cert.SquareDwIdeal.τ).loc Cert.SquareDwIdeal.main_v0) = v0 c
          ∧ r.2.mem ((c.tc : Thread Cert.SquareDwIdeal.nD Cert.SquareDwIdeal.τ).loc Cert.SquareDwIdeal.main_arg0) = m ((c.tc : Thread Cert.SquareDwIdeal.nD Cert.SquareDwIdeal.τ).loc Cert.SquareDwIdeal.main_arg0)
          ∧ r.2.mem ((c.tc : Thread Cert.SquareDwIdeal.nD Cert.SquareDwIdeal.τ).loc Cert.SquareDwIdeal.main_arg1) = m ((c.tc : Thread Cert.SquareDwIdeal.nD Cert.SquareDwIdeal.τ).loc Cert.SquareDwIdeal.main_arg1))
      ∧ θ_run (Cert.SquareDwRefIdeal.defs (F := Ideal)) (onTc (τ := Cert.SquareDwRefIdeal.τ) (Cert.SquareDwRefIdeal.main (F := Ideal))) ⟨m', fun _ => 0, g'⟩ (fun r => ∀ c : Dev Cert.SquareDwRefIdeal.nD,
          r.2.mem ((c.tc : Thread Cert.SquareDwRefIdeal.nD Cert.SquareDwRefIdeal.τ).loc Cert.SquareDwRefIdeal.main_v6) = v0 c
          ∧ r.2.mem ((c.tc : Thread Cert.SquareDwRefIdeal.nD Cert.SquareDwRefIdeal.τ).loc Cert.SquareDwRefIdeal.main_arg0) = m' ((c.tc : Thread Cert.SquareDwRefIdeal.nD Cert.SquareDwRefIdeal.τ).loc Cert.SquareDwRefIdeal.main_arg0)
          ∧ r.2.mem ((c.tc : Thread Cert.SquareDwRefIdeal.nD Cert.SquareDwRefIdeal.τ).loc Cert.SquareDwRefIdeal.main_arg1) = m' ((c.tc : Thread Cert.SquareDwRefIdeal.nD Cert.SquareDwRefIdeal.τ).loc Cert.SquareDwRefIdeal.main_arg1))

def preserves_ProjDx_ProjDxIdeal : Prop :=
  True

def algebraic_ProjDxIdeal_ProjDxRefIdeal [hProjDxIdeal : Cert.ProjDxIdeal.Facts] [hProjDxRefIdeal : Cert.ProjDxRefIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg)
    (m' : (ℓ : Loc Cert.ProjDxRefIdeal.nD Cert.ProjDxRefIdeal.τ Cert.ProjDxRefIdeal.sig) → Buf (Elt Ideal) ℓ) (g' : Dev Cert.ProjDxRefIdeal.nD → PrngReg), Pre_ProjDxIdeal m →
    (∀ c : Dev Cert.ProjDxIdeal.nD,
      m' ((c.tc : Thread Cert.ProjDxRefIdeal.nD Cert.ProjDxRefIdeal.τ).loc Cert.ProjDxRefIdeal.main_arg0) = m ((c.tc : Thread Cert.ProjDxIdeal.nD Cert.ProjDxIdeal.τ).loc Cert.ProjDxIdeal.main_arg0)
      ∧ m' ((c.tc : Thread Cert.ProjDxRefIdeal.nD Cert.ProjDxRefIdeal.τ).loc Cert.ProjDxRefIdeal.main_arg1) = m ((c.tc : Thread Cert.ProjDxIdeal.nD Cert.ProjDxIdeal.τ).loc Cert.ProjDxIdeal.main_arg1)) →
    ∃ (v0 : (c : Dev Cert.ProjDxIdeal.nD) → Buf (Elt Ideal) ((c.tc : Thread Cert.ProjDxIdeal.nD Cert.ProjDxIdeal.τ).loc Cert.ProjDxIdeal.main_v0)),
      θ_run (Cert.ProjDxIdeal.defs (F := Ideal)) (onTc (τ := Cert.ProjDxIdeal.τ) (Cert.ProjDxIdeal.main (F := Ideal))) ⟨m, fun _ => 0, g⟩ (fun r => ∀ c : Dev Cert.ProjDxIdeal.nD,
          r.2.mem ((c.tc : Thread Cert.ProjDxIdeal.nD Cert.ProjDxIdeal.τ).loc Cert.ProjDxIdeal.main_v0) = v0 c
          ∧ r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
          ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1))
      ∧ θ_run (Cert.ProjDxRefIdeal.defs (F := Ideal)) (onTc (τ := Cert.ProjDxRefIdeal.τ) (Cert.ProjDxRefIdeal.main (F := Ideal))) ⟨m', fun _ => 0, g'⟩ (fun r => ∀ c : Dev Cert.ProjDxRefIdeal.nD,
          r.2.mem ((c.tc : Thread Cert.ProjDxRefIdeal.nD Cert.ProjDxRefIdeal.τ).loc Cert.ProjDxRefIdeal.main_v4) = v0 c
          ∧ r.2.mem ((c.tc : Thread Cert.ProjDxRefIdeal.nD Cert.ProjDxRefIdeal.τ).loc Cert.ProjDxRefIdeal.main_arg0) = m' ((c.tc : Thread Cert.ProjDxRefIdeal.nD Cert.ProjDxRefIdeal.τ).loc Cert.ProjDxRefIdeal.main_arg0)
          ∧ r.2.mem ((c.tc : Thread Cert.ProjDxRefIdeal.nD Cert.ProjDxRefIdeal.τ).loc Cert.ProjDxRefIdeal.main_arg1) = m' ((c.tc : Thread Cert.ProjDxRefIdeal.nD Cert.ProjDxRefIdeal.τ).loc Cert.ProjDxRefIdeal.main_arg1))

def preserves_ProjDw_ProjDwIdeal : Prop :=
  True

def algebraic_ProjDwIdeal_ProjDwRefIdeal [hProjDwIdeal : Cert.ProjDwIdeal.Facts] [hProjDwRefIdeal : Cert.ProjDwRefIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg)
    (m' : (ℓ : Loc Cert.ProjDwRefIdeal.nD Cert.ProjDwRefIdeal.τ Cert.ProjDwRefIdeal.sig) → Buf (Elt Ideal) ℓ) (g' : Dev Cert.ProjDwRefIdeal.nD → PrngReg), Pre_ProjDwIdeal m →
    (∀ c : Dev Cert.ProjDwIdeal.nD,
      m' ((c.tc : Thread Cert.ProjDwRefIdeal.nD Cert.ProjDwRefIdeal.τ).loc Cert.ProjDwRefIdeal.main_arg0) = m ((c.tc : Thread Cert.ProjDwIdeal.nD Cert.ProjDwIdeal.τ).loc Cert.ProjDwIdeal.main_arg0)
      ∧ m' ((c.tc : Thread Cert.ProjDwRefIdeal.nD Cert.ProjDwRefIdeal.τ).loc Cert.ProjDwRefIdeal.main_arg1) = m ((c.tc : Thread Cert.ProjDwIdeal.nD Cert.ProjDwIdeal.τ).loc Cert.ProjDwIdeal.main_arg1)) →
    ∃ (v0 : (c : Dev Cert.ProjDwIdeal.nD) → Buf (Elt Ideal) ((c.tc : Thread Cert.ProjDwIdeal.nD Cert.ProjDwIdeal.τ).loc Cert.ProjDwIdeal.main_v0)),
      θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
          r.2.mem ((c.tc : Thread Cert.ProjDwIdeal.nD Cert.ProjDwIdeal.τ).loc Cert.ProjDwIdeal.main_v0) = v0 c
          ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
          ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ θ_run (Cert.ProjDwRefIdeal.defs (F := Ideal)) (onTc (τ := Cert.ProjDwRefIdeal.τ) (Cert.ProjDwRefIdeal.main (F := Ideal))) ⟨m', fun _ => 0, g'⟩ (fun r => ∀ c : Dev Cert.ProjDwRefIdeal.nD,
          r.2.mem ((c.tc : Thread Cert.ProjDwRefIdeal.nD Cert.ProjDwRefIdeal.τ).loc Cert.ProjDwRefIdeal.main_v6) = v0 c
          ∧ r.2.mem ((c.tc : Thread Cert.ProjDwRefIdeal.nD Cert.ProjDwRefIdeal.τ).loc Cert.ProjDwRefIdeal.main_arg0) = m' ((c.tc : Thread Cert.ProjDwRefIdeal.nD Cert.ProjDwRefIdeal.τ).loc Cert.ProjDwRefIdeal.main_arg0)
          ∧ r.2.mem ((c.tc : Thread Cert.ProjDwRefIdeal.nD Cert.ProjDwRefIdeal.τ).loc Cert.ProjDwRefIdeal.main_arg1) = m' ((c.tc : Thread Cert.ProjDwRefIdeal.nD Cert.ProjDwRefIdeal.τ).loc Cert.ProjDwRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v2) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Branch_BranchIdeal : Prop :=
  True

def algebraic_BranchIdeal_BranchRefIdeal [hBranchIdeal : Cert.BranchIdeal.Facts] [hBranchRefIdeal : Cert.BranchRefIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchRefIdeal.nD Cert.BranchRefIdeal.τ Cert.BranchRefIdeal.sig) → Buf (Elt Ideal) ℓ) (g' : Dev Cert.BranchRefIdeal.nD → PrngReg), Pre_BranchIdeal m →
    (∀ c : Dev Cert.BranchIdeal.nD,
      m' ((c.tc : Thread Cert.BranchRefIdeal.nD Cert.BranchRefIdeal.τ).loc Cert.BranchRefIdeal.main_arg0) = m ((c.tc : Thread Cert.BranchIdeal.nD Cert.BranchIdeal.τ).loc Cert.BranchIdeal.main_arg0)
      ∧ m' ((c.tc : Thread Cert.BranchRefIdeal.nD Cert.BranchRefIdeal.τ).loc Cert.BranchRefIdeal.main_arg1) = m ((c.tc : Thread Cert.BranchIdeal.nD Cert.BranchIdeal.τ).loc Cert.BranchIdeal.main_arg1)) →
    ∃ (v0 : (c : Dev Cert.BranchIdeal.nD) → Buf (Elt Ideal) ((c.tc : Thread Cert.BranchIdeal.nD Cert.BranchIdeal.τ).loc Cert.BranchIdeal.main_v0)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v0) = v0 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ θ_run (Cert.BranchRefIdeal.defs (F := Ideal)) (onTc (τ := Cert.BranchRefIdeal.τ) (Cert.BranchRefIdeal.main (F := Ideal))) ⟨m', fun _ => 0, g'⟩ (fun r => ∀ c : Dev Cert.BranchRefIdeal.nD,
          r.2.mem ((c.tc : Thread Cert.BranchRefIdeal.nD Cert.BranchRefIdeal.τ).loc Cert.BranchRefIdeal.main_v2) = v0 c
          ∧ r.2.mem ((c.tc : Thread Cert.BranchRefIdeal.nD Cert.BranchRefIdeal.τ).loc Cert.BranchRefIdeal.main_arg0) = m' ((c.tc : Thread Cert.BranchRefIdeal.nD Cert.BranchRefIdeal.τ).loc Cert.BranchRefIdeal.main_arg0)
          ∧ r.2.mem ((c.tc : Thread Cert.BranchRefIdeal.nD Cert.BranchRefIdeal.τ).loc Cert.BranchRefIdeal.main_arg1) = m' ((c.tc : Thread Cert.BranchRefIdeal.nD Cert.BranchRefIdeal.τ).loc Cert.BranchRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v2) = v0 c
          ∧ r.2.mem ((c.tc : Thread Cert.UpRefIdeal.nD Cert.UpRefIdeal.τ).loc Cert.UpRefIdeal.main_v5) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v1_0)) (v1 : (c : Dev Cert.NormBwdIdeal.nD) → Buf (Elt Ideal) ((c.tc : Thread Cert.NormBwdIdeal.nD Cert.NormBwdIdeal.τ).loc Cert.NormBwdIdeal.main_v1_1)) (v2 : (c : Dev Cert.NormBwdIdeal.nD) → Buf (Elt Ideal) ((c.tc : Thread Cert.NormBwdIdeal.nD Cert.NormBwdIdeal.τ).loc Cert.NormBwdIdeal.main_v1_2)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v1_0) = v0 c
          ∧ r.2.mem ((c.tc : Thread Cert.NormBwdIdeal.nD Cert.NormBwdIdeal.τ).loc Cert.NormBwdIdeal.main_v1_1) = v1 c
          ∧ r.2.mem ((c.tc : Thread Cert.NormBwdIdeal.nD Cert.NormBwdIdeal.τ).loc Cert.NormBwdIdeal.main_v1_2) = v2 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v36) = v0 c
          ∧ r.2.mem ((c.tc : Thread Cert.NormBwdRefIdeal.nD Cert.NormBwdRefIdeal.τ).loc Cert.NormBwdRefIdeal.main_v37) = v1 c
          ∧ r.2.mem ((c.tc : Thread Cert.NormBwdRefIdeal.nD Cert.NormBwdRefIdeal.τ).loc Cert.NormBwdRefIdeal.main_v38) = v2 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v23) = v0 c
          ∧ r.2.mem ((c.tc : Thread Cert.MergeBwdRefIdeal.nD Cert.MergeBwdRefIdeal.τ).loc Cert.MergeBwdRefIdeal.main_v24) = v1 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3))

def preserves_ConvBwd_ConvBwdIdeal : Prop :=
  True

def algebraic_ConvBwdIdeal_ConvBwdRefIdeal [hConvBwdIdeal : Cert.ConvBwdIdeal.Facts] [hConvBwdRefIdeal : Cert.ConvBwdRefIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)
      ∧ m' ((c.tc : Thread Cert.ConvBwdRefIdeal.nD Cert.ConvBwdRefIdeal.τ).loc Cert.ConvBwdRefIdeal.main_arg2) = m ((c.tc : Thread Cert.ConvBwdIdeal.nD Cert.ConvBwdIdeal.τ).loc Cert.ConvBwdIdeal.main_arg2)
      ∧ m' ((c.tc : Thread Cert.ConvBwdRefIdeal.nD Cert.ConvBwdRefIdeal.τ).loc Cert.ConvBwdRefIdeal.main_arg3) = m ((c.tc : Thread Cert.ConvBwdIdeal.nD Cert.ConvBwdIdeal.τ).loc Cert.ConvBwdIdeal.main_arg3)) →
    ∃ (v0 : (c : Dev Cert.ConvBwdIdeal.nD) → Buf (Elt Ideal) ((c.tc : Thread Cert.ConvBwdIdeal.nD Cert.ConvBwdIdeal.τ).loc Cert.ConvBwdIdeal.main_v0_0)) (v1 : (c : Dev Cert.ConvBwdIdeal.nD) → Buf (Elt Ideal) ((c.tc : Thread Cert.ConvBwdIdeal.nD Cert.ConvBwdIdeal.τ).loc Cert.ConvBwdIdeal.main_v0_1)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v0_0) = v0 c
          ∧ r.2.mem ((c.tc : Thread Cert.ConvBwdIdeal.nD Cert.ConvBwdIdeal.τ).loc Cert.ConvBwdIdeal.main_v0_1) = v1 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v86) = v0 c
          ∧ r.2.mem ((c.tc : Thread Cert.ConvBwdRefIdeal.nD Cert.ConvBwdRefIdeal.τ).loc Cert.ConvBwdRefIdeal.main_v81) = v1 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1)
          ∧ r.2.mem ((c.tc : Thread Cert.ConvBwdRefIdeal.nD Cert.ConvBwdRefIdeal.τ).loc Cert.ConvBwdRefIdeal.main_arg2) = m' ((c.tc : Thread Cert.ConvBwdRefIdeal.nD Cert.ConvBwdRefIdeal.τ).loc Cert.ConvBwdRefIdeal.main_arg2)
          ∧ r.2.mem ((c.tc : Thread Cert.ConvBwdRefIdeal.nD Cert.ConvBwdRefIdeal.τ).loc Cert.ConvBwdRefIdeal.main_arg3) = m' ((c.tc : Thread Cert.ConvBwdRefIdeal.nD Cert.ConvBwdRefIdeal.τ).loc Cert.ConvBwdRefIdeal.main_arg3))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v1)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v1) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v13) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)) →
    ∃ (v0 : (c : Dev Cert.MergeFwdIdeal.nD) → Buf (Elt Ideal) ((c.tc : Thread Cert.MergeFwdIdeal.nD Cert.MergeFwdIdeal.τ).loc Cert.MergeFwdIdeal.main_v0)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v12) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)) →
    ∃ (v0 : (c : Dev Cert.ConvFwdIdeal.nD) → Buf (Elt Ideal) ((c.tc : Thread Cert.ConvFwdIdeal.nD Cert.ConvFwdIdeal.τ).loc Cert.ConvFwdIdeal.main_v0)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v0) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v31) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1))

def preserves_SwaFwd_SwaFwdIdeal : Prop :=
  True

def algebraic_SwaFwdIdeal_SwaFwdRefIdeal [hSwaFwdIdeal : Cert.SwaFwdIdeal.Facts] [hSwaFwdRefIdeal : Cert.SwaFwdRefIdeal.Facts] : Prop :=
  ∀ (m : (ℓ : Loc Cert.SwaFwdIdeal.nD Cert.SwaFwdIdeal.τ Cert.SwaFwdIdeal.sig) → Buf (Elt Ideal) ℓ) (g : Dev Cert.SwaFwdIdeal.nD → PrngReg)
    (m' : (ℓ : Loc Cert.SwaFwdRefIdeal.nD Cert.SwaFwdRefIdeal.τ Cert.SwaFwdRefIdeal.sig) → Buf (Elt Ideal) ℓ) (g' : Dev Cert.SwaFwdRefIdeal.nD → PrngReg), Pre_SwaFwdIdeal m →
    (∀ c : Dev Cert.SwaFwdIdeal.nD,
      m' ((c.tc : Thread Cert.SwaFwdRefIdeal.nD Cert.SwaFwdRefIdeal.τ).loc Cert.SwaFwdRefIdeal.main_arg0) = m ((c.tc : Thread Cert.SwaFwdIdeal.nD Cert.SwaFwdIdeal.τ).loc Cert.SwaFwdIdeal.main_arg0)
      ∧ m' ((c.tc : Thread Cert.SwaFwdRefIdeal.nD Cert.SwaFwdRefIdeal.τ).loc Cert.SwaFwdRefIdeal.main_arg1) = m ((c.tc : Thread Cert.SwaFwdIdeal.nD Cert.SwaFwdIdeal.τ).loc Cert.SwaFwdIdeal.main_arg1)
      ∧ m' ((c.tc : Thread Cert.SwaFwdRefIdeal.nD Cert.SwaFwdRefIdeal.τ).loc Cert.SwaFwdRefIdeal.main_arg2) = m ((c.tc : Thread Cert.SwaFwdIdeal.nD Cert.SwaFwdIdeal.τ).loc Cert.SwaFwdIdeal.main_arg2)
      ∧ m' ((c.tc : Thread Cert.SwaFwdRefIdeal.nD Cert.SwaFwdRefIdeal.τ).loc Cert.SwaFwdRefIdeal.main_arg3) = m ((c.tc : Thread Cert.SwaFwdIdeal.nD Cert.SwaFwdIdeal.τ).loc Cert.SwaFwdIdeal.main_arg3)) →
    ∃ (v0 : (c : Dev Cert.SwaFwdIdeal.nD) → Buf (Elt Ideal) ((c.tc : Thread Cert.SwaFwdIdeal.nD Cert.SwaFwdIdeal.τ).loc Cert.SwaFwdIdeal.main_v17)),
      θ_run (Cert.SwaFwdIdeal.defs (F := Ideal)) (onTc (τ := Cert.SwaFwdIdeal.τ) (Cert.SwaFwdIdeal.main (F := Ideal))) ⟨m, fun _ => 0, g⟩ (fun r => ∀ c : Dev Cert.SwaFwdIdeal.nD,
          r.2.mem ((c.tc : Thread Cert.SwaFwdIdeal.nD Cert.SwaFwdIdeal.τ).loc Cert.SwaFwdIdeal.main_v17) = v0 c
          ∧ r.2.mem ((c.tc : Thread Cert.SwaFwdIdeal.nD Cert.SwaFwdIdeal.τ).loc Cert.SwaFwdIdeal.main_arg0) = m ((c.tc : Thread Cert.SwaFwdIdeal.nD Cert.SwaFwdIdeal.τ).loc Cert.SwaFwdIdeal.main_arg0)
          ∧ r.2.mem ((c.tc : Thread Cert.SwaFwdIdeal.nD Cert.SwaFwdIdeal.τ).loc Cert.SwaFwdIdeal.main_arg1) = m ((c.tc : Thread Cert.SwaFwdIdeal.nD Cert.SwaFwdIdeal.τ).loc Cert.SwaFwdIdeal.main_arg1)
          ∧ r.2.mem ((c.tc : Thread Cert.SwaFwdIdeal.nD Cert.SwaFwdIdeal.τ).loc Cert.SwaFwdIdeal.main_arg2) = m ((c.tc : Thread Cert.SwaFwdIdeal.nD Cert.SwaFwdIdeal.τ).loc Cert.SwaFwdIdeal.main_arg2)
          ∧ r.2.mem ((c.tc : Thread Cert.SwaFwdIdeal.nD Cert.SwaFwdIdeal.τ).loc Cert.SwaFwdIdeal.main_arg3) = m ((c.tc : Thread Cert.SwaFwdIdeal.nD Cert.SwaFwdIdeal.τ).loc Cert.SwaFwdIdeal.main_arg3))
      ∧ θ_run (Cert.SwaFwdRefIdeal.defs (F := Ideal)) (onTc (τ := Cert.SwaFwdRefIdeal.τ) (Cert.SwaFwdRefIdeal.main (F := Ideal))) ⟨m', fun _ => 0, g'⟩ (fun r => ∀ c : Dev Cert.SwaFwdRefIdeal.nD,
          r.2.mem ((c.tc : Thread Cert.SwaFwdRefIdeal.nD Cert.SwaFwdRefIdeal.τ).loc Cert.SwaFwdRefIdeal.main_v89) = v0 c
          ∧ r.2.mem ((c.tc : Thread Cert.SwaFwdRefIdeal.nD Cert.SwaFwdRefIdeal.τ).loc Cert.SwaFwdRefIdeal.main_arg0) = m' ((c.tc : Thread Cert.SwaFwdRefIdeal.nD Cert.SwaFwdRefIdeal.τ).loc Cert.SwaFwdRefIdeal.main_arg0)
          ∧ r.2.mem ((c.tc : Thread Cert.SwaFwdRefIdeal.nD Cert.SwaFwdRefIdeal.τ).loc Cert.SwaFwdRefIdeal.main_arg1) = m' ((c.tc : Thread Cert.SwaFwdRefIdeal.nD Cert.SwaFwdRefIdeal.τ).loc Cert.SwaFwdRefIdeal.main_arg1)
          ∧ r.2.mem ((c.tc : Thread Cert.SwaFwdRefIdeal.nD Cert.SwaFwdRefIdeal.τ).loc Cert.SwaFwdRefIdeal.main_arg2) = m' ((c.tc : Thread Cert.SwaFwdRefIdeal.nD Cert.SwaFwdRefIdeal.τ).loc Cert.SwaFwdRefIdeal.main_arg2)
          ∧ r.2.mem ((c.tc : Thread Cert.SwaFwdRefIdeal.nD Cert.SwaFwdRefIdeal.τ).loc Cert.SwaFwdRefIdeal.main_arg3) = m' ((c.tc : Thread Cert.SwaFwdRefIdeal.nD Cert.SwaFwdRefIdeal.τ).loc Cert.SwaFwdRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_AdamSquare_AdamSquareIdeal : Prop :=
  True

def algebraic_AdamSquareIdeal_AdamSquareRefIdeal [hAdamSquareIdeal : Cert.AdamSquareIdeal.Facts] [hAdamSquareRefIdeal : Cert.AdamSquareRefIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg)
    (m' : (ℓ : Loc Cert.AdamSquareRefIdeal.nD Cert.AdamSquareRefIdeal.τ Cert.AdamSquareRefIdeal.sig) → Buf (Elt Ideal) ℓ) (g' : Dev Cert.AdamSquareRefIdeal.nD → PrngReg), Pre_AdamSquareIdeal m →
    (∀ c : Dev Cert.AdamSquareIdeal.nD,
      m' ((c.tc : Thread Cert.AdamSquareRefIdeal.nD Cert.AdamSquareRefIdeal.τ).loc Cert.AdamSquareRefIdeal.main_arg0) = m ((c.tc : Thread Cert.AdamSquareIdeal.nD Cert.AdamSquareIdeal.τ).loc Cert.AdamSquareIdeal.main_arg0)
      ∧ m' ((c.tc : Thread Cert.AdamSquareRefIdeal.nD Cert.AdamSquareRefIdeal.τ).loc Cert.AdamSquareRefIdeal.main_arg1) = m ((c.tc : Thread Cert.AdamSquareIdeal.nD Cert.AdamSquareIdeal.τ).loc Cert.AdamSquareIdeal.main_arg1)
      ∧ m' ((c.tc : Thread Cert.AdamSquareRefIdeal.nD Cert.AdamSquareRefIdeal.τ).loc Cert.AdamSquareRefIdeal.main_arg2) = m ((c.tc : Thread Cert.AdamSquareIdeal.nD Cert.AdamSquareIdeal.τ).loc Cert.AdamSquareIdeal.main_arg2)
      ∧ m' ((c.tc : Thread Cert.AdamSquareRefIdeal.nD Cert.AdamSquareRefIdeal.τ).loc Cert.AdamSquareRefIdeal.main_arg3) = m ((c.tc : Thread Cert.AdamSquareIdeal.nD Cert.AdamSquareIdeal.τ).loc Cert.AdamSquareIdeal.main_arg3)
      ∧ m' ((c.tc : Thread Cert.AdamSquareRefIdeal.nD Cert.AdamSquareRefIdeal.τ).loc Cert.AdamSquareRefIdeal.main_arg4) = m ((c.tc : Thread Cert.AdamSquareIdeal.nD Cert.AdamSquareIdeal.τ).loc Cert.AdamSquareIdeal.main_arg4)
      ∧ m' ((c.tc : Thread Cert.AdamSquareRefIdeal.nD Cert.AdamSquareRefIdeal.τ).loc Cert.AdamSquareRefIdeal.main_arg5) = m ((c.tc : Thread Cert.AdamSquareIdeal.nD Cert.AdamSquareIdeal.τ).loc Cert.AdamSquareIdeal.main_arg5)
      ∧ m' ((c.tc : Thread Cert.AdamSquareRefIdeal.nD Cert.AdamSquareRefIdeal.τ).loc Cert.AdamSquareRefIdeal.main_arg6) = m ((c.tc : Thread Cert.AdamSquareIdeal.nD Cert.AdamSquareIdeal.τ).loc Cert.AdamSquareIdeal.main_arg6)) →
    ∃ (v0 : (c : Dev Cert.AdamSquareIdeal.nD) → Buf (Elt Ideal) ((c.tc : Thread Cert.AdamSquareIdeal.nD Cert.AdamSquareIdeal.τ).loc Cert.AdamSquareIdeal.main_v0_0)) (v1 : (c : Dev Cert.AdamSquareIdeal.nD) → Buf (Elt Ideal) ((c.tc : Thread Cert.AdamSquareIdeal.nD Cert.AdamSquareIdeal.τ).loc Cert.AdamSquareIdeal.main_v0_1)) (v2 : (c : Dev Cert.AdamSquareIdeal.nD) → Buf (Elt Ideal) ((c.tc : Thread Cert.AdamSquareIdeal.nD Cert.AdamSquareIdeal.τ).loc Cert.AdamSquareIdeal.main_v0_2)) (v3 : (c : Dev Cert.AdamSquareIdeal.nD) → Buf (Elt Ideal) ((c.tc : Thread Cert.AdamSquareIdeal.nD Cert.AdamSquareIdeal.τ).loc Cert.AdamSquareIdeal.main_v0_3)),
      θ_run (Cert.AdamSquareIdeal.defs (F := Ideal)) (onTc (τ := Cert.AdamSquareIdeal.τ) (Cert.AdamSquareIdeal.main (F := Ideal))) ⟨m, fun _ => 0, g⟩ (fun r => ∀ c : Dev Cert.AdamSquareIdeal.nD,
          r.2.mem ((c.tc : Thread Cert.AdamSquareIdeal.nD Cert.AdamSquareIdeal.τ).loc Cert.AdamSquareIdeal.main_v0_0) = v0 c
          ∧ r.2.mem ((c.tc : Thread Cert.AdamSquareIdeal.nD Cert.AdamSquareIdeal.τ).loc Cert.AdamSquareIdeal.main_v0_1) = v1 c
          ∧ r.2.mem ((c.tc : Thread Cert.AdamSquareIdeal.nD Cert.AdamSquareIdeal.τ).loc Cert.AdamSquareIdeal.main_v0_2) = v2 c
          ∧ r.2.mem ((c.tc : Thread Cert.AdamSquareIdeal.nD Cert.AdamSquareIdeal.τ).loc Cert.AdamSquareIdeal.main_v0_3) = v3 c
          ∧ r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
          ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
          ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
          ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3)
          ∧ r.2.mem ((c.tc : Thread Cert.AdamSquareIdeal.nD Cert.AdamSquareIdeal.τ).loc Cert.AdamSquareIdeal.main_arg4) = m ((c.tc : Thread Cert.AdamSquareIdeal.nD Cert.AdamSquareIdeal.τ).loc Cert.AdamSquareIdeal.main_arg4)
          ∧ r.2.mem ((c.tc : Thread Cert.AdamSquareIdeal.nD Cert.AdamSquareIdeal.τ).loc Cert.AdamSquareIdeal.main_arg5) = m ((c.tc : Thread Cert.AdamSquareIdeal.nD Cert.AdamSquareIdeal.τ).loc Cert.AdamSquareIdeal.main_arg5)
          ∧ r.2.mem ((c.tc : Thread Cert.AdamSquareIdeal.nD Cert.AdamSquareIdeal.τ).loc Cert.AdamSquareIdeal.main_arg6) = m ((c.tc : Thread Cert.AdamSquareIdeal.nD Cert.AdamSquareIdeal.τ).loc Cert.AdamSquareIdeal.main_arg6))
      ∧ θ_run (Cert.AdamSquareRefIdeal.defs (F := Ideal)) (onTc (τ := Cert.AdamSquareRefIdeal.τ) (Cert.AdamSquareRefIdeal.main (F := Ideal))) ⟨m', fun _ => 0, g'⟩ (fun r => ∀ c : Dev Cert.AdamSquareRefIdeal.nD,
          r.2.mem ((c.tc : Thread Cert.AdamSquareRefIdeal.nD Cert.AdamSquareRefIdeal.τ).loc Cert.AdamSquareRefIdeal.main_v8) = v0 c
          ∧ r.2.mem ((c.tc : Thread Cert.AdamSquareRefIdeal.nD Cert.AdamSquareRefIdeal.τ).loc Cert.AdamSquareRefIdeal.main_v32) = v1 c
          ∧ r.2.mem ((c.tc : Thread Cert.AdamSquareRefIdeal.nD Cert.AdamSquareRefIdeal.τ).loc Cert.AdamSquareRefIdeal.main_v13) = v2 c
          ∧ r.2.mem ((c.tc : Thread Cert.AdamSquareRefIdeal.nD Cert.AdamSquareRefIdeal.τ).loc Cert.AdamSquareRefIdeal.main_v19) = v3 c
          ∧ r.2.mem ((c.tc : Thread Cert.AdamSquareRefIdeal.nD Cert.AdamSquareRefIdeal.τ).loc Cert.AdamSquareRefIdeal.main_arg0) = m' ((c.tc : Thread Cert.AdamSquareRefIdeal.nD Cert.AdamSquareRefIdeal.τ).loc Cert.AdamSquareRefIdeal.main_arg0)
          ∧ r.2.mem ((c.tc : Thread Cert.AdamSquareRefIdeal.nD Cert.AdamSquareRefIdeal.τ).loc Cert.AdamSquareRefIdeal.main_arg1) = m' ((c.tc : Thread Cert.AdamSquareRefIdeal.nD Cert.AdamSquareRefIdeal.τ).loc Cert.AdamSquareRefIdeal.main_arg1)
          ∧ r.2.mem ((c.tc : Thread Cert.AdamSquareRefIdeal.nD Cert.AdamSquareRefIdeal.τ).loc Cert.AdamSquareRefIdeal.main_arg2) = m' ((c.tc : Thread Cert.AdamSquareRefIdeal.nD Cert.AdamSquareRefIdeal.τ).loc Cert.AdamSquareRefIdeal.main_arg2)
          ∧ r.2.mem ((c.tc : Thread Cert.AdamSquareRefIdeal.nD Cert.AdamSquareRefIdeal.τ).loc Cert.AdamSquareRefIdeal.main_arg3) = m' ((c.tc : Thread Cert.AdamSquareRefIdeal.nD Cert.AdamSquareRefIdeal.τ).loc Cert.AdamSquareRefIdeal.main_arg3)
          ∧ r.2.mem ((c.tc : Thread Cert.AdamSquareRefIdeal.nD Cert.AdamSquareRefIdeal.τ).loc Cert.AdamSquareRefIdeal.main_arg4) = m' ((c.tc : Thread Cert.AdamSquareRefIdeal.nD Cert.AdamSquareRefIdeal.τ).loc Cert.AdamSquareRefIdeal.main_arg4)
          ∧ r.2.mem ((c.tc : Thread Cert.AdamSquareRefIdeal.nD Cert.AdamSquareRefIdeal.τ).loc Cert.AdamSquareRefIdeal.main_arg5) = m' ((c.tc : Thread Cert.AdamSquareRefIdeal.nD Cert.AdamSquareRefIdeal.τ).loc Cert.AdamSquareRefIdeal.main_arg5)
          ∧ r.2.mem ((c.tc : Thread Cert.AdamSquareRefIdeal.nD Cert.AdamSquareRefIdeal.τ).loc Cert.AdamSquareRefIdeal.main_arg6) = m' ((c.tc : Thread Cert.AdamSquareRefIdeal.nD Cert.AdamSquareRefIdeal.τ).loc Cert.AdamSquareRefIdeal.main_arg6))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v1_0)) (v1 : (c : Dev Cert.LossHeadIdeal.nD) → Buf (Elt Ideal) ((c.tc : Thread Cert.LossHeadIdeal.nD Cert.LossHeadIdeal.τ).loc Cert.LossHeadIdeal.main_v1_1)) (v2 : (c : Dev Cert.LossHeadIdeal.nD) → Buf (Elt Ideal) ((c.tc : Thread Cert.LossHeadIdeal.nD Cert.LossHeadIdeal.τ).loc Cert.LossHeadIdeal.main_v1_2)) (v3 : (c : Dev Cert.LossHeadIdeal.nD) → Buf (Elt Ideal) ((c.tc : Thread Cert.LossHeadIdeal.nD Cert.LossHeadIdeal.τ).loc Cert.LossHeadIdeal.main_v1_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v1_0) = v0 c
          ∧ r.2.mem ((c.tc : Thread Cert.LossHeadIdeal.nD Cert.LossHeadIdeal.τ).loc Cert.LossHeadIdeal.main_v1_1) = v1 c
          ∧ r.2.mem ((c.tc : Thread Cert.LossHeadIdeal.nD Cert.LossHeadIdeal.τ).loc Cert.LossHeadIdeal.main_v1_2) = v2 c
          ∧ r.2.mem ((c.tc : Thread Cert.LossHeadIdeal.nD Cert.LossHeadIdeal.τ).loc Cert.LossHeadIdeal.main_v1_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v51) = v0 c
          ∧ r.2.mem ((c.tc : Thread Cert.LossHeadRefIdeal.nD Cert.LossHeadRefIdeal.τ).loc Cert.LossHeadRefIdeal.main_v50) = v1 c
          ∧ r.2.mem ((c.tc : Thread Cert.LossHeadRefIdeal.nD Cert.LossHeadRefIdeal.τ).loc Cert.LossHeadRefIdeal.main_v52) = v2 c
          ∧ r.2.mem ((c.tc : Thread Cert.LossHeadRefIdeal.nD Cert.LossHeadRefIdeal.τ).loc Cert.LossHeadRefIdeal.main_v53) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def Claim : Prop :=
  ∃ (hKernel : Cert.Kernel.Facts) (hKernelIdeal : Cert.KernelIdeal.Facts) (hReferenceIdeal : Cert.ReferenceIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hOutDx : Cert.OutDx.Facts) (hOutDxIdeal : Cert.OutDxIdeal.Facts) (hOutDxRefIdeal : Cert.OutDxRefIdeal.Facts) (hBranchDx : Cert.BranchDx.Facts) (hBranchDxIdeal : Cert.BranchDxIdeal.Facts) (hBranchDxRefIdeal : Cert.BranchDxRefIdeal.Facts) (hSquareDw : Cert.SquareDw.Facts) (hSquareDwIdeal : Cert.SquareDwIdeal.Facts) (hSquareDwRefIdeal : Cert.SquareDwRefIdeal.Facts) (hProjDx : Cert.ProjDx.Facts) (hProjDxIdeal : Cert.ProjDxIdeal.Facts) (hProjDxRefIdeal : Cert.ProjDxRefIdeal.Facts) (hProjDw : Cert.ProjDw.Facts) (hProjDwIdeal : Cert.ProjDwIdeal.Facts) (hProjDwRefIdeal : Cert.ProjDwRefIdeal.Facts) (hProj : Cert.Proj.Facts) (hProjIdeal : Cert.ProjIdeal.Facts) (hProjRefIdeal : Cert.ProjRefIdeal.Facts) (hBranch : Cert.Branch.Facts) (hBranchIdeal : Cert.BranchIdeal.Facts) (hBranchRefIdeal : Cert.BranchRefIdeal.Facts) (hOut : Cert.Out.Facts) (hOutIdeal : Cert.OutIdeal.Facts) (hOutRefIdeal : Cert.OutRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hNormBwd : Cert.NormBwd.Facts) (hNormBwdIdeal : Cert.NormBwdIdeal.Facts) (hNormBwdRefIdeal : Cert.NormBwdRefIdeal.Facts) (hMergeBwd : Cert.MergeBwd.Facts) (hMergeBwdIdeal : Cert.MergeBwdIdeal.Facts) (hMergeBwdRefIdeal : Cert.MergeBwdRefIdeal.Facts) (hConvBwd : Cert.ConvBwd.Facts) (hConvBwdIdeal : Cert.ConvBwdIdeal.Facts) (hConvBwdRefIdeal : Cert.ConvBwdRefIdeal.Facts) (hNormFwd : Cert.NormFwd.Facts) (hNormFwdIdeal : Cert.NormFwdIdeal.Facts) (hNormFwdRefIdeal : Cert.NormFwdRefIdeal.Facts) (hMergeFwd : Cert.MergeFwd.Facts) (hMergeFwdIdeal : Cert.MergeFwdIdeal.Facts) (hMergeFwdRefIdeal : Cert.MergeFwdRefIdeal.Facts) (hConvFwd : Cert.ConvFwd.Facts) (hConvFwdIdeal : Cert.ConvFwdIdeal.Facts) (hConvFwdRefIdeal : Cert.ConvFwdRefIdeal.Facts) (hSwaFwd : Cert.SwaFwd.Facts) (hSwaFwdIdeal : Cert.SwaFwdIdeal.Facts) (hSwaFwdRefIdeal : Cert.SwaFwdRefIdeal.Facts) (hAdamSmall : Cert.AdamSmall.Facts) (hAdamSmallIdeal : Cert.AdamSmallIdeal.Facts) (hAdamSmallRefIdeal : Cert.AdamSmallRefIdeal.Facts) (hAdamSquare : Cert.AdamSquare.Facts) (hAdamSquareIdeal : Cert.AdamSquareIdeal.Facts) (hAdamSquareRefIdeal : Cert.AdamSquareRefIdeal.Facts) (hLossHead : Cert.LossHead.Facts) (hLossHeadIdeal : Cert.LossHeadIdeal.Facts) (hLossHeadRefIdeal : Cert.LossHeadRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_BranchDx (hBranchDx := hBranchDx)
    ∧ quiescent_BranchDxIdeal (hBranchDxIdeal := hBranchDxIdeal)
    ∧ quiescent_BranchDxRefIdeal (hBranchDxRefIdeal := hBranchDxRefIdeal)
    ∧ quiescent_SquareDw (hSquareDw := hSquareDw)
    ∧ quiescent_SquareDwIdeal (hSquareDwIdeal := hSquareDwIdeal)
    ∧ quiescent_SquareDwRefIdeal (hSquareDwRefIdeal := hSquareDwRefIdeal)
    ∧ quiescent_ProjDx (hProjDx := hProjDx)
    ∧ quiescent_ProjDxIdeal (hProjDxIdeal := hProjDxIdeal)
    ∧ quiescent_ProjDxRefIdeal (hProjDxRefIdeal := hProjDxRefIdeal)
    ∧ quiescent_ProjDw (hProjDw := hProjDw)
    ∧ quiescent_ProjDwIdeal (hProjDwIdeal := hProjDwIdeal)
    ∧ quiescent_ProjDwRefIdeal (hProjDwRefIdeal := hProjDwRefIdeal)
    ∧ quiescent_Proj (hProj := hProj)
    ∧ quiescent_ProjIdeal (hProjIdeal := hProjIdeal)
    ∧ quiescent_ProjRefIdeal (hProjRefIdeal := hProjRefIdeal)
    ∧ quiescent_Branch (hBranch := hBranch)
    ∧ quiescent_BranchIdeal (hBranchIdeal := hBranchIdeal)
    ∧ quiescent_BranchRefIdeal (hBranchRefIdeal := hBranchRefIdeal)
    ∧ quiescent_Out (hOut := hOut)
    ∧ quiescent_OutIdeal (hOutIdeal := hOutIdeal)
    ∧ quiescent_OutRefIdeal (hOutRefIdeal := hOutRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_ConvBwd (hConvBwd := hConvBwd)
    ∧ quiescent_ConvBwdIdeal (hConvBwdIdeal := hConvBwdIdeal)
    ∧ quiescent_ConvBwdRefIdeal (hConvBwdRefIdeal := hConvBwdRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_SwaFwd (hSwaFwd := hSwaFwd)
    ∧ quiescent_SwaFwdIdeal (hSwaFwdIdeal := hSwaFwdIdeal)
    ∧ quiescent_SwaFwdRefIdeal (hSwaFwdRefIdeal := hSwaFwdRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_AdamSquare (hAdamSquare := hAdamSquare)
    ∧ quiescent_AdamSquareIdeal (hAdamSquareIdeal := hAdamSquareIdeal)
    ∧ quiescent_AdamSquareRefIdeal (hAdamSquareRefIdeal := hAdamSquareRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_OutDx_OutDxIdeal
    ∧ algebraic_OutDxIdeal_OutDxRefIdeal (hOutDxIdeal := hOutDxIdeal) (hOutDxRefIdeal := hOutDxRefIdeal)
    ∧ preserves_BranchDx_BranchDxIdeal
    ∧ algebraic_BranchDxIdeal_BranchDxRefIdeal (hBranchDxIdeal := hBranchDxIdeal) (hBranchDxRefIdeal := hBranchDxRefIdeal)
    ∧ preserves_SquareDw_SquareDwIdeal
    ∧ algebraic_SquareDwIdeal_SquareDwRefIdeal (hSquareDwIdeal := hSquareDwIdeal) (hSquareDwRefIdeal := hSquareDwRefIdeal)
    ∧ preserves_ProjDx_ProjDxIdeal
    ∧ algebraic_ProjDxIdeal_ProjDxRefIdeal (hProjDxIdeal := hProjDxIdeal) (hProjDxRefIdeal := hProjDxRefIdeal)
    ∧ preserves_ProjDw_ProjDwIdeal
    ∧ algebraic_ProjDwIdeal_ProjDwRefIdeal (hProjDwIdeal := hProjDwIdeal) (hProjDwRefIdeal := hProjDwRefIdeal)
    ∧ preserves_Proj_ProjIdeal
    ∧ algebraic_ProjIdeal_ProjRefIdeal (hProjIdeal := hProjIdeal) (hProjRefIdeal := hProjRefIdeal)
    ∧ preserves_Branch_BranchIdeal
    ∧ algebraic_BranchIdeal_BranchRefIdeal (hBranchIdeal := hBranchIdeal) (hBranchRefIdeal := hBranchRefIdeal)
    ∧ preserves_Out_OutIdeal
    ∧ algebraic_OutIdeal_OutRefIdeal (hOutIdeal := hOutIdeal) (hOutRefIdeal := hOutRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_NormBwd_NormBwdIdeal
    ∧ algebraic_NormBwdIdeal_NormBwdRefIdeal (hNormBwdIdeal := hNormBwdIdeal) (hNormBwdRefIdeal := hNormBwdRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_ConvBwd_ConvBwdIdeal
    ∧ algebraic_ConvBwdIdeal_ConvBwdRefIdeal (hConvBwdIdeal := hConvBwdIdeal) (hConvBwdRefIdeal := hConvBwdRefIdeal)
    ∧ preserves_NormFwd_NormFwdIdeal
    ∧ algebraic_NormFwdIdeal_NormFwdRefIdeal (hNormFwdIdeal := hNormFwdIdeal) (hNormFwdRefIdeal := hNormFwdRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_SwaFwd_SwaFwdIdeal
    ∧ algebraic_SwaFwdIdeal_SwaFwdRefIdeal (hSwaFwdIdeal := hSwaFwdIdeal) (hSwaFwdRefIdeal := hSwaFwdRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_AdamSquare_AdamSquareIdeal
    ∧ algebraic_AdamSquareIdeal_AdamSquareRefIdeal (hAdamSquareIdeal := hAdamSquareIdeal) (hAdamSquareRefIdeal := hAdamSquareRefIdeal)
    ∧ preserves_LossHead_LossHeadIdeal
    ∧ algebraic_LossHeadIdeal_LossHeadRefIdeal (hLossHeadIdeal := hLossHeadIdeal) (hLossHeadRefIdeal := hLossHeadRefIdeal)
-- ==== Pre_finite.lean ====
abbrev S4096x2048 : Shape := ⟨2, ![4096, 2048]⟩
abbrev S4096x256 : Shape := ⟨2, ![4096, 256]⟩
abbrev S32 : Shape := ⟨1, ![32]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S32 : S_.BroadcastsInDim S32 (![] : Fin 0 → Fin S32.rank)
  reducesTo_S32_S_d0 : S32.ReducesTo [0] S_
  bitsLt_bf16_f32 : FTy.bits .bf16 < FTy.bits .f32

variable [Facts]

def fn_part1 {F : FTy → Type} [FloatOps F] (main_arg4 : FVec F S4096x2048 .bf16) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S4096x2048 .f32 := (extf .f32 · bitsLt_bf16_f32) main_arg4
  let main_v20 : FVec F S4096x2048 .f32 := Host.absf main_v19
  let main_cst_6 : FVec F S_ .f32 := constant S_ .f32 0x7F800000#32
  let main_v21 : FVec F S4096x2048 .f32 := broadcastInDim S4096x2048 ![] bcast_S_S4096x2048 main_cst_6
  let main_v22 : IVec S4096x2048 1 := cmpf .olt main_v20 main_v21
  let main_c_7 : IVec S_ 1 := constantI S_ 1 1#1
  let main_v23 : IVec S_ 1 := (fun x v => Host.reduce IntOp.andi x v reducesTo_S4096x2048_S_d0_1 h_S_) main_v22 main_c_7
  let main_v24 : IVec S_ 1 := andi main_v18 main_v23
  main_v24

def fn {F : FTy → Type} [FloatOps F] (main_arg0 : FVec F S4096x2048 .f32) (main_arg1 : FVec F S4096x256 .f32) (main_arg2 : FVec F S4096x256 .f32) (main_arg3 : FVec F S32 .f32) (main_arg4 : FVec F S4096x2048 .bf16) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S4096x256 .f32 := Host.absf main_arg2
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_v13 main_v16
-- ==== Kernel.lean ====
abbrev S4096x2048 : Shape := ⟨2, ![4096, 2048]⟩
abbrev S4096x256 : Shape := ⟨2, ![4096, 256]⟩
abbrev S32 : Shape := ⟨1, ![32]⟩
abbrev S4096x32x64 : Shape := ⟨3, ![4096, 32, 64]⟩
abbrev S32x4096x64 : Shape := ⟨3, ![32, 4096, 64]⟩
abbrev S4096x4x64 : Shape := ⟨3, ![4096, 4, 64]⟩
abbrev S4x4096x64 : Shape := ⟨3, ![4, 4096, 64]⟩
abbrev S32x1x1 : Shape := ⟨3, ![32, 1, 1]⟩
abbrev S_ : Shape := ⟨0, ![]⟩
abbrev S32x128x64 : Shape := ⟨3, ![32, 128, 64]⟩
abbrev S4x128x64 : Shape := ⟨3, ![4, 128, 64]⟩
abbrev S8x1x1 : Shape := ⟨3, ![8, 1, 1]⟩
abbrev S8x128x64 : Shape := ⟨3, ![8, 128, 64]⟩
abbrev S1x128x64 : Shape := ⟨3, ![1, 128, 64]⟩
abbrev S128x64 : Shape := ⟨2, ![128, 64]⟩
abbrev S256x64 : Shape := ⟨2, ![256, 64]⟩
abbrev S1024x64 : Shape := ⟨2, ![1024, 64]⟩
abbrev S1024x256 : Shape := ⟨2, ![1024, 256]⟩
abbrev S8x128x256 : Shape := ⟨3, ![8, 128, 256]⟩
abbrev S1x128x256 : Shape := ⟨3, ![1, 128, 256]⟩
abbrev S8x128 : Shape := ⟨2, ![8, 128]⟩
abbrev S8x128x1 : Shape := ⟨3, ![8, 128, 1]⟩
abbrev S8 : Shape := ⟨1, ![8]⟩
abbrev S8x1 : Shape := ⟨2, ![8, 1]⟩

abbrev nBuf : Space → Nat
  | .hbm => 32
  | .vmem => 23
  | .smem => 0
  | _ => 0

abbrev bufTy : (tb : Table) → Fin (tcTables nBuf tb) → BufTy
  | .hbm, ⟨0, _⟩ => ⟨S4096x2048, .f32⟩
  | .hbm, ⟨1, _⟩ => ⟨S4096x256, .f32⟩
  | .hbm, ⟨2, _⟩ => ⟨S4096x256, .f32⟩
  | .hbm, ⟨3, _⟩ => ⟨S32, .f32⟩
  | .hbm, ⟨4, _⟩ => ⟨S4096x2048, .bf16⟩
  | .hbm, ⟨5, _⟩ => ⟨S4096x32x64, .f32⟩
  | .hbm, ⟨6, _⟩ => ⟨S32x4096x64, .f32⟩
  | .hbm, ⟨7, _⟩ => ⟨S4096x4x64, .f32⟩
  | .hbm, ⟨8, _⟩ => ⟨S4x4096x64, .f32⟩
  | .hbm, ⟨9, _⟩ => ⟨S4096x4x64, .f32⟩
  | .hbm, ⟨10, _⟩ => ⟨S4x4096x64, .f32⟩
  | .hbm, ⟨11, _⟩ => ⟨S32x1x1, .f32⟩
  | .hbm, ⟨12, _⟩ => ⟨S4096x32x64, .bf16⟩
  | .hbm, ⟨13, _⟩ => ⟨S32x4096x64, .bf16⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S32x1x1, .f32⟩
  | .hbm, ⟨28, _⟩ => ⟨S32x4096x64, .bf16⟩
  | .hbm, ⟨29, _⟩ => ⟨S4x4096x64, .bf16⟩
  | .hbm, ⟨30, _⟩ => ⟨S4x4096x64, .bf16⟩
  | .hbm, ⟨31, _⟩ => ⟨S32x1x1, .f32⟩
  | .local _ .vmem, ⟨0, _⟩ => ⟨S32x128x64, .f32⟩
  | .local _ .vmem, ⟨1, _⟩ => ⟨S32x128x64, .f32⟩
  | .local _ .vmem, ⟨2, _⟩ => ⟨S4x128x64, .f32⟩
  | .local _ .vmem, ⟨3, _⟩ => ⟨S4x128x64, .f32⟩
  | .local _ .vmem, ⟨4, _⟩ => ⟨S4x128x64, .f32⟩
  | .local _ .vmem, ⟨5, _⟩ => ⟨S4x128x64, .f32⟩
  | .local _ .vmem, ⟨6, _⟩ => ⟨S4x128x64, .f32⟩
  | .local _ .vmem, ⟨7, _⟩ => ⟨S4x128x64, .f32⟩
  | .local _ .vmem, ⟨8, _⟩ => ⟨S4x128x64, .f32⟩
  | .local _ .vmem, ⟨9, _⟩ => ⟨S4x128x64, .f32⟩
  | .local _ .vmem, ⟨10, _⟩ => ⟨S32x1x1, .f32⟩
  | .local _ .vmem, ⟨11, _⟩ => ⟨S32x1x1, .f32⟩
  | .local _ .vmem, ⟨12, _⟩ => ⟨S32x128x64, .bf16⟩
  | .local _ .vmem, ⟨13, _⟩ => ⟨S32x128x64, .bf16⟩
  | .local _ .vmem, ⟨14, _⟩ => ⟨S32x128x64, .bf16⟩
  | .local _ .vmem, ⟨15, _⟩ => ⟨S32x128x64, .bf16⟩
  | .local _ .vmem, ⟨16, _⟩ => ⟨S4x128x64, .bf16⟩
  | .local _ .vmem, ⟨17, _⟩ => ⟨S4x128x64, .bf16⟩
  | .local _ .vmem, ⟨18, _⟩ => ⟨S4x128x64, .bf16⟩
  | .local _ .vmem, ⟨19, _⟩ => ⟨S4x128x64, .bf16⟩
  | .local _ .vmem, ⟨20, _⟩ => ⟨S32x1x1, .f32⟩
  | .local _ .vmem, ⟨21, _⟩ => ⟨S4x128x64, .f32⟩
  | .local _ .vmem, ⟨22, _⟩ => ⟨S4x128x64, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev main_v19_2 : Ref sig .tc := ⟨.hbm, 30, rfl⟩
abbrev main_v19_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨2, ![1, 32], ![false, false]⟩

def cc0_transform_0 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_9 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_10 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S32x1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S32x1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S32x128x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x128x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S4x128x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S4x128x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S32x1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]
-- ==== ReferenceIdeal.lean ====
abbrev S4096x2048 : Shape := ⟨2, ![4096, 2048]⟩
abbrev S4096x256 : Shape := ⟨2, ![4096, 256]⟩
abbrev S32 : Shape := ⟨1, ![32]⟩
abbrev S32x128x4x8x64 : Shape := ⟨5, ![32, 128, 4, 8, 64]⟩
abbrev S32x128x4x64 : Shape := ⟨4, ![32, 128, 4, 64]⟩
abbrev S_ : Shape := ⟨0, ![]⟩
abbrev S1x128x4x64 : Shape := ⟨4, ![1, 128, 4, 64]⟩
abbrev S31x128x4x64 : Shape := ⟨4, ![31, 128, 4, 64]⟩
abbrev S32x256x4x64 : Shape := ⟨4, ![32, 256, 4, 64]⟩
abbrev S32x4x256x128x8 : Shape := ⟨5, ![32, 4, 256, 128, 8]⟩
abbrev S32x4x8x128x256 : Shape := ⟨5, ![32, 4, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S4x8 : Shape := ⟨2, ![4, 8]⟩
abbrev S4x8x1x1 : Shape := ⟨4, ![4, 8, 1, 1]⟩
abbrev S1x1x128x256 : Shape := ⟨4, ![1, 1, 128, 256]⟩
abbrev S4x8x128x256 : Shape := ⟨4, ![4, 8, 128, 256]⟩
abbrev S32x1x1x128x256 : Shape := ⟨5, ![32, 1, 1, 128, 256]⟩
abbrev S1x4x8x128x256 : Shape := ⟨5, ![1, 4, 8, 128, 256]⟩
abbrev S32x4x8x128 : Shape := ⟨4, ![32, 4, 8, 128]⟩
abbrev S32x4x8x128x1 : Shape := ⟨5, ![32, 4, 8, 128, 1]⟩
abbrev S1x4x8x1x1 : Shape := ⟨5, ![1, 4, 8, 1, 1]⟩
abbrev S32x4x64x8x128 : Shape := ⟨5, ![32, 4, 64, 8, 128]⟩
abbrev S32x4x64x256 : Shape := ⟨4, ![32, 4, 64, 256]⟩
abbrev S4x8x1 : Shape := ⟨3, ![4, 8, 1]⟩
abbrev S32x4x128x8x64 : Shape := ⟨5, ![32, 4, 128, 8, 64]⟩
abbrev S32x4x256x64 : Shape := ⟨4, ![32, 4, 256, 64]⟩
abbrev S4096x32x64 : Shape := ⟨3, ![4096, 32, 64]⟩
abbrev S32x4096x64 : Shape := ⟨3, ![32, 4096, 64]⟩
abbrev S4096x4x64 : Shape := ⟨3, ![4096, 4, 64]⟩
abbrev S4x4096x64 : Shape := ⟨3, ![4, 4096, 64]⟩

abbrev nBuf : Space → Nat
  | .hbm => 239
  | .vmem => 0
  | .smem => 0
  | _ => 0

abbrev hbmTy0_0 (i : Nat) : BufTy := match i % 128 with
  | 0 => ⟨S4096x2048, .f32⟩
  | 1 => ⟨S4096x256, .f32⟩
  | 2 => ⟨S4096x256, .f32⟩
  | 3 => ⟨S32, .f32⟩
  | 4 => ⟨S4096x2048, .bf16⟩
  | 5 => ⟨S32x128x4x8x64, .f32⟩
  | 6 => ⟨S32x128x4x64, .f32⟩
  | 7 => ⟨S_, .f32⟩
  | 8 => ⟨S1x128x4x64, .f32⟩
  | 9 => ⟨S31x128x4x64, .f32⟩
  | 10 => ⟨S32x128x4x64, .f32⟩
  | 11 => ⟨S_, .f32⟩
  | 12 => ⟨S1x128x4x64, .f32⟩
  | 13 => ⟨S32x256x4x64, .f32⟩
  | 14 => ⟨S32x128x4x64, .f32⟩
  | 15 => ⟨S_, .f32⟩
  | 16 => ⟨S1x128x4x64, .f32⟩
  | 17 => ⟨S31x128x4x64, .f32⟩
  | 18 => ⟨S32x128x4x64, .f32⟩
  | 19 => ⟨S_, .f32⟩
  | 20 => ⟨S1x128x4x64, .f32⟩
  | 21 => ⟨S32x256x4x64, .f32⟩
  | 22 => ⟨S32x4x256x128x8, .f32⟩
  | 23 => ⟨S32x4x8x128x256, .f32⟩
  | 24 => ⟨S_, .f32⟩
  | 25 => ⟨S32x4x8x128x256, .f32⟩
  | 26 => ⟨S32x4x8x128x256, .f32⟩
  | 27 => ⟨S128, .i32⟩
  | 28 => ⟨S128x1, .i32⟩
  | 29 => ⟨S256, .i32⟩
  | 30 => ⟨S1x256, .i32⟩
  | 31 => ⟨S_, .i32⟩
  | 32 => ⟨S128x1, .i32⟩
  | 33 => ⟨S128x1, .i32⟩
  | 34 => ⟨S128x256, .i32⟩
  | 35 => ⟨S128x256, .i32⟩
  | 36 => ⟨S128x256, .i32⟩
  | 37 => ⟨S_, .i32⟩
  | 38 => ⟨S128x256, .i32⟩
  | 39 => ⟨S128x256, .i1⟩
  | 40 => ⟨S_, .i32⟩
  | 41 => ⟨S128x256, .i32⟩
  | 42 => ⟨S128x256, .i1⟩
  | 43 => ⟨S128x256, .i1⟩
  | 44 => ⟨S32, .i32⟩
  | 45 => ⟨S32x1x1, .i32⟩
  | 46 => ⟨S_, .i32⟩
  | 47 => ⟨S32x1x1, .i32⟩
  | 48 => ⟨S32x1x1, .i1⟩
  | 49 => ⟨S_, .i32⟩
  | 50 => ⟨S1x256, .i32⟩
  | 51 => ⟨S1x256, .i1⟩
  | 52 => ⟨S1x1x256, .i1⟩
  | 53 => ⟨S32x1x256, .i1⟩
  | 54 => ⟨S32x1x256, .i1⟩
  | 55 => ⟨S32x1x256, .i1⟩
  | 56 => ⟨S1x128x256, .i1⟩
  | 57 => ⟨S32x128x256, .i1⟩
  | 58 => ⟨S32x128x256, .i1⟩
  | 59 => ⟨S32x128x256, .i1⟩
  | 60 => ⟨S32, .f32⟩
  | 61 => ⟨S_, .f32⟩
  | 62 => ⟨S32, .f32⟩
  | 63 => ⟨S32, .f32⟩
  | 64 => ⟨S_, .f32⟩
  | 65 => ⟨S32, .f32⟩
  | 66 => ⟨S32, .f32⟩
  | 67 => ⟨S_, .f32⟩
  | 68 => ⟨S32, .f32⟩
  | 69 => ⟨S32, .f32⟩
  | 70 => ⟨S_, .f32⟩
  | 71 => ⟨S32, .f32⟩
  | 72 => ⟨S32, .f32⟩
  | 73 => ⟨S4x8, .f32⟩
  | 74 => ⟨S4x8x1x1, .f32⟩
  | 75 => ⟨S4x8x1x1, .f32⟩
  | 76 => ⟨S128x256, .f32⟩
  | 77 => ⟨S1x1x128x256, .f32⟩
  | 78 => ⟨S4x8x128x256, .f32⟩
  | 79 => ⟨S4x8x128x256, .f32⟩
  | 80 => ⟨S4x8x128x256, .f32⟩
  | 81 => ⟨S32x1x1x128x256, .i1⟩
  | 82 => ⟨S1x4x8x128x256, .f32⟩
  | 83 => ⟨S32x4x8x128x256, .f32⟩
  | 84 => ⟨S32x4x8x128x256, .f32⟩
  | 85 => ⟨S_, .f32⟩
  | 86 => ⟨S_, .f32⟩
  | 87 => ⟨S32x4x8x128x256, .i1⟩
  | 88 => ⟨S32x4x8x128x256, .f32⟩
  | 89 => ⟨S32x4x8x128x256, .f32⟩
  | 90 => ⟨S_, .f32⟩
  | 91 => ⟨S32x4x8x128x256, .f32⟩
  | 92 => ⟨S4x8, .f32⟩
  | 93 => ⟨S4x8x1x1, .f32⟩
  | 94 => ⟨S_, .f32⟩
  | 95 => ⟨S32x4x8x128, .f32⟩
  | 96 => ⟨S32x4x8x128x1, .f32⟩
  | 97 => ⟨S32x4x8x128x256, .f32⟩
  | 98 => ⟨S32x4x8x128x256, .i1⟩
  | 99 => ⟨S32x4x8x128x256, .f32⟩
  | 100 => ⟨S_, .f32⟩
  | 101 => ⟨S32x4x8x128, .f32⟩
  | 102 => ⟨S32x4x8x128x1, .f32⟩
  | 103 => ⟨S1x4x8x1x1, .f32⟩
  | 104 => ⟨S32x4x8x128x1, .f32⟩
  | 105 => ⟨S32x4x8x128x1, .f32⟩
  | 106 => ⟨S32x4x8x128x1, .f32⟩
  | 107 => ⟨S32x4x8x128x1, .i1⟩
  | 108 => ⟨S32x4x8x128x1, .f32⟩
  | 109 => ⟨S32x4x8x128x1, .i1⟩
  | 110 => ⟨S_, .f32⟩
  | 111 => ⟨S32x4x8x128x1, .f32⟩
  | 112 => ⟨S_, .f32⟩
  | 113 => ⟨S32x4x8x128x1, .f32⟩
  | 114 => ⟨S_, .f32⟩
  | 115 => ⟨S32x4x8x128x1, .f32⟩
  | 116 => ⟨S32x4x8x128x1, .f32⟩
  | 117 => ⟨S32x4x8x128x1, .f32⟩
  | 118 => ⟨S32x4x8x128x1, .f32⟩
  | 119 => ⟨S32x4x8x128x1, .i1⟩
  | 120 => ⟨S32x4x8x128x1, .f32⟩
  | 121 => ⟨S32x4x8x128x1, .i1⟩
  | 122 => ⟨S_, .f32⟩
  | 123 => ⟨S32x4x8x128x1, .f32⟩
  | 124 => ⟨S_, .f32⟩
  | 125 => ⟨S32x4x8x128x1, .f32⟩
  | 126 => ⟨S_, .f32⟩
  | 127 => ⟨S32x4x8x128x1, .f32⟩
  | _ => ⟨S4096x2048, .f32⟩

abbrev hbmTy0_1 (i : Nat) : BufTy := match i % 128 with
  | 0 => ⟨S32x4x8x128x1, .f32⟩
  | 1 => ⟨S32x4x8x128x1, .f32⟩
  | 2 => ⟨S32x4x8x128x256, .f32⟩
  | 3 => ⟨S32x4x8x128x256, .f32⟩
  | 4 => ⟨S32x4x8x128x256, .f32⟩
  | 5 => ⟨S_, .f32⟩
  | 6 => ⟨S32x4x8x128, .f32⟩
  | 7 => ⟨S32x4x8x128x1, .f32⟩
  | 8 => ⟨S1x4x8x1x1, .f32⟩
  | 9 => ⟨S32x4x8x128x1, .f32⟩
  | 10 => ⟨S32x4x8x128x1, .f32⟩
  | 11 => ⟨S32x4x8x128x1, .f32⟩
  | 12 => ⟨S32x4x8x128x1, .f32⟩
  | 13 => ⟨S32x4x8x128x256, .f32⟩
  | 14 => ⟨S32x4x8x128x256, .f32⟩
  | 15 => ⟨S32x4x8x128x1, .f32⟩
  | 16 => ⟨S_, .f32⟩
  | 17 => ⟨S32x4x8x128x1, .f32⟩
  | 18 => ⟨S32x4x8x128x1, .f32⟩
  | 19 => ⟨S32x4x64x8x128, .f32⟩
  | 20 => ⟨S32x128x4x8x64, .f32⟩
  | 21 => ⟨S4096x2048, .f32⟩
  | 22 => ⟨S4096x2048, .f32⟩
  | 23 => ⟨S32x128x4x8x64, .f32⟩
  | 24 => ⟨S32x4x64x8x128, .f32⟩
  | 25 => ⟨S32x4x8x128x256, .f32⟩
  | 26 => ⟨S32x4x64x256, .f32⟩
  | 27 => ⟨S32x256x4x64, .f32⟩
  | 28 => ⟨S32x4x8x128x256, .f32⟩
  | 29 => ⟨S32x4x8x128x256, .f32⟩
  | 30 => ⟨S32x4x8x128x256, .f32⟩
  | 31 => ⟨S_, .f32⟩
  | 32 => ⟨S32x4x8x128, .f32⟩
  | 33 => ⟨S32x4x8x128x1, .f32⟩
  | 34 => ⟨S32x4x8x128x1, .f32⟩
  | 35 => ⟨S32x4x8x128x256, .f32⟩
  | 36 => ⟨S32x4x8x128x256, .f32⟩
  | 37 => ⟨S32x4x8x128x1, .f32⟩
  | 38 => ⟨S_, .f32⟩
  | 39 => ⟨S4x8x1, .f32⟩
  | 40 => ⟨S1x4x8x1x1, .f32⟩
  | 41 => ⟨S32x4x8x128x1, .f32⟩
  | 42 => ⟨S_, .f32⟩
  | 43 => ⟨S4x8, .f32⟩
  | 44 => ⟨S4x8x1x1, .f32⟩
  | 45 => ⟨S_, .f32⟩
  | 46 => ⟨S32x4x8x128, .f32⟩
  | 47 => ⟨S32x4x8x128x256, .f32⟩
  | 48 => ⟨S32x4x8x128x256, .f32⟩
  | 49 => ⟨S32x4x8x128x256, .f32⟩
  | 50 => ⟨S32x4x8x128x256, .f32⟩
  | 51 => ⟨S_, .f32⟩
  | 52 => ⟨S32x4x8x128, .f32⟩
  | 53 => ⟨S32x4x8x128x1, .f32⟩
  | 54 => ⟨S32x4x8x128x1, .f32⟩
  | 55 => ⟨S32x4x8x128x1, .f32⟩
  | 56 => ⟨S_, .f32⟩
  | 57 => ⟨S4x8x1, .f32⟩
  | 58 => ⟨S1x4x8x1x1, .f32⟩
  | 59 => ⟨S32x4x8x128x1, .f32⟩
  | 60 => ⟨S_, .f32⟩
  | 61 => ⟨S4x8, .f32⟩
  | 62 => ⟨S4x8x1x1, .f32⟩
  | 63 => ⟨S4x8x1x1, .f32⟩
  | 64 => ⟨S_, .f32⟩
  | 65 => ⟨S32x4x8x128, .f32⟩
  | 66 => ⟨S32x4x8x128, .f32⟩
  | 67 => ⟨S32x4x8x128x256, .f32⟩
  | 68 => ⟨S32x4x8x128x256, .f32⟩
  | 69 => ⟨S32x4x8x128x256, .f32⟩
  | 70 => ⟨S_, .f32⟩
  | 71 => ⟨S4x8, .f32⟩
  | 72 => ⟨S32, .f32⟩
  | 73 => ⟨S_, .f32⟩
  | 74 => ⟨S32x4x8x128x256, .f32⟩
  | 75 => ⟨S32x4x8x128x256, .f32⟩
  | 76 => ⟨S_, .f32⟩
  | 77 => ⟨S32x4x8x128x256, .f32⟩
  | 78 => ⟨S32x4x8x128x256, .f32⟩
  | 79 => ⟨S32x4x256x128x8, .f32⟩
  | 80 => ⟨S32x4x128x8x64, .f32⟩
  | 81 => ⟨S32x128x4x8x64, .f32⟩
  | 82 => ⟨S32x4x256x64, .f32⟩
  | 83 => ⟨S32x256x4x64, .f32⟩
  | 84 => ⟨S32x128x4x64, .f32⟩
  | 85 => ⟨S32x128x4x64, .f32⟩
  | 86 => ⟨S1x128x4x64, .f32⟩
  | 87 => ⟨S31x128x4x64, .f32⟩
  | 88 => ⟨S_, .f32⟩
  | 89 => ⟨S32x128x4x64, .f32⟩
  | 90 => ⟨S32x128x4x64, .f32⟩
  | 91 => ⟨S4096x256, .f32⟩
  | 92 => ⟨S32x128x4x64, .f32⟩
  | 93 => ⟨S32x128x4x64, .f32⟩
  | 94 => ⟨S1x128x4x64, .f32⟩
  | 95 => ⟨S31x128x4x64, .f32⟩
  | 96 => ⟨S_, .f32⟩
  | 97 => ⟨S32x128x4x64, .f32⟩
  | 98 => ⟨S32x128x4x64, .f32⟩
  | 99 => ⟨S4096x256, .f32⟩
  | 100 => ⟨S4096x2048, .f32⟩
  | 101 => ⟨S4096x32x64, .f32⟩
  | 102 => ⟨S32x4096x64, .f32⟩
  | 103 => ⟨S4096x4x64, .f32⟩
  | 104 => ⟨S4x4096x64, .f32⟩
  | 105 => ⟨S4096x4x64, .f32⟩
  | 106 => ⟨S4x4096x64, .f32⟩
  | 107 => ⟨S32x4096x64, .bf16⟩
  | 108 => ⟨S4x4096x64, .bf16⟩
  | 109 => ⟨S4x4096x64, .bf16⟩
  | 110 => ⟨S32x1x1, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_4 : Ref sig .tc := ⟨.hbm, 37, rfl⟩
abbrev main_v26 : Ref sig .tc := ⟨.hbm, 38, rfl⟩
abbrev main_v27 : Ref sig .tc := ⟨.hbm, 39, rfl⟩
abbrev main_c_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_6 : Ref sig .tc := ⟨.hbm, 46, rfl⟩
abbrev main_v33 : Ref sig .tc := ⟨.hbm, 47, rfl⟩
abbrev main_v34 : Ref sig .tc := ⟨.hbm, 48, rfl⟩
abbrev main_c_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_8 : Ref sig .tc := ⟨.hbm, 61, rfl⟩
abbrev main_v46 : Ref sig .tc := ⟨.hbm, 62, rfl⟩
abbrev main_v47 : Ref sig .tc := ⟨.hbm, 63, rfl⟩
abbrev main_cst_9 : Ref sig .tc := ⟨.hbm, 64, rfl⟩
abbrev main_v48 : Ref sig .tc := ⟨.hbm, 65, rfl⟩
abbrev main_v49 : Ref sig .tc := ⟨.hbm, 66, rfl⟩
abbrev main_cst_10 : Ref sig .tc := ⟨.hbm, 67, rfl⟩
abbrev main_v50 : Ref sig .tc := ⟨.hbm, 68, rfl⟩
abbrev main_v51 : Ref sig .tc := ⟨.hbm, 69, rfl⟩
abbrev main_cst_11 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_12 : Ref sig .tc := ⟨.hbm, 85, rfl⟩
abbrev main_call0_v0 : Ref sig .tc := ⟨.hbm, 86, rfl⟩
abbrev main_v66_1 : Ref sig .tc := ⟨.hbm, 87, rfl⟩
abbrev main_call0_v2 : Ref sig .tc := ⟨.hbm, 88, rfl⟩
abbrev main_v66_0 : Ref sig .tc := ⟨.hbm, 89, rfl⟩
abbrev main_call0_cst : Ref sig .tc := ⟨.hbm, 90, rfl⟩
abbrev main_v66_2 : Ref sig .tc := ⟨.hbm, 91, rfl⟩
abbrev main_v67 : Ref sig .tc := ⟨.hbm, 92, rfl⟩
abbrev main_v68 : Ref sig .tc := ⟨.hbm, 93, rfl⟩
abbrev main_cst_13 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_14 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_15 : Ref sig .tc := ⟨.hbm, 110, rfl⟩
abbrev main_v83 : Ref sig .tc := ⟨.hbm, 111, rfl⟩
abbrev main_cst_16 : Ref sig .tc := ⟨.hbm, 112, rfl⟩
abbrev main_v84 : Ref sig .tc := ⟨.hbm, 113, rfl⟩
abbrev main_cst_17 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_18 : Ref sig .tc := ⟨.hbm, 122, rfl⟩
abbrev main_v92 : Ref sig .tc := ⟨.hbm, 123, rfl⟩
abbrev main_cst_19 : Ref sig .tc := ⟨.hbm, 124, rfl⟩
abbrev main_v93 : Ref sig .tc := ⟨.hbm, 125, rfl⟩
abbrev main_cst_20 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_cst_21 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_cst_22 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_cst_23 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_cst_24 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_cst_25 : Ref sig .tc := ⟨.hbm, 170, rfl⟩
abbrev main_v133 : Ref sig .tc := ⟨.hbm, 171, rfl⟩
abbrev main_v134 : Ref sig .tc := ⟨.hbm, 172, rfl⟩
abbrev main_cst_26 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_cst_27 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_cst_28 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_cst_29 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_cst_30 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_cst_31 : Ref sig .tc := ⟨.hbm, 198, rfl⟩
abbrev main_v155 : Ref sig .tc := ⟨.hbm, 199, rfl⟩
abbrev main_v156 : Ref sig .tc := ⟨.hbm, 200, rfl⟩
abbrev main_call1_cst : Ref sig .tc := ⟨.hbm, 201, rfl⟩
abbrev main_call1_v0 : Ref sig .tc := ⟨.hbm, 202, rfl⟩
abbrev main_v157 : Ref sig .tc := ⟨.hbm, 203, rfl⟩
abbrev main_cst_32 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_cst_33 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_cst_34 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩

abbrev nD : Nat := 1
abbrev τ : Topo := Topo.v7x

variable {F : FTy → Type} [FloatOps F]
-- ==== DownDx.lean ====
abbrev S4096x2048 : Shape := ⟨2, ![4096, 2048]⟩
abbrev S8192x2048 : Shape := ⟨2, ![8192, 2048]⟩
abbrev S4096x8192 : Shape := ⟨2, ![4096, 8192]⟩
abbrev S1024x2048 : Shape := ⟨2, ![1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .f32⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDxRefIdeal.lean ====
abbrev S4096x2048 : Shape := ⟨2, ![4096, 2048]⟩
abbrev S8192x2048 : Shape := ⟨2, ![8192, 2048]⟩
abbrev S4096x8192 : Shape := ⟨2, ![4096, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .f32⟩
  | .hbm, ⟨3, _⟩ => ⟨S8192x2048, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .i1⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S4096x2048, .f32⟩
  | .hbm, ⟨17, _⟩ => ⟨S4096x2048, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== DownDw.lean ====
abbrev S4096x8192 : Shape := ⟨2, ![4096, 8192]⟩
abbrev S4096x2048 : Shape := ⟨2, ![4096, 2048]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S_, .f32⟩
  | .hbm, ⟨3, _⟩ => ⟨S8192x2048, .f32⟩
  | .hbm, ⟨4, _⟩ => ⟨S4096x8192, .f32⟩
  | .hbm, ⟨5, _⟩ => ⟨S4096x2048, .f32⟩
  | .hbm, ⟨6, _⟩ => ⟨S4096x2048, .f32⟩
  | .hbm, ⟨7, _⟩ => ⟨S2048x8192, .f32⟩
  | .hbm, ⟨8, _⟩ => ⟨S8192x2048, .f32⟩
  | .hbm, ⟨9, _⟩ => ⟨S8192x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpDx.lean ====
abbrev S4096x8192 : Shape := ⟨2, ![4096, 8192]⟩
abbrev S2048x8192 : Shape := ⟨2, ![2048, 8192]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S4096x8192 : Shape := ⟨2, ![4096, 8192]⟩
abbrev S2048x8192 : Shape := ⟨2, ![2048, 8192]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S_, .f32⟩
  | .hbm, ⟨3, _⟩ => ⟨S4096x2048, .f32⟩
  | .hbm, ⟨4, _⟩ => ⟨S2048x8192, .f32⟩
  | .hbm, ⟨5, _⟩ => ⟨S4096x8192, .f32⟩
  | .hbm, ⟨6, _⟩ => ⟨S4096x8192, .f32⟩
  | .hbm, ⟨7, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpDw.lean ====
abbrev S4096x2048 : Shape := ⟨2, ![4096, 2048]⟩
abbrev S4096x8192 : Shape := ⟨2, ![4096, 8192]⟩
abbrev S2048x8192 : Shape := ⟨2, ![2048, 8192]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S2048x8192, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .f32⟩
  | .hbm, ⟨3, _⟩ => ⟨S2048x8192, .f32⟩
  | .hbm, ⟨4, _⟩ => ⟨S4096x2048, .f32⟩
  | .hbm, ⟨5, _⟩ => ⟨S4096x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutDx.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== BranchDx.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchDxRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SquareDw.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SquareDwRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjDx.lean ====
abbrev S4096x15360 : Shape := ⟨2, ![4096, 15360]⟩
abbrev S2048x15360 : Shape := ⟨2, ![2048, 15360]⟩
abbrev S4096x2048 : Shape := ⟨2, ![4096, 2048]⟩
abbrev S1024x1920 : Shape := ⟨2, ![1024, 1920]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x15360, .bf16⟩
  | .hbm, ⟨1, _⟩ => ⟨S2048x15360, .bf16⟩
  | .hbm, ⟨2, _⟩ => ⟨S4096x2048, .f32⟩
  | .local _ .vmem, ⟨0, _⟩ => ⟨S1024x1920, .bf16⟩
  | .local _ .vmem, ⟨1, _⟩ => ⟨S1024x1920, .bf16⟩
  | .local _ .vmem, ⟨2, _⟩ => ⟨S1024x1920, .bf16⟩
  | .local _ .vmem, ⟨3, _⟩ => ⟨S1024x1920, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x15360, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1920 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDxRefIdeal.lean ====
abbrev S4096x15360 : Shape := ⟨2, ![4096, 15360]⟩
abbrev S2048x15360 : Shape := ⟨2, ![2048, 15360]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x15360, .bf16⟩
  | .hbm, ⟨1, _⟩ => ⟨S2048x15360, .bf16⟩
  | .hbm, ⟨2, _⟩ => ⟨S_, .f32⟩
  | .hbm, ⟨3, _⟩ => ⟨S4096x2048, .f32⟩
  | .hbm, ⟨4, _⟩ => ⟨S2048x15360, .f32⟩
  | .hbm, ⟨5, _⟩ => ⟨S4096x15360, .f32⟩
  | .hbm, ⟨6, _⟩ => ⟨S4096x15360, .f32⟩
  | .hbm, ⟨7, _⟩ => ⟨S4096x2048, .f32⟩
  | _, _ => ⟨S4096x15360, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ProjDw.lean ====
abbrev S4096x2048 : Shape := ⟨2, ![4096, 2048]⟩
abbrev S4096x15360 : Shape := ⟨2, ![4096, 15360]⟩
abbrev S2048x15360 : Shape := ⟨2, ![2048, 15360]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x15360, .bf16⟩
  | .hbm, ⟨2, _⟩ => ⟨S2048x15360, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 15, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDwRefIdeal.lean ====
abbrev S4096x2048 : Shape := ⟨2, ![4096, 2048]⟩
abbrev S4096x15360 : Shape := ⟨2, ![4096, 15360]⟩
abbrev S_ : Shape := ⟨0, ![]⟩
abbrev S2048x15360 : Shape := ⟨2, ![2048, 15360]⟩
abbrev S15360x2048 : Shape := ⟨2, ![15360, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x15360, .bf16⟩
  | .hbm, ⟨2, _⟩ => ⟨S_, .f32⟩
  | .hbm, ⟨3, _⟩ => ⟨S2048x15360, .f32⟩
  | .hbm, ⟨4, _⟩ => ⟨S4096x2048, .f32⟩
  | .hbm, ⟨5, _⟩ => ⟨S4096x15360, .f32⟩
  | .hbm, ⟨6, _⟩ => ⟨S4096x15360, .f32⟩
  | .hbm, ⟨7, _⟩ => ⟨S15360x2048, .f32⟩
  | .hbm, ⟨8, _⟩ => ⟨S2048x15360, .f32⟩
  | .hbm, ⟨9, _⟩ => ⟨S2048x15360, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proj.lean ====
abbrev S4096x2048 : Shape := ⟨2, ![4096, 2048]⟩
abbrev S2048x15360 : Shape := ⟨2, ![2048, 15360]⟩
abbrev S4096x15360 : Shape := ⟨2, ![4096, 15360]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x15360, .bf16⟩
  | .hbm, ⟨2, _⟩ => ⟨S4096x15360, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 15, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S4096x2048 : Shape := ⟨2, ![4096, 2048]⟩
abbrev S2048x15360 : Shape := ⟨2, ![2048, 15360]⟩
abbrev S4096x15360 : Shape := ⟨2, ![4096, 15360]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x15360, .bf16⟩
  | .hbm, ⟨2, _⟩ => ⟨S4096x2048, .f32⟩
  | .hbm, ⟨3, _⟩ => ⟨S2048x15360, .f32⟩
  | .hbm, ⟨4, _⟩ => ⟨S4096x15360, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Branch.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchRefIdeal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Out.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutRefIdeal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Up.lean ====
abbrev S4096x2048 : Shape := ⟨2, ![4096, 2048]⟩
abbrev S2048x8192 : Shape := ⟨2, ![2048, 8192]⟩
abbrev S4096x8192 : Shape := ⟨2, ![4096, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x8192, .f32⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpRefIdeal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x2048, .f32⟩
  | .hbm, ⟨3, _⟩ => ⟨S2048x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Down.lean ====
abbrev S4096x8192 : Shape := ⟨2, ![4096, 8192]⟩
abbrev S8192x2048 : Shape := ⟨2, ![8192, 2048]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S4096x8192 : Shape := ⟨2, ![4096, 8192]⟩
abbrev S8192x2048 : Shape := ⟨2, ![8192, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S4096x8192, .f32⟩
  | .hbm, ⟨4, _⟩ => ⟨S8192x2048, .f32⟩
  | .hbm, ⟨5, _⟩ => ⟨S4096x2048, .f32⟩
  | .hbm, ⟨6, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== NormBwd.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormBwdRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .bf16⟩
  | .hbm, ⟨51, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== MergeBwd.lean ====
abbrev S4096x2048 : Shape := ⟨2, ![4096, 2048]⟩
abbrev S4096x15360 : Shape := ⟨2, ![4096, 15360]⟩
abbrev S128x2048 : Shape := ⟨2, ![128, 2048]⟩
abbrev S128x4096 : Shape := ⟨2, ![128, 4096]⟩

abbrev nBuf : Space → Nat
  | .hbm => 7
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S4096x15360, .f32⟩
  | .hbm, ⟨2, _⟩ => ⟨S4096x2048, .f32⟩
  | .hbm, ⟨3, _⟩ => ⟨S4096x2048, .f32⟩
  | .hbm, ⟨4, _⟩ => ⟨S4096x2048, .bf16⟩
  | .hbm, ⟨5, _⟩ => ⟨S4096x2048, .bf16⟩
  | .hbm, ⟨6, _⟩ => ⟨S4096x15360, .bf16⟩
  | .local _ .vmem, ⟨0, _⟩ => ⟨S128x2048, .f32⟩
  | .local _ .vmem, ⟨1, _⟩ => ⟨S128x2048, .f32⟩
  | .local _ .vmem, ⟨2, _⟩ => ⟨S128x4096, .f32⟩
  | .local _ .vmem, ⟨3, _⟩ => ⟨S128x4096, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .bf16⟩
  | .local _ .vmem, ⟨9, _⟩ => ⟨S128x2048, .bf16⟩
  | .local _ .vmem, ⟨10, _⟩ => ⟨S128x2048, .bf16⟩
  | .local _ .vmem, ⟨11, _⟩ => ⟨S128x2048, .bf16⟩
  | .local _ .vmem, ⟨12, _⟩ => ⟨S128x4096, .bf16⟩
  | .local _ .vmem, ⟨13, _⟩ => ⟨S128x4096, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MergeBwdRefIdeal.lean ====
abbrev S4096x2048 : Shape := ⟨2, ![4096, 2048]⟩
abbrev S4096x15360 : Shape := ⟨2, ![4096, 15360]⟩
abbrev S4096x4096 : Shape := ⟨2, ![4096, 4096]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x15360, .f32⟩
  | .hbm, ⟨2, _⟩ => ⟨S4096x2048, .f32⟩
  | .hbm, ⟨3, _⟩ => ⟨S4096x2048, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x4096, .f32⟩
  | .hbm, ⟨29, _⟩ => ⟨S4096x4096, .f32⟩
  | .hbm, ⟨30, _⟩ => ⟨S4096x2048, .bf16⟩
  | .hbm, ⟨31, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== ConvBwd.lean ====
abbrev S3x4096x2048 : Shape := ⟨3, ![3, 4096, 2048]⟩
abbrev S4096x15360 : Shape := ⟨2, ![4096, 15360]⟩
abbrev S4x6144 : Shape := ⟨2, ![4, 6144]⟩
abbrev S1x512x256 : Shape := ⟨3, ![1, 512, 256]⟩
abbrev S1x8x256 : Shape := ⟨3, ![1, 8, 256]⟩
abbrev S512x256 : Shape := ⟨2, ![512, 256]⟩
abbrev S8x256 : Shape := ⟨2, ![8, 256]⟩
abbrev S4x256 : Shape := ⟨2, ![4, 256]⟩
abbrev S520x256 : Shape := ⟨2, ![520, 256]⟩
abbrev S1x256 : Shape := ⟨2, ![1, 256]⟩
abbrev S256 : Shape := ⟨1, ![256]⟩

abbrev nBuf : Space → Nat
  | .hbm => 6
  | .vmem => 14
  | .smem => 0
  | _ => 0

abbrev bufTy : (tb : Table) → Fin (tcTables nBuf tb) → BufTy
  | .hbm, ⟨0, _⟩ => ⟨S3x4096x2048, .f32⟩
  | .hbm, ⟨1, _⟩ => ⟨S4096x15360, .f32⟩
  | .hbm, ⟨2, _⟩ => ⟨S4x6144, .f32⟩
  | .hbm, ⟨3, _⟩ => ⟨S4096x15360, .bf16⟩
  | .hbm, ⟨4, _⟩ => ⟨S4096x15360, .bf16⟩
  | .hbm, ⟨5, _⟩ => ⟨S4x6144, .f32⟩
  | .local _ .vmem, ⟨0, _⟩ => ⟨S1x512x256, .f32⟩
  | .local _ .vmem, ⟨1, _⟩ => ⟨S1x512x256, .f32⟩
  | .local _ .vmem, ⟨2, _⟩ => ⟨S1x8x256, .f32⟩
  | .local _ .vmem, ⟨3, _⟩ => ⟨S1x8x256, .f32⟩
  | .local _ .vmem, ⟨4, _⟩ => ⟨S512x256, .f32⟩
  | .local _ .vmem, ⟨5, _⟩ => ⟨S512x256, .f32⟩
  | .local _ .vmem, ⟨6, _⟩ => ⟨S8x256, .f32⟩
  | .local _ .vmem, ⟨7, _⟩ => ⟨S8x256, .f32⟩
  | .local _ .vmem, ⟨8, _⟩ => ⟨S4x256, .f32⟩
  | .local _ .vmem, ⟨9, _⟩ => ⟨S4x256, .f32⟩
  | .local _ .vmem, ⟨10, _⟩ => ⟨S512x256, .bf16⟩
  | .local _ .vmem, ⟨11, _⟩ => ⟨S512x256, .bf16⟩
  | .local _ .vmem, ⟨12, _⟩ => ⟨S4x256, .f32⟩
  | .local _ .vmem, ⟨13, _⟩ => ⟨S4x256, .f32⟩
  | _, _ => ⟨S3x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![24, 8], ![false, false]⟩

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi arg1 c1_i32_4
  let c64_i32 : BitVec 32 := 64#32
  let v18 : BitVec 32 := Scalar.muli v17 c64_i32
  let c511_i32 : BitVec 32 := 511#32
  let v19 : BitVec 32 := Scalar.minsi v18 c511_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi arg0 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  ![v16.toNat, v19.toNat, v29.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ConvBwdRefIdeal.lean ====
abbrev S3x4096x2048 : Shape := ⟨3, ![3, 4096, 2048]⟩
abbrev S4096x15360 : Shape := ⟨2, ![4096, 15360]⟩
abbrev S4x6144 : Shape := ⟨2, ![4, 6144]⟩
abbrev S1x4096x2048 : Shape := ⟨3, ![1, 4096, 2048]⟩
abbrev S4096x2048 : Shape := ⟨2, ![4096, 2048]⟩
abbrev S4096x6144 : Shape := ⟨2, ![4096, 6144]⟩
abbrev S_ : Shape := ⟨0, ![]⟩
abbrev S3x6144 : Shape := ⟨2, ![3, 6144]⟩
abbrev S4099x6144 : Shape := ⟨2, ![4099, 6144]⟩
abbrev S1x6144 : Shape := ⟨2, ![1, 6144]⟩
abbrev S6144 : Shape := ⟨1, ![6144]⟩
abbrev S4096x9216 : Shape := ⟨2, ![4096, 9216]⟩

abbrev nBuf : Space → Nat
  | .hbm => 110
  | .vmem => 0
  | .smem => 0
  | _ => 0

abbrev bufTy : (tb : Table) → Fin (tcTables nBuf tb) → BufTy
  | .hbm, ⟨0, _⟩ => ⟨S3x4096x2048, .f32⟩
  | .hbm, ⟨1, _⟩ => ⟨S4096x15360, .f32⟩
  | .hbm, ⟨2, _⟩ => ⟨S4x6144, .f32⟩
  | .hbm, ⟨3, _⟩ => ⟨S4096x15360, .bf16⟩
  | .hbm, ⟨4, _⟩ => ⟨S1x4096x2048, .f32⟩
  | .hbm, ⟨5, _⟩ => ⟨S4096x2048, .f32⟩
  | .hbm, ⟨6, _⟩ => ⟨S1x4096x2048, .f32⟩
  | .hbm, ⟨7, _⟩ => ⟨S4096x2048, .f32⟩
  | .hbm, ⟨8, _⟩ => ⟨S1x4096x2048, .f32⟩
  | .hbm, ⟨9, _⟩ => ⟨S4096x2048, .f32⟩
  | .hbm, ⟨10, _⟩ => ⟨S4096x6144, .f32⟩
  | .hbm, ⟨11, _⟩ => ⟨S4096x6144, .f32⟩
  | .hbm, ⟨12, _⟩ => ⟨S_, .f32⟩
  | .hbm, ⟨13, _⟩ => ⟨S3x6144, .f32⟩
  | .hbm, ⟨14, _⟩ => ⟨S4099x6144, .f32⟩
  | .hbm, ⟨15, _⟩ => ⟨S_, .f32⟩
  | .hbm, ⟨16, _⟩ => ⟨S3x6144, .f32⟩
  | .hbm, ⟨17, _⟩ => ⟨S1x6144, .f32⟩
  | .hbm, ⟨18, _⟩ => ⟨S6144, .f32⟩
  | .hbm, ⟨19, _⟩ => ⟨S4096x6144, .f32⟩
  | .hbm, ⟨20, _⟩ => ⟨S1x6144, .f32⟩
  | .hbm, ⟨21, _⟩ => ⟨S4096x6144, .f32⟩
  | .hbm, ⟨22, _⟩ => ⟨S4096x6144, .f32⟩
  | .hbm, ⟨23, _⟩ => ⟨S_, .f32⟩
  | .hbm, ⟨24, _⟩ => ⟨S4096x6144, .f32⟩
  | .hbm, ⟨25, _⟩ => ⟨S4096x6144, .f32⟩
  | .hbm, ⟨26, _⟩ => ⟨S1x6144, .f32⟩
  | .hbm, ⟨27, _⟩ => ⟨S6144, .f32⟩
  | .hbm, ⟨28, _⟩ => ⟨S4096x6144, .f32⟩
  | .hbm, ⟨29, _⟩ => ⟨S1x6144, .f32⟩
  | .hbm, ⟨30, _⟩ => ⟨S4096x6144, .f32⟩
  | .hbm, ⟨31, _⟩ => ⟨S4096x6144, .f32⟩
  | .hbm, ⟨32, _⟩ => ⟨S4096x6144, .f32⟩
  | .hbm, ⟨33, _⟩ => ⟨S1x6144, .f32⟩
  | .hbm, ⟨34, _⟩ => ⟨S6144, .f32⟩
  | .hbm, ⟨35, _⟩ => ⟨S4096x6144, .f32⟩
  | .hbm, ⟨36, _⟩ => ⟨S1x6144, .f32⟩
  | .hbm, ⟨37, _⟩ => ⟨S4096x6144, .f32⟩
  | .hbm, ⟨38, _⟩ => ⟨S4096x6144, .f32⟩
  | .hbm, ⟨39, _⟩ => ⟨S4096x6144, .f32⟩
  | .hbm, ⟨40, _⟩ => ⟨S1x6144, .f32⟩
  | .hbm, ⟨41, _⟩ => ⟨S6144, .f32⟩
  | .hbm, ⟨42, _⟩ => ⟨S4096x6144, .f32⟩
  | .hbm, ⟨43, _⟩ => ⟨S1x6144, .f32⟩
  | .hbm, ⟨44, _⟩ => ⟨S4096x6144, .f32⟩
  | .hbm, ⟨45, _⟩ => ⟨S4096x6144, .f32⟩
  | .hbm, ⟨46, _⟩ => ⟨S4096x6144, .f32⟩
  | .hbm, ⟨47, _⟩ => ⟨S4096x6144, .f32⟩
  | .hbm, ⟨48, _⟩ => ⟨S4096x6144, .f32⟩
  | .hbm, ⟨49, _⟩ => ⟨S4096x6144, .f32⟩
  | .hbm, ⟨50, _⟩ => ⟨S_, .f32⟩
  | .hbm, ⟨51, _⟩ => ⟨S6144, .f32⟩
  | .hbm, ⟨52, _⟩ => ⟨S1x6144, .f32⟩
  | .hbm, ⟨53, _⟩ => ⟨S_, .f32⟩
  | .hbm, ⟨54, _⟩ => ⟨S6144, .f32⟩
  | .hbm, ⟨55, _⟩ => ⟨S_, .f32⟩
  | .hbm, ⟨56, _⟩ => ⟨S4099x6144, .f32⟩
  | .hbm, ⟨57, _⟩ => ⟨S1x6144, .f32⟩
  | .hbm, ⟨58, _⟩ => ⟨S_, .f32⟩
  | .hbm, ⟨59, _⟩ => ⟨S4x6144, .f32⟩
  | .hbm, ⟨60, _⟩ => ⟨S4096x6144, .f32⟩
  | .hbm, ⟨61, _⟩ => ⟨S4096x6144, .f32⟩
  | .hbm, ⟨62, _⟩ => ⟨S4096x6144, .f32⟩
  | .hbm, ⟨63, _⟩ => ⟨S_, .f32⟩
  | .hbm, ⟨64, _⟩ => ⟨S6144, .f32⟩
  | .hbm, ⟨65, _⟩ => ⟨S1x6144, .f32⟩
  | .hbm, ⟨66, _⟩ => ⟨S_, .f32⟩
  | .hbm, ⟨67, _⟩ => ⟨S6144, .f32⟩
  | .hbm, ⟨68, _⟩ => ⟨S_, .f32⟩
  | .hbm, ⟨69, _⟩ => ⟨S4099x6144, .f32⟩
  | .hbm, ⟨70, _⟩ => ⟨S4099x6144, .f32⟩
  | .hbm, ⟨71, _⟩ => ⟨S1x6144, .f32⟩
  | .hbm, ⟨72, _⟩ => ⟨S_, .f32⟩
  | .hbm, ⟨73, _⟩ => ⟨S4x6144, .f32⟩
  | .hbm, ⟨74, _⟩ => ⟨S4x6144, .f32⟩
  | .hbm, ⟨75, _⟩ => ⟨S4096x6144, .f32⟩
  | .hbm, ⟨76, _⟩ => ⟨S4096x6144, .f32⟩
  | .hbm, ⟨77, _⟩ => ⟨S4096x6144, .f32⟩
  | .hbm, ⟨78, _⟩ => ⟨S_, .f32⟩
  | .hbm, ⟨79, _⟩ => ⟨S6144, .f32⟩
  | .hbm, ⟨80, _⟩ => ⟨S1x6144, .f32⟩
  | .hbm, ⟨81, _⟩ => ⟨S_, .f32⟩
  | .hbm, ⟨82, _⟩ => ⟨S6144, .f32⟩
  | .hbm, ⟨83, _⟩ => ⟨S_, .f32⟩
  | .hbm, ⟨84, _⟩ => ⟨S4099x6144, .f32⟩
  | .hbm, ⟨85, _⟩ => ⟨S4099x6144, .f32⟩
  | .hbm, ⟨86, _⟩ => ⟨S1x6144, .f32⟩
  | .hbm, ⟨87, _⟩ => ⟨S_, .f32⟩
  | .hbm, ⟨88, _⟩ => ⟨S4x6144, .f32⟩
  | .hbm, ⟨89, _⟩ => ⟨S4x6144, .f32⟩
  | .hbm, ⟨90, _⟩ => ⟨S4096x6144, .f32⟩
  | .hbm, ⟨91, _⟩ => ⟨S4096x6144, .f32⟩
  | .hbm, ⟨92, _⟩ => ⟨S4096x6144, .f32⟩
  | .hbm, ⟨93, _⟩ => ⟨S_, .f32⟩
  | .hbm, ⟨94, _⟩ => ⟨S6144, .f32⟩
  | .hbm, ⟨95, _⟩ => ⟨S1x6144, .f32⟩
  | .hbm, ⟨96, _⟩ => ⟨S_, .f32⟩
  | .hbm, ⟨97, _⟩ => ⟨S6144, .f32⟩
  | .hbm, ⟨98, _⟩ => ⟨S_, .f32⟩
  | .hbm, ⟨99, _⟩ => ⟨S4099x6144, .f32⟩
  | .hbm, ⟨100, _⟩ => ⟨S4099x6144, .f32⟩
  | .hbm, ⟨101, _⟩ => ⟨S1x6144, .f32⟩
  | .hbm, ⟨102, _⟩ => ⟨S_, .f32⟩
  | .hbm, ⟨103, _⟩ => ⟨S4x6144, .f32⟩
  | .hbm, ⟨104, _⟩ => ⟨S4x6144, .f32⟩
  | .hbm, ⟨105, _⟩ => ⟨S3x6144, .f32⟩
  | .hbm, ⟨106, _⟩ => ⟨S4096x6144, .f32⟩
  | .hbm, ⟨107, _⟩ => ⟨S4096x6144, .bf16⟩
  | .hbm, ⟨108, _⟩ => ⟨S4096x9216, .bf16⟩
  | .hbm, ⟨109, _⟩ => ⟨S4096x15360, .bf16⟩
  | _, _ => ⟨S3x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_cst_2 : Ref sig .tc := ⟨.hbm, 50, rfl⟩
abbrev main_v43 : Ref sig .tc := ⟨.hbm, 51, rfl⟩
abbrev main_v44 : Ref sig .tc := ⟨.hbm, 52, rfl⟩
abbrev main_cst_3 : Ref sig .tc := ⟨.hbm, 53, rfl⟩
abbrev main_v45 : Ref sig .tc := ⟨.hbm, 54, rfl⟩
abbrev main_cst_4 : Ref sig .tc := ⟨.hbm, 55, rfl⟩
abbrev main_v46 : Ref sig .tc := ⟨.hbm, 56, rfl⟩
abbrev main_v47 : Ref sig .tc := ⟨.hbm, 57, rfl⟩
abbrev main_cst_5 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_6 : Ref sig .tc := ⟨.hbm, 63, rfl⟩
abbrev main_v52 : Ref sig .tc := ⟨.hbm, 64, rfl⟩
abbrev main_v53 : Ref sig .tc := ⟨.hbm, 65, rfl⟩
abbrev main_cst_7 : Ref sig .tc := ⟨.hbm, 66, rfl⟩
abbrev main_v54 : Ref sig .tc := ⟨.hbm, 67, rfl⟩
abbrev main_cst_8 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_9 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_10 : Ref sig .tc := ⟨.hbm, 78, rfl⟩
abbrev main_v63 : Ref sig .tc := ⟨.hbm, 79, rfl⟩
abbrev main_v64 : Ref sig .tc := ⟨.hbm, 80, rfl⟩
abbrev main_cst_11 : Ref sig .tc := ⟨.hbm, 81, rfl⟩
abbrev main_v65 : Ref sig .tc := ⟨.hbm, 82, rfl⟩
abbrev main_cst_12 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_13 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_14 : Ref sig .tc := ⟨.hbm, 93, rfl⟩
abbrev main_v74 : Ref sig .tc := ⟨.hbm, 94, rfl⟩
abbrev main_v75 : Ref sig .tc := ⟨.hbm, 95, rfl⟩
abbrev main_cst_15 : Ref sig .tc := ⟨.hbm, 96, rfl⟩
abbrev main_v76 : Ref sig .tc := ⟨.hbm, 97, rfl⟩
abbrev main_cst_16 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_17 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩

abbrev nD : Nat := 1
abbrev τ : Topo := Topo.v7x

variable {F : FTy → Type} [FloatOps F]
-- ==== NormFwd.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== MergeFwd.lean ====
abbrev S4096x15360 : Shape := ⟨2, ![4096, 15360]⟩
abbrev S4096x2048 : Shape := ⟨2, ![4096, 2048]⟩
abbrev S512x512 : Shape := ⟨2, ![512, 512]⟩

abbrev nBuf : Space → Nat
  | .hbm => 4
  | .vmem => 10
  | .smem => 0
  | _ => 0

abbrev bufTy : (tb : Table) → Fin (tcTables nBuf tb) → BufTy
  | .hbm, ⟨0, _⟩ => ⟨S4096x15360, .f32⟩
  | .hbm, ⟨1, _⟩ => ⟨S4096x2048, .f32⟩
  | .hbm, ⟨2, _⟩ => ⟨S4096x2048, .f32⟩
  | .hbm, ⟨3, _⟩ => ⟨S4096x2048, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | _, _ => ⟨S4096x15360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MergeFwdRefIdeal.lean ====
abbrev S4096x15360 : Shape := ⟨2, ![4096, 15360]⟩
abbrev S4096x2048 : Shape := ⟨2, ![4096, 2048]⟩
abbrev S4096x4096 : Shape := ⟨2, ![4096, 4096]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4096x15360, .f32⟩
  | .hbm, ⟨1, _⟩ => ⟨S4096x2048, .f32⟩
  | .hbm, ⟨2, _⟩ => ⟨S4096x2048, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .bf16⟩
  | _, _ => ⟨S4096x15360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== ConvFwd.lean ====
abbrev S4096x15360 : Shape := ⟨2, ![4096, 15360]⟩
abbrev S4x6144 : Shape := ⟨2, ![4, 6144]⟩
abbrev S4096x6144 : Shape := ⟨2, ![4096, 6144]⟩
abbrev S512x256 : Shape := ⟨2, ![512, 256]⟩
abbrev S8x256 : Shape := ⟨2, ![8, 256]⟩
abbrev S4x256 : Shape := ⟨2, ![4, 256]⟩
abbrev S520x256 : Shape := ⟨2, ![520, 256]⟩
abbrev S1x256 : Shape := ⟨2, ![1, 256]⟩

abbrev nBuf : Space → Nat
  | .hbm => 3
  | .vmem => 8
  | .smem => 0
  | _ => 0

abbrev bufTy : (tb : Table) → Fin (tcTables nBuf tb) → BufTy
  | .hbm, ⟨0, _⟩ => ⟨S4096x15360, .f32⟩
  | .hbm, ⟨1, _⟩ => ⟨S4x6144, .f32⟩
  | .hbm, ⟨2, _⟩ => ⟨S4096x6144, .f32⟩
  | .local _ .vmem, ⟨0, _⟩ => ⟨S512x256, .f32⟩
  | .local _ .vmem, ⟨1, _⟩ => ⟨S512x256, .f32⟩
  | .local _ .vmem, ⟨2, _⟩ => ⟨S8x256, .f32⟩
  | .local _ .vmem, ⟨3, _⟩ => ⟨S8x256, .f32⟩
  | .local _ .vmem, ⟨4, _⟩ => ⟨S4x256, .f32⟩
  | .local _ .vmem, ⟨5, _⟩ => ⟨S4x256, .f32⟩
  | .local _ .vmem, ⟨6, _⟩ => ⟨S512x256, .f32⟩
  | .local _ .vmem, ⟨7, _⟩ => ⟨S512x256, .f32⟩
  | _, _ => ⟨S4096x15360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![24, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConvFwdRefIdeal.lean ====
abbrev S4096x15360 : Shape := ⟨2, ![4096, 15360]⟩
abbrev S4x6144 : Shape := ⟨2, ![4, 6144]⟩
abbrev S4096x6144 : Shape := ⟨2, ![4096, 6144]⟩
abbrev S_ : Shape := ⟨0, ![]⟩
abbrev S3x6144 : Shape := ⟨2, ![3, 6144]⟩
abbrev S4099x6144 : Shape := ⟨2, ![4099, 6144]⟩
abbrev S1x6144 : Shape := ⟨2, ![1, 6144]⟩
abbrev S6144 : Shape := ⟨1, ![6144]⟩

abbrev nBuf : Space → Nat
  | .hbm => 36
  | .vmem => 0
  | .smem => 0
  | _ => 0

abbrev bufTy : (tb : Table) → Fin (tcTables nBuf tb) → BufTy
  | .hbm, ⟨0, _⟩ => ⟨S4096x15360, .f32⟩
  | .hbm, ⟨1, _⟩ => ⟨S4x6144, .f32⟩
  | .hbm, ⟨2, _⟩ => ⟨S4096x6144, .f32⟩
  | .hbm, ⟨3, _⟩ => ⟨S_, .f32⟩
  | .hbm, ⟨4, _⟩ => ⟨S3x6144, .f32⟩
  | .hbm, ⟨5, _⟩ => ⟨S4099x6144, .f32⟩
  | .hbm, ⟨6, _⟩ => ⟨S1x6144, .f32⟩
  | .hbm, ⟨7, _⟩ => ⟨S6144, .f32⟩
  | .hbm, ⟨8, _⟩ => ⟨S4096x6144, .f32⟩
  | .hbm, ⟨9, _⟩ => ⟨S1x6144, .f32⟩
  | .hbm, ⟨10, _⟩ => ⟨S4096x6144, .f32⟩
  | .hbm, ⟨11, _⟩ => ⟨S4096x6144, .f32⟩
  | .hbm, ⟨12, _⟩ => ⟨S_, .f32⟩
  | .hbm, ⟨13, _⟩ => ⟨S4096x6144, .f32⟩
  | .hbm, ⟨14, _⟩ => ⟨S4096x6144, .f32⟩
  | .hbm, ⟨15, _⟩ => ⟨S1x6144, .f32⟩
  | .hbm, ⟨16, _⟩ => ⟨S6144, .f32⟩
  | .hbm, ⟨17, _⟩ => ⟨S4096x6144, .f32⟩
  | .hbm, ⟨18, _⟩ => ⟨S1x6144, .f32⟩
  | .hbm, ⟨19, _⟩ => ⟨S4096x6144, .f32⟩
  | .hbm, ⟨20, _⟩ => ⟨S4096x6144, .f32⟩
  | .hbm, ⟨21, _⟩ => ⟨S4096x6144, .f32⟩
  | .hbm, ⟨22, _⟩ => ⟨S1x6144, .f32⟩
  | .hbm, ⟨23, _⟩ => ⟨S6144, .f32⟩
  | .hbm, ⟨24, _⟩ => ⟨S4096x6144, .f32⟩
  | .hbm, ⟨25, _⟩ => ⟨S1x6144, .f32⟩
  | .hbm, ⟨26, _⟩ => ⟨S4096x6144, .f32⟩
  | .hbm, ⟨27, _⟩ => ⟨S4096x6144, .f32⟩
  | .hbm, ⟨28, _⟩ => ⟨S4096x6144, .f32⟩
  | .hbm, ⟨29, _⟩ => ⟨S1x6144, .f32⟩
  | .hbm, ⟨30, _⟩ => ⟨S6144, .f32⟩
  | .hbm, ⟨31, _⟩ => ⟨S4096x6144, .f32⟩
  | .hbm, ⟨32, _⟩ => ⟨S1x6144, .f32⟩
  | .hbm, ⟨33, _⟩ => ⟨S4096x6144, .f32⟩
  | .hbm, ⟨34, _⟩ => ⟨S4096x6144, .f32⟩
  | .hbm, ⟨35, _⟩ => ⟨S4096x6144, .f32⟩
  | _, _ => ⟨S4096x15360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩

abbrev nD : Nat := 1
abbrev τ : Topo := Topo.v7x

variable {F : FTy → Type} [FloatOps F]
-- ==== SwaFwd.lean ====
abbrev S4096x2048 : Shape := ⟨2, ![4096, 2048]⟩
abbrev S4096x256 : Shape := ⟨2, ![4096, 256]⟩
abbrev S32 : Shape := ⟨1, ![32]⟩
abbrev S4096x32x64 : Shape := ⟨3, ![4096, 32, 64]⟩
abbrev S32x4096x64 : Shape := ⟨3, ![32, 4096, 64]⟩
abbrev S4096x4x64 : Shape := ⟨3, ![4096, 4, 64]⟩
abbrev S4x4096x64 : Shape := ⟨3, ![4, 4096, 64]⟩
abbrev S32x1x1 : Shape := ⟨3, ![32, 1, 1]⟩
abbrev S_ : Shape := ⟨0, ![]⟩
abbrev S32x128x64 : Shape := ⟨3, ![32, 128, 64]⟩
abbrev S4x128x64 : Shape := ⟨3, ![4, 128, 64]⟩
abbrev S8x128x64 : Shape := ⟨3, ![8, 128, 64]⟩
abbrev S1x128x64 : Shape := ⟨3, ![1, 128, 64]⟩
abbrev S128x64 : Shape := ⟨2, ![128, 64]⟩
abbrev S8x1x1 : Shape := ⟨3, ![8, 1, 1]⟩
abbrev S256x64 : Shape := ⟨2, ![256, 64]⟩
abbrev S1024x64 : Shape := ⟨2, ![1024, 64]⟩
abbrev S1024x256 : Shape := ⟨2, ![1024, 256]⟩
abbrev S8x128x256 : Shape := ⟨3, ![8, 128, 256]⟩
abbrev S1x128x256 : Shape := ⟨3, ![1, 128, 256]⟩
abbrev S8x128 : Shape := ⟨2, ![8, 128]⟩
abbrev S8x128x1 : Shape := ⟨3, ![8, 128, 1]⟩

abbrev nBuf : Space → Nat
  | .hbm => 26
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S4096x256, .f32⟩
  | .hbm, ⟨2, _⟩ => ⟨S4096x256, .f32⟩
  | .hbm, ⟨3, _⟩ => ⟨S32, .f32⟩
  | .hbm, ⟨4, _⟩ => ⟨S4096x32x64, .f32⟩
  | .hbm, ⟨5, _⟩ => ⟨S32x4096x64, .f32⟩
  | .hbm, ⟨6, _⟩ => ⟨S4096x4x64, .f32⟩
  | .hbm, ⟨7, _⟩ => ⟨S4x4096x64, .f32⟩
  | .hbm, ⟨8, _⟩ => ⟨S4096x4x64, .f32⟩
  | .hbm, ⟨9, _⟩ => ⟨S4x4096x64, .f32⟩
  | .hbm, ⟨10, _⟩ => ⟨S32x1x1, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S32x1x1, .f32⟩
  | .hbm, ⟨25, _⟩ => ⟨S32x4096x64, .bf16⟩
  | .local _ .vmem, ⟨0, _⟩ => ⟨S32x128x64, .f32⟩
  | .local _ .vmem, ⟨1, _⟩ => ⟨S32x128x64, .f32⟩
  | .local _ .vmem, ⟨2, _⟩ => ⟨S4x128x64, .f32⟩
  | .local _ .vmem, ⟨3, _⟩ => ⟨S4x128x64, .f32⟩
  | .local _ .vmem, ⟨4, _⟩ => ⟨S4x128x64, .f32⟩
  | .local _ .vmem, ⟨5, _⟩ => ⟨S4x128x64, .f32⟩
  | .local _ .vmem, ⟨6, _⟩ => ⟨S4x128x64, .f32⟩
  | .local _ .vmem, ⟨7, _⟩ => ⟨S4x128x64, .f32⟩
  | .local _ .vmem, ⟨8, _⟩ => ⟨S4x128x64, .f32⟩
  | .local _ .vmem, ⟨9, _⟩ => ⟨S4x128x64, .f32⟩
  | .local _ .vmem, ⟨10, _⟩ => ⟨S32x1x1, .f32⟩
  | .local _ .vmem, ⟨11, _⟩ => ⟨S32x1x1, .f32⟩
  | .local _ .vmem, ⟨12, _⟩ => ⟨S32x128x64, .bf16⟩
  | .local _ .vmem, ⟨13, _⟩ => ⟨S32x128x64, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![1, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S32x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S32x1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S32x1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S32x128x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== SwaFwdRefIdeal.lean ====
abbrev S4096x2048 : Shape := ⟨2, ![4096, 2048]⟩
abbrev S4096x256 : Shape := ⟨2, ![4096, 256]⟩
abbrev S32 : Shape := ⟨1, ![32]⟩
abbrev S32x128x4x8x64 : Shape := ⟨5, ![32, 128, 4, 8, 64]⟩
abbrev S32x128x4x64 : Shape := ⟨4, ![32, 128, 4, 64]⟩
abbrev S_ : Shape := ⟨0, ![]⟩
abbrev S1x128x4x64 : Shape := ⟨4, ![1, 128, 4, 64]⟩
abbrev S31x128x4x64 : Shape := ⟨4, ![31, 128, 4, 64]⟩
abbrev S32x256x4x64 : Shape := ⟨4, ![32, 256, 4, 64]⟩
abbrev S32x4x256x128x8 : Shape := ⟨5, ![32, 4, 256, 128, 8]⟩
abbrev S32x4x8x128x256 : Shape := ⟨5, ![32, 4, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S4x8 : Shape := ⟨2, ![4, 8]⟩
abbrev S4x8x1x1 : Shape := ⟨4, ![4, 8, 1, 1]⟩
abbrev S1x1x128x256 : Shape := ⟨4, ![1, 1, 128, 256]⟩
abbrev S4x8x128x256 : Shape := ⟨4, ![4, 8, 128, 256]⟩
abbrev S32x1x1x128x256 : Shape := ⟨5, ![32, 1, 1, 128, 256]⟩
abbrev S1x4x8x128x256 : Shape := ⟨5, ![1, 4, 8, 128, 256]⟩
abbrev S32x4x8x128 : Shape := ⟨4, ![32, 4, 8, 128]⟩
abbrev S32x4x8x128x1 : Shape := ⟨5, ![32, 4, 8, 128, 1]⟩
abbrev S1x4x8x1x1 : Shape := ⟨5, ![1, 4, 8, 1, 1]⟩
abbrev S32x4x64x8x128 : Shape := ⟨5, ![32, 4, 64, 8, 128]⟩
abbrev S4096x32x64 : Shape := ⟨3, ![4096, 32, 64]⟩
abbrev S32x4096x64 : Shape := ⟨3, ![32, 4096, 64]⟩

abbrev nBuf : Space → Nat
  | .hbm => 112
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x256, .f32⟩
  | .hbm, ⟨2, _⟩ => ⟨S4096x256, .f32⟩
  | .hbm, ⟨3, _⟩ => ⟨S32, .f32⟩
  | .hbm, ⟨4, _⟩ => ⟨S32x128x4x8x64, .f32⟩
  | .hbm, ⟨5, _⟩ => ⟨S32x128x4x64, .f32⟩
  | .hbm, ⟨6, _⟩ => ⟨S_, .f32⟩
  | .hbm, ⟨7, _⟩ => ⟨S1x128x4x64, .f32⟩
  | .hbm, ⟨8, _⟩ => ⟨S31x128x4x64, .f32⟩
  | .hbm, ⟨9, _⟩ => ⟨S32x128x4x64, .f32⟩
  | .hbm, ⟨10, _⟩ => ⟨S32x256x4x64, .f32⟩
  | .hbm, ⟨11, _⟩ => ⟨S32x128x4x64, .f32⟩
  | .hbm, ⟨12, _⟩ => ⟨S_, .f32⟩
  | .hbm, ⟨13, _⟩ => ⟨S1x128x4x64, .f32⟩
  | .hbm, ⟨14, _⟩ => ⟨S31x128x4x64, .f32⟩
  | .hbm, ⟨15, _⟩ => ⟨S32x128x4x64, .f32⟩
  | .hbm, ⟨16, _⟩ => ⟨S32x256x4x64, .f32⟩
  | .hbm, ⟨17, _⟩ => ⟨S32x4x256x128x8, .f32⟩
  | .hbm, ⟨18, _⟩ => ⟨S32x4x8x128x256, .f32⟩
  | .hbm, ⟨19, _⟩ => ⟨S_, .f32⟩
  | .hbm, ⟨20, _⟩ => ⟨S32x4x8x128x256, .f32⟩
  | .hbm, ⟨21, _⟩ => ⟨S32x4x8x128x256, .f32⟩
  | .hbm, ⟨22, _⟩ => ⟨S128, .i32⟩
  | .hbm, ⟨23, _⟩ => ⟨S128x1, .i32⟩
  | .hbm, ⟨24, _⟩ => ⟨S256, .i32⟩
  | .hbm, ⟨25, _⟩ => ⟨S1x256, .i32⟩
  | .hbm, ⟨26, _⟩ => ⟨S_, .i32⟩
  | .hbm, ⟨27, _⟩ => ⟨S128x1, .i32⟩
  | .hbm, ⟨28, _⟩ => ⟨S128x1, .i32⟩
  | .hbm, ⟨29, _⟩ => ⟨S128x256, .i32⟩
  | .hbm, ⟨30, _⟩ => ⟨S128x256, .i32⟩
  | .hbm, ⟨31, _⟩ => ⟨S128x256, .i32⟩
  | .hbm, ⟨32, _⟩ => ⟨S_, .i32⟩
  | .hbm, ⟨33, _⟩ => ⟨S128x256, .i32⟩
  | .hbm, ⟨34, _⟩ => ⟨S128x256, .i1⟩
  | .hbm, ⟨35, _⟩ => ⟨S_, .i32⟩
  | .hbm, ⟨36, _⟩ => ⟨S128x256, .i32⟩
  | .hbm, ⟨37, _⟩ => ⟨S128x256, .i1⟩
  | .hbm, ⟨38, _⟩ => ⟨S128x256, .i1⟩
  | .hbm, ⟨39, _⟩ => ⟨S32, .i32⟩
  | .hbm, ⟨40, _⟩ => ⟨S32x1x1, .i32⟩
  | .hbm, ⟨41, _⟩ => ⟨S_, .i32⟩
  | .hbm, ⟨42, _⟩ => ⟨S32x1x1, .i32⟩
  | .hbm, ⟨43, _⟩ => ⟨S32x1x1, .i1⟩
  | .hbm, ⟨44, _⟩ => ⟨S_, .i32⟩
  | .hbm, ⟨45, _⟩ => ⟨S1x256, .i32⟩
  | .hbm, ⟨46, _⟩ => ⟨S1x256, .i1⟩
  | .hbm, ⟨47, _⟩ => ⟨S1x1x256, .i1⟩
  | .hbm, ⟨48, _⟩ => ⟨S32x1x256, .i1⟩
  | .hbm, ⟨49, _⟩ => ⟨S32x1x256, .i1⟩
  | .hbm, ⟨50, _⟩ => ⟨S32x1x256, .i1⟩
  | .hbm, ⟨51, _⟩ => ⟨S1x128x256, .i1⟩
  | .hbm, ⟨52, _⟩ => ⟨S32x128x256, .i1⟩
  | .hbm, ⟨53, _⟩ => ⟨S32x128x256, .i1⟩
  | .hbm, ⟨54, _⟩ => ⟨S32x128x256, .i1⟩
  | .hbm, ⟨55, _⟩ => ⟨S32, .f32⟩
  | .hbm, ⟨56, _⟩ => ⟨S_, .f32⟩
  | .hbm, ⟨57, _⟩ => ⟨S32, .f32⟩
  | .hbm, ⟨58, _⟩ => ⟨S32, .f32⟩
  | .hbm, ⟨59, _⟩ => ⟨S_, .f32⟩
  | .hbm, ⟨60, _⟩ => ⟨S32, .f32⟩
  | .hbm, ⟨61, _⟩ => ⟨S32, .f32⟩
  | .hbm, ⟨62, _⟩ => ⟨S_, .f32⟩
  | .hbm, ⟨63, _⟩ => ⟨S32, .f32⟩
  | .hbm, ⟨64, _⟩ => ⟨S32, .f32⟩
  | .hbm, ⟨65, _⟩ => ⟨S_, .f32⟩
  | .hbm, ⟨66, _⟩ => ⟨S32, .f32⟩
  | .hbm, ⟨67, _⟩ => ⟨S32, .f32⟩
  | .hbm, ⟨68, _⟩ => ⟨S4x8, .f32⟩
  | .hbm, ⟨69, _⟩ => ⟨S4x8x1x1, .f32⟩
  | .hbm, ⟨70, _⟩ => ⟨S4x8x1x1, .f32⟩
  | .hbm, ⟨71, _⟩ => ⟨S128x256, .f32⟩
  | .hbm, ⟨72, _⟩ => ⟨S1x1x128x256, .f32⟩
  | .hbm, ⟨73, _⟩ => ⟨S4x8x128x256, .f32⟩
  | .hbm, ⟨74, _⟩ => ⟨S4x8x128x256, .f32⟩
  | .hbm, ⟨75, _⟩ => ⟨S4x8x128x256, .f32⟩
  | .hbm, ⟨76, _⟩ => ⟨S32x1x1x128x256, .i1⟩
  | .hbm, ⟨77, _⟩ => ⟨S1x4x8x128x256, .f32⟩
  | .hbm, ⟨78, _⟩ => ⟨S32x4x8x128x256, .f32⟩
  | .hbm, ⟨79, _⟩ => ⟨S32x4x8x128x256, .f32⟩
  | .hbm, ⟨80, _⟩ => ⟨S_, .f32⟩
  | .hbm, ⟨81, _⟩ => ⟨S_, .f32⟩
  | .hbm, ⟨82, _⟩ => ⟨S32x4x8x128x256, .i1⟩
  | .hbm, ⟨83, _⟩ => ⟨S32x4x8x128x256, .f32⟩
  | .hbm, ⟨84, _⟩ => ⟨S32x4x8x128x256, .f32⟩
  | .hbm, ⟨85, _⟩ => ⟨S4x8, .f32⟩
  | .hbm, ⟨86, _⟩ => ⟨S4x8x1x1, .f32⟩
  | .hbm, ⟨87, _⟩ => ⟨S_, .f32⟩
  | .hbm, ⟨88, _⟩ => ⟨S32x4x8x128, .f32⟩
  | .hbm, ⟨89, _⟩ => ⟨S32x4x8x128x1, .f32⟩
  | .hbm, ⟨90, _⟩ => ⟨S1x4x8x1x1, .f32⟩
  | .hbm, ⟨91, _⟩ => ⟨S32x4x8x128x1, .f32⟩
  | .hbm, ⟨92, _⟩ => ⟨S32x4x8x128x1, .f32⟩
  | .hbm, ⟨93, _⟩ => ⟨S32x4x8x128x256, .f32⟩
  | .hbm, ⟨94, _⟩ => ⟨S32x4x8x128x256, .f32⟩
  | .hbm, ⟨95, _⟩ => ⟨S32x4x8x128x256, .f32⟩
  | .hbm, ⟨96, _⟩ => ⟨S_, .f32⟩
  | .hbm, ⟨97, _⟩ => ⟨S32x4x8x128, .f32⟩
  | .hbm, ⟨98, _⟩ => ⟨S32x4x8x128x1, .f32⟩
  | .hbm, ⟨99, _⟩ => ⟨S1x4x8x1x1, .f32⟩
  | .hbm, ⟨100, _⟩ => ⟨S32x4x8x128x1, .f32⟩
  | .hbm, ⟨101, _⟩ => ⟨S32x4x8x128x1, .f32⟩
  | .hbm, ⟨102, _⟩ => ⟨S32x4x8x128x1, .f32⟩
  | .hbm, ⟨103, _⟩ => ⟨S32x4x8x128x1, .f32⟩
  | .hbm, ⟨104, _⟩ => ⟨S32x4x8x128x256, .f32⟩
  | .hbm, ⟨105, _⟩ => ⟨S32x4x8x128x256, .f32⟩
  | .hbm, ⟨106, _⟩ => ⟨S32x4x64x8x128, .f32⟩
  | .hbm, ⟨107, _⟩ => ⟨S32x128x4x8x64, .f32⟩
  | .hbm, ⟨108, _⟩ => ⟨S4096x2048, .f32⟩
  | .hbm, ⟨109, _⟩ => ⟨S4096x32x64, .f32⟩
  | .hbm, ⟨110, _⟩ => ⟨S32x4096x64, .f32⟩
  | .hbm, ⟨111, _⟩ => ⟨S32x4096x64, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_2 : Ref sig .tc := ⟨.hbm, 32, rfl⟩
abbrev main_v24 : Ref sig .tc := ⟨.hbm, 33, rfl⟩
abbrev main_v25 : Ref sig .tc := ⟨.hbm, 34, rfl⟩
abbrev main_c_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_4 : Ref sig .tc := ⟨.hbm, 41, rfl⟩
abbrev main_v31 : Ref sig .tc := ⟨.hbm, 42, rfl⟩
abbrev main_v32 : Ref sig .tc := ⟨.hbm, 43, rfl⟩
abbrev main_c_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_cst_8 : Ref sig .tc := ⟨.hbm, 62, rfl⟩
abbrev main_v48 : Ref sig .tc := ⟨.hbm, 63, rfl⟩
abbrev main_v49 : Ref sig .tc := ⟨.hbm, 64, rfl⟩
abbrev main_cst_9 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_10 : Ref sig .tc := ⟨.hbm, 80, rfl⟩
abbrev main_call0_v0 : Ref sig .tc := ⟨.hbm, 81, rfl⟩
abbrev main_call0_v1 : Ref sig .tc := ⟨.hbm, 82, rfl⟩
abbrev main_call0_v2 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_11 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_12 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩

abbrev nD : Nat := 1
abbrev τ : Topo := Topo.v7x

variable {F : FTy → Type} [FloatOps F]
-- ==== AdamSmall.lean ====
abbrev S160x128 : Shape := ⟨2, ![160, 128]⟩

abbrev nBuf : Space → Nat
  | .hbm => 7
  | .vmem => 7
  | .smem => 0
  | _ => 0

abbrev bufTy : (tb : Table) → Fin (tcTables nBuf tb) → BufTy
  | .hbm, ⟨0, _⟩ => ⟨S160x128, .f32⟩
  | .hbm, ⟨1, _⟩ => ⟨S160x128, .f32⟩
  | .hbm, ⟨2, _⟩ => ⟨S160x128, .f32⟩
  | .hbm, ⟨3, _⟩ => ⟨S160x128, .f32⟩
  | .hbm, ⟨4, _⟩ => ⟨S160x128, .f32⟩
  | .hbm, ⟨5, _⟩ => ⟨S160x128, .f32⟩
  | .hbm, ⟨6, _⟩ => ⟨S160x128, .f32⟩
  | .local _ .vmem, ⟨0, _⟩ => ⟨S160x128, .f32⟩
  | .local _ .vmem, ⟨1, _⟩ => ⟨S160x128, .f32⟩
  | .local _ .vmem, ⟨2, _⟩ => ⟨S160x128, .f32⟩
  | .local _ .vmem, ⟨3, _⟩ => ⟨S160x128, .f32⟩
  | .local _ .vmem, ⟨4, _⟩ => ⟨S160x128, .f32⟩
  | .local _ .vmem, ⟨5, _⟩ => ⟨S160x128, .f32⟩
  | .local _ .vmem, ⟨6, _⟩ => ⟨S160x128, .f32⟩
  | _, _ => ⟨S160x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S160x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S160x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S160x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S160x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S160x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S160x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S160x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamSmallRefIdeal.lean ====
abbrev S160x128 : Shape := ⟨2, ![160, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S160x128, .f32⟩
  | .hbm, ⟨1, _⟩ => ⟨S160x128, .f32⟩
  | .hbm, ⟨2, _⟩ => ⟨S160x128, .f32⟩
  | .hbm, ⟨3, _⟩ => ⟨S160x128, .f32⟩
  | .hbm, ⟨4, _⟩ => ⟨S_, .f32⟩
  | .hbm, ⟨5, _⟩ => ⟨S160x128, .f32⟩
  | .hbm, ⟨6, _⟩ => ⟨S160x128, .f32⟩
  | .hbm, ⟨7, _⟩ => ⟨S_, .f32⟩
  | .hbm, ⟨8, _⟩ => ⟨S160x128, .f32⟩
  | .hbm, ⟨9, _⟩ => ⟨S160x128, .f32⟩
  | .hbm, ⟨10, _⟩ => ⟨S160x128, .f32⟩
  | .hbm, ⟨11, _⟩ => ⟨S_, .f32⟩
  | .hbm, ⟨12, _⟩ => ⟨S160x128, .f32⟩
  | .hbm, ⟨13, _⟩ => ⟨S160x128, .f32⟩
  | .hbm, ⟨14, _⟩ => ⟨S160x128, .f32⟩
  | .hbm, ⟨15, _⟩ => ⟨S_, .f32⟩
  | .hbm, ⟨16, _⟩ => ⟨S160x128, .f32⟩
  | .hbm, ⟨17, _⟩ => ⟨S160x128, .f32⟩
  | .hbm, ⟨18, _⟩ => ⟨S160x128, .f32⟩
  | .hbm, ⟨19, _⟩ => ⟨S_, .f32⟩
  | .hbm, ⟨20, _⟩ => ⟨S160x128, .f32⟩
  | .hbm, ⟨21, _⟩ => ⟨S160x128, .f32⟩
  | .hbm, ⟨22, _⟩ => ⟨S_, .f32⟩
  | .hbm, ⟨23, _⟩ => ⟨S160x128, .f32⟩
  | .hbm, ⟨24, _⟩ => ⟨S160x128, .f32⟩
  | .hbm, ⟨25, _⟩ => ⟨S160x128, .f32⟩
  | .hbm, ⟨26, _⟩ => ⟨S_, .f32⟩
  | .hbm, ⟨27, _⟩ => ⟨S160x128, .f32⟩
  | .hbm, ⟨28, _⟩ => ⟨S160x128, .f32⟩
  | .hbm, ⟨29, _⟩ => ⟨S160x128, .f32⟩
  | .hbm, ⟨30, _⟩ => ⟨S_, .f32⟩
  | .hbm, ⟨31, _⟩ => ⟨S160x128, .f32⟩
  | .hbm, ⟨32, _⟩ => ⟨S160x128, .f32⟩
  | .hbm, ⟨33, _⟩ => ⟨S160x128, .f32⟩
  | .hbm, ⟨34, _⟩ => ⟨S_, .f32⟩
  | .hbm, ⟨35, _⟩ => ⟨S160x128, .f32⟩
  | .hbm, ⟨36, _⟩ => ⟨S160x128, .f32⟩
  | _, _ => ⟨S160x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSquare.lean ====
abbrev S8x256x2048 : Shape := ⟨3, ![8, 256, 2048]⟩
abbrev S1024x2048 : Shape := ⟨2, ![1024, 2048]⟩
abbrev S8x128x2048 : Shape := ⟨3, ![8, 128, 2048]⟩
abbrev S128x2048 : Shape := ⟨2, ![128, 2048]⟩
abbrev S1x128x2048 : Shape := ⟨3, ![1, 128, 2048]⟩

abbrev nBuf : Space → Nat
  | .hbm => 11
  | .vmem => 22
  | .smem => 0
  | _ => 0

abbrev bufTy : (tb : Table) → Fin (tcTables nBuf tb) → BufTy
  | .hbm, ⟨0, _⟩ => ⟨S8x256x2048, .bf16⟩
  | .hbm, ⟨1, _⟩ => ⟨S8x256x2048, .bf16⟩
  | .hbm, ⟨2, _⟩ => ⟨S8x256x2048, .bf16⟩
  | .hbm, ⟨3, _⟩ => ⟨S8x256x2048, .bf16⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S1024x2048, .f32⟩
  | .hbm, ⟨10, _⟩ => ⟨S1024x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S8x128x2048, .bf16⟩
  | .local _ .vmem, ⟨3, _⟩ => ⟨S8x128x2048, .bf16⟩
  | .local _ .vmem, ⟨4, _⟩ => ⟨S8x128x2048, .bf16⟩
  | .local _ .vmem, ⟨5, _⟩ => ⟨S8x128x2048, .bf16⟩
  | .local _ .vmem, ⟨6, _⟩ => ⟨S8x128x2048, .bf16⟩
  | .local _ .vmem, ⟨7, _⟩ => ⟨S8x128x2048, .bf16⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .vmem, ⟨18, _⟩ => ⟨S128x2048, .f32⟩
  | .local _ .vmem, ⟨19, _⟩ => ⟨S128x2048, .f32⟩
  | .local _ .vmem, ⟨20, _⟩ => ⟨S128x2048, .f32⟩
  | .local _ .vmem, ⟨21, _⟩ => ⟨S128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c1_i32 : BitVec 32 := 1#32
  let v2 : BitVec 32 := Scalar.select v1 c0_i32_1 c1_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c1_i32_1 : BitVec 32 := 1#32
  let v2 : BitVec 32 := Scalar.select v1 c0_i32 c1_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .slt arg0 c2_i32_0
  let c0_i32 : BitVec 32 := 0#32
  let c1_i32 : BitVec 32 := 1#32
  let v2 : BitVec 32 := Scalar.select v1 c0_i32 c1_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c3_i32_0 : BitVec 32 := 3#32
  let v1 : BitVec 1 := Scalar.cmpi .slt arg0 c3_i32_0
  let c0_i32 : BitVec 32 := 0#32
  let c1_i32 : BitVec 32 := 1#32
  let v2 : BitVec 32 := Scalar.select v1 c0_i32 c1_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamSquareRefIdeal.lean ====
abbrev S8x256x2048 : Shape := ⟨3, ![8, 256, 2048]⟩
abbrev S1024x2048 : Shape := ⟨2, ![1024, 2048]⟩
abbrev S_ : Shape := ⟨0, ![]⟩
abbrev S256x2048 : Shape := ⟨2, ![256, 2048]⟩

abbrev nBuf : Space → Nat
  | .hbm => 53
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S8x256x2048, .bf16⟩
  | .hbm, ⟨2, _⟩ => ⟨S8x256x2048, .bf16⟩
  | .hbm, ⟨3, _⟩ => ⟨S8x256x2048, .bf16⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S8x256x2048, .f32⟩
  | .hbm, ⟨8, _⟩ => ⟨S_, .f32⟩
  | .hbm, ⟨9, _⟩ => ⟨S256x2048, .f32⟩
  | .hbm, ⟨10, _⟩ => ⟨S8x256x2048, .f32⟩
  | .hbm, ⟨11, _⟩ => ⟨S_, .f32⟩
  | .hbm, ⟨12, _⟩ => ⟨S256x2048, .f32⟩
  | .hbm, ⟨13, _⟩ => ⟨S8x256x2048, .f32⟩
  | .hbm, ⟨14, _⟩ => ⟨S_, .f32⟩
  | .hbm, ⟨15, _⟩ => ⟨S256x2048, .f32⟩
  | .hbm, ⟨16, _⟩ => ⟨S8x256x2048, .f32⟩
  | .hbm, ⟨17, _⟩ => ⟨S_, .f32⟩
  | .hbm, ⟨18, _⟩ => ⟨S256x2048, .f32⟩
  | .hbm, ⟨19, _⟩ => ⟨S1024x2048, .f32⟩
  | .hbm, ⟨20, _⟩ => ⟨S_, .f32⟩
  | .hbm, ⟨21, _⟩ => ⟨S1024x2048, .f32⟩
  | .hbm, ⟨22, _⟩ => ⟨S1024x2048, .f32⟩
  | .hbm, ⟨23, _⟩ => ⟨S_, .f32⟩
  | .hbm, ⟨24, _⟩ => ⟨S1024x2048, .f32⟩
  | .hbm, ⟨25, _⟩ => ⟨S1024x2048, .f32⟩
  | .hbm, ⟨26, _⟩ => ⟨S1024x2048, .f32⟩
  | .hbm, ⟨27, _⟩ => ⟨S_, .f32⟩
  | .hbm, ⟨28, _⟩ => ⟨S1024x2048, .f32⟩
  | .hbm, ⟨29, _⟩ => ⟨S1024x2048, .f32⟩
  | .hbm, ⟨30, _⟩ => ⟨S1024x2048, .f32⟩
  | .hbm, ⟨31, _⟩ => ⟨S_, .f32⟩
  | .hbm, ⟨32, _⟩ => ⟨S1024x2048, .f32⟩
  | .hbm, ⟨33, _⟩ => ⟨S1024x2048, .f32⟩
  | .hbm, ⟨34, _⟩ => ⟨S1024x2048, .f32⟩
  | .hbm, ⟨35, _⟩ => ⟨S_, .f32⟩
  | .hbm, ⟨36, _⟩ => ⟨S1024x2048, .f32⟩
  | .hbm, ⟨37, _⟩ => ⟨S1024x2048, .f32⟩
  | .hbm, ⟨38, _⟩ => ⟨S_, .f32⟩
  | .hbm, ⟨39, _⟩ => ⟨S1024x2048, .f32⟩
  | .hbm, ⟨40, _⟩ => ⟨S1024x2048, .f32⟩
  | .hbm, ⟨41, _⟩ => ⟨S1024x2048, .f32⟩
  | .hbm, ⟨42, _⟩ => ⟨S_, .f32⟩
  | .hbm, ⟨43, _⟩ => ⟨S1024x2048, .f32⟩
  | .hbm, ⟨44, _⟩ => ⟨S1024x2048, .f32⟩
  | .hbm, ⟨45, _⟩ => ⟨S1024x2048, .f32⟩
  | .hbm, ⟨46, _⟩ => ⟨S_, .f32⟩
  | .hbm, ⟨47, _⟩ => ⟨S1024x2048, .f32⟩
  | .hbm, ⟨48, _⟩ => ⟨S1024x2048, .f32⟩
  | .hbm, ⟨49, _⟩ => ⟨S1024x2048, .f32⟩
  | .hbm, ⟨50, _⟩ => ⟨S_, .f32⟩
  | .hbm, ⟨51, _⟩ => ⟨S1024x2048, .f32⟩
  | .hbm, ⟨52, _⟩ => ⟨S1024x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_6 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_v21 : Ref sig .tc := ⟨.hbm, 37, rfl⟩
abbrev main_cst_8 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_9 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_10 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_11 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== LossHead.lean ====
abbrev S4096x2048 : Shape := ⟨2, ![4096, 2048]⟩
abbrev S2048 : Shape := ⟨1, ![2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S1x2048, .f32⟩
  | .hbm, ⟨4, _⟩ => ⟨S1x128, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S1x128, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossHeadRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S4096x2048, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x2048, .f32⟩
  | .hbm, ⟨59, _⟩ => ⟨S4096x2048, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S1x128, .f32⟩
  | .hbm, ⟨72, _⟩ => ⟨S4096x2048, .bf16⟩
  | .hbm, ⟨73, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Proof.Body.lean ====
/-
  THE KERNEL'S WORK ON ONE KEY-VALUE HEAD, written once. At every grid point the body does the same operations four
  times, for the eight query heads of each key-value head. The functions below are that chain of operations over
  the blocks it loads; `Pieces.lean` says which of the body's stores hold which of them.
-/
module

public import proofs.«01_k».proof.Proof.Gen.KernelIdeal.Frame

@[expose] public section

noncomputable section

namespace Cert.KernelIdeal.Swa

open Idealize.ShloMosaic Cert.KernelIdeal.Gen

variable {F : FTy → Type} [FloatOps F]

/-- A scalar everywhere. -/
abbrev splat (S : Shape) (w : BitVec 32) : FVec F S .f32 := broadcast S (Scalar.ofBits .f32 w)

/-- The eight heads' queries as 1024 rows. -/
def rows (q : FVec F S8x128x64 .f32) : FVec F S1024x64 .f32 :=
  shapeCast S1024x64 (shapeCast S8x128x64 q shapeCasts_S8x128x64_S8x128x64) shapeCasts_S8x128x64_S1024x64

/-- The incoming gradient as 1024 rows. -/
def drows (d : FVec F S8x128x64 .bf16) : FVec F S1024x64 .f32 :=
  shapeCast S1024x64 (extf .f32 (shapeCast S8x128x64 d shapeCasts_S8x128x64_S8x128x64) bitsLt_bf16_f32) shapeCasts_S8x128x64_S1024x64

/-- The band: the block before, then the block itself. -/
def band (a b : FVec F S1x128x64 .f32) : FVec F S256x64 .f32 :=
  concatenate S256x64 0 [⟨S128x64, shapeCast S128x64 a shapeCasts_S1x128x64_S128x64⟩, ⟨S128x64, shapeCast S128x64 b shapeCasts_S1x128x64_S128x64⟩]
    concatenates_S128x64_S128x64_S256x64_d0

/-- Rows against the band, one value per query and key. -/
def prod (r : FVec F S1024x64 .f32) (b : FVec F S256x64 .f32) : FVec F S8x128x256 .f32 :=
  shapeCast S8x128x256 (matmul dot_S1024x64_S256x64_S1024x256_1_1_0_0_n_n none (truncf .bf16 r bitsLt_bf16_f32)
    (truncf .bf16 b bitsLt_bf16_f32) (constant S1024x256 .f32 0x00000000#32)) shapeCasts_S1024x256_S8x128x256

/-- The position of a key in the band. -/
def pos : IVec S1x128x256 32 := iota .tc S1x128x256 32 [2] iota_S1x128x256_d2_w32

/-- How far a key lies before a query. -/
def dist : IVec S1x128x256 32 := subi (addi (iota .tc S1x128x256 32 [1] iota_S1x128x256_d1_w32) (broadcast S1x128x256 128#32)) pos

/-- Which keys a query may look at. -/
def mask (hp : BitVec 1) : IVec S8x128x256 1 :=
  broadcastTo S8x128x256 (shapeCast S1x128x256
    (andi (andi (cmpi .sge dist (broadcast S1x128x256 0#32)) (cmpi .slt dist (broadcast S1x128x256 128#32)))
      (ori (broadcast S1x128x256 hp) (cmpi .sge pos (broadcast S1x128x256 128#32))))
    shapeCasts_S1x128x256_S1x128x256) broadcasts_S1x128x256_S8x128x256

/-- The masked scores. -/
def score (hp : BitVec 1) (q : FVec F S8x128x64 .f32) (k : FVec F S256x64 .f32) (sl : FVec F S8x1x1 .f32) : FVec F S8x128x256 .f32 :=
  select (mask hp)
    (subf (mulf (prod (rows q) k) (splat S8x128x256 0x3E000000#32))
      (mulf (broadcastTo S8x128x256 (shapeCast S8x1x1 sl shapeCasts_S8x1x1_S8x1x1) broadcasts_S8x1x1_S8x128x256)
        (broadcastTo S8x128x256 (sitofp .f32 dist) broadcasts_S1x128x256_S8x128x256)))
    (splat S8x128x256 0xFF800000#32)

/-- One value per query, spread over the keys. -/
abbrev wide (x : FVec F S8x128x1 .f32) : FVec F S8x128x256 .f32 := broadcastTo S8x128x256 x broadcasts_S8x128x1_S8x128x256

/-- The sum over the keys. -/
def rowSum (x : FVec F S8x128x256 .f32) : FVec F S8x128x1 .f32 :=
  shapeCast S8x128x1 (multiReduction .add [2] S8x128 x 0x00000000#32 reduces_S8x128x256_S8x128 (.inl rfl) rfl) shapeCasts_S8x128_S8x128x1

/-- The sinks, one per query. -/
def sinks (sk : FVec F S8x1x1 .f32) : FVec F S8x128x1 .f32 :=
  broadcastTo S8x128x1 (shapeCast S8x1x1 sk shapeCasts_S8x1x1_S8x1x1) broadcasts_S8x1x1_S8x128x1

/-- The row maximum, the sink included. -/
def top (s : FVec F S8x128x256 .f32) (sk : FVec F S8x1x1 .f32) : FVec F S8x128x1 .f32 :=
  maximumf (shapeCast S8x128x1 (multiReduction .maximumf [2] S8x128 s 0xFF800000#32 reduces_S8x128x256_S8x128 (.inl rfl) rfl)
    shapeCasts_S8x128_S8x128x1) (sinks sk)

/-- The exponentials. -/
def pexp (s : FVec F S8x128x256 .f32) (sk : FVec F S8x1x1 .f32) : FVec F S8x128x256 .f32 := exp (subf s (wide (top s sk)))

/-- The sinks' exponentials. -/
def sexp (s : FVec F S8x128x256 .f32) (sk : FVec F S8x1x1 .f32) : FVec F S8x128x1 .f32 := exp (subf (sinks sk) (top s sk))

/-- The denominators. -/
def den (s : FVec F S8x128x256 .f32) (sk : FVec F S8x1x1 .f32) : FVec F S8x128x1 .f32 := addf (rowSum (pexp s sk)) (sexp s sk)

/-- The denominators' gradients. -/
def dden (s : FVec F S8x128x256 .f32) (sk : FVec F S8x1x1 .f32) (da : FVec F S8x128x256 .f32) : FVec F S8x128x1 .f32 :=
  subf (splat S8x128x1 0x00000000#32)
    (rowSum (mulf (mulf da (wide (divf (splat S8x128x1 0x3F800000#32) (mulf (den s sk) (den s sk))))) (pexp s sk)))

/-- The gradient of the scaled products, as 1024 rows. -/
def dscore (hp : BitVec 1) (s : FVec F S8x128x256 .f32) (sk : FVec F S8x1x1 .f32) (da : FVec F S8x128x256 .f32) : FVec F S1024x256 .f32 :=
  shapeCast S1024x256 (mulf (select (mask hp)
    (mulf (addf (divf da (wide (den s sk)))
      (wide (shapeCast S8x128x1 (multiReduction .add [2] S8x128 (dden s sk da) 0x00000000#32 reduces_S8x128x1_S8x128 (.inl rfl) rfl)
        shapeCasts_S8x128_S8x128x1))) (pexp s sk))
    (splat S8x128x256 0x00000000#32)) (splat S8x128x256 0x3E000000#32)) shapeCasts_S8x128x256_S1024x256

/-- The band's rows gathered from 1024 query rows. -/
def back (w : FVec F S1024x256 .f32) (r : FVec F S1024x64 .f32) : FVec F S256x64 .f32 :=
  matmul dot_S1024x256_S1024x64_S256x64_0_0_1_1_n_n none (truncf .bf16 w bitsLt_bf16_f32) (truncf .bf16 r bitsLt_bf16_f32)
    (constant S256x64 .f32 0x00000000#32)

/-- The blocks the body loads for one key-value head. -/
structure Loads (F : FTy → Type) [FloatOps F] where
  hp : BitVec 1
  q : FVec F S8x128x64 .f32
  k₀ : FVec F S1x128x64 .f32
  k₁ : FVec F S1x128x64 .f32
  v₀ : FVec F S1x128x64 .f32
  v₁ : FVec F S1x128x64 .f32
  sink : FVec F S8x1x1 .f32
  slope : FVec F S8x1x1 .f32
  d : FVec F S8x128x64 .bf16

namespace Loads
variable (L : Loads F)

/-- The head's masked scores. -/
def s : FVec F S8x128x256 .f32 := score L.hp L.q (band L.k₀ L.k₁) L.slope

/-- The head's gradient of the probabilities. -/
def da : FVec F S8x128x256 .f32 := prod (drows L.d) (band L.v₀ L.v₁)

/-- The head's gradient of the scaled products. -/
def ds : FVec F S1024x256 .f32 := dscore L.hp L.s L.sink L.da

/-- The gradient of the queries. -/
def dq : FVec F S8x128x64 .bf16 :=
  truncf .bf16 (shapeCast S8x128x64 (matmul dot_S1024x256_S256x64_S1024x64_1_0_0_1_n_n none (truncf .bf16 L.ds bitsLt_bf16_f32)
    (truncf .bf16 (band L.k₀ L.k₁) bitsLt_bf16_f32) (constant S1024x64 .f32 0x00000000#32)) shapeCasts_S1024x64_S8x128x64) bitsLt_bf16_f32

/-- The gradient of the band's keys. -/
def dk : FVec F S256x64 .f32 := back L.ds (rows L.q)

/-- The gradient of the band's values. -/
def dv : FVec F S256x64 .f32 :=
  back (shapeCast S1024x256 (divf (pexp L.s L.sink) (wide (den L.s L.sink))) shapeCasts_S8x128x256_S1024x256) (drows L.d)

/-- The sinks' gradient. -/
def dsink : FVec F S8x1x1 .f32 :=
  shapeCast S8x1x1 (shapeCast S8x1 (multiReduction .add [1, 2] S8 (mulf (dden L.s L.sink L.da) (sexp L.s L.sink)) 0x00000000#32
    reduces_S8x128x1_S8 (.inl rfl) rfl) shapeCasts_S8_S8x1) shapeCasts_S8x1_S8x1x1

end Loads

/-- The band's first half, as a block: what the block before is still owed. -/
def first (x : FVec F S256x64 .f32) : FVec F S1x128x64 .f32 :=
  shapeCast S1x128x64 (extractStridedSlice S128x64 ![0, 0] x slices_S256x64_o0_0_S128x64) shapeCasts_S128x64_S1x128x64

/-- The band's second half plus what the block after left for it, as a block. -/
def second (x : FVec F S256x64 .f32) (c : FVec F S1x128x64 .f32) : FVec F S1x128x64 .bf16 :=
  shapeCast S1x128x64 (truncf .bf16 (addf (extractStridedSlice S128x64 ![128, 0] x slices_S256x64_o128_0_S128x64)
    (shapeCast S128x64 c shapeCasts_S1x128x64_S128x64)) bitsLt_bf16_f32) shapeCasts_S128x64_S1x128x64

/-- The sinks' running gradient. -/
def plus (c g : FVec F S8x1x1 .f32) : FVec F S8x1x1 .f32 := addf (shapeCast S8x1x1 c shapeCasts_S8x1x1_S8x1x1) g

end Cert.KernelIdeal.Swa

end
-- ==== Proof.Pieces.lean ====
/-
  WHAT A GRID POINT LEAVES IN EACH OUTPUT BLOCK AND IN THE TWO CARRIED SCRATCH BLOCKS, in terms of the chain of
  operations of `Body.lean` on the blocks loaded for each of the four key-value heads. The first point starts from
  zeros; every later one from what the point before left.
-/
module

public import proofs.«01_k».proof.Proof.Body
public import proofs.«01_k».proof.Proof.Gen.KernelIdeal.Value
public import Idealize.ShloMosaic.Lib.Pipeline.ValueKit.Acc

@[expose] public section

set_option maxRecDepth 16384

noncomputable section

namespace Cert.KernelIdeal.Swa

open Idealize.ShloMosaic Idealize.ShloMosaic.TcCoe Cert.KernelIdeal.Gen

variable {F : FTy → Type} [FloatOps F]

/-- The eight query heads of key-value head `κ` in a block of queries. -/
abbrev rq (κ : Fin 4) : Rect S32x128x64 :=
  Rect.unit ![8 * κ.val, 0, 0] ![8, 128, 64] (by intro a; have := κ.isLt; fin_cases a <;> simp <;> omega)

/-- Key-value head `κ` in a block of keys or values. -/
abbrev rk (κ : Fin 4) : Rect S4x128x64 :=
  Rect.unit ![κ.val, 0, 0] ![1, 128, 64] (by intro a; have := κ.isLt; fin_cases a <;> simp <;> omega)

/-- The eight query heads of key-value head `κ` among the sinks. -/
abbrev rs (κ : Fin 4) : Rect S32x1x1 :=
  Rect.unit ![8 * κ.val, 0, 0] ![8, 1, 1] (by intro a; have := κ.isLt; fin_cases a <;> simp <;> omega)

/-- Four blocks stored one after another over rectangles no two of which meet: each rectangle reads its own. -/
theorem canon_four {S : Shape} {e : EltTy} (r : Fin 4 → Rect S) (w : ∀ κ, (r κ).shape.Idx → Elt F e) (L : List (View.Piece (Elt F) S e))
    (hd : ∀ κ κ', κ ≠ κ' → Disjoint (r κ).set (r κ').set) (κ : Fin 4) (z : (r κ).shape.Idx) :
    View.canon (⟨r 3, w 3⟩ :: ⟨r 2, w 2⟩ :: ⟨r 1, w 1⟩ :: ⟨r 0, w 0⟩ :: L) ((r κ).emb z) = w κ z := by
  have skip : ∀ (κ' : Fin 4) (M : List (View.Piece (Elt F) S e)), κ' ≠ κ →
      View.canon (⟨r κ', w κ'⟩ :: M) ((r κ).emb z) = View.canon M ((r κ).emb z) := fun κ' M hne =>
    View.canon_cons_of_not_mem (Val := Elt F) (⟨r κ', w κ'⟩ : View.Piece (Elt F) S e) M
      (Finset.disjoint_right.mp (hd κ' κ hne) ((r κ).idx_mem z))
  fin_cases κ
  · exact ((skip 3 _ (by decide)).trans ((skip 2 _ (by decide)).trans (skip 1 _ (by decide)))).trans (View.canon_cons_emb (r 0) (w 0) L z)
  · exact ((skip 3 _ (by decide)).trans (skip 2 _ (by decide))).trans (View.canon_cons_emb (r 1) (w 1) _ z)
  · exact (skip 3 _ (by decide)).trans (View.canon_cons_emb (r 2) (w 2) _ z)
  · exact View.canon_cons_emb (r 3) (w 3) _ z

theorem rq_disjoint (κ κ' : Fin 4) (h : κ ≠ κ') : Disjoint (rq κ).set (rq κ').set :=
  Rect.unit_disjoint (0 : Fin 3) (by have : κ.val ≠ κ'.val := fun x => h (Fin.ext x); show 8 * κ.val + 8 ≤ 8 * κ'.val ∨ 8 * κ'.val + 8 ≤ 8 * κ.val; omega)

theorem rk_disjoint (κ κ' : Fin 4) (h : κ ≠ κ') : Disjoint (rk κ).set (rk κ').set :=
  Rect.unit_disjoint (0 : Fin 3) (by have : κ.val ≠ κ'.val := fun x => h (Fin.ext x); show κ.val + 1 ≤ κ'.val ∨ κ'.val + 1 ≤ κ.val; omega)

theorem rs_disjoint (κ κ' : Fin 4) (h : κ ≠ κ') : Disjoint (rs κ).set (rs κ').set :=
  Rect.unit_disjoint (0 : Fin 3) (by have : κ.val ≠ κ'.val := fun x => h (Fin.ext x); show 8 * κ.val + 8 ≤ 8 * κ'.val ∨ 8 * κ'.val + 8 ≤ 8 * κ.val; omega)

/-- A load passes over a block stored at other rows. -/
theorem readCov_skip {sig : RefSig} {κ : Kind} {sp : Space} {d₀ d₁ d₂ n a b : ℕ} {e : EltTy} (v : View sig κ sp ⟨3, ![d₀, d₁, d₂]⟩ e)
    (inb : ∀ x, (![a, 0, 0] : Fin 3 → ℕ) x + (![n, d₁, d₂] : Fin 3 → ℕ) x ≤ (⟨3, ![d₀, d₁, d₂]⟩ : Shape).size x)
    (inb' : ∀ x, (![b, 0, 0] : Fin 3 → ℕ) x + (![n, d₁, d₂] : Fin 3 → ℕ) x ≤ (⟨3, ![d₀, d₁, d₂]⟩ : Shape).size x)
    (w : (Rect.unit (s := ⟨3, ![d₀, d₁, d₂]⟩) ![a, 0, 0] ![n, d₁, d₂] inb).shape.Idx → Elt F e) (L : List (View.Piece (Elt F) ⟨3, ![d₀, d₁, d₂]⟩ e))
    (h : a + n ≤ b ∨ b + n ≤ a) :
    v.readCov (⟨Rect.unit ![a, 0, 0] ![n, d₁, d₂] inb, w⟩ :: L) (Rect.unit ![b, 0, 0] ![n, d₁, d₂] inb').toLoadRect
      = v.readCov L (Rect.unit ![b, 0, 0] ![n, d₁, d₂] inb').toLoadRect :=
  View.readCov_cons_of_disjoint v _ L _ (Rect.unit_disjoint (inb := inb) (inb' := inb') (0 : Fin 3) h)

/-- A load of rows of a buffer stored whole reads those rows of what was stored. -/
theorem readCov_whole {sig : RefSig} {κ : Kind} {sp : Space} {d₀ d₁ d₂ : ℕ} {e : EltTy} (v : View sig κ sp ⟨3, ![d₀, d₁, d₂]⟩ e)
    (inb : ∀ x, (![0, 0, 0] : Fin 3 → ℕ) x + (![d₀, d₁, d₂] : Fin 3 → ℕ) x ≤ (⟨3, ![d₀, d₁, d₂]⟩ : Shape).size x)
    (w : (⟨3, ![d₀, d₁, d₂]⟩ : Shape).Idx → Elt F e) (B : Rect ⟨3, ![d₀, d₁, d₂]⟩) :
    v.readCov [(⟨Rect.unit ![0, 0, 0] ![d₀, d₁, d₂] inb, w⟩ : View.Piece (Elt F) ⟨3, ![d₀, d₁, d₂]⟩ e)] B.toLoadRect = View.ld w B := by
  rw [View.readCov_eq_canon', View.canon_cons_unit_lit inb w [] (by intro a; fin_cases a <;> rfl)]

/-- What a point at coordinates `i` loads for key-value head `κ` of the blocks staged for it. -/
def pick (i : grid0.Coords) (x0 : Vec F S32x128x64 .f32) (x1 x2 x3 x4 : Vec F S4x128x64 .f32) (x5 x6 : Vec F S32x1x1 .f32)
    (x7 : Vec F S32x128x64 .bf16) (κ : Fin 4) : Loads F where
  hp := Scalar.cmpi .slt (BitVec.ofNat 32 (i 1).val) 31#32
  q := View.ld x0 (rq κ)
  k₀ := View.ld x1 (rk κ)
  k₁ := View.ld x2 (rk κ)
  v₀ := View.ld x3 (rk κ)
  v₁ := View.ld x4 (rk κ)
  sink := View.ld x5 (rs κ)
  slope := View.ld x6 (rs κ)
  d := View.ld x7 (rq κ)

/-- A block of zeros. -/
abbrev zeros (S : Shape) : FVec F S .f32 := splat S 0x00000000#32

/-- Key-value head `κ` of a block of sums. -/
abbrev headK (z : FVec F S4x128x64 .f32) (κ : Fin 4) : FVec F S1x128x64 .f32 := View.ld (Val := Elt F) (e' := .f32) z (rk κ)

/-- The query heads of key-value head `κ` among the sinks' sums. -/
abbrev headS (z : FVec F S32x1x1 .f32) (κ : Fin 4) : FVec F S8x1x1 .f32 := View.ld (Val := Elt F) (e' := .f32) z (rs κ)

section OnePoint

variable (c : Dev nD) (i : grid0.Coords)
  (arg2 : Memref sig .tc .vmem S32x128x64 .f32) (harg2 : arg2.IsWhole)
  (arg3 : Memref sig .tc .vmem S4x128x64 .f32) (harg3 : arg3.IsWhole)
  (arg4 : Memref sig .tc .vmem S4x128x64 .f32) (harg4 : arg4.IsWhole)
  (arg5 : Memref sig .tc .vmem S4x128x64 .f32) (harg5 : arg5.IsWhole)
  (arg6 : Memref sig .tc .vmem S4x128x64 .f32) (harg6 : arg6.IsWhole)
  (arg7 : Memref sig .tc .vmem S32x1x1 .f32) (harg7 : arg7.IsWhole)
  (arg8 : Memref sig .tc .vmem S32x1x1 .f32) (harg8 : arg8.IsWhole)
  (arg9 : Memref sig .tc .vmem S32x128x64 .bf16) (harg9 : arg9.IsWhole)
  (arg10 : Memref sig .tc .vmem S32x128x64 .bf16) (harg10 : arg10.IsWhole)
  (arg11 : Memref sig .tc .vmem S4x128x64 .bf16) (harg11 : arg11.IsWhole)
  (arg12 : Memref sig .tc .vmem S4x128x64 .bf16) (harg12 : arg12.IsWhole)
  (arg13 : Memref sig .tc .vmem S32x1x1 .f32) (harg13 : arg13.IsWhole)
  (arg14 : Memref sig .tc .vmem S4x128x64 .f32) (harg14 : arg14.IsWhole)
  (arg15 : Memref sig .tc .vmem S4x128x64 .f32) (harg15 : arg15.IsWhole)
  (x0 : Vec F S32x128x64 .f32) (x1 x2 x3 x4 : Vec F S4x128x64 .f32) (x5 x6 : Vec F S32x1x1 .f32) (x7 : Vec F S32x128x64 .bf16)
  (xo11 : Vec F S32x1x1 .f32) (xs0 xs1 : Vec F S4x128x64 .f32)

theorem dq_A (hc : cond0_0 i) (κ : Fin 4) (y : (rq κ).shape.Idx) :
    out0_A_8 c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 ((rq κ).emb y) = (pick i x0 x1 x2 x3 x4 x5 x6 x7 κ).dq y := by
  refine Eq.trans ?_ (canon_four (F := F) (e := .bf16) rq (fun κ => (pick i x0 x1 x2 x3 x4 x5 x6 x7 κ).dq) [] rq_disjoint κ y)
  refine congrFun ?_ _
  frame_out; rfl

theorem dq_B (hc : ¬cond0_0 i) (κ : Fin 4) (y : (rq κ).shape.Idx) :
    out0_B_8 c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 xo11 xs0 xs1 ((rq κ).emb y) = (pick i x0 x1 x2 x3 x4 x5 x6 x7 κ).dq y := by
  refine Eq.trans ?_ (canon_four (F := F) (e := .bf16) rq (fun κ => (pick i x0 x1 x2 x3 x4 x5 x6 x7 κ).dq) [] rq_disjoint κ y)
  refine congrFun ?_ _
  frame_out; rfl

theorem dk_A (hc : cond0_0 i) (κ : Fin 4) (y : (rk κ).shape.Idx) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 ((rk κ).emb y) = second (pick i x0 x1 x2 x3 x4 x5 x6 x7 κ).dk (headK (zeros S4x128x64) κ) y := by
  refine Eq.trans ?_ (canon_four (F := F) (e := .bf16) rk (fun κ => second (pick i x0 x1 x2 x3 x4 x5 x6 x7 κ).dk (headK (zeros S4x128x64) κ)) [] rk_disjoint κ y)
  refine congrFun ?_ _
  frame_out; simp only [readCov_skip, readCov_whole, Nat.reduceAdd, Nat.reduceLeDiff, true_or, or_true, Fin.isValue]; rfl

theorem dk_B (hc : ¬cond0_0 i) (κ : Fin 4) (y : (rk κ).shape.Idx) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 xo11 xs0 xs1 ((rk κ).emb y) = second (pick i x0 x1 x2 x3 x4 x5 x6 x7 κ).dk (headK xs0 κ) y := by
  refine Eq.trans ?_ (canon_four (F := F) (e := .bf16) rk (fun κ => second (pick i x0 x1 x2 x3 x4 x5 x6 x7 κ).dk (headK xs0 κ)) [] rk_disjoint κ y)
  refine congrFun ?_ _
  frame_out; rfl

theorem dv_A (hc : cond0_0 i) (κ : Fin 4) (y : (rk κ).shape.Idx) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 ((rk κ).emb y) = second (pick i x0 x1 x2 x3 x4 x5 x6 x7 κ).dv (headK (zeros S4x128x64) κ) y := by
  refine Eq.trans ?_ (canon_four (F := F) (e := .bf16) rk (fun κ => second (pick i x0 x1 x2 x3 x4 x5 x6 x7 κ).dv (headK (zeros S4x128x64) κ)) [] rk_disjoint κ y)
  refine congrFun ?_ _
  frame_out; simp only [readCov_skip, readCov_whole, Nat.reduceAdd, Nat.reduceLeDiff, true_or, or_true, Fin.isValue]; rfl

theorem dv_B (hc : ¬cond0_0 i) (κ : Fin 4) (y : (rk κ).shape.Idx) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 xo11 xs0 xs1 ((rk κ).emb y) = second (pick i x0 x1 x2 x3 x4 x5 x6 x7 κ).dv (headK xs1 κ) y := by
  refine Eq.trans ?_ (canon_four (F := F) (e := .bf16) rk (fun κ => second (pick i x0 x1 x2 x3 x4 x5 x6 x7 κ).dv (headK xs1 κ)) [] rk_disjoint κ y)
  refine congrFun ?_ _
  frame_out; rfl

theorem dsink_A (hc : cond0_0 i) (κ : Fin 4) (y : (rs κ).shape.Idx) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 ((rs κ).emb y) = plus (headS (zeros S32x1x1) κ) (pick i x0 x1 x2 x3 x4 x5 x6 x7 κ).dsink y := by
  refine Eq.trans ?_ (canon_four (F := F) (e := .f32) rs (fun κ => plus (headS (zeros S32x1x1) κ) (pick i x0 x1 x2 x3 x4 x5 x6 x7 κ).dsink) [⟨Rect.unit ![0, 0, 0] S32x1x1.size (by intro a; fin_cases a <;> simp), zeros _⟩] rs_disjoint κ y)
  refine congrFun ?_ _
  frame_out; simp only [readCov_skip, readCov_whole, Nat.reduceAdd, Nat.reduceLeDiff, true_or, or_true, Fin.isValue]; rfl

theorem dsink_B (hc : ¬cond0_0 i) (κ : Fin 4) (y : (rs κ).shape.Idx) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 xo11 xs0 xs1 ((rs κ).emb y) = plus (headS xo11 κ) (pick i x0 x1 x2 x3 x4 x5 x6 x7 κ).dsink y := by
  refine Eq.trans ?_ (canon_four (F := F) (e := .f32) rs (fun κ => plus (headS xo11 κ) (pick i x0 x1 x2 x3 x4 x5 x6 x7 κ).dsink) [] rs_disjoint κ y)
  refine congrFun ?_ _
  frame_out; rfl

theorem left_dk_A (hc : cond0_0 i) (κ : Fin 4) (y : (rk κ).shape.Idx) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 ((rk κ).emb y) = first (pick i x0 x1 x2 x3 x4 x5 x6 x7 κ).dk y := by
  refine Eq.trans ?_ (canon_four (F := F) (e := .f32) rk (fun κ => first (pick i x0 x1 x2 x3 x4 x5 x6 x7 κ).dk) [⟨Rect.unit ![0, 0, 0] S4x128x64.size (by intro a; fin_cases a <;> simp), zeros _⟩] rk_disjoint κ y)
  refine congrFun ?_ _
  frame_out; rfl

theorem left_dk_B (hc : ¬cond0_0 i) (κ : Fin 4) (y : (rk κ).shape.Idx) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 xo11 xs0 xs1 ((rk κ).emb y) = first (pick i x0 x1 x2 x3 x4 x5 x6 x7 κ).dk y := by
  refine Eq.trans ?_ (canon_four (F := F) (e := .f32) rk (fun κ => first (pick i x0 x1 x2 x3 x4 x5 x6 x7 κ).dk) [] rk_disjoint κ y)
  refine congrFun ?_ _
  frame_out; rfl

theorem left_dv_A (hc : cond0_0 i) (κ : Fin 4) (y : (rk κ).shape.Idx) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 ((rk κ).emb y) = first (pick i x0 x1 x2 x3 x4 x5 x6 x7 κ).dv y := by
  refine Eq.trans ?_ (canon_four (F := F) (e := .f32) rk (fun κ => first (pick i x0 x1 x2 x3 x4 x5 x6 x7 κ).dv) [⟨Rect.unit ![0, 0, 0] S4x128x64.size (by intro a; fin_cases a <;> simp), zeros _⟩] rk_disjoint κ y)
  refine congrFun ?_ _
  frame_out; rfl

theorem left_dv_B (hc : ¬cond0_0 i) (κ : Fin 4) (y : (rk κ).shape.Idx) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 xo11 xs0 xs1 ((rk κ).emb y) = first (pick i x0 x1 x2 x3 x4 x5 x6 x7 κ).dv y := by
  refine Eq.trans ?_ (canon_four (F := F) (e := .f32) rk (fun κ => first (pick i x0 x1 x2 x3 x4 x5 x6 x7 κ).dv) [] rk_disjoint κ y)
  refine congrFun ?_ _
  frame_out; rfl

end OnePoint

end Cert.KernelIdeal.Swa

end
-- ==== Proof.Cell.lean ====
/-
  ONE ATTENTION CELL OVER THE REAL NUMBERS. A cell is one block of 128 queries of the eight heads that share a
  key-value head, against a band of 256 keys (the block before and the block itself). This file writes the cell's
  forward pass and its gradient as functions of real arrays, and proves the few facts about them that the kernel's
  and the reference's readings need: the row maximum is a real number, the denominator is positive, a masked key
  contributes nothing, and the gradient through the row maximum is zero.
-/
module

public import Idealize.ShloMosaic.PureOps.Ideal.Laws
public import Idealize.ShloMosaic.Lib.IdealHost

@[expose] public section

noncomputable section

namespace Cert.Swa

open Idealize.ShloMosaic

/-! ## Sums and quotients of real numbers inside the extended reals -/

/-- A finite sum of reals is the same sum taken in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of reals. -/
theorem sum_coe_mul {ι : Type*} (s : Finset ι) (f g : ι → ℝ) :
    ∑ i ∈ s, (f i : EReal) * (g i : EReal) = ((∑ i ∈ s, f i * g i : ℝ) : EReal) := by
  rw [coe_sum]; exact Finset.sum_congr rfl fun i _ => (EReal.coe_mul _ _).symm

/-- A quotient of reals by a nonzero real. -/
theorem div_coe_coe {y : ℝ} (h : y ≠ 0) (x : ℝ) : Ideal.div (x : EReal) (y : EReal) = ((x / y : ℝ) : EReal) := by
  rw [Ideal.div_coe h, ← EReal.coe_mul, mul_one_div]

/-- A maximum over finitely many extended reals below `⊤` is below `⊤`. -/
theorem fold_max_ne_top {ι : Type*} (s : Finset ι) (f : ι → EReal) (hf : ∀ i, f i ≠ ⊤) : s.fold max ⊥ f ≠ ⊤ := by
  classical
  induction s using Finset.induction_on with
  | empty => simp
  | insert a s ha ih => rw [Finset.fold_insert ha]; exact (max_lt (lt_top_iff_ne_top.mpr (hf a)) (lt_top_iff_ne_top.mpr ih)).ne

/-- Over a nonempty set the maximum is one of the values. -/
theorem fold_max_attained {ι : Type*} (s : Finset ι) (f : ι → EReal) (i₀ : ι) (h₀ : i₀ ∈ s) : ∃ i ∈ s, f i = s.fold max ⊥ f := by
  classical
  induction s using Finset.induction_on generalizing i₀ with
  | empty => simp at h₀
  | insert a s ha ih =>
    rw [Finset.fold_insert ha]
    rcases s.eq_empty_or_nonempty with rfl | ⟨b, hb⟩
    · exact ⟨a, by simp, by simp⟩
    · obtain ⟨i, hi, e⟩ := ih b hb
      rcases le_total (f a) (s.fold max ⊥ f) with h | h
      · exact ⟨i, Finset.mem_insert_of_mem hi, by rw [e, max_eq_right h]⟩
      · exact ⟨a, Finset.mem_insert_self _ _, by rw [max_eq_left h]⟩

/-! ## The cell -/

/-- What a cell is computed from: the queries, the band's keys and values, the sinks, the slopes of the distance
    bias and the incoming gradient; `prev` says that the band's first half is the block before (and not padding). -/
structure Cell where
  prev : Prop
  q : Fin 8 → Fin 128 → Fin 64 → ℝ
  k : Fin 256 → Fin 64 → ℝ
  v : Fin 256 → Fin 64 → ℝ
  sink : Fin 8 → ℝ
  slope : Fin 8 → ℝ
  d : Fin 8 → Fin 128 → Fin 64 → ℝ

namespace Cell

variable (C : Cell)

/-- Query `a` may look at the band's key `j`: not after it, fewer than 128 before it, and not padding. -/
def ok (a : Fin 128) (j : Fin 256) : Prop := (a.val < j.val ∧ j.val ≤ a.val + 128) ∧ (C.prev ∨ 128 ≤ j.val)

/-- The score before masking: the scaled product less the distance bias. -/
def raw (g : Fin 8) (a : Fin 128) (j : Fin 256) : ℝ :=
  (∑ x, C.q g a x * C.k j x) * (1 / 8) - C.slope g * (((a.val : ℤ) + 128 - (j.val : ℤ) : ℤ) : ℝ)

open Classical in
/-- The masked score. -/
def score (g : Fin 8) (a : Fin 128) (j : Fin 256) : EReal := if C.ok a j then (C.raw g a j : EReal) else ⊥

/-- The row maximum, the sink included. -/
def top (g : Fin 8) (a : Fin 128) : EReal := max (Finset.univ.fold max ⊥ (C.score g a)) (C.sink g : EReal)

/-- The row maximum as a real number. -/
def topR (g : Fin 8) (a : Fin 128) : ℝ := (C.top g a).toReal

open Classical in
/-- The exponential of a score less the row maximum. -/
def p (g : Fin 8) (a : Fin 128) (j : Fin 256) : ℝ := if C.ok a j then Real.exp (C.raw g a j - C.topR g a) else 0

/-- The sink's exponential. -/
def e (g : Fin 8) (a : Fin 128) : ℝ := Real.exp (C.sink g - C.topR g a)

/-- The softmax's denominator. -/
def den (g : Fin 8) (a : Fin 128) : ℝ := (∑ j, C.p g a j) + C.e g a

/-- The gradient of a probability. -/
def da (g : Fin 8) (a : Fin 128) (j : Fin 256) : ℝ := ∑ x, C.d g a x * C.v j x

/-- The gradient of the denominator. -/
def t (g : Fin 8) (a : Fin 128) : ℝ := -∑ j, C.da g a j * (1 / (C.den g a * C.den g a)) * C.p g a j

/-- The gradient of an exponential. -/
def dp (g : Fin 8) (a : Fin 128) (j : Fin 256) : ℝ := C.da g a j / C.den g a + C.t g a

open Classical in
/-- The gradient of a product of a query and a key. -/
def ds (g : Fin 8) (a : Fin 128) (j : Fin 256) : ℝ := (if C.ok a j then C.dp g a j * C.p g a j else 0) * (1 / 8)

/-- The gradient of the queries. -/
def dq (g : Fin 8) (a : Fin 128) (x : Fin 64) : ℝ := ∑ j, C.ds g a j * C.k j x

/-- The cell's share of the gradient of the band's keys. -/
def dk (j : Fin 256) (x : Fin 64) : ℝ := ∑ g, ∑ a, C.ds g a j * C.q g a x

/-- The cell's share of the gradient of the band's values. -/
def dv (j : Fin 256) (x : Fin 64) : ℝ := ∑ g, ∑ a, C.p g a j / C.den g a * C.d g a x

/-- The cell's share of the gradient of the sinks. -/
def dsink (g : Fin 8) : ℝ := ∑ a, C.t g a * C.e g a

theorem score_ne_top (g : Fin 8) (a : Fin 128) (j : Fin 256) : C.score g a j ≠ ⊤ := by
  unfold score; split
  · exact EReal.coe_ne_top _
  · exact bot_ne_top

theorem top_eq (g : Fin 8) (a : Fin 128) : C.top g a = (C.topR g a : EReal) := by
  have h1 : C.top g a ≠ ⊤ :=
    (max_lt (lt_top_iff_ne_top.mpr (fold_max_ne_top _ _ (C.score_ne_top g a))) (EReal.coe_lt_top _)).ne
  have h2 : C.top g a ≠ ⊥ := ne_of_gt (lt_of_lt_of_le (EReal.bot_lt_coe _) (le_max_right _ _))
  exact (EReal.coe_toReal h1 h2).symm

/-- The exponential of a masked score less the row maximum, in the extended reals. -/
theorem exp_score (g : Fin 8) (a : Fin 128) (j : Fin 256) : Ideal.exp (C.score g a j - C.top g a) = (C.p g a j : EReal) := by
  rw [top_eq]; unfold score p
  split
  · rw [← EReal.coe_sub, Ideal.exp_coe]
  · rw [EReal.bot_sub, Ideal.exp_bot]; rfl

theorem p_nonneg (g : Fin 8) (a : Fin 128) (j : Fin 256) : 0 ≤ C.p g a j := by
  unfold p; split
  · exact (Real.exp_pos _).le
  · exact le_rfl

theorem p_of_not_ok {g : Fin 8} {a : Fin 128} {j : Fin 256} (h : ¬C.ok a j) : C.p g a j = 0 := if_neg h

theorem den_pos (g : Fin 8) (a : Fin 128) : 0 < C.den g a :=
  add_pos_of_nonneg_of_pos (Finset.sum_nonneg fun j _ => C.p_nonneg g a j) (Real.exp_pos _)

theorem den_ne (g : Fin 8) (a : Fin 128) : C.den g a ≠ 0 := (C.den_pos g a).ne'

/-- The gradient through the row maximum vanishes. -/
theorem dtop (g : Fin 8) (a : Fin 128) : C.t g a * C.e g a + ∑ j, C.dp g a j * C.p g a j = 0 := by
  have hd := C.den_ne g a
  have h1 : ∑ j, C.dp g a j * C.p g a j = (∑ j, C.da g a j * C.p g a j) / C.den g a + C.t g a * ∑ j, C.p g a j := by
    rw [Finset.sum_div, Finset.mul_sum, ← Finset.sum_add_distrib]
    exact Finset.sum_congr rfl fun j _ => by unfold dp; ring
  have h2 : C.t g a = -((∑ j, C.da g a j * C.p g a j) / (C.den g a * C.den g a)) := by
    unfold t; rw [Finset.sum_div]
    exact congrArg _ (Finset.sum_congr rfl fun j _ => by ring)
  have h3 : ∑ j, C.p g a j = C.den g a - C.e g a := by unfold den; ring
  rw [h1, h3, h2]; field_simp; ring

/-- Two cells that agree on everything but padded keys and values have the same masked scores, … -/
structure Same (C D : Cell) : Prop where
  prev : C.prev ↔ D.prev
  q : C.q = D.q
  k : ∀ j x, (C.prev ∨ 128 ≤ j.val) → C.k j x = D.k j x
  v : ∀ j x, (C.prev ∨ 128 ≤ j.val) → C.v j x = D.v j x
  sink : C.sink = D.sink
  slope : C.slope = D.slope
  d : C.d = D.d

variable {C} {D : Cell} (h : Same C D)
include h

theorem Same.ok (a : Fin 128) (j : Fin 256) : C.ok a j ↔ D.ok a j := by unfold Cell.ok; rw [h.prev]

theorem Same.raw {g : Fin 8} {a : Fin 128} {j : Fin 256} (hj : C.ok a j) : C.raw g a j = D.raw g a j := by
  unfold Cell.raw; rw [h.q, h.slope]; simp only [h.k j _ hj.2]

theorem Same.score : C.score = D.score := by
  funext g a j; unfold Cell.score
  by_cases hj : C.ok a j
  · rw [if_pos hj, if_pos ((h.ok a j).mp hj), h.raw hj]
  · rw [if_neg hj, if_neg (fun x => hj ((h.ok a j).mpr x))]

theorem Same.top : C.top = D.top := by funext g a; unfold Cell.top; rw [h.score, h.sink]

theorem Same.topR : C.topR = D.topR := by funext g a; unfold Cell.topR; rw [h.top]

theorem Same.p : C.p = D.p := by
  funext g a j; unfold Cell.p
  by_cases hj : C.ok a j
  · rw [if_pos hj, if_pos ((h.ok a j).mp hj), h.raw hj, h.topR]
  · rw [if_neg hj, if_neg (fun x => hj ((h.ok a j).mpr x))]

theorem Same.e : C.e = D.e := by funext g a; unfold Cell.e; rw [h.sink, h.topR]

theorem Same.den : C.den = D.den := by funext g a; unfold Cell.den; rw [h.p, h.e]

theorem Same.da {g : Fin 8} {a : Fin 128} {j : Fin 256} (hj : C.ok a j) : C.da g a j = D.da g a j := by
  unfold Cell.da; rw [h.d]; simp only [h.v j _ hj.2]

theorem Same.t : C.t = D.t := by
  funext g a; unfold Cell.t; rw [h.den, h.p]
  refine congrArg _ (Finset.sum_congr rfl fun j _ => ?_)
  by_cases hj : C.ok a j
  · rw [h.da hj]
  · rw [D.p_of_not_ok (fun x => hj ((h.ok a j).mpr x)), mul_zero, mul_zero]

theorem Same.ds : C.ds = D.ds := by
  funext g a j; unfold Cell.ds
  by_cases hj : C.ok a j
  · rw [if_pos hj, if_pos ((h.ok a j).mp hj)]; unfold Cell.dp; rw [h.da hj, h.den, h.t, h.p]
  · rw [if_neg hj, if_neg (fun x => hj ((h.ok a j).mpr x))]

theorem Same.dq : C.dq = D.dq := by
  funext g a x; unfold Cell.dq; rw [h.ds]
  refine Finset.sum_congr rfl fun j _ => ?_
  by_cases hj : C.ok a j
  · rw [h.k j x hj.2]
  · unfold Cell.ds; rw [if_neg (fun x => hj ((h.ok a j).mpr x))]; simp

theorem Same.dk : C.dk = D.dk := by funext j x; unfold Cell.dk; rw [h.ds, h.q]

theorem Same.dv : C.dv = D.dv := by funext j x; unfold Cell.dv; rw [h.p, h.den, h.d]

theorem Same.dsink : C.dsink = D.dsink := by funext g; unfold Cell.dsink; rw [h.t, h.e]

end Cell

end Cert.Swa

end
-- ==== Proof.Sums.lean ====
/-
  SUMS OVER SEVERAL AXES, READ AT AN INDEX, in the index vocabulary of the other files.
-/
module

public import Idealize.ShloMosaic.PureOps.Ideal.Laws
public import Idealize.ShloMosaic.Lib.ValueIdxCore
import Idealize.ShloMosaic.Lib.Pointwise.Reduce

@[expose] public section

namespace Cert.Swa

open Idealize.ShloMosaic

/-- A sum over the last two axes, the last of size one. -/
theorem reduceAdd_last_two {A B : ℕ} (h : (⟨3, ![A, B, 1]⟩ : Shape).Reduces [1, 2] ⟨1, ![A]⟩)
    (x : (⟨3, ![A, B, 1]⟩ : Shape).Idx → EReal) (g : Fin A) :
    Ideal.reduceAdd h x (ValueIdx.ix1 g) = ∑ a : Fin B, x (ValueIdx.ix3 g a 0) :=
  (Ideal.reduceAdd_r3_a12 h x _).trans (Finset.sum_congr rfl fun a _ => Fin.sum_univ_one _)

section Host
variable {N K G L : ℕ}

/-- The host's sum over the first and the fourth of five axes, the last of size one. -/
theorem hostSum_outer (h : (⟨5, ![N, K, G, L, 1]⟩ : Shape).ReducesTo [0, 3] ⟨3, ![K, G, 1]⟩)
    (x : (⟨5, ![N, K, G, L, 1]⟩ : Shape).Idx → EReal) (init : EReal) (κ : Fin K) (g : Fin G) :
    Ideal.hostReduceAdd h x init (ValueIdx.ix3 κ g 0) = init + ∑ n : Fin N, ∑ a : Fin L, x (ValueIdx.ix5 n κ g a 0) := by
  refine congrArg (init + ·) ((Finset.sum_filter_eq_sum_of_fiber _ (fun k : Fin N × Fin L => ValueIdx.ix5 k.1 κ g k.2 (0 : Fin 1))
    (fun _ _ e => Prod.ext (congrFun e 0) (congrFun e 3)) (fun i => ⟨fun e => ⟨(i 0, i 3), ?_⟩, ?_⟩) x).trans (Fintype.sum_prod_type _))
  · funext a; apply Fin.ext
    match a with
    | ⟨0, _⟩ => rfl
    | ⟨1, _⟩ => exact (congrArg Fin.val (congrFun e 0)).symm
    | ⟨2, _⟩ => exact (congrArg Fin.val (congrFun e 1)).symm
    | ⟨3, _⟩ => rfl
    | ⟨4, _⟩ => exact (congrArg Fin.val (congrFun e 2)).symm
  · rintro ⟨k, rfl⟩
    funext b; apply Fin.ext
    match b with
    | ⟨0, _⟩ => rfl
    | ⟨1, _⟩ => rfl
    | ⟨2, _⟩ => rfl

/-- The host's sum over three axes of size one. -/
theorem hostSum_unit (h : (⟨5, ![1, K, G, 1, 1]⟩ : Shape).ReducesTo [0, 3, 4] ⟨2, ![K, G]⟩)
    (x : (⟨5, ![1, K, G, 1, 1]⟩ : Shape).Idx → EReal) (init : EReal) (κ : Fin K) (g : Fin G) :
    Ideal.hostReduceAdd h x init (ValueIdx.ix2 κ g) = init + x (ValueIdx.ix5 0 κ g 0 0) := by
  refine congrArg (init + ·) ((Finset.sum_filter_eq_sum_of_fiber _ (fun _ : Unit => ValueIdx.ix5 (0 : Fin 1) κ g (0 : Fin 1) (0 : Fin 1))
    (fun _ _ _ => rfl) (fun i => ⟨fun e => ⟨(), ?_⟩, ?_⟩) x).trans (Fintype.sum_unique _))
  · funext a
    match a with
    | ⟨0, _⟩ => exact Subsingleton.elim (α := Fin 1) _ _
    | ⟨1, _⟩ => exact Fin.ext (congrArg Fin.val (congrFun e 0)).symm
    | ⟨2, _⟩ => exact Fin.ext (congrArg Fin.val (congrFun e 1)).symm
    | ⟨3, _⟩ => exact Subsingleton.elim (α := Fin 1) _ _
    | ⟨4, _⟩ => exact Subsingleton.elim (α := Fin 1) _ _
  · rintro ⟨k, rfl⟩
    funext b; apply Fin.ext
    match b with
    | ⟨0, _⟩ => rfl
    | ⟨1, _⟩ => rfl

/-- The host's sum over the last two axes of four, both of size one. -/
theorem hostSum_last (h : (⟨4, ![K, G, 1, 1]⟩ : Shape).ReducesTo [2, 3] ⟨2, ![K, G]⟩)
    (x : (⟨4, ![K, G, 1, 1]⟩ : Shape).Idx → EReal) (init : EReal) (κ : Fin K) (g : Fin G) :
    Ideal.hostReduceAdd h x init (ValueIdx.ix2 κ g) = init + x (ValueIdx.ix4 κ g 0 0) :=
  (Ideal.hostReduceAdd_r4_a23 h x init _).trans
    (congrArg (init + ·) ((Fin.sum_univ_one _).trans (Fin.sum_univ_one _)))

end Host

end Cert.Swa

end
-- ==== Proof.Eval.lean ====
/-
  THE KERNEL'S WORK READ AT AN INDEX. At the exact values each function of `Body.lean` is the cell's
  function of the same name (`Cell.lean`), whenever the loaded blocks hold the cell's real numbers.
-/
module

public import proofs.«01_k».proof.Proof.Body
public import proofs.«01_k».proof.Proof.Cell
public import Idealize.ShloMosaic.Lib.MatmulPlain
public import Idealize.ShloMosaic.Lib.Pipeline.Value
public import Idealize.ShloMosaic.Lib.ValueIdx
public import Idealize.ShloMosaic.Lib.WordCmp
public import proofs.«01_k».proof.Proof.Sums

@[expose] public section

noncomputable section

namespace Cert.KernelIdeal.Swa

open Idealize.ShloMosaic Idealize.ShloMosaic.ValueIdx Idealize.ShloMosaic.WordCmp Cert.KernelIdeal.Gen Cert.Swa

/-! ## Layout operations and products at an index -/

section Layout
variable {α : Type} {A B C R : ℕ}

/-- Merging the two leading axes. -/
theorem cast_merge (x : (⟨3, ![A, B, C]⟩ : Shape).Idx → α) (h : (⟨3, ![A, B, C]⟩ : Shape).ShapeCasts ⟨2, ![R, C]⟩)
    (g : Fin A) (a : Fin B) (c : Fin C) (r : Fin R) (hr : r.val = g.val * B + a.val) :
    shapeCast ⟨2, ![R, C]⟩ x h (ix2 r c) = x (ix3 g a c) :=
  shapeCast_apply x h _ _ (by
    rw [Shape.rowMajor_val_three, Shape.rowMajor_val_two]
    show (g.val * B + a.val) * C + c.val = r.val * C + c.val
    rw [hr])

/-- Splitting the leading axis in two. -/
theorem cast_split (x : (⟨2, ![R, C]⟩ : Shape).Idx → α) (h : (⟨2, ![R, C]⟩ : Shape).ShapeCasts ⟨3, ![A, B, C]⟩)
    (g : Fin A) (a : Fin B) (c : Fin C) (r : Fin R) (hr : r.val = g.val * B + a.val) :
    shapeCast ⟨3, ![A, B, C]⟩ x h (ix3 g a c) = x (ix2 r c) :=
  shapeCast_apply x h _ _ (by
    rw [Shape.rowMajor_val_three, Shape.rowMajor_val_two]
    show r.val * C + c.val = (g.val * B + a.val) * C + c.val
    rw [hr])

/-- Adding a trailing axis of size one. -/
theorem cast_unit (x : (⟨2, ![A, B]⟩ : Shape).Idx → α) (h : (⟨2, ![A, B]⟩ : Shape).ShapeCasts ⟨3, ![A, B, 1]⟩)
    (g : Fin A) (a : Fin B) : shapeCast ⟨3, ![A, B, 1]⟩ x h (ix3 g a 0) = x (ix2 g a) :=
  shapeCast_apply x h _ _ (by
    rw [Shape.rowMajor_val_three, Shape.rowMajor_val_two]
    show g.val * B + a.val = (g.val * B + a.val) * 1 + 0
    omega)

end Layout

/-- A product contracting the first axis of both operands, at an index. -/
theorem matmul_first_apply {K M N : ℕ} {φ₁ φ₂ : FTy} (D : DotDims ⟨2, ![K, M]⟩ ⟨2, ![K, N]⟩ ⟨2, ![M, N]⟩)
    (hr : D.contr.rank = 1) (hs : D.contr.size ⟨0, by omega⟩ = K)
    (hl : ∀ r c q, D.lhsIdx (ix2 r c) q = ix2 ((q ⟨0, by omega⟩).cast hs) r)
    (hR : ∀ r c q, D.rhsIdx (ix2 r c) q = ix2 ((q ⟨0, by omega⟩).cast hs) c)
    (prec : Option ContractPrecision) (lhs : FVec Ideal ⟨2, ![K, M]⟩ φ₁) (rhs : FVec Ideal ⟨2, ![K, N]⟩ φ₂)
    (acc : FVec Ideal ⟨2, ![M, N]⟩ .f32) (r : Fin M) (c : Fin N) :
    FloatOps.matmul D prec lhs rhs acc (ix2 r c) = acc (ix2 r c) + ∑ k : Fin K, lhs (ix2 k r) * rhs (ix2 k c) := by
  rw [Ideal.matmul_apply, ← Equiv.sum_comp (contrEquiv1 D K hr hs).symm]
  refine congrArg (acc (ix2 r c) + ·) (Finset.sum_congr rfl fun k _ => ?_)
  have hk : (((contrEquiv1 D K hr hs).symm k) ⟨0, by omega⟩).cast hs = k := Fin.ext (contrEquiv1_symm_val D K hr hs k)
  rw [hl, hR, hk]

/-- Query `a` of head `g` among the 1024 rows. -/
def rowOf (g : Fin 8) (a : Fin 128) : Fin 1024 := ⟨g.val * 128 + a.val, by have := g.isLt; have := a.isLt; omega⟩

/-- A sum over the rows is a sum over heads and queries. -/
theorem sum_rows {M : Type*} [AddCommMonoid M] (f : Fin 1024 → M) : ∑ r, f r = ∑ g, ∑ a, f (rowOf g a) := by
  rw [← Fintype.sum_prod_type' (fun g a => f (rowOf g a))]
  refine (Fintype.sum_equiv (finProdFinEquiv (m := 8) (n := 128)) _ _ fun x => ?_).symm
  exact congrArg f (Fin.ext (by show x.1.val * 128 + x.2.val = x.2.val + 128 * x.1.val; ring))

/-! ## The functions of the body -/

theorem bits_eighth : Ideal.ofBits .f32 0x3E000000#32 = ((1 / 8 : ℝ) : EReal) := by
  simp [Ideal.ofBits, Ideal.ieee, -EReal.coe_mul]; norm_num

theorem bits_bot : Ideal.ofBits .f32 0xFF800000#32 = ⊥ := by simp [Ideal.ofBits, Ideal.ieee]

theorem splat_apply (S : Shape) (w : BitVec 32) (i : S.Idx) : splat (F := Ideal) S w i = Ideal.ofBits .f32 w := rfl

theorem rows_apply (q : FVec Ideal S8x128x64 .f32) (g : Fin 8) (a : Fin 128) (x : Fin 64) :
    rows q (ix2 (rowOf g a) x) = q (ix3 g a x) := by
  unfold rows; rw [shapeCast_self]
  exact cast_merge q _ g a x _ rfl

theorem drows_apply (d : FVec Ideal S8x128x64 .bf16) (g : Fin 8) (a : Fin 128) (x : Fin 64) :
    drows d (ix2 (rowOf g a) x) = d (ix3 g a x) := by
  unfold drows; rw [shapeCast_self]
  exact cast_merge (extf .f32 d bitsLt_bf16_f32) _ g a x _ rfl

theorem block_apply (k : FVec Ideal S1x128x64 .f32) (h) (a : Fin 128) (x : Fin 64) :
    shapeCast S128x64 k h (ix2 a x) = k (ix3 0 a x) :=
  cast_merge k h 0 a x a (by simp)

/-- The band reads its first half in the block before and its second half in the block. -/
theorem band_apply (k₀ k₁ : FVec Ideal S1x128x64 .f32) (K : Fin 256 → Fin 64 → ℝ)
    (h₀ : ∀ (a : Fin 128) x, k₀ (ix3 0 a x) = ((K ⟨a.val, by omega⟩ x : ℝ) : EReal))
    (h₁ : ∀ (a : Fin 128) x, k₁ (ix3 0 a x) = ((K ⟨128 + a.val, by omega⟩ x : ℝ) : EReal)) (j : Fin 256) (x : Fin 64) :
    band k₀ k₁ (ix2 j x) = ((K j x : ℝ) : EReal) := by
  unfold band
  by_cases hj : j.val < 128
  · refine (concatenate_pair_apply_left (t := S256x64) (s₁ := S128x64) (s₂ := S128x64) 0 _ _ _ _ rfl (ix2 ⟨j.val, hj⟩ x) ?_).trans ?_
    · intro b; fin_cases b <;> rfl
    · rw [block_apply, h₀]
  · refine (concatenate_pair_apply_right (t := S256x64) (s₁ := S128x64) (s₂ := S128x64) 0 _ _ _ _ rfl rfl (ix2 ⟨j.val - 128, by omega⟩ x) ?_ ?_).trans ?_
    · intro b hb; fin_cases b
      · exact absurd rfl hb
      · rfl
    · show j.val - 128 + 128 = j.val; omega
    · rw [block_apply, h₁]
      have : (⟨128 + (j.val - 128), by omega⟩ : Fin 256) = j := Fin.ext (by show 128 + (j.val - 128) = j.val; omega)
      rw [this]

theorem prod_apply (r : FVec Ideal S1024x64 .f32) (b : FVec Ideal S256x64 .f32) (g : Fin 8) (a : Fin 128) (j : Fin 256) :
    prod r b (ix3 g a j) = ∑ x : Fin 64, (r (ix2 (rowOf g a) x) * b (ix2 j x) : EReal) := by
  unfold prod
  refine (cast_split _ _ g a j (rowOf g a) rfl).trans ?_
  refine (Ideal.matmul_transposedRhs_apply (M := 1024) (K := 64) (N := 256) none _ _ _ (rowOf g a) j).trans ?_
  rw [constant_apply]
  refine (congrArg (· + _) Ideal.ofBits_zero_f32).trans ?_
  rw [zero_add]; rfl

theorem dist_toInt (a : Fin 128) (j : Fin 256) : (dist (ix3 (n0 := 1) 0 a j)).toInt = (a.val : ℤ) + 128 - (j.val : ℤ) := by
  have e : dist (ix3 (n0 := 1) 0 a j) = BitVec.ofNat 32 a.val + 128#32 - BitVec.ofNat 32 j.val := by
    unfold dist pos
    show IntOp.subi (IntOp.addi (iota .tc S1x128x256 32 [1] _ _) 128#32) (iota .tc S1x128x256 32 [2] _ _) = _
    rw [iota_single_apply, iota_single_apply]; rfl
  rw [e]
  have := a.isLt; have := j.isLt
  have ea : (BitVec.ofNat 32 a.val).toInt = (a.val : ℤ) := toInt_ofNat_of_lt (by omega)
  have ej : (BitVec.ofNat 32 j.val).toInt = (j.val : ℤ) := toInt_ofNat_of_lt (by omega)
  have e128 : (128#32).toInt = 128 := rfl
  rw [BitVec.toInt_sub, BitVec.toInt_add, ea, ej, e128]
  simp only [Int.bmod_def]; omega

open Classical in
theorem mask_apply (hp : BitVec 1) (prev : Prop) (h : hp = BitVec.ofBool (decide prev)) (g : Fin 8) (a : Fin 128) (j : Fin 256) :
    mask hp (ix3 g a j) = BitVec.ofBool (decide ((a.val < j.val ∧ j.val ≤ a.val + 128) ∧ (prev ∨ 128 ≤ j.val))) := by
  unfold mask
  refine (broadcastTo_apply _ _ _ (ix3 (n0 := 1) 0 a j) ?_).trans ?_
  · intro b; fin_cases b <;> rfl
  rw [shapeCast_self]
  show IntOp.andi (IntOp.andi (IntOp.cmpi .sge (dist (ix3 (n0 := 1) 0 a j)) 0#32) (IntOp.cmpi .slt (dist (ix3 (n0 := 1) 0 a j)) 128#32))
    (IntOp.ori hp (IntOp.cmpi .sge (pos (ix3 (n0 := 1) 0 a j)) 128#32)) = _
  have ep : pos (ix3 (n0 := 1) 0 a j) = BitVec.ofNat 32 j.val := iota_single_apply _ _ _ _ _ _
  have := a.isLt; have := j.isLt
  have ej : (BitVec.ofNat 32 j.val).toInt = (j.val : ℤ) := toInt_ofNat_of_lt (by omega)
  have e128 : (128#32).toInt = 128 := rfl
  have e0 : (0#32).toInt = 0 := rfl
  rw [ep, cmpi_sge_eq, cmpi_slt_eq, cmpi_sge_eq, dist_toInt, ej, h, e128, e0]
  refine (congrArg₂ _ (BitVec.ofBool_and_ofBool ..) (BitVec.ofBool_or_ofBool ..)).trans ((BitVec.ofBool_and_ofBool ..).trans ?_)
  rw [← Bool.decide_and, ← Bool.decide_or, ← Bool.decide_and]
  exact congrArg _ (decide_eq_decide.mpr (and_congr (by omega) (or_congr_right (by omega))))

/-- One value per query, read at a key. -/
theorem wide_apply (x : FVec Ideal S8x128x1 .f32) (g : Fin 8) (a : Fin 128) (j : Fin 256) : wide x (ix3 g a j) = x (ix3 g a 0) :=
  broadcastTo_apply _ _ _ (ix3 g a (0 : Fin 1)) (by intro b; fin_cases b <;> rfl)

theorem sinks_apply (x : FVec Ideal S8x1x1 .f32) (g : Fin 8) (a : Fin 128) : sinks x (ix3 g a 0) = x (ix3 g 0 0) := by
  unfold sinks
  refine (broadcastTo_apply _ _ _ (ix3 g (0 : Fin 1) (0 : Fin 1)) (by intro b; fin_cases b <;> rfl)).trans ?_
  rw [shapeCast_self]

theorem rowSum_apply (x : FVec Ideal S8x128x256 .f32) (g : Fin 8) (a : Fin 128) : rowSum x (ix3 g a 0) = ∑ j : Fin 256, (x (ix3 g a j) : EReal) := by
  unfold rowSum
  refine (cast_unit _ _ g a).trans ?_
  refine (Ideal.multiReduction_add_single (φ := .f32) x _ reduces_S8x128x256_S8x128 (.inl rfl) rfl (ix2 g a)).trans ?_
  refine Finset.sum_congr rfl fun j _ => congrArg x ?_
  funext b; fin_cases b <;> rfl

theorem rowMax_apply (x : FVec Ideal S8x128x256 .f32) (g : Fin 8) (a : Fin 128) :
    shapeCast S8x128x1 (multiReduction .maximumf [2] S8x128 x 0xFF800000#32 reduces_S8x128x256_S8x128 (.inl rfl) rfl)
      shapeCasts_S8x128_S8x128x1 (ix3 g a 0) = (Finset.univ : Finset (Fin 256)).fold max ⊥ fun j => (x (ix3 g a j) : EReal) := by
  refine (cast_unit _ _ g a).trans ?_
  refine (Ideal.multiReduction_maximumf_single (φ := .f32) x _ reduces_S8x128x256_S8x128 (.inl rfl) rfl (ix2 g a)).trans ?_
  rw [← bits_bot]
  refine congrArg (fun f => Finset.univ.fold max _ f) (funext fun j => congrArg x ?_)
  funext b; fin_cases b <;> rfl

/-- A sum over a trailing axis of size one. -/
theorem unitSum_apply (x : FVec Ideal S8x128x1 .f32) (g : Fin 8) (a : Fin 128) :
    shapeCast S8x128x1 (multiReduction .add [2] S8x128 x 0x00000000#32 reduces_S8x128x1_S8x128 (.inl rfl) rfl) shapeCasts_S8x128_S8x128x1
      (ix3 g a 0) = (x (ix3 g a 0) : EReal) := by
  refine (cast_unit _ _ g a).trans ?_
  refine (Ideal.multiReduction_add_single (φ := .f32) x _ reduces_S8x128x1_S8x128 (.inl rfl) rfl (ix2 g a)).trans ?_
  refine (Fin.sum_univ_one _).trans (congrArg x ?_)
  funext b; fin_cases b <;> rfl

/-- A sum over a head's queries. -/
theorem headSum_apply (x : FVec Ideal S8x128x1 .f32) (g : Fin 8) :
    shapeCast S8x1x1 (shapeCast S8x1 (multiReduction .add [1, 2] S8 x 0x00000000#32 reduces_S8x128x1_S8 (.inl rfl) rfl) shapeCasts_S8_S8x1)
      shapeCasts_S8x1_S8x1x1 (ix3 g 0 0) = ∑ a : Fin 128, (x (ix3 g a 0) : EReal) := by
  refine (cast_unit _ _ g 0).trans ?_
  refine (shapeCast_apply _ _ _ (ix1 g) (by rw [Shape.rowMajor_val_one, Shape.rowMajor_val_two]; show g.val = g.val * 1 + 0; omega)).trans ?_
  exact reduceAdd_last_two (A := 8) (B := 128) reduces_S8x128x1_S8 x g

theorem back_apply (w : FVec Ideal S1024x256 .f32) (r : FVec Ideal S1024x64 .f32) (j : Fin 256) (x : Fin 64) :
    back w r (ix2 j x) = ∑ g : Fin 8, ∑ a : Fin 128, (w (ix2 (rowOf g a) j) * r (ix2 (rowOf g a) x) : EReal) := by
  unfold back
  refine (matmul_first_apply (K := 1024) (M := 256) (N := 64) dot_S1024x256_S1024x64_S256x64_0_0_1_1_n_n rfl rfl
    (fun r c q => by funext b; fin_cases b <;> rfl) (fun r c q => by funext b; fin_cases b <;> rfl) none _ _ _ j x).trans ?_
  rw [constant_apply]
  refine (congrArg (· + _) Ideal.ofBits_zero_f32).trans ?_
  rw [zero_add]
  exact sum_rows _

theorem spread_apply (w : FVec Ideal S1024x256 .f32) (b : FVec Ideal S256x64 .f32) (h) (g : Fin 8) (a : Fin 128) (x : Fin 64) :
    shapeCast S8x128x64 (matmul dot_S1024x256_S256x64_S1024x64_1_0_0_1_n_n none (truncf .bf16 w bitsLt_bf16_f32)
      (truncf .bf16 b bitsLt_bf16_f32) (constant S1024x64 .f32 0x00000000#32)) h (ix3 g a x)
      = ∑ j : Fin 256, (w (ix2 (rowOf g a) j) * b (ix2 j x) : EReal) := by
  refine (cast_split _ _ g a x (rowOf g a) rfl).trans ?_
  refine (Ideal.matmul_plain_apply (M := 1024) (K := 256) (N := 64) none _ _ _ (rowOf g a) x).trans ?_
  rw [constant_apply]
  refine (congrArg (· + _) Ideal.ofBits_zero_f32).trans ?_
  rw [zero_add]; rfl

theorem first_apply (z : FVec Ideal S256x64 .f32) (a : Fin 128) (x : Fin 64) : first z (ix3 0 a x) = z (ix2 ⟨a.val, by omega⟩ x) := by
  unfold first
  refine (cast_split _ _ 0 a x a (by simp)).trans ?_
  exact extractStridedSlice_apply _ _ _ _ _ (by intro b; fin_cases b <;> simp)

theorem second_apply (z : FVec Ideal S256x64 .f32) (k : FVec Ideal S1x128x64 .f32) (a : Fin 128) (x : Fin 64) :
    second z k (ix3 0 a x) = (z (ix2 ⟨128 + a.val, by omega⟩ x) + k (ix3 0 a x) : EReal) := by
  unfold second
  refine (cast_split _ _ 0 a x a (by simp)).trans ?_
  refine congrArg₂ (· + ·) ?_ (block_apply k _ a x)
  exact extractStridedSlice_apply _ _ _ _ _ (by intro b; fin_cases b <;> simp)

theorem plus_apply (c g : FVec Ideal S8x1x1 .f32) (i : S8x1x1.Idx) : plus c g i = (c i + g i : EReal) := by
  unfold plus; rw [shapeCast_self]; rfl

/-- What the loaded blocks hold: the cell's real numbers. -/
structure Reads (L : Loads Ideal) (C : Cell) : Prop where
  hp : ∀ {inst : Decidable C.prev}, L.hp = BitVec.ofBool (decide C.prev)
  q : ∀ g a x, L.q (ix3 g a x) = ((C.q g a x : ℝ) : EReal)
  k₀ : ∀ (a : Fin 128) x, L.k₀ (ix3 0 a x) = ((C.k ⟨a.val, by omega⟩ x : ℝ) : EReal)
  k₁ : ∀ (a : Fin 128) x, L.k₁ (ix3 0 a x) = ((C.k ⟨128 + a.val, by omega⟩ x : ℝ) : EReal)
  v₀ : ∀ (a : Fin 128) x, L.v₀ (ix3 0 a x) = ((C.v ⟨a.val, by omega⟩ x : ℝ) : EReal)
  v₁ : ∀ (a : Fin 128) x, L.v₁ (ix3 0 a x) = ((C.v ⟨128 + a.val, by omega⟩ x : ℝ) : EReal)
  sink : ∀ g, L.sink (ix3 g 0 0) = ((C.sink g : ℝ) : EReal)
  slope : ∀ g, L.slope (ix3 g 0 0) = ((C.slope g : ℝ) : EReal)
  d : ∀ g a x, L.d (ix3 g a x) = ((C.d g a x : ℝ) : EReal)

namespace Reads
variable {L : Loads Ideal} {C : Cell} (H : Reads L C)
include H

theorem s_apply (g : Fin 8) (a : Fin 128) (j : Fin 256) : L.s (ix3 g a j) = C.score g a j := by
  classical
  have e1 : prod (rows L.q) (band L.k₀ L.k₁) (ix3 g a j) = ((∑ x, C.q g a x * C.k j x : ℝ) : EReal) := by
    rw [prod_apply, ← sum_coe_mul]
    refine Finset.sum_congr rfl fun x _ => ?_
    rw [rows_apply, H.q, band_apply _ _ C.k H.k₀ H.k₁]
  have e2 : broadcastTo S8x128x256 (shapeCast S8x1x1 L.slope shapeCasts_S8x1x1_S8x1x1) broadcasts_S8x1x1_S8x128x256 (ix3 g a j)
      = ((C.slope g : ℝ) : EReal) := by
    refine (broadcastTo_apply _ _ _ (ix3 g (0 : Fin 1) (0 : Fin 1)) (by intro b; fin_cases b <;> rfl)).trans ?_
    rw [shapeCast_self]; exact H.slope g
  have e3 : broadcastTo S8x128x256 (sitofp (F := Ideal) .f32 dist) broadcasts_S1x128x256_S8x128x256 (ix3 g a j)
      = ((((a.val : ℤ) + 128 - (j.val : ℤ) : ℤ) : ℝ) : EReal) := by
    refine (broadcastTo_apply _ _ _ (ix3 (0 : Fin 1) a j) (by intro b; fin_cases b <;> rfl)).trans ?_
    rw [← dist_toInt]; rfl
  unfold Loads.s score
  rw [select_apply, mask_apply _ C.prev H.hp, subf_apply, mulf_apply, mulf_apply, e1, e2, e3, splat_apply, splat_apply, bits_eighth, bits_bot]
  unfold Cell.score Cell.raw
  by_cases h : C.ok a j
  · rw [if_pos h]
    have h' := h; unfold Cell.ok at h'
    rw [decide_eq_true h', EReal.coe_sub, EReal.coe_mul, EReal.coe_mul]; rfl
  · rw [if_neg h]
    have h' := h; unfold Cell.ok at h'
    rw [decide_eq_false h']; rfl

theorem top_apply (g : Fin 8) (a : Fin 128) : top L.s L.sink (ix3 g a 0) = C.top g a := by
  unfold top
  rw [maximumf_apply, sinks_apply, H.sink, rowMax_apply]
  unfold Cell.top
  have e : (fun j => (L.s (ix3 g a j) : EReal)) = C.score g a := funext fun j => H.s_apply g a j
  rw [e]

theorem pexp_apply (g : Fin 8) (a : Fin 128) (j : Fin 256) : pexp L.s L.sink (ix3 g a j) = ((C.p g a j : ℝ) : EReal) := by
  rw [← C.exp_score, ← H.top_apply, ← H.s_apply, ← wide_apply (top L.s L.sink) g a j]; rfl

theorem sexp_apply (g : Fin 8) (a : Fin 128) : sexp L.s L.sink (ix3 g a 0) = ((C.e g a : ℝ) : EReal) := by
  have e : sexp L.s L.sink (ix3 g a 0) = Ideal.exp (sinks L.sink (ix3 g a 0) - top L.s L.sink (ix3 g a 0)) := rfl
  rw [e, H.top_apply, sinks_apply, H.sink, C.top_eq, ← EReal.coe_sub, Ideal.exp_coe]; rfl

theorem den_apply (g : Fin 8) (a : Fin 128) : den L.s L.sink (ix3 g a 0) = ((C.den g a : ℝ) : EReal) := by
  unfold den
  rw [addf_apply, rowSum_apply, H.sexp_apply]
  unfold Cell.den
  rw [EReal.coe_add, coe_sum]
  exact congrArg (· + _) (Finset.sum_congr rfl fun j _ => H.pexp_apply g a j)

theorem da_apply (g : Fin 8) (a : Fin 128) (j : Fin 256) : L.da (ix3 g a j) = ((C.da g a j : ℝ) : EReal) := by
  unfold Loads.da Cell.da
  rw [prod_apply, ← sum_coe_mul]
  refine Finset.sum_congr rfl fun x _ => ?_
  rw [drows_apply, H.d, band_apply _ _ C.v H.v₀ H.v₁]

theorem dden_apply (g : Fin 8) (a : Fin 128) : dden L.s L.sink L.da (ix3 g a 0) = ((C.t g a : ℝ) : EReal) := by
  unfold dden Cell.t
  rw [subf_apply, rowSum_apply, splat_apply, EReal.coe_neg, coe_sum]
  rw [Ideal.ofBits_zero_f32, zero_sub]
  refine congrArg _ (Finset.sum_congr rfl fun j _ => ?_)
  rw [mulf_apply, mulf_apply, wide_apply, H.pexp_apply, H.da_apply, divf_apply, mulf_apply, H.den_apply, EReal.coe_mul, EReal.coe_mul,
    ← div_coe_coe (mul_ne_zero (C.den_ne g a) (C.den_ne g a)), EReal.coe_mul, EReal.coe_one, ← Ideal.ofBits_one_f32]
  rfl

theorem ds_apply (g : Fin 8) (a : Fin 128) (j : Fin 256) : L.ds (ix2 (rowOf g a) j) = ((C.ds g a j : ℝ) : EReal) := by
  classical
  unfold Loads.ds dscore
  refine (cast_merge _ _ g a j (rowOf g a) rfl).trans ?_
  rw [mulf_apply, select_apply, mask_apply _ C.prev H.hp, mulf_apply, addf_apply, divf_apply, wide_apply, wide_apply, unitSum_apply,
    H.da_apply, H.den_apply, H.dden_apply, H.pexp_apply, splat_apply, splat_apply, bits_eighth, Ideal.ofBits_zero_f32,
    div_coe_coe (C.den_ne g a), ← EReal.coe_add, ← EReal.coe_mul]
  unfold Cell.ds
  by_cases h : C.ok a j
  · rw [if_pos h]
    have h' := h; unfold Cell.ok at h'
    rw [decide_eq_true h', EReal.coe_mul]; rfl
  · rw [if_neg h]
    have h' := h; unfold Cell.ok at h'
    rw [decide_eq_false h', EReal.coe_mul]; rfl

theorem dq_apply (g : Fin 8) (a : Fin 128) (x : Fin 64) : L.dq (ix3 g a x) = ((C.dq g a x : ℝ) : EReal) := by
  unfold Loads.dq Cell.dq
  rw [truncf_apply]
  refine (spread_apply L.ds (band L.k₀ L.k₁) _ g a x).trans ?_
  rw [← sum_coe_mul]
  exact Finset.sum_congr rfl fun j _ => by rw [H.ds_apply, band_apply _ _ C.k H.k₀ H.k₁]

theorem dk_apply (j : Fin 256) (x : Fin 64) : L.dk (ix2 j x) = ((C.dk j x : ℝ) : EReal) := by
  unfold Loads.dk Cell.dk
  rw [back_apply, coe_sum]
  refine Finset.sum_congr rfl fun g _ => ?_
  rw [← sum_coe_mul]
  exact Finset.sum_congr rfl fun a _ => by rw [H.ds_apply, rows_apply, H.q]

theorem dv_apply (j : Fin 256) (x : Fin 64) : L.dv (ix2 j x) = ((C.dv j x : ℝ) : EReal) := by
  unfold Loads.dv Cell.dv
  rw [back_apply, coe_sum]
  refine Finset.sum_congr rfl fun g _ => ?_
  rw [← sum_coe_mul]
  refine Finset.sum_congr rfl fun a _ => ?_
  rw [drows_apply, H.d]
  refine congrArg (· * _) ((cast_merge _ _ g a j (rowOf g a) rfl).trans ?_)
  rw [divf_apply, wide_apply, H.pexp_apply, H.den_apply, div_coe_coe (C.den_ne g a)]

theorem dsink_apply (g : Fin 8) : L.dsink (ix3 g 0 0) = ((C.dsink g : ℝ) : EReal) := by
  unfold Loads.dsink Cell.dsink
  rw [headSum_apply, ← sum_coe_mul]
  exact Finset.sum_congr rfl fun a _ => by rw [mulf_apply, H.dden_apply, H.sexp_apply]

end Reads

end Cert.KernelIdeal.Swa

end
-- ==== Proof.Whole.lean ====
/-
  THE WHOLE LAYER OUT OF CELLS. From real queries, keys, values, sinks and an incoming gradient in the layer's own
  layout, the cell of every block of 128 positions and every key-value head. The four gradients of sliding-window
  attention are these cells' gradients: a block's keys and values collect from the block itself and from the next.
-/
module

public import proofs.«01_k».proof.Proof.Cell

@[expose] public section

noncomputable section

namespace Cert.Swa

/-- The arguments as real arrays: the layer's queries, keys, values, sinks and incoming gradient. -/
structure Args where
  q : Fin 4096 → Fin 2048 → ℝ
  k : Fin 4096 → Fin 256 → ℝ
  v : Fin 4096 → Fin 256 → ℝ
  s : Fin 32 → ℝ
  d : Fin 4096 → Fin 2048 → ℝ

/-- Position `a` of block `n`. -/
def rowIn (n : Fin 32) (a : Fin 128) : Fin 4096 := ⟨128 * n.val + a.val, by omega⟩

/-- Position of key `j` of the band of block `n` (for the first block the band's first half is the block itself). -/
def rowBand (n : Fin 32) (j : Fin 256) : Fin 4096 :=
  ⟨if j.val < 128 then 128 * (n.val - 1) + j.val else 128 * n.val + (j.val - 128), by split <;> omega⟩

/-- Query head `g` of key-value head `κ`. -/
def headOf (κ : Fin 4) (g : Fin 8) : Fin 32 := ⟨8 * κ.val + g.val, by omega⟩

/-- Channel `x` of query head `h`. -/
def colQ (h : Fin 32) (x : Fin 64) : Fin 2048 := ⟨64 * h.val + x.val, by omega⟩

/-- Channel `x` of key-value head `κ`. -/
def colK (κ : Fin 4) (x : Fin 64) : Fin 256 := ⟨64 * κ.val + x.val, by omega⟩

/-- The slope of query head `h`'s distance bias. -/
def slopeOf (h : Fin 32) : ℝ := (2 : ℝ) ^ ((-8 * (1 + (h.val : ℝ))) / 32)

namespace Args

variable (A : Args)

/-- The cell of block `n` and key-value head `κ`. -/
def cell (n : Fin 32) (κ : Fin 4) : Cell where
  prev := 0 < n.val
  q g a x := A.q (rowIn n a) (colQ (headOf κ g) x)
  k j x := A.k (rowBand n j) (colK κ x)
  v j x := A.v (rowBand n j) (colK κ x)
  sink g := A.s (headOf κ g)
  slope g := slopeOf (headOf κ g)
  d g a x := A.d (rowIn n a) (colQ (headOf κ g) x)

open Classical in
/-- The same cell with a zero block of keys and values before the first block. -/
def cellZ (n : Fin 32) (κ : Fin 4) : Cell where
  prev := 0 < n.val
  q g a x := A.q (rowIn n a) (colQ (headOf κ g) x)
  k j x := if 0 < n.val ∨ 128 ≤ j.val then A.k (rowBand n j) (colK κ x) else 0
  v j x := if 0 < n.val ∨ 128 ≤ j.val then A.v (rowBand n j) (colK κ x) else 0
  sink g := A.s (headOf κ g)
  slope g := slopeOf (headOf κ g)
  d g a x := A.d (rowIn n a) (colQ (headOf κ g) x)

theorem same_cell (n : Fin 32) (κ : Fin 4) : Cell.Same (A.cellZ n κ) (A.cell n κ) where
  prev := Iff.rfl
  q := rfl
  k j x h := if_pos h
  v j x h := if_pos h
  sink := rfl
  slope := rfl
  d := rfl

/-- The gradient of the queries. -/
def dq (n : Fin 32) (κ : Fin 4) (g : Fin 8) (a : Fin 128) (x : Fin 64) : ℝ := (A.cell n κ).dq g a x

/-- What the next block's band adds to a block's array `f`: nothing for the last block. -/
def next (f : Fin 32 → ℝ) (n : Fin 32) : ℝ := if h : n.val + 1 < 32 then f ⟨n.val + 1, h⟩ else 0

/-- The gradient of the keys. -/
def dk (n : Fin 32) (κ : Fin 4) (a : Fin 128) (x : Fin 64) : ℝ :=
  (A.cell n κ).dk ⟨128 + a.val, by omega⟩ x + next (fun n' => (A.cell n' κ).dk ⟨a.val, by omega⟩ x) n

/-- The gradient of the values. -/
def dv (n : Fin 32) (κ : Fin 4) (a : Fin 128) (x : Fin 64) : ℝ :=
  (A.cell n κ).dv ⟨128 + a.val, by omega⟩ x + next (fun n' => (A.cell n' κ).dv ⟨a.val, by omega⟩ x) n

/-- The gradient of the sinks. -/
def dsink (κ : Fin 4) (g : Fin 8) : ℝ := ∑ n, (A.cell n κ).dsink g

end Args

end Cert.Swa

end
-- ==== Proof.Slope.lean ====
/-
  THE SLOPE OF A HEAD'S DISTANCE BIAS, as both programs compute it: `2 ^ (−8 (1 + h) / 32)` by the same chain of
  operations over the same constants.
-/
module

public import proofs.«01_k».proof.Proof.Whole
public import Idealize.ShloMosaic.Lib.WordCmp

@[expose] public section

noncomputable section

namespace Cert.Swa

open Idealize.ShloMosaic

theorem bits_two : Ideal.ofBits .f32 0x40000000#32 = ((2 : ℝ) : EReal) := by
  simp [Ideal.ofBits, Ideal.ieee, -EReal.coe_mul]; norm_num

theorem bits_thirtytwo : Ideal.ofBits .f32 0x42000000#32 = ((32 : ℝ) : EReal) := by
  simp [Ideal.ofBits, Ideal.ieee, -EReal.coe_mul]; norm_num

theorem bits_minus_eight : Ideal.ofBits .f32 0xC1000000#32 = ((-8 : ℝ) : EReal) := by
  simp [Ideal.ofBits, Ideal.ieee, -EReal.coe_mul]; norm_num

theorem slope_scalar (h : Fin 32) (w : BitVec 32) (hw : w = BitVec.ofNat 32 h.val) :
    (FloatOps.hostPowf (F := Ideal) (φ := .f32) (Ideal.ofBits .f32 0x40000000#32)
      (FloatOps.hostDivf (F := Ideal) (φ := .f32)
        (FloatOps.mulf (F := Ideal) (φ := .f32) (Ideal.ofBits .f32 0xC1000000#32)
          (FloatOps.addf (F := Ideal) (φ := .f32) (Ideal.ofBits .f32 0x3F800000#32) (FloatOps.sitofp (F := Ideal) .f32 w)))
        (Ideal.ofBits .f32 0x42000000#32)) : EReal) = ((slopeOf h : ℝ) : EReal) := by
  have hi : w.toInt = (h.val : ℤ) := by rw [hw]; exact WordCmp.toInt_ofNat_of_lt (by omega)
  show Ideal.pow (Ideal.ofBits .f32 0x40000000#32) (Ideal.div (Ideal.ofBits .f32 0xC1000000#32 *
    (Ideal.ofBits .f32 0x3F800000#32 + ((w.toInt : ℝ) : EReal))) (Ideal.ofBits .f32 0x42000000#32)) = _
  rw [bits_two, bits_thirtytwo, bits_minus_eight, Ideal.ofBits_one_f32, hi, ← EReal.coe_one, ← EReal.coe_add, ← EReal.coe_mul,
    div_coe_coe (by norm_num), Ideal.pow_coe_coe]
  unfold slopeOf
  norm_num

end Cert.Swa

end
-- ==== Proof.Blocks.lean ====
/-
  WHAT THE KERNEL READS. Each window's block at a grid point, as entries of the arguments, once the arguments are
  real numbers: point `t` handles block `31 − t`, so its loads hold the cell of that block.
-/
module

public import proofs.«01_k».proof.Proof.Pieces
public import proofs.«01_k».proof.Proof.Eval
public import proofs.«01_k».proof.Proof.Slope
public import proofs.«01_k».proof.Proof.Gen.KernelIdeal.Value
public import Idealize.ShloMosaic.Lib.Pipeline.ValueKit
public import Idealize.ShloMosaic.Lib.Claim

@[expose] public section

noncomputable section

namespace Cert.KernelIdeal.Swa

open Idealize.ShloMosaic hiding ix1 ix2 ix3
open Idealize.ShloMosaic.TcCoe Idealize.ShloMosaic.ValueIdx Cert.KernelIdeal Cert.KernelIdeal.Gen Cert.Swa

variable (m : (ℓ : Loc nD τ sig) → Buf (Elt Ideal) ℓ) (c : Dev nD)

/-- The five arguments hold these real numbers. -/
structure Holds (A : Args) : Prop where
  q : ∀ r u, (m ((c : Thread nD τ).loc main_arg0) (ix2 r u) : EReal) = ((A.q r u : ℝ) : EReal)
  k : ∀ r u, (m ((c : Thread nD τ).loc main_arg1) (ix2 r u) : EReal) = ((A.k r u : ℝ) : EReal)
  v : ∀ r u, (m ((c : Thread nD τ).loc main_arg2) (ix2 r u) : EReal) = ((A.v r u : ℝ) : EReal)
  s : ∀ h, (m ((c : Thread nD τ).loc main_arg3) (ix1 h) : EReal) = ((A.s h : ℝ) : EReal)
  d : ∀ r u, (m ((c : Thread nD τ).loc main_arg4) (ix2 r u) : EReal) = ((A.d r u : ℝ) : EReal)

/-! ## The arrays the kernel's call is given -/

/-- Splitting the columns into heads and moving the heads to the front. -/
theorem heads_apply {α : Type} {R H D E : ℕ} (x : (⟨2, ![R, E]⟩ : Shape).Idx → α)
    (h : (⟨2, ![R, E]⟩ : Shape).ShapeCasts ⟨3, ![R, H, D]⟩) (ht : (⟨3, ![R, H, D]⟩ : Shape).Transposes [1, 0, 2] ⟨3, ![H, R, D]⟩)
    (g : Fin H) (r : Fin R) (d : Fin D) (u : Fin E) (hu : u.val = D * g.val + d.val) (hE : E = H * D) :
    transpose ⟨3, ![H, R, D]⟩ [1, 0, 2] (shapeCast ⟨3, ![R, H, D]⟩ x h) ht (ix3 g r d) = x (ix2 r u) := by
  rw [transpose_apply [1, 0, 2] _ _ (ix3 g r d) (ix3 r g d) (by intro a; fin_cases a <;> rfl)]
  exact shapeCast_apply x h _ _ (by
    rw [Shape.rowMajor_val_three, Shape.rowMajor_val_two]
    show r.val * E + u.val = (r.val * H + g.val) * D + d.val
    subst hE; rw [hu]; ring)

/-- Adding two trailing axes of size one. -/
theorem column_apply {α : Type} {n : ℕ} (x : (⟨1, ![n]⟩ : Shape).Idx → α) (h : (⟨1, ![n]⟩ : Shape).ShapeCasts ⟨3, ![n, 1, 1]⟩) (i : Fin n) :
    shapeCast ⟨3, ![n, 1, 1]⟩ x h (ix3 i 0 0) = x (ix1 i) :=
  shapeCast_apply x h _ _ (by
    rw [Shape.rowMajor_val_three, Shape.rowMajor_val_one]
    show i.val = (i.val * 1 + 0) * 1 + 0
    omega)

variable {A : Args} (H : Holds m c A)
include H

theorem V_q (h : Fin 32) (r : Fin 4096) (x : Fin 64) : (V m c main_v1 (ix3 h r x) : EReal) = ((A.q r (colQ h x) : ℝ) : EReal) := by
  entry_read
  exact (heads_apply _ _ _ h r x (colQ h x) rfl rfl).trans (H.q r (colQ h x))

theorem V_k (h : Fin 4) (r : Fin 4096) (x : Fin 64) : (V m c main_v3 (ix3 h r x) : EReal) = ((A.k r (colK h x) : ℝ) : EReal) := by
  entry_read
  exact (heads_apply _ _ _ h r x (colK h x) rfl rfl).trans (H.k r (colK h x))

theorem V_v (h : Fin 4) (r : Fin 4096) (x : Fin 64) : (V m c main_v5 (ix3 h r x) : EReal) = ((A.v r (colK h x) : ℝ) : EReal) := by
  entry_read
  exact (heads_apply _ _ _ h r x (colK h x) rfl rfl).trans (H.v r (colK h x))

theorem V_s (h : Fin 32) : (V m c main_v6 (ix3 h 0 0) : EReal) = ((A.s h : ℝ) : EReal) := by
  entry_read
  exact (column_apply _ _ h).trans (H.s h)

theorem V_d (h : Fin 32) (r : Fin 4096) (x : Fin 64) : (V m c main_v8 (ix3 h r x) : EReal) = ((A.d r (colQ h x) : ℝ) : EReal) := by
  entry_read
  exact (heads_apply _ _ _ h r x (colQ h x) rfl rfl).trans (H.d r (colQ h x))

omit H in
theorem V_slope (h : Fin 32) : (V m c main_v18 (ix3 h 0 0) : EReal) = ((slopeOf h : ℝ) : EReal) := by
  entry_read
  exact (column_apply _ _ h).trans (slope_scalar h _ rfl)

/-! ## The blocks -/

omit H in
theorem index_all : ∀ t : Fin cfg0.N, win0_0.index t = ![0, 31 - t.val, 0] ∧ win0_1.index t = ![0, 30 - t.val, 0] ∧ win0_2.index t = ![0, 31 - t.val, 0] ∧ win0_3.index t = ![0, 30 - t.val, 0] ∧ win0_4.index t = ![0, 31 - t.val, 0] ∧ win0_5.index t = ![0, 0, 0] ∧ win0_6.index t = ![0, 0, 0] ∧ win0_7.index t = ![0, 31 - t.val, 0] ∧ win0_8.index t = ![0, 31 - t.val, 0] ∧ win0_9.index t = ![0, 31 - t.val, 0] ∧ win0_10.index t = ![0, 31 - t.val, 0] ∧ win0_11.index t = ![0, 0, 0] ∧ (grid0.coords t 1).val = t.val :=
  (by decide +kernel : ∀ t : Fin grid0.N, win0_0.index t = ![0, 31 - t.val, 0] ∧ win0_1.index t = ![0, 30 - t.val, 0] ∧ win0_2.index t = ![0, 31 - t.val, 0] ∧ win0_3.index t = ![0, 30 - t.val, 0] ∧ win0_4.index t = ![0, 31 - t.val, 0] ∧ win0_5.index t = ![0, 0, 0] ∧ win0_6.index t = ![0, 0, 0] ∧ win0_7.index t = ![0, 31 - t.val, 0] ∧ win0_8.index t = ![0, 31 - t.val, 0] ∧ win0_9.index t = ![0, 31 - t.val, 0] ∧ win0_10.index t = ![0, 31 - t.val, 0] ∧ win0_11.index t = ![0, 0, 0] ∧ (grid0.coords t 1).val = t.val)

/-- The block that point `t` handles. -/
def blockOf (t : Fin cfg0.N) : Fin 32 := ⟨31 - t.val, by omega⟩

/-- The block before it, or itself if it is the first. -/
def blockBefore (t : Fin cfg0.N) : Fin 32 := ⟨30 - t.val, by omega⟩

theorem blk_q (t : Fin cfg0.N) (h : Fin 32) (a : Fin 128) (x : Fin 64) :
    (iblk m c 0 t (ix3 h a x) : EReal) = ((A.q (rowIn (blockOf t) a) (colQ h x) : ℝ) : EReal) := by
  rw [← V_q m c H]
  have e := (index_all t).1
  blk_ext [iblk, e, rowIn, blockOf]
  show (31 - t.val) * 128 + a.val = 128 * (31 - t.val) + a.val
  omega

theorem blk_k₀ (t : Fin cfg0.N) (h : Fin 4) (a : Fin 128) (x : Fin 64) :
    (iblk m c 1 t (ix3 h a x) : EReal) = ((A.k (rowIn (blockBefore t) a) (colK h x) : ℝ) : EReal) := by
  rw [← V_k m c H]
  have e := (index_all t).2.1
  blk_ext [iblk, e, rowIn, blockBefore]
  show (30 - t.val) * 128 + a.val = 128 * (30 - t.val) + a.val
  omega

theorem blk_k₁ (t : Fin cfg0.N) (h : Fin 4) (a : Fin 128) (x : Fin 64) :
    (iblk m c 2 t (ix3 h a x) : EReal) = ((A.k (rowIn (blockOf t) a) (colK h x) : ℝ) : EReal) := by
  rw [← V_k m c H]
  have e := (index_all t).2.2.1
  blk_ext [iblk, e, rowIn, blockOf]
  show (31 - t.val) * 128 + a.val = 128 * (31 - t.val) + a.val
  omega

theorem blk_v₀ (t : Fin cfg0.N) (h : Fin 4) (a : Fin 128) (x : Fin 64) :
    (iblk m c 3 t (ix3 h a x) : EReal) = ((A.v (rowIn (blockBefore t) a) (colK h x) : ℝ) : EReal) := by
  rw [← V_v m c H]
  have e := (index_all t).2.2.2.1
  blk_ext [iblk, e, rowIn, blockBefore]
  show (30 - t.val) * 128 + a.val = 128 * (30 - t.val) + a.val
  omega

theorem blk_v₁ (t : Fin cfg0.N) (h : Fin 4) (a : Fin 128) (x : Fin 64) :
    (iblk m c 4 t (ix3 h a x) : EReal) = ((A.v (rowIn (blockOf t) a) (colK h x) : ℝ) : EReal) := by
  rw [← V_v m c H]
  have e := (index_all t).2.2.2.2.1
  blk_ext [iblk, e, rowIn, blockOf]
  show (31 - t.val) * 128 + a.val = 128 * (31 - t.val) + a.val
  omega

theorem blk_s (t : Fin cfg0.N) (h : Fin 32) : (iblk m c 5 t (ix3 h 0 0) : EReal) = ((A.s h : ℝ) : EReal) := by
  rw [← V_s m c H]
  have e := (index_all t).2.2.2.2.2.1
  blk_ext [iblk, e]

omit H in
theorem blk_slope (t : Fin cfg0.N) (h : Fin 32) : (iblk m c 6 t (ix3 h 0 0) : EReal) = ((slopeOf h : ℝ) : EReal) := by
  rw [← V_slope m c]
  have e := (index_all t).2.2.2.2.2.2.1
  blk_ext [iblk, e]

theorem blk_d (t : Fin cfg0.N) (h : Fin 32) (a : Fin 128) (x : Fin 64) :
    (iblk m c 7 t (ix3 h a x) : EReal) = ((A.d (rowIn (blockOf t) a) (colQ h x) : ℝ) : EReal) := by
  rw [← V_d m c H]
  have e := (index_all t).2.2.2.2.2.2.2.1
  blk_ext [iblk, e, rowIn, blockOf]
  show (31 - t.val) * 128 + a.val = 128 * (31 - t.val) + a.val
  omega

/-! ## The loads of a point -/

omit H in
theorem emb_rq (κ : Fin 4) (g : Fin 8) (a : Fin 128) (x : Fin 64) : (rq κ).emb (ix3 g a x) = ix3 (headOf κ g) a x := by
  funext i; apply Fin.ext; fin_cases i
  · show 8 * κ.val + 1 * g.val = 8 * κ.val + g.val; omega
  · show 0 + 1 * a.val = a.val; omega
  · show 0 + 1 * x.val = x.val; omega

omit H in
theorem emb_rk (κ : Fin 4) (a : Fin 128) (x : Fin 64) : (rk κ).emb (ix3 0 a x) = ix3 κ a x := by
  funext i; apply Fin.ext; fin_cases i
  · show κ.val + 1 * 0 = κ.val; omega
  · show 0 + 1 * a.val = a.val; omega
  · show 0 + 1 * x.val = x.val; omega

omit H in
theorem emb_rs (κ : Fin 4) (g : Fin 8) : (rs κ).emb (ix3 g 0 0) = ix3 (headOf κ g) 0 0 := by
  funext i; apply Fin.ext; fin_cases i
  · show 8 * κ.val + 1 * g.val = 8 * κ.val + g.val; omega
  · rfl
  · rfl

/-- The loads of point `t` for key-value head `κ`. -/
abbrev loads (t : Fin cfg0.N) (κ : Fin 4) : Loads Ideal :=
  pick (grid0.coords t) (iblk m c 0 t) (iblk m c 1 t) (iblk m c 2 t) (iblk m c 3 t) (iblk m c 4 t) (iblk m c 5 t) (iblk m c 6 t) (iblk m c 7 t) κ

omit H in
theorem row_first (t : Fin cfg0.N) (a : Fin 128) : rowBand (blockOf t) ⟨a.val, by omega⟩ = rowIn (blockBefore t) a := by
  apply Fin.ext
  unfold rowBand rowIn blockOf blockBefore
  simp only [a.isLt, if_true]
  omega

omit H in
theorem row_second (n : Fin 32) (a : Fin 128) : rowBand n ⟨128 + a.val, by omega⟩ = rowIn n a := by
  apply Fin.ext
  unfold rowBand rowIn
  simp

omit H in
/-- The word that says whether a block stands before. -/
theorem loads_hp (t : Fin cfg0.N) (κ : Fin 4) : (loads m c t κ).hp = BitVec.ofBool (decide (0 < (blockOf t).val)) := by
  show Scalar.cmpi .slt (BitVec.ofNat 32 (grid0.coords t 1).val) 31#32 = _
  have ht : t.val < 32 := t.isLt
  rw [(index_all t).2.2.2.2.2.2.2.2.2.2.2.2]
  have hprev : 0 < (blockOf t).val ↔ t.val < 31 := by
    show 0 < 31 - t.val ↔ _
    omega
  refine (WordCmp.cmpi_slt_ofNat (w := 32) (a := t.val) (b := 31) (by omega) (by omega)).trans ?_
  simp only [hprev]

theorem loads_q (t : Fin cfg0.N) (κ : Fin 4) (g a x) : (loads m c t κ).q (ix3 g a x) = (((A.cell (blockOf t) κ).q g a x : ℝ) : EReal) :=
  (congrArg (iblk m c 0 t) (emb_rq κ g a x)).trans (blk_q m c H t _ a x)

theorem loads_k₀ (t : Fin cfg0.N) (κ : Fin 4) (a : Fin 128) (x) :
    (loads m c t κ).k₀ (ix3 0 a x) = (((A.cell (blockOf t) κ).k ⟨a.val, by omega⟩ x : ℝ) : EReal) := by
  show _ = ((A.k (rowBand (blockOf t) ⟨a.val, by omega⟩) (colK κ x) : ℝ) : EReal)
  rw [row_first]
  exact (congrArg (iblk m c 1 t) (emb_rk κ a x)).trans (blk_k₀ m c H t κ a x)

theorem loads_k₁ (t : Fin cfg0.N) (κ : Fin 4) (a : Fin 128) (x) :
    (loads m c t κ).k₁ (ix3 0 a x) = (((A.cell (blockOf t) κ).k ⟨128 + a.val, by omega⟩ x : ℝ) : EReal) := by
  show _ = ((A.k (rowBand (blockOf t) ⟨128 + a.val, by omega⟩) (colK κ x) : ℝ) : EReal)
  rw [row_second]
  exact (congrArg (iblk m c 2 t) (emb_rk κ a x)).trans (blk_k₁ m c H t κ a x)

theorem loads_v₀ (t : Fin cfg0.N) (κ : Fin 4) (a : Fin 128) (x) :
    (loads m c t κ).v₀ (ix3 0 a x) = (((A.cell (blockOf t) κ).v ⟨a.val, by omega⟩ x : ℝ) : EReal) := by
  show _ = ((A.v (rowBand (blockOf t) ⟨a.val, by omega⟩) (colK κ x) : ℝ) : EReal)
  rw [row_first]
  exact (congrArg (iblk m c 3 t) (emb_rk κ a x)).trans (blk_v₀ m c H t κ a x)

theorem loads_v₁ (t : Fin cfg0.N) (κ : Fin 4) (a : Fin 128) (x) :
    (loads m c t κ).v₁ (ix3 0 a x) = (((A.cell (blockOf t) κ).v ⟨128 + a.val, by omega⟩ x : ℝ) : EReal) := by
  show _ = ((A.v (rowBand (blockOf t) ⟨128 + a.val, by omega⟩) (colK κ x) : ℝ) : EReal)
  rw [row_second]
  exact (congrArg (iblk m c 4 t) (emb_rk κ a x)).trans (blk_v₁ m c H t κ a x)

theorem loads_sink (t : Fin cfg0.N) (κ : Fin 4) (g) : (loads m c t κ).sink (ix3 g 0 0) = (((A.cell (blockOf t) κ).sink g : ℝ) : EReal) :=
  (congrArg (iblk m c 5 t) (emb_rs κ g)).trans (blk_s m c H t _)

omit H in
theorem loads_slope (t : Fin cfg0.N) (κ : Fin 4) (g) : (loads m c t κ).slope (ix3 g 0 0) = (((A.cell (blockOf t) κ).slope g : ℝ) : EReal) :=
  (congrArg (iblk m c 6 t) (emb_rs κ g)).trans (blk_slope m c t _)

theorem loads_d (t : Fin cfg0.N) (κ : Fin 4) (g a x) : (loads m c t κ).d (ix3 g a x) = (((A.cell (blockOf t) κ).d g a x : ℝ) : EReal) :=
  (congrArg (iblk m c 7 t) (emb_rq κ g a x)).trans (blk_d m c H t _ a x)

/-- Those loads hold the cell of the block. -/
theorem reads (t : Fin cfg0.N) (κ : Fin 4) : Reads (loads m c t κ) (A.cell (blockOf t) κ) where
  hp := by intro inst; rw [loads_hp]; congr
  q := loads_q m c H t κ
  k₀ := loads_k₀ m c H t κ
  k₁ := loads_k₁ m c H t κ
  v₀ := loads_v₀ m c H t κ
  v₁ := loads_v₁ m c H t κ
  sink := loads_sink m c H t κ
  slope := loads_slope m c t κ
  d := loads_d m c H t κ

end Cert.KernelIdeal.Swa

end
-- ==== Proof.Arrays.lean ====
/-
  WHAT THE KERNEL LEAVES. What each grid point leaves in the output blocks and the scratch, as the cells' gradients,
  and from that the four result arrays at an index.
-/
module

public import proofs.«01_k».proof.Proof.Blocks

@[expose] public section

noncomputable section

namespace Cert.KernelIdeal.Swa

open Idealize.ShloMosaic hiding ix1 ix2 ix3
open Idealize.ShloMosaic.TcCoe Idealize.ShloMosaic.ValueIdx Cert.KernelIdeal Cert.KernelIdeal.Gen Cert.KernelIdeal.Value Cert.Swa

variable (m : (ℓ : Loc nD τ sig) → Buf (Elt Ideal) ℓ) (c : Dev nD)
variable {A : Args} (H : Holds m c A)
include H

/-! ## After a point -/

theorem after_dq (t : Fin cfg0.N) (κ : Fin 4) (g : Fin 8) (a : Fin 128) (x : Fin 64) :
    ((outsAt0 m c t.val t.isLt).1 (ix3 (headOf κ g) a x) : EReal) = ((A.dq (blockOf t) κ g a x : ℝ) : EReal) := by
  rw [← emb_rq]
  refine Eq.trans ?_ ((reads m c H t κ).dq_apply g a x)
  by_cases h0 : t.val % 32 = 0
  · rw [outsAt0_A m c t h0]; dsimp only; apply dq_A
  · rw [outsAt0_B m c t h0]; dsimp only; apply dq_B

theorem after_left_dk (t : Fin cfg0.N) (κ : Fin 4) (a : Fin 128) (x : Fin 64) :
    ((outsAt0 m c t.val t.isLt).2.2.2.2.1 (ix3 κ a x) : EReal) = (((A.cell (blockOf t) κ).dk ⟨a.val, by omega⟩ x : ℝ) : EReal) := by
  rw [← emb_rk]
  refine Eq.trans ?_ ((first_apply _ a x).trans ((reads m c H t κ).dk_apply ⟨a.val, by omega⟩ x))
  by_cases h0 : t.val % 32 = 0
  · rw [outsAt0_A m c t h0]; dsimp only; apply left_dk_A
  · rw [outsAt0_B m c t h0]; dsimp only; apply left_dk_B

theorem after_left_dv (t : Fin cfg0.N) (κ : Fin 4) (a : Fin 128) (x : Fin 64) :
    ((outsAt0 m c t.val t.isLt).2.2.2.2.2 (ix3 κ a x) : EReal) = (((A.cell (blockOf t) κ).dv ⟨a.val, by omega⟩ x : ℝ) : EReal) := by
  rw [← emb_rk]
  refine Eq.trans ?_ ((first_apply _ a x).trans ((reads m c H t κ).dv_apply ⟨a.val, by omega⟩ x))
  by_cases h0 : t.val % 32 = 0
  · rw [outsAt0_A m c t h0]; dsimp only; apply left_dv_A
  · rw [outsAt0_B m c t h0]; dsimp only; apply left_dv_B

omit H in
/-- The last block has no next block. -/
theorem next_first (t : Fin cfg0.N) (h0 : t.val % 32 = 0) (f : Fin 32 → ℝ) : Args.next f (blockOf t) = 0 := by
  have ht : t.val < 32 := t.isLt
  exact dif_neg (by show ¬(31 - t.val + 1 < 32); omega)

omit H in
/-- The block handled a point earlier is the next block. -/
theorem next_later (t : Fin cfg0.N) (h0 : ¬t.val % 32 = 0) (f : Fin 32 → ℝ) :
    Args.next f (blockOf t) = f (blockOf ⟨t.val - 1, Nat.lt_of_le_of_lt (Nat.sub_le _ _) t.isLt⟩) := by
  have ht : t.val < 32 := t.isLt
  have h1 : (blockOf t).val + 1 < 32 := by show 31 - t.val + 1 < 32; omega
  exact (dif_pos h1).trans (congrArg f (Fin.ext (by show 31 - t.val + 1 = 31 - (t.val - 1); omega)))

omit H in
theorem zeros_apply (S : Shape) (i : S.Idx) : (zeros (F := Ideal) S i : EReal) = ((0 : ℝ) : EReal) :=
  Ideal.ofBits_zero_f32

theorem after_dk (t : Fin cfg0.N) (κ : Fin 4) (a : Fin 128) (x : Fin 64) :
    ((outsAt0 m c t.val t.isLt).2.1 (ix3 κ a x) : EReal) = ((A.dk (blockOf t) κ a x : ℝ) : EReal) := by
  rw [← emb_rk, Args.dk, EReal.coe_add]
  by_cases h0 : t.val % 32 = 0
  · rw [next_first t h0, ← zeros_apply S4x128x64 (ix3 κ a x), ← (reads m c H t κ).dk_apply, ← emb_rk, outsAt0_A m c t h0]
    refine Eq.trans ?_ (second_apply _ (headK (zeros S4x128x64) κ) a x)
    dsimp only; apply dk_A
  · rw [next_later t h0, ← after_left_dk m c H, ← (reads m c H t κ).dk_apply, ← emb_rk, outsAt0_B m c t h0]
    refine Eq.trans ?_ (second_apply _ (headK (outsAt0 m c (t.val - 1) (Nat.lt_of_le_of_lt (Nat.sub_le _ _) t.isLt)).2.2.2.2.1 κ) a x)
    dsimp only; apply dk_B

theorem after_dv (t : Fin cfg0.N) (κ : Fin 4) (a : Fin 128) (x : Fin 64) :
    ((outsAt0 m c t.val t.isLt).2.2.1 (ix3 κ a x) : EReal) = ((A.dv (blockOf t) κ a x : ℝ) : EReal) := by
  rw [← emb_rk, Args.dv, EReal.coe_add]
  by_cases h0 : t.val % 32 = 0
  · rw [next_first t h0, ← zeros_apply S4x128x64 (ix3 κ a x), ← (reads m c H t κ).dv_apply, ← emb_rk, outsAt0_A m c t h0]
    refine Eq.trans ?_ (second_apply _ (headK (zeros S4x128x64) κ) a x)
    dsimp only; apply dv_A
  · rw [next_later t h0, ← after_left_dv m c H, ← (reads m c H t κ).dv_apply, ← emb_rk, outsAt0_B m c t h0]
    refine Eq.trans ?_ (second_apply _ (headK (outsAt0 m c (t.val - 1) (Nat.lt_of_le_of_lt (Nat.sub_le _ _) t.isLt)).2.2.2.2.2 κ) a x)
    dsimp only; apply dv_B

/-- What a point adds to the sinks' gradient. -/
def sinkTerm (A : Args) (κ : Fin 4) (g : Fin 8) (n : ℕ) : ℝ := (A.cell ⟨31 - n, by omega⟩ κ).dsink g

theorem after_dsink (κ : Fin 4) (g : Fin 8) : ∀ (n : ℕ) (h : n < cfg0.N),
    ((outsAt0 m c n h).2.2.2.1 (ix3 (headOf κ g) 0 0) : EReal) = ((∑ i ∈ Finset.range (n + 1), sinkTerm A κ g i : ℝ) : EReal)
  | 0, h => by
    have e := (reads m c H ⟨0, h⟩ κ).dsink_apply g
    rw [Finset.sum_range_one, ← zero_add (sinkTerm A κ g 0), EReal.coe_add, ← zeros_apply S32x1x1 (ix3 (headOf κ g) 0 0)]
    rw [show ((sinkTerm A κ g 0 : ℝ) : EReal) = _ from e.symm, ← emb_rs]
    have h0 : ((⟨0, h⟩ : Fin cfg0.N).val) % 32 = 0 := rfl
    rw [show outsAt0 m c 0 h = _ from outsAt0_A m c ⟨0, h⟩ h0]
    refine Eq.trans ?_ (plus_apply (headS (zeros S32x1x1) κ) _ (ix3 g 0 0))
    dsimp only; apply dsink_A
  | n + 1, h => by
    have h32 : n + 1 < 32 := h
    have e := (reads m c H ⟨n + 1, h⟩ κ).dsink_apply g
    rw [Finset.sum_range_succ, EReal.coe_add, ← after_dsink κ g n (by omega)]
    rw [show ((sinkTerm A κ g (n + 1) : ℝ) : EReal) = _ from e.symm, ← emb_rs]
    have h0 : ¬((⟨n + 1, h⟩ : Fin cfg0.N).val) % 32 = 0 := by show ¬(n + 1) % 32 = 0; omega
    rw [show outsAt0 m c (n + 1) h = _ from outsAt0_B m c ⟨n + 1, h⟩ h0]
    refine Eq.trans ?_ (plus_apply (headS (outsAt0 m c n (by omega)).2.2.2.1 κ) _ (ix3 g 0 0))
    dsimp only; apply dsink_B

/-! ## The result arrays -/

omit H in
/-- The point that handles block `n`. -/
def pointOf (n : Fin 32) : Fin cfg0.N := ⟨31 - n.val, by show 31 - n.val < 32; omega⟩

omit H in
theorem blockOf_pointOf (n : Fin 32) : blockOf (pointOf n) = n := Fin.ext (by show 31 - (31 - n.val) = n.val; omega)

theorem final_dq (n : Fin 32) (κ : Fin 4) (g : Fin 8) (a : Fin 128) (x : Fin 64) :
    ((dats m 0 c).arrAt 8 cfg0.N (ix3 (headOf κ g) (rowIn n a) x) : EReal) = ((A.dq n κ g a x : ℝ) : EReal) := by
  have e := after_dq m c H (pointOf n) κ g a x
  rw [blockOf_pointOf] at e
  have b := congrFun (blocks8 m c (pointOf n) (flush0_8 _)) (ix3 (headOf κ g) a x)
  rw [flushed8] at b
  have i := (index_all (pointOf n)).2.2.2.2.2.2.2.2.1
  refine Eq.trans (Eq.trans ?_ b) e
  blk_ext [i, rowIn]
  show 128 * n.val + a.val = (31 - (31 - n.val)) * 128 + a.val
  omega

theorem final_dk (n : Fin 32) (κ : Fin 4) (a : Fin 128) (x : Fin 64) :
    ((dats m 0 c).arrAt 9 cfg0.N (ix3 κ (rowIn n a) x) : EReal) = ((A.dk n κ a x : ℝ) : EReal) := by
  have e := after_dk m c H (pointOf n) κ a x
  rw [blockOf_pointOf] at e
  have b := congrFun (blocks9 m c (pointOf n) (flush0_9 _)) (ix3 κ a x)
  rw [flushed9] at b
  have i := (index_all (pointOf n)).2.2.2.2.2.2.2.2.2.1
  refine Eq.trans (Eq.trans ?_ b) e
  blk_ext [i, rowIn]
  show 128 * n.val + a.val = (31 - (31 - n.val)) * 128 + a.val
  omega

theorem final_dv (n : Fin 32) (κ : Fin 4) (a : Fin 128) (x : Fin 64) :
    ((dats m 0 c).arrAt 10 cfg0.N (ix3 κ (rowIn n a) x) : EReal) = ((A.dv n κ a x : ℝ) : EReal) := by
  have e := after_dv m c H (pointOf n) κ a x
  rw [blockOf_pointOf] at e
  have b := congrFun (blocks10 m c (pointOf n) (flush0_10 _)) (ix3 κ a x)
  rw [flushed10] at b
  have i := (index_all (pointOf n)).2.2.2.2.2.2.2.2.2.2.1
  refine Eq.trans (Eq.trans ?_ b) e
  blk_ext [i, rowIn]
  show 128 * n.val + a.val = (31 - (31 - n.val)) * 128 + a.val
  omega

omit H in
theorem whole_last : (cfg0.win 11).WholeAt (pointOf 0) :=
  (by decide +kernel : win0_11.WholeAt (G := grid0) ⟨31, by decide⟩)

omit H in
/-- The sinks' gradient is what the last point leaves. -/
theorem final_sinks (t : Fin cfg0.N) (ht : (cfg0.win 11).WholeAt t) (h : Fin 32) :
    (dats m 0 c).arrAt 11 cfg0.N (ix3 h 0 0) = (outsAt0 m c t.val t.isLt).2.2.2.1 (ix3 h 0 0) := by
  have b := (dats m 0 c).arrAt_emb_eq_after_last 11 t ht (ix3 h 0 0)
  rw [after0_11] at b
  exact b

omit H in
/-- The points' terms are the blocks' terms in the other order. -/
theorem sum_sinkTerm (κ : Fin 4) (g : Fin 8) : ∑ i ∈ Finset.range 32, sinkTerm A κ g i = A.dsink κ g := by
  rw [Finset.sum_range, Args.dsink, ← Equiv.sum_comp Fin.revPerm]
  refine Finset.sum_congr rfl fun i _ => ?_
  have hi : (⟨31 - (Fin.revPerm i).val, by omega⟩ : Fin 32) = i :=
    Fin.ext (by show 31 - (32 - (i.val + 1)) = i.val; omega)
  rw [sinkTerm, hi]

theorem final_dsink (κ : Fin 4) (g : Fin 8) :
    ((dats m 0 c).arrAt 11 cfg0.N (ix3 (headOf κ g) 0 0) : EReal) = ((A.dsink κ g : ℝ) : EReal) := by
  rw [← sum_sinkTerm]
  exact (final_sinks m c (pointOf 0) whole_last (headOf κ g)).trans (after_dsink m c H κ g (pointOf 0).val (pointOf 0).isLt)

end Cert.KernelIdeal.Swa

end
-- ==== Proof.RefForward.lean ====
/-
  THE REFERENCE'S FORWARD PASS READ AT AN INDEX. The reference is written over the whole layer; at one index its
  values are those of one cell of `Whole.lean`, with a block of zeros before the first block.
-/
module

public import proofs.«01_k».proof.Proof.Gen.ReferenceIdeal.Read
public import proofs.«01_k».proof.Proof.Slope
public import proofs.«01_k».proof.Proof.Eval

@[expose] public section

noncomputable section

namespace Cert.ReferenceIdeal.Swa

open Idealize.ShloMosaic Idealize.ShloMosaic.ValueIdx Idealize.ShloMosaic.WordCmp Cert.ReferenceIdeal Cert.ReferenceIdeal.Gen
  Cert.ReferenceIdeal.Read Cert.Swa

/-- The reference's arguments hold real arrays. -/
structure Takes (x0 : (⟨S4096x2048, .f32⟩ : BufTy).Contents (Elt Ideal)) (x1 x2 : (⟨S4096x256, .f32⟩ : BufTy).Contents (Elt Ideal))
    (x3 : (⟨S32, .f32⟩ : BufTy).Contents (Elt Ideal)) (x4 : (⟨S4096x2048, .bf16⟩ : BufTy).Contents (Elt Ideal)) (A : Args) : Prop where
  q : ∀ r u, x0 (ix2 r u) = ((A.q r u : ℝ) : EReal)
  k : ∀ r u, x1 (ix2 r u) = ((A.k r u : ℝ) : EReal)
  v : ∀ r u, x2 (ix2 r u) = ((A.v r u : ℝ) : EReal)
  s : ∀ h, x3 (ix1 h) = ((A.s h : ℝ) : EReal)
  d : ∀ r u, x4 (ix2 r u) = ((A.d r u : ℝ) : EReal)

/-- Heads and channels of the queries out of the layer's columns. -/
theorem split_q {α : Type} (x : S4096x2048.Idx → α) (h) (n : Fin 32) (a : Fin 128) (κ : Fin 4) (g : Fin 8) (u : Fin 64) :
    shapeCast S32x128x4x8x64 x h (ix5 n a κ g u) = x (ix2 (rowIn n a) (colQ (headOf κ g) u)) :=
  shapeCast_apply x h _ _ (by
    rw [Shape.rowMajor_val_two, Shape.rowMajor_val_five]
    show (128 * n.val + a.val) * 2048 + (64 * (8 * κ.val + g.val) + u.val)
      = (((n.val * 128 + a.val) * 4 + κ.val) * 8 + g.val) * 64 + u.val
    omega)

/-- Heads and channels of the keys out of the layer's columns. -/
theorem split_k {α : Type} (x : S4096x256.Idx → α) (h) (n : Fin 32) (a : Fin 128) (κ : Fin 4) (u : Fin 64) :
    shapeCast S32x128x4x64 x h (ix4 n a κ u) = x (ix2 (rowIn n a) (colK κ u)) :=
  shapeCast_apply x h _ _ (by
    rw [Shape.rowMajor_val_two, Shape.rowMajor_val_four]
    show (128 * n.val + a.val) * 256 + (64 * κ.val + u.val) = ((n.val * 128 + a.val) * 4 + κ.val) * 64 + u.val
    omega)

open Classical in
/-- The band of a block: the block before it, zeros before the first, and the block. -/
theorem band_at (z : S1x128x4x64.Idx → EReal) (y : S32x128x4x64.Idx → EReal) (f : Fin 4096 → Fin 256 → ℝ) (hz : ∀ i, z i = 0)
    (hy : ∀ n a κ u, y (ix4 n a κ u) = ((f (rowIn n a) (colK κ u) : ℝ) : EReal)) (n : Fin 32) (j : Fin 256) (κ : Fin 4) (u : Fin 64) :
    concatenate S32x256x4x64 1 [⟨S32x128x4x64, concatenate S32x128x4x64 0 [⟨S1x128x4x64, z⟩, ⟨S31x128x4x64,
        extractStridedSlice S31x128x4x64 ![0, 0, 0, 0] y slices_S32x128x4x64_S31x128x4x64_0_0_0_0⟩]
        concatenates_S1x128x4x64_S31x128x4x64_S32x128x4x64_d0⟩, ⟨S32x128x4x64, y⟩]
      concatenates_S32x128x4x64_S32x128x4x64_S32x256x4x64_d1 (ix4 n j κ u)
      = ((if 0 < n.val ∨ 128 ≤ j.val then f (rowBand n j) (colK κ u) else 0 : ℝ) : EReal) := by
  by_cases hj : j.val < 128
  · refine (concatenate_pair_apply_left (t := S32x256x4x64) (s₁ := S32x128x4x64) (s₂ := S32x128x4x64) 1 _ _ _ _ rfl
      (ix4 n ⟨j.val, hj⟩ κ u) (by intro b; fin_cases b <;> rfl)).trans ?_
    by_cases hn : n.val < 1
    · rw [if_neg (by omega)]
      refine (concatenate_pair_apply_left (t := S32x128x4x64) (s₁ := S1x128x4x64) (s₂ := S31x128x4x64) 0 _ _ _ _ rfl
        (ix4 ⟨n.val, hn⟩ ⟨j.val, hj⟩ κ u) (by intro b; fin_cases b <;> rfl)).trans ?_
      exact hz _
    · rw [if_pos (by omega)]
      refine (concatenate_pair_apply_right (t := S32x128x4x64) (s₁ := S1x128x4x64) (s₂ := S31x128x4x64) 0 _ _ _ _ rfl rfl
        (ix4 ⟨n.val - 1, by omega⟩ ⟨j.val, hj⟩ κ u) ?_ ?_).trans ?_
      · intro b hb; fin_cases b
        · exact absurd rfl hb
        all_goals rfl
      · show n.val - 1 + 1 = n.val; omega
      · refine (extractStridedSlice_apply _ _ _ _ (ix4 ⟨n.val - 1, by omega⟩ ⟨j.val, hj⟩ κ u) ?_).trans ?_
        · intro b; fin_cases b <;> simp
        · rw [hy]
          have e : rowIn ⟨n.val - 1, by omega⟩ ⟨j.val, hj⟩ = rowBand n j :=
            Fin.ext (by show 128 * (n.val - 1) + j.val = if j.val < 128 then _ else _; rw [if_pos hj])
          rw [e]
  · rw [if_pos (by omega)]
    refine (concatenate_pair_apply_right (t := S32x256x4x64) (s₁ := S32x128x4x64) (s₂ := S32x128x4x64) 1 _ _ _ _ rfl rfl
      (ix4 n ⟨j.val - 128, by omega⟩ κ u) ?_ ?_).trans ?_
    · intro b hb; fin_cases b
      · rfl
      · exact absurd rfl hb
      all_goals rfl
    · show j.val - 128 + 128 = j.val; omega
    · rw [hy]
      have e : rowIn n ⟨j.val - 128, by omega⟩ = rowBand n j :=
        Fin.ext (by show 128 * n.val + (j.val - 128) = if j.val < 128 then _ else _; rw [if_neg hj])
      rw [e]

theorem dist_at (a : Fin 128) (j : Fin 256) : (val_main_v25 (F := Ideal) (ix2 a j)).toInt = (a.val : ℤ) + 128 - (j.val : ℤ) := by
  have e : val_main_v25 (F := Ideal) (ix2 a j) = BitVec.ofNat 32 a.val + 128#32 - BitVec.ofNat 32 j.val := by
    rw [val_main_v25_apply, val_main_v23_apply, val_main_v22_apply, val_main_v18_apply, val_main_v21_apply, val_main_v24_apply,
      val_main_v20_apply]
    rfl
  rw [e]
  have := a.isLt; have := j.isLt
  have ea : (BitVec.ofNat 32 a.val).toInt = (a.val : ℤ) := toInt_ofNat_of_lt (by omega)
  have ej : (BitVec.ofNat 32 j.val).toInt = (j.val : ℤ) := toInt_ofNat_of_lt (by omega)
  have e128 : (128#32).toInt = 128 := rfl
  rw [BitVec.toInt_sub, BitVec.toInt_add, ea, ej, e128]
  simp only [Int.bmod_def]; omega

open Classical in
theorem mask_at (A : Args) (n : Fin 32) (κ : Fin 4) (g : Fin 8) (a : Fin 128) (j : Fin 256) :
    val_main_v66_1 (F := Ideal) (ix5 n κ g a j) = BitVec.ofBool (decide ((A.cellZ n κ).ok a j)) := by
  have e : val_main_v66_1 (F := Ideal) (ix5 n κ g a j) = IntOp.andi
      (IntOp.andi (IntOp.cmpi .sge (val_main_v25 (F := Ideal) (ix2 a j)) 0#32) (IntOp.cmpi .slt (val_main_v25 (F := Ideal) (ix2 a j)) 128#32))
      (IntOp.ori (IntOp.cmpi .sgt (BitVec.ofNat 32 n.val) 0#32) (IntOp.cmpi .sge (BitVec.ofNat 32 j.val) 128#32)) := by
    rw [val_main_v66_1_apply, val_main_v62_apply, val_main_v44_apply, val_main_v42_apply, val_main_v41_apply, val_main_v30_apply,
      val_main_v27_apply, val_main_v29_apply, val_main_v26_apply, val_main_v28_apply, val_main_v43_apply, val_main_v40_apply,
      val_main_v38_apply, val_main_v34_apply, val_main_v32_apply, val_main_v33_apply, val_main_v39_apply, val_main_v37_apply,
      val_main_v36_apply, val_main_v20_apply, val_main_v35_apply]
    have h2 : idx_main_v41 (idx_main_v42 (idx_main_v62 (idx_main_v66_1 (ix5 n κ g a j)))) = ix2 a j := eq_ix2 _
    rw [h2]
    rfl
  have := a.isLt; have := j.isLt; have := n.isLt
  have ej : (BitVec.ofNat 32 j.val).toInt = (j.val : ℤ) := toInt_ofNat_of_lt (by omega)
  have en : (BitVec.ofNat 32 n.val).toInt = (n.val : ℤ) := toInt_ofNat_of_lt (by omega)
  have e128 : (128#32).toInt = 128 := rfl
  have e0 : (0#32).toInt = 0 := rfl
  rw [e, cmpi_sge_eq, cmpi_slt_eq, cmpi_sge_eq, cmpi_sgt_eq, dist_at, ej, en, e128, e0]
  refine (congrArg₂ _ (BitVec.ofBool_and_ofBool ..) (BitVec.ofBool_or_ofBool ..)).trans ((BitVec.ofBool_and_ofBool ..).trans ?_)
  rw [← Bool.decide_and, ← Bool.decide_or, ← Bool.decide_and]
  refine congrArg _ (decide_eq_decide.mpr ?_)
  show _ ↔ ((a.val < j.val ∧ j.val ≤ a.val + 128) ∧ (0 < n.val ∨ 128 ≤ j.val))
  exact and_congr (by omega) (or_congr (by omega) (by omega))

theorem slope_at (κ : Fin 4) (g : Fin 8) (i : S4x8x1x1.Idx) (h0 : i 0 = κ) (h1 : i 1 = g) :
    val_main_v56 (F := Ideal) i = ((-slopeOf (headOf κ g) : ℝ) : EReal) := by
  subst h0; subst h1
  rw [val_main_v56_apply, val_main_v55_apply]
  have e : val_main_v54 (F := Ideal) (idx_main_v55 i) = val_main_v53 (F := Ideal) (ix1 (headOf (i 0) (i 1))) :=
    shapeCast_apply _ _ _ (ix1 (headOf (i 0) (i 1))) (by
      rw [Shape.rowMajor_val_one, Shape.rowMajor_val_two]
      show 8 * (i 0).val + (i 1).val = (i 0).val * 8 + (i 1).val
      omega)
  rw [e, EReal.coe_neg]
  refine congrArg (fun y : EReal => -y) (Eq.trans ?_ (slope_scalar (headOf (i 0) (i 1)) _ rfl))
  rw [val_main_v53_apply, val_main_v52_apply, val_main_v51_apply, val_main_v49_apply, val_main_v48_apply, val_main_v47_apply,
    val_main_v46_apply, val_main_v50_apply]
  rfl

theorem zero_word (i : S_.Idx) : (constant (F := Ideal) S_ .f32 0x00000000#32 i : EReal) = 0 := Ideal.ofBits_zero_f32

section At
variable {x0 : (⟨S4096x2048, .f32⟩ : BufTy).Contents (Elt Ideal)} {x1 x2 : (⟨S4096x256, .f32⟩ : BufTy).Contents (Elt Ideal)}
  {x3 : (⟨S32, .f32⟩ : BufTy).Contents (Elt Ideal)} {x4 : (⟨S4096x2048, .bf16⟩ : BufTy).Contents (Elt Ideal)} {A : Args}
  (H : Takes x0 x1 x2 x3 x4 A)
include H

theorem q_at (n : Fin 32) (a : Fin 128) (κ : Fin 4) (g : Fin 8) (u : Fin 64) :
    val_main_v0 (F := Ideal) x0 (ix5 n a κ g u) = (((A.cellZ n κ).q g a u : ℝ) : EReal) :=
  (split_q x0 _ n a κ g u).trans (H.q _ _)

theorem d_at (n : Fin 32) (κ : Fin 4) (u : Fin 64) (g : Fin 8) (a : Fin 128) :
    val_main_v117 (F := Ideal) x4 (ix5 n κ u g a) = (((A.cellZ n κ).d g a u : ℝ) : EReal) := by
  rw [val_main_v117_apply]
  exact (congrArg _ (eq_ix5 _)).trans ((split_q (val_main_v115 (F := Ideal) x4) _ n a κ g u).trans (H.d _ _))

theorem k_at (n : Fin 32) (j : Fin 256) (κ : Fin 4) (u : Fin 64) :
    val_main_v6 (F := Ideal) x1 (ix4 n j κ u) = (((A.cellZ n κ).k j u : ℝ) : EReal) :=
  band_at _ _ A.k (fun i => by rw [val_main_v2_apply]; exact zero_word _) (fun n a κ u => (split_k x1 _ n a κ u).trans (H.k _ _)) n j κ u

theorem v_at (n : Fin 32) (j : Fin 256) (κ : Fin 4) (u : Fin 64) :
    val_main_v12 (F := Ideal) x2 (ix4 n j κ u) = (((A.cellZ n κ).v j u : ℝ) : EReal) :=
  band_at _ _ A.v (fun i => by rw [val_main_v8_apply]; exact zero_word _) (fun n a κ u => (split_k x2 _ n a κ u).trans (H.v _ _)) n j κ u

theorem prod_at (n : Fin 32) (κ : Fin 4) (j : Fin 256) (a : Fin 128) (g : Fin 8) :
    val_main_v13 (F := Ideal) x0 x1 (ix5 n κ j a g) = ((∑ u, (A.cellZ n κ).q g a u * (A.cellZ n κ).k j u : ℝ) : EReal) := by
  refine (val_main_v13_apply x0 x1 _).trans ?_
  rw [← sum_coe_mul]
  refine Finset.sum_congr rfl fun u _ => (mul_comm _ _).trans ?_
  exact congrArg₂ (· * ·) ((congrArg _ (eq_ix5 _)).trans (q_at H n a κ g u)) ((congrArg _ (eq_ix4 _)).trans (k_at H n j κ u))

theorem score_at (n : Fin 32) (κ : Fin 4) (g : Fin 8) (a : Fin 128) (j : Fin 256) :
    val_main_v66_0 (F := Ideal) x0 x1 (ix5 n κ g a j) = (A.cellZ n κ).score g a j := by
  classical
  have e1 : val_main_v14 (F := Ideal) x0 x1 (ix5 n κ g a j) = ((∑ u, (A.cellZ n κ).q g a u * (A.cellZ n κ).k j u : ℝ) : EReal) := by
    rw [val_main_v14_apply]
    exact (congrArg _ (eq_ix5 _)).trans (prod_at H n κ j a g)
  have e2 : val_main_v64 (F := Ideal) (ix5 n κ g a j)
      = (((-slopeOf (headOf κ g)) * (((a.val : ℤ) + 128 - (j.val : ℤ) : ℤ) : ℝ) : ℝ) : EReal) := by
    rw [val_main_v64_apply, val_main_v63_apply, val_main_v61_apply, val_main_v59_apply, val_main_v60_apply, val_main_v58_apply,
      slope_at κ g _ rfl rfl, EReal.coe_mul, ← dist_at]
    exact congrArg (_ * ·) (congrArg (val_main_v57 (F := Ideal)) (eq_ix2 _))
  have e3 : val_main_v16 (F := Ideal) x0 x1 (ix5 n κ g a j)
      = (((∑ u, (A.cellZ n κ).q g a u * (A.cellZ n κ).k j u) * (1 / 8) : ℝ) : EReal) := by
    rw [val_main_v16_apply, e1, val_main_v15_apply, EReal.coe_mul, ← Cert.KernelIdeal.Swa.bits_eighth]; rfl
  rw [val_main_v66_0_apply, mask_at A, val_main_v65_apply, e3, e2]
  unfold Cell.score Cell.raw
  by_cases h : (A.cellZ n κ).ok a j
  · rw [if_pos h, decide_eq_true h]
    refine (EReal.coe_add _ _).symm.trans (congrArg _ ?_)
    show _ + -slopeOf (headOf κ g) * _ = _ - slopeOf (headOf κ g) * _
    ring
  · rw [if_neg h, decide_eq_false h, val_main_call0_v2_apply]
    exact Cert.KernelIdeal.Swa.bits_bot

/-- The maximum of a row's scores. -/
theorem max_at (n : Fin 32) (κ : Fin 4) (g : Fin 8) (a : Fin 128) :
    val_main_v69 (F := Ideal) x0 x1 (ix4 n κ g a) = Finset.univ.fold max ⊥ ((A.cellZ n κ).score g a) := by
  have e : ∀ y : FVec Ideal S32x4x8x128x256 .f32, Host.reduce FloatOps.maximumf y (val_main_cst_13 (F := Ideal))
      reducesTo_S32x4x8x128x256_S32x4x8x128_d4 h_S_ (ix4 n κ g a)
      = (Finset.univ : Finset (Fin 256)).fold max ⊥ fun j => (y (ix5 n κ g a j) : EReal) := by
    intro y
    refine (Host.reduce_eq_fold_single (max : EReal → EReal → EReal) y (val_main_cst_13 (F := Ideal)) _ (by decide) _ _).trans ?_
    rw [← Cert.KernelIdeal.Swa.bits_bot]
    refine congrArg (fun f => Finset.univ.fold max _ f) (funext fun j => congrArg y ?_)
    funext b; fin_cases b <;> rfl
  refine (e (val_main_v66_0 (F := Ideal) x0 x1)).trans ?_
  exact congrArg (fun f => Finset.univ.fold max ⊥ f) (funext fun j => score_at H n κ g a j)

/-- Some score equals the row's maximum, so the number of those that do is not zero. -/
theorem count_at (n : Fin 32) (κ : Fin 4) (g : Fin 8) (a : Fin 128) :
    ∃ r : ℝ, r ≠ 0 ∧ val_main_v74 (F := Ideal) x0 x1 (ix4 n κ g a) = (r : EReal) := by
  classical
  have e : ∀ j, val_main_v73 (F := Ideal) x0 x1 (ix5 n κ g a j) = (((if (A.cellZ n κ).score g a j
      = Finset.univ.fold max ⊥ ((A.cellZ n κ).score g a) then 1 else 0 : ℝ)) : EReal) := by
    intro j
    have e1 : val_main_v71 (F := Ideal) x0 x1 (ix5 n κ g a j) = Finset.univ.fold max ⊥ ((A.cellZ n κ).score g a) := by
      rw [val_main_v71_apply, ← max_at H]
      refine shapeCast_apply _ _ _ (ix4 n κ g a) ?_
      rw [Shape.rowMajor_val_four, Shape.rowMajor_val_five]
      show ((n.val * 4 + κ.val) * 8 + g.val) * 128 + a.val = (((n.val * 4 + κ.val) * 8 + g.val) * 128 + a.val) * 1 + 0
      omega
    rw [val_main_v73_apply, val_main_v72_apply, e1, score_at H]
    show (((Ideal.cmp .oeq _ _).toNat : ℝ) : EReal) = _
    unfold Ideal.cmp
    by_cases h : (A.cellZ n κ).score g a j = Finset.univ.fold max ⊥ ((A.cellZ n κ).score g a)
    · rw [if_pos h]
      show (((BitVec.ofBool (decide _)).toNat : ℝ) : EReal) = _
      rw [decide_eq_true h]
      show (((1 : ℕ) : ℝ) : EReal) = _
      norm_num
    · rw [if_neg h]
      show (((BitVec.ofBool (decide _)).toNat : ℝ) : EReal) = _
      rw [decide_eq_false h]; norm_num
  refine ⟨∑ j, (if (A.cellZ n κ).score g a j = Finset.univ.fold max ⊥ ((A.cellZ n κ).score g a) then 1 else 0 : ℝ), ?_, ?_⟩
  · obtain ⟨i, -, hi⟩ := fold_max_attained Finset.univ ((A.cellZ n κ).score g a) 0 (Finset.mem_univ _)
    refine (Finset.sum_pos' (fun j _ => by split <;> norm_num) ⟨i, Finset.mem_univ _, ?_⟩).ne'
    rw [if_pos hi]; norm_num
  · rw [val_main_v74_apply, coe_sum]
    refine (congrArg₂ (· + ·) (zero_word _) (Finset.sum_congr rfl fun j _ => ?_)).trans (zero_add _)
    exact (congrArg _ (eq_ix5 _)).trans (e j)

/-- A head's sink, wherever it is broadcast to. -/
theorem sink_at (κ : Fin 4) (g : Fin 8) (i : S1x4x8x1x1.Idx) (h1 : i 1 = κ) (h2 : i 2 = g) :
    val_main_v76 (F := Ideal) x3 i = ((A.s (headOf κ g) : ℝ) : EReal) := by
  subst h1; subst h2
  rw [val_main_v76_apply, val_main_v68_apply]
  refine Eq.trans ?_ (H.s _)
  exact shapeCast_apply x3 _ _ (ix1 (headOf (i 1) (i 2))) (by
    rw [Shape.rowMajor_val_one, Shape.rowMajor_val_two]
    show 8 * (i 1).val + (i 2).val = (i 1).val * 8 + (i 2).val
    omega)

theorem top_at (n : Fin 32) (κ : Fin 4) (g : Fin 8) (a : Fin 128) :
    val_main_v78 (F := Ideal) x0 x1 x3 (ix5 n κ g a 0) = (A.cellZ n κ).top g a := by
  have e1 : val_main_v75 (F := Ideal) x0 x1 (ix5 n κ g a 0) = Finset.univ.fold max ⊥ ((A.cellZ n κ).score g a) := by
    rw [val_main_v75_apply]; exact (congrArg _ (eq_ix4 _)).trans (max_at H n κ g a)
  rw [val_main_v78_apply, val_main_v77_apply, sink_at H κ g _ rfl rfl, e1, Ideal.maximumf_def]; rfl

theorem p_at (n : Fin 32) (κ : Fin 4) (g : Fin 8) (a : Fin 128) (j : Fin 256) :
    val_main_v99 (F := Ideal) x0 x1 x3 (ix5 n κ g a j) = (((A.cellZ n κ).p g a j : ℝ) : EReal) := by
  have e1 : val_main_v97 (F := Ideal) x0 x1 x3 (ix5 n κ g a j) = (A.cellZ n κ).top g a := by
    rw [val_main_v97_apply]; exact (congrArg _ (eq_ix5 _)).trans (top_at H n κ g a)
  rw [← (A.cellZ n κ).exp_score, val_main_v99_apply, val_main_v98_apply, score_at H, e1, Ideal.hostUnary_exp_def, Ideal.subf_def]

theorem e_at (n : Fin 32) (κ : Fin 4) (g : Fin 8) (a : Fin 128) :
    val_main_v105 (F := Ideal) x0 x1 x3 (ix5 n κ g a 0) = (((A.cellZ n κ).e g a : ℝ) : EReal) := by
  have e1 : val_main_v103 (F := Ideal) x3 (ix5 n κ g a 0) = (((A.cellZ n κ).sink g : ℝ) : EReal) := by
    rw [val_main_v103_apply]; exact sink_at H κ g _ rfl rfl
  rw [val_main_v105_apply, val_main_v104_apply, e1, top_at H, (A.cellZ n κ).top_eq]
  rw [Ideal.hostUnary_exp_def, Ideal.subf_def, ← EReal.coe_sub, Ideal.exp_coe]; rfl

theorem den_at (n : Fin 32) (κ : Fin 4) (g : Fin 8) (a : Fin 128) :
    val_main_v106 (F := Ideal) x0 x1 x3 (ix5 n κ g a 0) = (((A.cellZ n κ).den g a : ℝ) : EReal) := by
  rw [val_main_v106_apply, e_at H, val_main_v101_apply, val_main_v100_apply]
  unfold Cell.den
  rw [EReal.coe_add, coe_sum]
  refine congrArg (· + _) ((congrArg₂ (· + ·) (zero_word _) (Finset.sum_congr rfl fun j _ => ?_)).trans (zero_add _))
  exact (congrArg _ (eq_ix5 _)).trans (p_at H n κ g a j)

theorem prob_at (n : Fin 32) (κ : Fin 4) (g : Fin 8) (a : Fin 128) (j : Fin 256) :
    val_main_v108 (F := Ideal) x0 x1 x3 (ix5 n κ g a j) = (((A.cellZ n κ).p g a j / (A.cellZ n κ).den g a : ℝ) : EReal) := by
  rw [val_main_v108_apply, p_at H, val_main_v107_apply, ← div_coe_coe ((A.cellZ n κ).den_ne g a)]
  exact congrArg (Ideal.div _) ((congrArg _ (eq_ix5 _)).trans (den_at H n κ g a))

theorem inv_at (n : Fin 32) (κ : Fin 4) (g : Fin 8) (a : Fin 128) :
    val_main_v111 (F := Ideal) x0 x1 x3 (ix5 n κ g a 0) = ((1 / ((A.cellZ n κ).den g a * (A.cellZ n κ).den g a) : ℝ) : EReal) := by
  have hd := (A.cellZ n κ).den_ne g a
  rw [val_main_v111_apply, val_main_v109_apply, den_at H, val_main_v110_apply, ← div_coe_coe (mul_ne_zero hd hd), EReal.coe_mul,
    EReal.coe_one, ← Ideal.ofBits_one_f32]
  rfl

end At

end Cert.ReferenceIdeal.Swa

end
-- ==== Proof.RefBackward.lean ====
/-
  THE REFERENCE'S BACKWARD PASS READ AT AN INDEX. The gradient goes back through the softmax to the scores and from
  there to queries, keys, values and sinks; the part of it that goes through the row's maximum is zero.
-/
module

public import proofs.«01_k».proof.Proof.RefForward
public import Idealize.ShloMosaic.Lib.TwoAxisContraction
public import Idealize.ShloMosaic.Lib.KernelVsHost

@[expose] public section

noncomputable section

namespace Cert.ReferenceIdeal.Swa

open Idealize.ShloMosaic Idealize.ShloMosaic.ValueIdx Idealize.ShloMosaic.WordCmp Cert.ReferenceIdeal Cert.ReferenceIdeal.Gen
  Cert.ReferenceIdeal.Read Cert.Swa

/-! ## Products, sums and layout operations at an index -/

/-- The product that sums over heads and queries, for the values' gradient. -/
theorem values_dot (L : FVec Ideal S32x4x64x8x128 .f32) (R : FVec Ideal S32x4x8x128x256 .f32) (n : Fin 32) (κ : Fin 4) (u : Fin 64)
    (j : Fin 256) : Host.dotGeneral dot_S32x4x64x8x128_S32x4x8x128x256_S32x4x64x256_34_23_2_4_01_01 none L R (ix4 n κ u j)
      = ∑ g : Fin 8, ∑ a : Fin 128, (L (ix5 n κ u g a) * R (ix5 n κ g a j) : EReal) := by
  simp only [Host.dotGeneral]
  rw [Ideal.dotGeneral_apply, ← Equiv.sum_comp
    (contrEquiv2 dot_S32x4x64x8x128_S32x4x8x128x256_S32x4x64x256_34_23_2_4_01_01 8 128 rfl rfl rfl).symm, Fintype.sum_prod_type]
  refine Finset.sum_congr rfl fun g _ => Finset.sum_congr rfl fun a _ => ?_
  have h0 := contrEquiv2_symm_val0 dot_S32x4x64x8x128_S32x4x8x128x256_S32x4x64x256_34_23_2_4_01_01 8 128 rfl rfl rfl (g, a)
  have h1 := contrEquiv2_symm_val1 dot_S32x4x64x8x128_S32x4x8x128x256_S32x4x64x256_34_23_2_4_01_01 8 128 rfl rfl rfl (g, a)
  refine congrArg₂ (· * ·) (congrArg L (funext fun b => Fin.ext ?_)) (congrArg R (funext fun b => Fin.ext ?_))
  · match b with
    | ⟨0, _⟩ => rfl
    | ⟨1, _⟩ => rfl
    | ⟨2, _⟩ => rfl
    | ⟨3, _⟩ => exact h0
    | ⟨4, _⟩ => exact h1
  · match b with
    | ⟨0, _⟩ => rfl
    | ⟨1, _⟩ => rfl
    | ⟨2, _⟩ => exact h0
    | ⟨3, _⟩ => exact h1
    | ⟨4, _⟩ => rfl

/-- The product that sums over queries and heads, for the keys' gradient. -/
theorem keys_dot (L : FVec Ideal S32x4x256x128x8 .f32) (R : FVec Ideal S32x128x4x8x64 .f32) (n : Fin 32) (κ : Fin 4) (j : Fin 256)
    (u : Fin 64) : Host.dotGeneral dot_S32x4x256x128x8_S32x128x4x8x64_S32x4x256x64_34_13_2_4_01_02 none L R (ix4 n κ j u)
      = ∑ a : Fin 128, ∑ g : Fin 8, (L (ix5 n κ j a g) * R (ix5 n a κ g u) : EReal) := by
  simp only [Host.dotGeneral]
  rw [Ideal.dotGeneral_apply, ← Equiv.sum_comp
    (contrEquiv2 dot_S32x4x256x128x8_S32x128x4x8x64_S32x4x256x64_34_13_2_4_01_02 128 8 rfl rfl rfl).symm, Fintype.sum_prod_type]
  refine Finset.sum_congr rfl fun a _ => Finset.sum_congr rfl fun g _ => ?_
  have h0 := contrEquiv2_symm_val0 dot_S32x4x256x128x8_S32x128x4x8x64_S32x4x256x64_34_13_2_4_01_02 128 8 rfl rfl rfl (a, g)
  have h1 := contrEquiv2_symm_val1 dot_S32x4x256x128x8_S32x128x4x8x64_S32x4x256x64_34_13_2_4_01_02 128 8 rfl rfl rfl (a, g)
  refine congrArg₂ (· * ·) (congrArg L (funext fun b => Fin.ext ?_)) (congrArg R (funext fun b => Fin.ext ?_))
  · match b with
    | ⟨0, _⟩ => rfl
    | ⟨1, _⟩ => rfl
    | ⟨2, _⟩ => rfl
    | ⟨3, _⟩ => exact h0
    | ⟨4, _⟩ => exact h1
  · match b with
    | ⟨0, _⟩ => rfl
    | ⟨1, _⟩ => exact h0
    | ⟨2, _⟩ => rfl
    | ⟨3, _⟩ => exact h1
    | ⟨4, _⟩ => rfl

/-- A sum of zeros. -/
theorem zeros_sum {s t : Shape} {axes : List (Fin s.rank)} (h : s.ReducesTo axes t) (y : FVec Ideal s .f32) (hy : ∀ i, y i = (0 : EReal))
    (i : t.Idx) : Host.reduceAdd (F := Ideal) y (constant S_ .f32 0x00000000#32) h h_S_ i = (0 : EReal) := by
  refine (congrArg₂ (· + ·) (zero_word _) (Finset.sum_eq_zero fun k _ => hy k)).trans (zero_add 0)

/-- A trailing axis of size one. -/
theorem unit_axis (y : S32x4x8x128.Idx → EReal) (n : Fin 32) (κ : Fin 4) (g : Fin 8) (a : Fin 128) :
    shapeCast S32x4x8x128x1 y shapeCasts_S32x4x8x128_S32x4x8x128x1 (ix5 n κ g a 0) = y (ix4 n κ g a) :=
  shapeCast_apply y _ _ (ix4 n κ g a) (by
    rw [Shape.rowMajor_val_four, Shape.rowMajor_val_five]
    show ((n.val * 4 + κ.val) * 8 + g.val) * 128 + a.val = (((n.val * 4 + κ.val) * 8 + g.val) * 128 + a.val) * 1 + 0
    omega)

/-- A block's gradient out of its own band and the next block's. -/
theorem halves_at (y : S32x256x4x64.Idx → EReal) (z : S_.Idx → EReal) (hz : ∀ i, z i = 0) (f : Fin 32 → Fin 256 → Fin 4 → Fin 64 → ℝ)
    (hy : ∀ n j κ u, y (ix4 n j κ u) = ((f n j κ u : ℝ) : EReal)) (n : Fin 32) (a : Fin 128) (κ : Fin 4) (u : Fin 64) :
    addf (F := Ideal) (φ := .f32) (extractStridedSlice S32x128x4x64 ![0, 128, 0, 0] y slices_S32x256x4x64_S32x128x4x64_0_128_0_0)
      (pad S32x128x4x64 ![0, 0, 0, 0] ![1, 0, 0, 0] ![0, 0, 0, 0]
        (extractStridedSlice S31x128x4x64 ![1, 0, 0, 0]
          (extractStridedSlice S32x128x4x64 ![0, 0, 0, 0] y slices_S32x256x4x64_S32x128x4x64_0_0_0_0)
          slices_S32x128x4x64_S31x128x4x64_1_0_0_0) z pads_S31x128x4x64_S32x128x4x64_010_000_000_000 h_S_) (ix4 n a κ u)
      = ((f n ⟨128 + a.val, by omega⟩ κ u + Args.next (fun n' => f n' ⟨a.val, by omega⟩ κ u) n : ℝ) : EReal) := by
  rw [EReal.coe_add]
  refine congrArg₂ (· + ·) ?_ ?_
  · refine (extractStridedSlice_apply _ _ _ _ (ix4 n ⟨128 + a.val, by omega⟩ κ u) ?_).trans (hy _ _ _ _)
    intro b; fin_cases b <;> simp
  · unfold Args.next
    by_cases hn : n.val + 1 < 32
    · rw [dif_pos hn]
      refine (pad_apply_of_inside _ _ _ _ _ _ _ _ (ix4 ⟨n.val, by omega⟩ a κ u) ?_).trans ?_
      · intro b; fin_cases b <;> simp
      · refine (extractStridedSlice_apply _ _ _ _ (ix4 ⟨n.val + 1, hn⟩ a κ u) ?_).trans ?_
        · intro b; fin_cases b <;> simp [Nat.add_comm]
        · refine (extractStridedSlice_apply _ _ _ _ (ix4 ⟨n.val + 1, hn⟩ ⟨a.val, by omega⟩ κ u) ?_).trans (hy _ _ _ _)
          intro b; fin_cases b <;> simp
    · rw [dif_neg hn]
      refine (pad_apply_of_not_inside _ _ _ _ _ _ _ _ (0 : Fin 4) ?_).trans (hz _)
      show ¬(0 ≤ n.val ∧ (n.val - 0) % (0 + 1) = 0 ∧ (n.val - 0) / (0 + 1) < 31)
      omega

section At
variable {x0 : (⟨S4096x2048, .f32⟩ : BufTy).Contents (Elt Ideal)} {x1 x2 : (⟨S4096x256, .f32⟩ : BufTy).Contents (Elt Ideal)}
  {x3 : (⟨S32, .f32⟩ : BufTy).Contents (Elt Ideal)} {x4 : (⟨S4096x2048, .bf16⟩ : BufTy).Contents (Elt Ideal)} {A : Args}
  (H : Takes x0 x1 x2 x3 x4 A)
include H

/-! ## The gradient of the scores -/

theorem da_at (n : Fin 32) (κ : Fin 4) (g : Fin 8) (a : Fin 128) (j : Fin 256) :
    val_main_v118 (F := Ideal) x2 x4 (ix5 n κ g a j) = (((A.cellZ n κ).da g a j : ℝ) : EReal) := by
  refine (val_main_v118_apply x2 x4 _).trans ?_
  unfold Cell.da
  rw [← sum_coe_mul]
  refine Finset.sum_congr rfl fun u _ => ?_
  exact congrArg₂ (· * ·) ((congrArg _ (eq_ix5 _)).trans (d_at H n κ u g a)) ((congrArg _ (eq_ix4 _)).trans (v_at H n j κ u))

theorem t_at (n : Fin 32) (κ : Fin 4) (g : Fin 8) (a : Fin 128) :
    val_main_v126 (F := Ideal) x0 x1 x2 x3 x4 (ix5 n κ g a 0) = (((A.cellZ n κ).t g a : ℝ) : EReal) := by
  have e : ∀ j, val_main_v123 (F := Ideal) x0 x1 x2 x3 x4 (ix5 n κ g a j) = (((A.cellZ n κ).da g a j
      * (1 / ((A.cellZ n κ).den g a * (A.cellZ n κ).den g a)) * (A.cellZ n κ).p g a j : ℝ) : EReal) := by
    intro j
    have e1 : val_main_v121 (F := Ideal) x0 x1 x3 (ix5 n κ g a j)
        = ((1 / ((A.cellZ n κ).den g a * (A.cellZ n κ).den g a) : ℝ) : EReal) := by
      rw [val_main_v121_apply]; exact (congrArg _ (eq_ix5 _)).trans (inv_at H n κ g a)
    rw [val_main_v123_apply, val_main_v122_apply, da_at H, e1, p_at H, EReal.coe_mul, EReal.coe_mul]; rfl
  have e2 : val_main_v125 (F := Ideal) x0 x1 x2 x3 x4 (ix5 n κ g a 0) = ((∑ j, (A.cellZ n κ).da g a j
      * (1 / ((A.cellZ n κ).den g a * (A.cellZ n κ).den g a)) * (A.cellZ n κ).p g a j : ℝ) : EReal) := by
    refine (unit_axis _ n κ g a).trans ?_
    rw [val_main_v124_apply, coe_sum]
    refine (congrArg₂ (· + ·) (zero_word _) (Finset.sum_congr rfl fun j _ => ?_)).trans (zero_add _)
    exact (congrArg _ (eq_ix5 _)).trans (e j)
  rw [val_main_v126_apply, e2]
  exact (EReal.coe_neg _).symm

theorem te_at (n : Fin 32) (κ : Fin 4) (g : Fin 8) (a : Fin 128) : val_main_v129 (F := Ideal) x0 x1 x2 x3 x4 (ix5 n κ g a 0)
    = (((A.cellZ n κ).t g a * (A.cellZ n κ).e g a : ℝ) : EReal) := by
  rw [val_main_v129_apply, t_at H, e_at H, EReal.coe_mul]; rfl

theorem dpp_at (n : Fin 32) (κ : Fin 4) (g : Fin 8) (a : Fin 128) (j : Fin 256) :
    val_main_v138 (F := Ideal) x0 x1 x2 x3 x4 (ix5 n κ g a j)
      = (((A.cellZ n κ).dp g a j * (A.cellZ n κ).p g a j : ℝ) : EReal) := by
  have e1 : val_main_v127 (F := Ideal) x0 x1 x3 (ix5 n κ g a j) = (((A.cellZ n κ).den g a : ℝ) : EReal) := by
    rw [val_main_v127_apply]; exact (congrArg _ (eq_ix5 _)).trans (den_at H n κ g a)
  have e2 : val_main_v136 (F := Ideal) x0 x1 x2 x3 x4 (ix5 n κ g a j) = (((A.cellZ n κ).t g a : ℝ) : EReal) := by
    rw [val_main_v136_apply, val_main_v135_apply]
    refine (congrArg₂ (· + ·) (zero_word _) (Fin.sum_univ_one _)).trans ((zero_add _).trans ?_)
    exact (congrArg _ (eq_ix5 _)).trans (t_at H n κ g a)
  rw [val_main_v138_apply, val_main_v137_apply, val_main_v128_apply, da_at H, e1, e2, p_at H, Ideal.hostDivf_def,
    div_coe_coe ((A.cellZ n κ).den_ne g a)]
  unfold Cell.dp
  rw [EReal.coe_mul, EReal.coe_add]; rfl

/-- The gradient of the row's maximum is zero. -/
theorem dtop_at (i : S32x4x8x128x1.Idx) : val_main_v142 (F := Ideal) x0 x1 x2 x3 x4 i = (0 : EReal) := by
  obtain ⟨n, κ, g, a, rfl⟩ : ∃ (n : Fin 32) (κ : Fin 4) (g : Fin 8) (a : Fin 128), i = ix5 n κ g a 0 :=
    ⟨i 0, i 1, i 2, i 3, (eq_ix5 i).trans (congrArg (ix5 (i 0) (i 1) (i 2) (i 3)) (Subsingleton.elim (α := Fin 1) _ _))⟩
  have e : val_main_v141 (F := Ideal) x0 x1 x2 x3 x4 (ix5 n κ g a 0)
      = ((∑ j, -((A.cellZ n κ).dp g a j * (A.cellZ n κ).p g a j) : ℝ) : EReal) := by
    refine (unit_axis _ n κ g a).trans ?_
    rw [val_main_v140_apply, coe_sum]
    refine (congrArg₂ (· + ·) (zero_word _) (Finset.sum_congr rfl fun j _ => ?_)).trans (zero_add _)
    refine (congrArg _ (eq_ix5 _)).trans ?_
    rw [EReal.coe_neg, ← dpp_at H]; rfl
  rw [val_main_v142_apply, val_main_v132_apply, te_at H, e, Ideal.hostNegf_def, Ideal.addf_def, Ideal.negf_def, ← EReal.coe_neg, ← EReal.coe_add,
    Finset.sum_neg_distrib, ← neg_add, (A.cellZ n κ).dtop, neg_zero, EReal.coe_zero]

theorem ds_at (n : Fin 32) (κ : Fin 4) (j : Fin 256) (a : Fin 128) (g : Fin 8) :
    val_main_v160 (F := Ideal) x0 x1 x2 x3 x4 (ix5 n κ j a g) = (((A.cellZ n κ).ds g a j : ℝ) : EReal) := by
  classical
  have e1 : val_main_v151 (F := Ideal) x0 x1 x2 x3 x4 (ix4 n κ g a) = (0 : EReal) := by
    obtain ⟨r, hr, e⟩ := count_at H n κ g a
    have e2 : val_main_v150 (F := Ideal) x0 x1 x2 x3 x4 (ix4 n κ g a) = (0 : EReal) :=
      zeros_sum _ _ (fun i => by rw [val_main_v146_apply, dtop_at H, Ideal.mulf_def, zero_mul]) _
    rw [val_main_v151_apply, e2, e, Ideal.hostDivf_def, Ideal.div_coe hr, zero_mul]
  have e3 : val_main_v153 (F := Ideal) x0 x1 x2 x3 x4 (ix5 n κ g a j) = (0 : EReal) := by
    have e4 : val_main_v152 (F := Ideal) x0 x1 x2 x3 x4 (ix5 n κ g a j) = (0 : EReal) := by
      rw [val_main_v152_apply]; exact (congrArg _ (eq_ix4 _)).trans e1
    rw [val_main_v153_apply, e4, Ideal.mulf_def, zero_mul]
  have e5 : val_main_v159 (F := Ideal) x0 x1 x2 x3 x4 (ix5 n κ g a j) = (((A.cellZ n κ).ds g a j : ℝ) : EReal) := by
    have e6 : val_main_v158 (F := Ideal) (ix5 n κ g a j) = ((1 / 8 : ℝ) : EReal) := by
      rw [val_main_v158_apply, ← Cert.KernelIdeal.Swa.bits_eighth]; rfl
    unfold Cell.ds
    rw [val_main_v159_apply, val_main_v157_apply, mask_at A, val_main_v154_apply, dpp_at H, e3, Ideal.mulf_def, Ideal.addf_def, add_zero, e6,
      val_main_call1_v0_apply, EReal.coe_mul _ (1 / 8)]
    refine congrArg (fun y : EReal => y * _) ?_
    by_cases h : (A.cellZ n κ).ok a j
    · rw [if_pos h, decide_eq_true h]; rfl
    · rw [if_neg h, decide_eq_false h]
      exact zero_word (idx_main_call1_v0 (ix5 n κ g a j))
  rw [val_main_v160_apply]
  exact (congrArg _ (eq_ix5 _)).trans e5

/-! ## The results -/

theorem dq_at (n : Fin 32) (κ : Fin 4) (g : Fin 8) (a : Fin 128) (u : Fin 64) :
    val_main_v186 (F := Ideal) x0 x1 x2 x3 x4 (ix3 (headOf κ g) (rowIn n a) u) = ((A.dq n κ g a u : ℝ) : EReal) := by
  have e1 : val_main_v162 (F := Ideal) x0 x1 x2 x3 x4 (ix5 n a κ g u) = (((A.cellZ n κ).dq g a u : ℝ) : EReal) := by
    rw [val_main_v162_apply]
    refine (val_main_v161_apply x0 x1 x2 x3 x4 _).trans ?_
    unfold Cell.dq
    rw [← sum_coe_mul]
    refine Finset.sum_congr rfl fun j _ => ?_
    exact congrArg₂ (· * ·) ((congrArg _ (eq_ix5 _)).trans (ds_at H n κ j a g)) ((congrArg _ (eq_ix4 _)).trans (k_at H n j κ u))
  have e2 : val_main_v179 (F := Ideal) x0 x1 x2 x3 x4 (ix2 (rowIn n a) (colQ (headOf κ g) u))
      = val_main_v162 (F := Ideal) x0 x1 x2 x3 x4 (ix5 n a κ g u) :=
    shapeCast_apply _ _ _ (ix5 n a κ g u) (by
      rw [Shape.rowMajor_val_two, Shape.rowMajor_val_five]
      show (((n.val * 128 + a.val) * 4 + κ.val) * 8 + g.val) * 64 + u.val
        = (128 * n.val + a.val) * 2048 + (64 * (8 * κ.val + g.val) + u.val)
      omega)
  have e3 : val_main_v180 (F := Ideal) x0 x1 x2 x3 x4 (ix3 (rowIn n a) (headOf κ g) u)
      = val_main_v179 (F := Ideal) x0 x1 x2 x3 x4 (ix2 (rowIn n a) (colQ (headOf κ g) u)) :=
    shapeCast_apply _ _ _ (ix2 (rowIn n a) (colQ (headOf κ g) u)) (by
      rw [Shape.rowMajor_val_two, Shape.rowMajor_val_three]
      show (128 * n.val + a.val) * 2048 + (64 * (8 * κ.val + g.val) + u.val)
        = ((128 * n.val + a.val) * 32 + (8 * κ.val + g.val)) * 64 + u.val
      omega)
  unfold Args.dq
  rw [← (A.same_cell n κ).dq, ← e1, ← e2, ← e3]
  show val_main_v181 (F := Ideal) x0 x1 x2 x3 x4 _ = _
  rw [val_main_v181_apply]
  exact congrArg _ (eq_ix3 _)

omit H in
/-- Heads and channels of a key's gradient back into the layer's columns, and heads foremost. -/
theorem join_k (y : S32x128x4x64.Idx → EReal) (n : Fin 32) (a : Fin 128) (κ : Fin 4) (u : Fin 64) :
    shapeCast S4096x4x64 (shapeCast S4096x256 y shapeCasts_S32x128x4x64_S4096x256) shapeCasts_S4096x256_S4096x4x64 (ix3 (rowIn n a) κ u)
      = y (ix4 n a κ u) := by
  refine (shapeCast_apply _ _ _ (ix2 (rowIn n a) (colK κ u)) ?_).trans (shapeCast_apply _ _ _ (ix4 n a κ u) ?_)
  · rw [Shape.rowMajor_val_two, Shape.rowMajor_val_three]
    show (128 * n.val + a.val) * 256 + (64 * κ.val + u.val) = ((128 * n.val + a.val) * 4 + κ.val) * 64 + u.val
    omega
  · rw [Shape.rowMajor_val_two, Shape.rowMajor_val_four]
    show ((n.val * 128 + a.val) * 4 + κ.val) * 64 + u.val = (128 * n.val + a.val) * 256 + (64 * κ.val + u.val)
    omega

theorem dk_at (n : Fin 32) (κ : Fin 4) (a : Fin 128) (u : Fin 64) :
    val_main_v187 (F := Ideal) x0 x1 x2 x3 x4 (ix3 κ (rowIn n a) u) = ((A.dk n κ a u : ℝ) : EReal) := by
  have e1 : ∀ (n : Fin 32) (j : Fin 256) (κ : Fin 4) (u : Fin 64),
      val_main_v164 (F := Ideal) x0 x1 x2 x3 x4 (ix4 n j κ u) = (((A.cell n κ).dk j u : ℝ) : EReal) := by
    intro n j κ u
    rw [val_main_v164_apply, ← (A.same_cell n κ).dk]
    refine (congrArg _ (eq_ix4 _)).trans ((keys_dot _ _ n κ j u).trans ?_)
    unfold Cell.dk
    rw [coe_sum, Finset.sum_comm]
    refine Finset.sum_congr rfl fun g _ => ?_
    rw [← sum_coe_mul]
    exact Finset.sum_congr rfl fun a _ => by rw [ds_at H, q_at H]
  show val_main_v183 (F := Ideal) x0 x1 x2 x3 x4 _ = _
  rw [val_main_v183_apply]
  refine (congrArg _ (eq_ix3 _)).trans ((join_k _ n a κ u).trans ?_)
  exact halves_at _ _ zero_word (fun n j κ u => (A.cell n κ).dk j u) e1 n a κ u

theorem dv_at (n : Fin 32) (κ : Fin 4) (a : Fin 128) (u : Fin 64) :
    val_main_v188 (F := Ideal) x0 x1 x3 x4 (ix3 κ (rowIn n a) u) = ((A.dv n κ a u : ℝ) : EReal) := by
  have e1 : ∀ (n : Fin 32) (j : Fin 256) (κ : Fin 4) (u : Fin 64),
      val_main_v120 (F := Ideal) x0 x1 x3 x4 (ix4 n j κ u) = (((A.cell n κ).dv j u : ℝ) : EReal) := by
    intro n j κ u
    rw [val_main_v120_apply, ← (A.same_cell n κ).dv]
    refine (congrArg _ (eq_ix4 _)).trans ((values_dot _ _ n κ u j).trans ?_)
    unfold Cell.dv
    rw [coe_sum]
    refine Finset.sum_congr rfl fun g _ => ?_
    rw [← sum_coe_mul]
    exact Finset.sum_congr rfl fun a _ => by rw [d_at H, prob_at H, mul_comm]
  show val_main_v185 (F := Ideal) x0 x1 x3 x4 _ = _
  rw [val_main_v185_apply]
  refine (congrArg _ (eq_ix3 _)).trans ((join_k _ n a κ u).trans ?_)
  exact halves_at _ _ zero_word (fun n j κ u => (A.cell n κ).dv j u) e1 n a κ u

theorem dsink_at (κ : Fin 4) (g : Fin 8) :
    val_main_v189 (F := Ideal) x0 x1 x2 x3 x4 (ix3 (headOf κ g) 0 0) = ((A.dsink κ g : ℝ) : EReal) := by
  have e1 : val_main_v130 (F := Ideal) x0 x1 x2 x3 x4 (ix3 κ g 0) = ((A.dsink κ g : ℝ) : EReal) := by
    refine (hostSum_outer _ _ _ κ g).trans ((congrArg (· + _) (zero_word _)).trans ((zero_add _).trans ?_))
    unfold Args.dsink
    rw [coe_sum]
    refine Finset.sum_congr rfl fun n _ => ?_
    rw [← (A.same_cell n κ).dsink]
    unfold Cell.dsink
    rw [coe_sum]
    exact Finset.sum_congr rfl fun a _ => te_at H n κ g a
  have e2 : val_main_v133 (F := Ideal) x0 x1 x2 x3 x4 (ix2 κ g) = ((A.dsink κ g : ℝ) : EReal) := by
    refine (hostSum_unit _ _ _ κ g).trans ((congrArg (· + _) (zero_word _)).trans ((zero_add _).trans ?_))
    refine (shapeCast_apply _ _ _ (ix3 κ g 0) ?_).trans e1
    rw [Shape.rowMajor_val_three, Shape.rowMajor_val_five]
    show (κ.val * 8 + g.val) * 1 + 0 = (((0 * 4 + κ.val) * 8 + g.val) * 1 + 0) * 1 + 0
    omega
  have e3 : val_main_v134 (F := Ideal) x0 x1 x2 x3 x4 (ix4 κ g 0 0) = ((A.dsink κ g : ℝ) : EReal) := by
    rw [val_main_v134_apply]; exact (congrArg _ (eq_ix2 _)).trans e2
  have e4 : val_main_v148 (F := Ideal) x0 x1 x2 x3 x4 (ix4 κ g 0 0) = (0 : EReal) := by
    rw [val_main_v148_apply]
    refine zeros_sum _ _ (fun i => ?_) _
    rw [val_main_v145_apply]
    exact zeros_sum _ _ (fun i => by rw [val_main_v143_apply, dtop_at H, Ideal.mulf_def, zero_mul]) _
  have e5 : val_main_v155 (F := Ideal) x0 x1 x2 x3 x4 (ix2 κ g) = ((A.dsink κ g : ℝ) : EReal) := by
    refine (hostSum_last _ _ _ κ g).trans ((congrArg (· + _) (zero_word _)).trans ((zero_add _).trans ?_))
    rw [val_main_v149_apply, e3, e4, Ideal.addf_def, add_zero]
  refine (shapeCast_apply _ _ _ (ix1 (headOf κ g)) ?_).trans ((shapeCast_apply _ _ _ (ix2 κ g) ?_).trans e5)
  · rw [Shape.rowMajor_val_one, Shape.rowMajor_val_three]
    show 8 * κ.val + g.val = ((8 * κ.val + g.val) * 1 + 0) * 1 + 0
    omega
  · rw [Shape.rowMajor_val_one, Shape.rowMajor_val_two]
    show κ.val * 8 + g.val = 8 * κ.val + g.val
    omega

end At

end Cert.ReferenceIdeal.Swa

end
-- ==== Proof.Finite.lean ====
/-
  WHAT THE PRECONDITION SAYS: every entry of every argument is a real number. It is the conjunction, over the arguments, of
  `|x| < +∞` at every entry.
-/
module

public import proofs.«01_k».proof.Proof.Gen.Pre_finite
public import proofs.«01_k».proof.Proof.Whole
public import Idealize.ShloMosaic.Lib.ReduceAll
public import Idealize.ShloMosaic.Lib.Affine
public import Idealize.ShloMosaic.PureOps.Ideal

@[expose] public section

noncomputable section

namespace Cert.Swa

open Idealize.ShloMosaic

/-- A value whose absolute value is below the infinite word is a real number. -/
theorem real_of_below (x : EReal) (h : Ideal.cmp .olt (max x (-x)) (Ideal.ofBits .f32 0x7F800000#32) = 1#1) :
    x = ((x.toReal : ℝ) : EReal) := by
  have top : Ideal.ofBits .f32 0x7F800000#32 = ⊤ := by simp [Ideal.ofBits, Ideal.ieee]
  rw [top] at h
  have lt : max x (-x) < ⊤ := by
    by_contra hn
    simp [Ideal.cmp, hn] at h
  rw [max_lt_iff] at lt
  exact (EReal.coe_toReal (ne_of_lt lt.1) fun e => by simp [e] at lt).symm

/-- One conjunct of the precondition gives its whole array. -/
theorem real_of_all {s t u : Shape} [Subsingleton t.Idx] {axes : List (Fin s.rank)} (x : s.Idx → EReal) (init : u.Idx → BitVec 1)
    (h : s.ReducesTo axes t) (hu : 0 < u.numel) (j : t.Idx) (y : s.Idx → EReal) (hy : ∀ i, y i = Ideal.ofBits .f32 0x7F800000#32)
    (e : Host.reduce IntOp.andi (fun i => Ideal.cmp .olt (max (x i) (-(x i))) (y i)) init h hu j = 1#1) (i : s.Idx) :
    x i = (((x i).toReal : ℝ) : EReal) := by
  have b := Host.reduce_andi_all _ init h hu j e i
  rw [hy i] at b
  exact real_of_below _ b

instance : Subsingleton Cert.Pre_finite.S_.Idx := ⟨fun a b => funext fun i => i.elim0⟩

/-- The precondition on five arrays makes each of them real. -/
theorem real_of_finite (x0 : Cert.Pre_finite.S4096x2048.Idx → EReal) (x1 x2 : Cert.Pre_finite.S4096x256.Idx → EReal)
    (x3 : Cert.Pre_finite.S32.Idx → EReal) (x4 : Cert.Pre_finite.S4096x2048.Idx → EReal)
    (h : Cert.Pre_finite.fn (F := Ideal) x0 x1 x2 x3 x4 = fun _ => 1#1) :
    (∀ i, x0 i = (((x0 i).toReal : ℝ) : EReal)) ∧ (∀ i, x1 i = (((x1 i).toReal : ℝ) : EReal))
      ∧ (∀ i, x2 i = (((x2 i).toReal : ℝ) : EReal)) ∧ (∀ i, x3 i = (((x3 i).toReal : ℝ) : EReal))
      ∧ (∀ i, x4 i = (((x4 i).toReal : ℝ) : EReal)) := by
  have h0 := congrFun h (fun i => i.elim0)
  unfold Cert.Pre_finite.fn Cert.Pre_finite.fn_part1 at h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨real_of_all x0 _ _ _ _ _ (fun _ => rfl) h0, real_of_all x1 _ _ _ _ _ (fun _ => rfl) h1,
    real_of_all x2 _ _ _ _ _ (fun _ => rfl) h2, real_of_all x3 _ _ _ _ _ (fun _ => rfl) h3,
    real_of_all x4 _ _ _ _ _ (fun _ => rfl) h4⟩

end Cert.Swa
-- ==== Proof.Agree.lean ====
/-
  KERNEL AND REFERENCE AGREE. Both were read at an index as the gradients of one real array; here the four result
  arrays are compared whole, from arguments the two programs share.
-/
module

public import proofs.«01_k».proof.Proof.Arrays
public import proofs.«01_k».proof.Proof.RefBackward
public import proofs.«01_k».proof.Proof.Finite

@[expose] public section

noncomputable section

namespace Cert.Swa

open Idealize.ShloMosaic hiding ix1 ix2 ix3 eq_ix3
open Idealize.ShloMosaic.TcCoe Idealize.ShloMosaic.ValueIdx Cert.KernelIdeal Cert.KernelIdeal.Gen

/-- The real arrays behind five arrays. -/
def argsOf (x0 : S4096x2048.Idx → EReal) (x1 x2 : S4096x256.Idx → EReal) (x3 : S32.Idx → EReal) (x4 : S4096x2048.Idx → EReal) : Args where
  q r u := (x0 (ix2 r u)).toReal
  k r u := (x1 (ix2 r u)).toReal
  v r u := (x2 (ix2 r u)).toReal
  s h := (x3 (ix1 h)).toReal
  d r u := (x4 (ix2 r u)).toReal

/-- Every head is one of a key-value head's eight. -/
theorem headOf_surj (h : Fin 32) : ∃ κ g, h = headOf κ g :=
  ⟨⟨h.val / 8, by omega⟩, ⟨h.val % 8, by omega⟩, Fin.ext (show h.val = 8 * (h.val / 8) + h.val % 8 by omega)⟩

/-- Every position lies in a block. -/
theorem rowIn_surj (r : Fin 4096) : ∃ n a, r = rowIn n a :=
  ⟨⟨r.val / 128, by omega⟩, ⟨r.val % 128, by omega⟩, Fin.ext (show r.val = 128 * (r.val / 128) + r.val % 128 by omega)⟩

/-- Two arrays of queries' shape agree when they do at every head's every position. -/
theorem ext_heads {α : Type} {x y : S32x4096x64.Idx → α}
    (h : ∀ n κ g a u, x (ix3 (headOf κ g) (rowIn n a) u) = y (ix3 (headOf κ g) (rowIn n a) u)) : x = y := by
  funext j
  obtain ⟨κ, g, hh⟩ := headOf_surj (j 0)
  obtain ⟨n, a, hr⟩ := rowIn_surj (j 1)
  rw [eq_ix3 j, hh, hr]
  exact h n κ g a (j 2)

/-- Two arrays of keys' shape agree when they do at every head's every position. -/
theorem ext_kv {α : Type} {x y : S4x4096x64.Idx → α} (h : ∀ n κ a u, x (ix3 κ (rowIn n a) u) = y (ix3 κ (rowIn n a) u)) : x = y := by
  funext j
  obtain ⟨n, a, hr⟩ := rowIn_surj (j 1)
  rw [eq_ix3 j, hr]
  exact h n (j 0) a (j 2)

/-- Two arrays of one number a head agree when they do at every head. -/
theorem ext_sinks {α : Type} {x y : S32x1x1.Idx → α} (h : ∀ κ g, x (ix3 (headOf κ g) 0 0) = y (ix3 (headOf κ g) 0 0)) : x = y := by
  funext j
  obtain ⟨κ, g, hh⟩ := headOf_surj (j 0)
  rw [eq_ix3 j, hh, show j 1 = (0 : Fin 1) from Fin.ext (by have := (j 1).isLt; simp at this ⊢),
    show j 2 = (0 : Fin 1) from Fin.ext (by have := (j 2).isLt; simp at this ⊢)]
  exact h κ g

variable (m : (ℓ : Loc nD τ sig) → Buf (Elt Ideal) ℓ) (c : Dev nD)

/-- From real arguments, what the kernel leaves in its four results is the reference's four values. -/
theorem agree (h : Cert.Pre_finite.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4)) = fun _ => 1#1) :
    Cert.ReferenceIdeal.Read.val_main_v186 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
      = (dats m 0 c).arrAt 8 cfg0.N
    ∧ Cert.ReferenceIdeal.Read.val_main_v187 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
      = (dats m 0 c).arrAt 9 cfg0.N
    ∧ Cert.ReferenceIdeal.Read.val_main_v188 (F := Ideal) (m ((c : Thread nD τ).loc main_arg0)) (m ((c : Thread nD τ).loc main_arg1))
        (m ((c : Thread nD τ).loc main_arg3)) (m ((c : Thread nD τ).loc main_arg4))
      = (dats m 0 c).arrAt 10 cfg0.N
    ∧ Cert.ReferenceIdeal.Read.val_main_v189 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
      = (dats m 0 c).arrAt 11 cfg0.N := by
  obtain ⟨h0, h1, h2, h3, h4⟩ := real_of_finite _ _ _ _ _ h
  have H : Cert.KernelIdeal.Swa.Holds m c (argsOf (m ((c : Thread nD τ).loc main_arg0)) (m ((c : Thread nD τ).loc main_arg1))
      (m ((c : Thread nD τ).loc main_arg2)) (m ((c : Thread nD τ).loc main_arg3)) (m ((c : Thread nD τ).loc main_arg4))) :=
    ⟨fun r u => h0 (ix2 r u), fun r u => h1 (ix2 r u), fun r u => h2 (ix2 r u), fun g => h3 (ix1 g), fun r u => h4 (ix2 r u)⟩
  have T : Cert.ReferenceIdeal.Swa.Takes (m ((c : Thread nD τ).loc main_arg0)) (m ((c : Thread nD τ).loc main_arg1))
      (m ((c : Thread nD τ).loc main_arg2)) (m ((c : Thread nD τ).loc main_arg3)) (m ((c : Thread nD τ).loc main_arg4))
      (argsOf (m ((c : Thread nD τ).loc main_arg0)) (m ((c : Thread nD τ).loc main_arg1))
      (m ((c : Thread nD τ).loc main_arg2)) (m ((c : Thread nD τ).loc main_arg3)) (m ((c : Thread nD τ).loc main_arg4))) :=
    ⟨fun r u => h0 (ix2 r u), fun r u => h1 (ix2 r u), fun r u => h2 (ix2 r u), fun g => h3 (ix1 g), fun r u => h4 (ix2 r u)⟩
  exact ⟨ext_heads fun n κ g a u =>
      (Cert.ReferenceIdeal.Swa.dq_at T n κ g a u).trans (Cert.KernelIdeal.Swa.final_dq m c H n κ g a u).symm,
    ext_kv fun n κ a u => (Cert.ReferenceIdeal.Swa.dk_at T n κ a u).trans (Cert.KernelIdeal.Swa.final_dk m c H n κ a u).symm,
    ext_kv fun n κ a u => (Cert.ReferenceIdeal.Swa.dv_at T n κ a u).trans (Cert.KernelIdeal.Swa.final_dv m c H n κ a u).symm,
    ext_sinks fun κ g => (Cert.ReferenceIdeal.Swa.dsink_at T κ g).trans (Cert.KernelIdeal.Swa.final_dsink m c H κ g).symm⟩

end Cert.Swa
-- ==== Proof.Products.lean ====
/-
  PRODUCTS OF MATRICES OVER THE EXTENDED REALS, in the three orientations in which a training step needs them.
-/
module

public import Idealize.ShloMosaic.Lib.Pointwise
public import Idealize.ShloMosaic.Lib.Claim

@[expose] public section

noncomputable section

namespace Cert.Mm

open Idealize.ShloMosaic

variable {M N K : ℕ}

/-- The matrices of `M` rows and `N` columns. -/
abbrev Mat (M N : ℕ) : Type := (⟨2, ![M, N]⟩ : Shape).Idx → EReal

/-- `a · b`. -/
def nn (a : Mat M K) (b : Mat K N) (j : (⟨2, ![M, N]⟩ : Shape).Idx) : EReal := ∑ k : Fin K, a (ix2 (j 0) k) * b (ix2 k (j 1))

/-- `a · bᵀ`. -/
def nt (a : Mat M K) (b : Mat N K) (j : (⟨2, ![M, N]⟩ : Shape).Idx) : EReal := ∑ k : Fin K, a (ix2 (j 0) k) * b (ix2 (j 1) k)

/-- `aᵀ · b`. -/
def tn (a : Mat K M) (b : Mat K N) (j : (⟨2, ![M, N]⟩ : Shape).Idx) : EReal := ∑ k : Fin K, a (ix2 k (j 0)) * b (ix2 k (j 1))

/-- The sum of two matrices. -/
def plus (r p : Mat M N) (j : (⟨2, ![M, N]⟩ : Shape).Idx) : EReal := r j + p j

/-- The squares of the positive parts. -/
def reluSq (p : Mat M N) (j : (⟨2, ![M, N]⟩ : Shape).Idx) : EReal :=
  max (p j) (Ideal.ofBits .f32 0x00000000#32) * max (p j) (Ideal.ofBits .f32 0x00000000#32)

/-- The gradient `p` carried back through the squares of the positive parts of `u`. -/
def reluSqBack (p u : Mat M N) (j : (⟨2, ![M, N]⟩ : Shape).Idx) : EReal :=
  p j * Ideal.ofBits .f32 0x40000000#32 * max (u j) (Ideal.ofBits .f32 0x00000000#32)

/-- The derivative of a squared positive part, as the reference writes it: nothing where `u` is not positive. -/
theorem reluSqBack_eq (p u : EReal) : (if 0 < u then p * (Ideal.ofBits .f32 0x40000000#32 * max u 0) else 0)
    = p * Ideal.ofBits .f32 0x40000000#32 * max u 0 := by
  by_cases h : 0 < u
  · rw [if_pos h, mul_assoc]
  · rw [if_neg h, max_eq_right (not_lt.mp h), mul_zero]

end Cert.Mm

end
-- ==== Proof.DownDx.lean ====
/-
  THE GRADIENT BACK THROUGH THE SQUARED RELU: what the call leaves, and that it is what the reference computes.
-/
module

public import proofs.«01_k».proof.Defs
public import proofs.«01_k».proof.Proof.Products
public import proofs.«01_k».proof.Proof.Gen.DownDxIdeal.Value
public import proofs.«01_k».proof.Proof.Gen.DownDxRefIdeal.Run
public import Idealize.ShloMosaic.Lib.Pipeline.ValueKit
public import Idealize.ShloMosaic.Lib.Pipeline.ReadBack
public import Idealize.ShloMosaic.Lib.Claim

@[expose] public section

noncomputable section

namespace Cert.DownDxIdeal.Product

open Idealize.ShloMosaic
open Idealize.ShloMosaic.TcCoe Cert.DownDxIdeal Cert.DownDxIdeal.Gen Cert.DownDxIdeal.Value Cert.Mm Idealize.ShloMosaic.Pipeline

variable (m : (ℓ : Loc nD τ sig) → Buf (Elt Ideal) ℓ) (c : Dev nD)

/-- Which block of each array a grid point sees. -/
theorem index_all : ∀ t : Fin cfg0.N, win0_0.index t = ![t.val / 8, 0] ∧ win0_1.index t = ![t.val % 8, 0]
    ∧ win0_2.index t = ![t.val / 8, t.val % 8] ∧ win0_3.index t = ![t.val / 8, t.val % 8] :=
  (by decide +kernel : ∀ t : Fin grid0.N, win0_0.index t = ![t.val / 8, 0] ∧ win0_1.index t = ![t.val % 8, 0]
    ∧ win0_2.index t = ![t.val / 8, t.val % 8] ∧ win0_3.index t = ![t.val / 8, t.val % 8])

/-- The array the call leaves: the product with the transposed weights, times twice the positive part of `u`. -/
theorem final : (dats m 0 c).arrAt 3 cfg0.N =
    reluSqBack (M := 4096) (N := 8192) (nt (K := 2048) (m ((c : Thread nD τ).loc main_arg0)) (m ((c : Thread nD τ).loc main_arg1)))
      (m ((c : Thread nD τ).loc main_arg2)) := by
  refine (dats m 0 c).arrAt_eq_of_covers 3 _ (by decide +kernel) fun t hf y => ?_
  obtain ⟨e0, e1, e2, e3⟩ := index_all t
  blk_simp
  rw [after0_3]
  frame_out
  unfold reluSqBack nt
  pointwise [k0_pay1]
  blk_point [iblk, V, e0, e1, e2, e3]

end Cert.DownDxIdeal.Product

namespace Cert.DownDxIdeal.Product

open Idealize.ShloMosaic Idealize.SL.Sem

/-- The reference runs, keeps its arguments, and declares no semaphore. -/
theorem reference_frame : Cert.quiescent_DownDxRefIdeal (hDownDxRefIdeal := Cert.DownDxRefIdeal.Gen.facts) := fun m g _ =>
  (θ_run Cert.DownDxRefIdeal.defs _ _).mono
    (fun r h => ⟨fun c => (h c).2, sem_eq_zero_of_no_sems (by decide) r.2⟩) (Cert.DownDxRefIdeal.Value.run m g)

/-- From equal arguments the two programs leave equal gradients. -/
theorem agree : Cert.algebraic_DownDxIdeal_DownDxRefIdeal (hDownDxIdeal := Cert.DownDxIdeal.Gen.facts)
    (hDownDxRefIdeal := Cert.DownDxRefIdeal.Gen.facts) := by
  intro m g m' g' _ hagree
  refine ⟨_, Cert.DownDxIdeal.Value.run_blocks m g, ?_⟩
  refine (θ_run Cert.DownDxRefIdeal.defs _ _).mono (fun r h c => ⟨?_, (h c).2⟩) (Cert.DownDxRefIdeal.Value.run m' g')
  rw [(h c).1, (hagree c).1, (hagree c).2.1, (hagree c).2.2, final m c]
  funext i
  unfold Mm.reluSqBack Mm.nt
  pointwise
  exact Mm.reluSqBack_eq _ _

end Cert.DownDxIdeal.Product

end
-- ==== Proof.DownDw.lean ====
/-
  THE GRADIENT OF THE MLP'S SECOND WEIGHTS: what the call leaves, and that it is what the reference computes.
-/
module

public import proofs.«01_k».proof.Defs
public import proofs.«01_k».proof.Proof.Products
public import proofs.«01_k».proof.Proof.Gen.DownDwIdeal.Value
public import proofs.«01_k».proof.Proof.Gen.DownDwRefIdeal.Run
public import Idealize.ShloMosaic.Lib.Pipeline.ValueKit
public import Idealize.ShloMosaic.Lib.Pipeline.ReadBack
public import Idealize.ShloMosaic.Lib.Claim

@[expose] public section

noncomputable section

namespace Cert.DownDwIdeal.Product

open Idealize.ShloMosaic
open Idealize.ShloMosaic.TcCoe Cert.DownDwIdeal Cert.DownDwIdeal.Gen Cert.DownDwIdeal.Value Cert.Mm Idealize.ShloMosaic.Pipeline

variable (m : (ℓ : Loc nD τ sig) → Buf (Elt Ideal) ℓ) (c : Dev nD)

/-- The running sum after a point: the result at the last chunk, the carried scratch before. -/
def left (n : ℕ) (h : n < cfg0.N) : Mat 1024 1024 :=
  if n % 2 = 1 then (outsAt0 m c n h).1 else (outsAt0 m c n h).2

/-- The product of a point's blocks. -/
def term (t : Fin cfg0.N) : Mat 1024 1024 := tn (K := 2048) (iblk m c 0 t) (iblk m c 1 t)

theorem left_first (t : Fin cfg0.N) (h : t.val % 2 = 0) (j : S1024x1024.Idx) :
    left m c t.val t.isLt j = 0 + term m c t j := by
  unfold left term tn
  rw [if_neg (by omega), outsAt0_A m c t h (by omega)]
  frame_out
  pointwise [k0_pay1]

theorem left_next (t : Fin cfg0.N) (h : ¬t.val % 2 = 0) (j : S1024x1024.Idx) :
    left m c t.val t.isLt j = left m c (t.val - 1) (Nat.lt_of_le_of_lt (Nat.sub_le _ _) t.isLt) j + term m c t j := by
  unfold left term tn
  rw [if_neg (show ¬(t.val - 1) % 2 = 1 by omega)]
  rw [if_pos (show t.val % 2 = 1 by omega), outsAt0_B m c t h (by omega)]
  frame_out
  pointwise [k0_pay3, read_unread_whole]

/-- Which block of each array a grid point sees. -/
theorem index_all : ∀ t : Fin cfg0.N, win0_0.index t = ![t.val % 2, t.val / 4] ∧ win0_1.index t = ![t.val % 2, t.val / 2 % 2]
    ∧ win0_2.index t = ![t.val / 4, t.val / 2 % 2] :=
  (by decide +kernel : ∀ t : Fin grid0.N, win0_0.index t = ![t.val % 2, t.val / 4] ∧ win0_1.index t = ![t.val % 2, t.val / 2 % 2]
    ∧ win0_2.index t = ![t.val / 4, t.val / 2 % 2])

/-- The array the call leaves: the first factor transposed times the second. -/
theorem final : (dats m 0 c).arrAt 2 cfg0.N =
    tn (M := 8192) (N := 2048) (K := 4096) (m ((c : Thread nD τ).loc main_arg0)) (m ((c : Thread nD τ).loc main_arg1)) := by
  refine (dats m 0 c).arrAt_eq_of_covers 2 _ (by decide +kernel) fun t hf y => ?_
  have hr : t.val % 2 = 1 := (flush0_2 t).mp hf
  blk_simp
  rw [after0_2]
  have e : (outsAt0 m c t.val t.isLt).1 y = left m c t.val t.isLt y := by unfold left; rw [if_pos hr]
  rw [e, Pipeline.eq_sum_fin_of_reset_step_apply_of_flush (left m c) 2 (fun _ => 0) (term m c) (left_first m c) (left_next m c) t hr, zero_add]
  unfold term tn
  refine Fin.sum_mul_add_congr fun s k hl => ?_
  have ht := index_all t
  have hs := index_all ⟨_, Pipeline.run_point_lt_of_flush t hr s⟩
  blk_point [iblk, V, ht.2.2, hs.1, hs.2.1]

end Cert.DownDwIdeal.Product

namespace Cert.DownDwIdeal.Product

open Idealize.ShloMosaic Idealize.SL.Sem

/-- The reference runs, keeps its arguments, and declares no semaphore. -/
theorem reference_frame : Cert.quiescent_DownDwRefIdeal (hDownDwRefIdeal := Cert.DownDwRefIdeal.Gen.facts) := fun m g _ =>
  (θ_run Cert.DownDwRefIdeal.defs _ _).mono
    (fun r h => ⟨fun c => (h c).2, sem_eq_zero_of_no_sems (by decide) r.2⟩) (Cert.DownDwRefIdeal.Value.run m g)

/-- From equal arguments the two programs leave equal results. -/
theorem agree : Cert.algebraic_DownDwIdeal_DownDwRefIdeal (hDownDwIdeal := Cert.DownDwIdeal.Gen.facts)
    (hDownDwRefIdeal := Cert.DownDwRefIdeal.Gen.facts) := by
  intro m g m' g' _ hagree
  refine ⟨_, Cert.DownDwIdeal.Value.run_blocks m g, ?_⟩
  refine (θ_run Cert.DownDwRefIdeal.defs _ _).mono (fun r h c => ⟨?_, (h c).2⟩) (Cert.DownDwRefIdeal.Value.run m' g')
  rw [(h c).1, (hagree c).1, (hagree c).2, final m c]
  funext i
  unfold Mm.tn
  pointwise
  exact Finset.sum_congr rfl fun k _ => mul_comm _ _

end Cert.DownDwIdeal.Product

end
-- ==== Proof.UpDx.lean ====
/-
  THE GRADIENT OF THE MLP'S INPUT: what the blocked product leaves, and that it is what the reference computes.
-/
module

public import proofs.«01_k».proof.Defs
public import proofs.«01_k».proof.Proof.Products
public import proofs.«01_k».proof.Proof.Gen.UpDxIdeal.Value
public import proofs.«01_k».proof.Proof.Gen.UpDxRefIdeal.Run
public import Idealize.ShloMosaic.Lib.Pipeline.ValueKit
public import Idealize.ShloMosaic.Lib.Pipeline.ReadBack
public import Idealize.ShloMosaic.Lib.Claim

@[expose] public section

noncomputable section

namespace Cert.UpDxIdeal.Product

open Idealize.ShloMosaic
open Idealize.ShloMosaic.TcCoe Cert.UpDxIdeal Cert.UpDxIdeal.Gen Cert.UpDxIdeal.Value Cert.Mm Idealize.ShloMosaic.Pipeline

variable (m : (ℓ : Loc nD τ sig) → Buf (Elt Ideal) ℓ) (c : Dev nD)

/-- The running sum after a point: the result at the last chunk, the carried scratch before. -/
def left (n : ℕ) (h : n < cfg0.N) : Mat 1024 1024 :=
  if n % 4 = 3 then (outsAt0 m c n h).1 else (outsAt0 m c n h).2

/-- The product of a point's blocks. -/
def term (t : Fin cfg0.N) : Mat 1024 1024 := nt (K := 2048) (iblk m c 0 t) (iblk m c 1 t)

theorem left_first (t : Fin cfg0.N) (h : t.val % 4 = 0) (j : S1024x1024.Idx) :
    left m c t.val t.isLt j = 0 + term m c t j := by
  unfold left term nt
  rw [if_neg (by omega), outsAt0_A m c t h (by omega) (by omega)]
  frame_out
  pointwise [k0_pay1]

theorem left_next (t : Fin cfg0.N) (h : ¬t.val % 4 = 0) (j : S1024x1024.Idx) :
    left m c t.val t.isLt j = left m c (t.val - 1) (Nat.lt_of_le_of_lt (Nat.sub_le _ _) t.isLt) j + term m c t j := by
  unfold left term nt
  rw [if_neg (show ¬(t.val - 1) % 4 = 3 by omega)]
  by_cases h3 : t.val % 4 = 3
  · rw [if_pos h3, outsAt0_C m c t h (by omega) h3]
    frame_out
    pointwise [k0_pay3, read_unread_whole]
  · rw [if_neg h3, outsAt0_B m c t h (by omega) h3]
    frame_out
    pointwise [k0_pay2, read_unread_whole]

/-- Which block of each array a grid point sees. -/
theorem index_all : ∀ t : Fin cfg0.N, win0_0.index t = ![t.val / 8, t.val % 4] ∧ win0_1.index t = ![t.val / 4 % 2, t.val % 4]
    ∧ win0_2.index t = ![t.val / 8, t.val / 4 % 2] :=
  (by decide +kernel : ∀ t : Fin grid0.N, win0_0.index t = ![t.val / 8, t.val % 4] ∧ win0_1.index t = ![t.val / 4 % 2, t.val % 4]
    ∧ win0_2.index t = ![t.val / 8, t.val / 4 % 2])

/-- The array the call leaves: the first factor times the second transposed. -/
theorem final : (dats m 0 c).arrAt 2 cfg0.N =
    nt (M := 4096) (N := 2048) (K := 8192) (m ((c : Thread nD τ).loc main_arg0)) (m ((c : Thread nD τ).loc main_arg1)) := by
  refine (dats m 0 c).arrAt_eq_of_covers 2 _ (by decide +kernel) fun t hf y => ?_
  have hr : t.val % 4 = 3 := (flush0_2 t).mp hf
  blk_simp
  rw [after0_2]
  have e : (outsAt0 m c t.val t.isLt).1 y = left m c t.val t.isLt y := by unfold left; rw [if_pos hr]
  rw [e, Pipeline.eq_sum_fin_of_reset_step_apply_of_flush (left m c) 4 (fun _ => 0) (term m c) (left_first m c) (left_next m c) t hr, zero_add]
  unfold term nt
  refine Fin.sum_mul_add_congr fun s k hl => ?_
  have ht := index_all t
  have hs := index_all ⟨_, Pipeline.run_point_lt_of_flush t hr s⟩
  blk_point [iblk, V, ht.2.2, hs.1, hs.2.1]

end Cert.UpDxIdeal.Product

namespace Cert.UpDxIdeal.Product

open Idealize.ShloMosaic Idealize.SL.Sem

/-- The reference runs, keeps its arguments, and declares no semaphore. -/
theorem reference_frame : Cert.quiescent_UpDxRefIdeal (hUpDxRefIdeal := Cert.UpDxRefIdeal.Gen.facts) := fun m g _ =>
  (θ_run Cert.UpDxRefIdeal.defs _ _).mono
    (fun r h => ⟨fun c => (h c).2, sem_eq_zero_of_no_sems (by decide) r.2⟩) (Cert.UpDxRefIdeal.Value.run m g)

/-- From equal arguments the two programs leave equal results. -/
theorem agree : Cert.algebraic_UpDxIdeal_UpDxRefIdeal (hUpDxIdeal := Cert.UpDxIdeal.Gen.facts)
    (hUpDxRefIdeal := Cert.UpDxRefIdeal.Gen.facts) := by
  intro m g m' g' _ hagree
  refine ⟨_, Cert.UpDxIdeal.Value.run_blocks m g, ?_⟩
  refine (θ_run Cert.UpDxRefIdeal.defs _ _).mono (fun r h c => ⟨?_, (h c).2⟩) (Cert.UpDxRefIdeal.Value.run m' g')
  rw [(h c).1, (hagree c).1, (hagree c).2, final m c]
  funext i
  unfold Mm.nt
  pointwise

end Cert.UpDxIdeal.Product

end
-- ==== Proof.UpDw.lean ====
/-
  THE GRADIENT OF THE MLP'S FIRST WEIGHTS: what the call leaves, and that it is what the reference computes.
-/
module

public import proofs.«01_k».proof.Defs
public import proofs.«01_k».proof.Proof.Products
public import proofs.«01_k».proof.Proof.Gen.UpDwIdeal.Value
public import proofs.«01_k».proof.Proof.Gen.UpDwRefIdeal.Run
public import Idealize.ShloMosaic.Lib.Pipeline.ValueKit
public import Idealize.ShloMosaic.Lib.Pipeline.ReadBack
public import Idealize.ShloMosaic.Lib.Claim

@[expose] public section

noncomputable section

namespace Cert.UpDwIdeal.Product

open Idealize.ShloMosaic
open Idealize.ShloMosaic.TcCoe Cert.UpDwIdeal Cert.UpDwIdeal.Gen Cert.UpDwIdeal.Value Cert.Mm Idealize.ShloMosaic.Pipeline

variable (m : (ℓ : Loc nD τ sig) → Buf (Elt Ideal) ℓ) (c : Dev nD)

/-- The running sum after a point: the result at the last chunk, the carried scratch before. -/
def left (n : ℕ) (h : n < cfg0.N) : Mat 1024 1024 :=
  if n % 2 = 1 then (outsAt0 m c n h).1 else (outsAt0 m c n h).2

/-- The product of a point's blocks. -/
def term (t : Fin cfg0.N) : Mat 1024 1024 := tn (K := 2048) (iblk m c 0 t) (iblk m c 1 t)

theorem left_first (t : Fin cfg0.N) (h : t.val % 2 = 0) (j : S1024x1024.Idx) :
    left m c t.val t.isLt j = 0 + term m c t j := by
  unfold left term tn
  rw [if_neg (by omega), outsAt0_A m c t h (by omega)]
  frame_out
  pointwise [k0_pay1]

theorem left_next (t : Fin cfg0.N) (h : ¬t.val % 2 = 0) (j : S1024x1024.Idx) :
    left m c t.val t.isLt j = left m c (t.val - 1) (Nat.lt_of_le_of_lt (Nat.sub_le _ _) t.isLt) j + term m c t j := by
  unfold left term tn
  rw [if_neg (show ¬(t.val - 1) % 2 = 1 by omega)]
  rw [if_pos (show t.val % 2 = 1 by omega), outsAt0_B m c t h (by omega)]
  frame_out
  pointwise [k0_pay3, read_unread_whole]

/-- Which block of each array a grid point sees. -/
theorem index_all : ∀ t : Fin cfg0.N, win0_0.index t = ![t.val % 2, t.val / 16] ∧ win0_1.index t = ![t.val % 2, t.val / 2 % 8]
    ∧ win0_2.index t = ![t.val / 16, t.val / 2 % 8] :=
  (by decide +kernel : ∀ t : Fin grid0.N, win0_0.index t = ![t.val % 2, t.val / 16] ∧ win0_1.index t = ![t.val % 2, t.val / 2 % 8]
    ∧ win0_2.index t = ![t.val / 16, t.val / 2 % 8])

/-- The array the call leaves: the first factor transposed times the second. -/
theorem final : (dats m 0 c).arrAt 2 cfg0.N =
    tn (M := 2048) (N := 8192) (K := 4096) (m ((c : Thread nD τ).loc main_arg0)) (m ((c : Thread nD τ).loc main_arg1)) := by
  refine (dats m 0 c).arrAt_eq_of_covers 2 _ (by decide +kernel) fun t hf y => ?_
  have hr : t.val % 2 = 1 := (flush0_2 t).mp hf
  blk_simp
  rw [after0_2]
  have e : (outsAt0 m c t.val t.isLt).1 y = left m c t.val t.isLt y := by unfold left; rw [if_pos hr]
  rw [e, Pipeline.eq_sum_fin_of_reset_step_apply_of_flush (left m c) 2 (fun _ => 0) (term m c) (left_first m c) (left_next m c) t hr, zero_add]
  unfold term tn
  refine Fin.sum_mul_add_congr fun s k hl => ?_
  have ht := index_all t
  have hs := index_all ⟨_, Pipeline.run_point_lt_of_flush t hr s⟩
  blk_point [iblk, V, ht.2.2, hs.1, hs.2.1]

end Cert.UpDwIdeal.Product

namespace Cert.UpDwIdeal.Product

open Idealize.ShloMosaic Idealize.SL.Sem

/-- The reference runs, keeps its arguments, and declares no semaphore. -/
theorem reference_frame : Cert.quiescent_UpDwRefIdeal (hUpDwRefIdeal := Cert.UpDwRefIdeal.Gen.facts) := fun m g _ =>
  (θ_run Cert.UpDwRefIdeal.defs _ _).mono
    (fun r h => ⟨fun c => (h c).2, sem_eq_zero_of_no_sems (by decide) r.2⟩) (Cert.UpDwRefIdeal.Value.run m g)

/-- From equal arguments the two programs leave equal results. -/
theorem agree : Cert.algebraic_UpDwIdeal_UpDwRefIdeal (hUpDwIdeal := Cert.UpDwIdeal.Gen.facts)
    (hUpDwRefIdeal := Cert.UpDwRefIdeal.Gen.facts) := by
  intro m g m' g' _ hagree
  refine ⟨_, Cert.UpDwIdeal.Value.run_blocks m g, ?_⟩
  refine (θ_run Cert.UpDwRefIdeal.defs _ _).mono (fun r h c => ⟨?_, (h c).2⟩) (Cert.UpDwRefIdeal.Value.run m' g')
  rw [(h c).1, (hagree c).1, (hagree c).2, final m c]
  funext i
  unfold Mm.tn
  pointwise
  exact Finset.sum_congr rfl fun k _ => mul_comm _ _

end Cert.UpDwIdeal.Product

end
-- ==== Proof.OutDx.lean ====
/-
  THE GRADIENT OF THE MIXER'S OUTPUT: what the call leaves, and that it is what the reference computes.
-/
module

public import proofs.«01_k».proof.Defs
public import proofs.«01_k».proof.Proof.Products
public import proofs.«01_k».proof.Proof.Gen.OutDxIdeal.Value
public import proofs.«01_k».proof.Proof.Gen.OutDxRefIdeal.Run
public import Idealize.ShloMosaic.Lib.Pipeline.ValueKit
public import Idealize.ShloMosaic.Lib.Pipeline.ReadBack
public import Idealize.ShloMosaic.Lib.Claim

@[expose] public section

noncomputable section

namespace Cert.OutDxIdeal.Product

open Idealize.ShloMosaic
open Idealize.ShloMosaic.TcCoe Cert.OutDxIdeal Cert.OutDxIdeal.Gen Cert.OutDxIdeal.Value Cert.Mm Idealize.ShloMosaic.Pipeline

variable (m : (ℓ : Loc nD τ sig) → Buf (Elt Ideal) ℓ) (c : Dev nD)

/-- Which block of each array a grid point sees. -/
theorem index_all : ∀ t : Fin cfg0.N, win0_0.index t = ![t.val / 2, 0] ∧ win0_1.index t = ![t.val % 2, 0]
    ∧ win0_2.index t = ![t.val / 2, t.val % 2] :=
  (by decide +kernel : ∀ t : Fin grid0.N, win0_0.index t = ![t.val / 2, 0] ∧ win0_1.index t = ![t.val % 2, 0]
    ∧ win0_2.index t = ![t.val / 2, t.val % 2])

/-- The array the call leaves: the first factor times the second transposed. -/
theorem final : (dats m 0 c).arrAt 2 cfg0.N =
    nt (M := 4096) (N := 2048) (K := 2048) (m ((c : Thread nD τ).loc main_arg0)) (m ((c : Thread nD τ).loc main_arg1)) := by
  refine (dats m 0 c).arrAt_eq_of_covers 2 _ (by decide +kernel) fun t hf y => ?_
  obtain ⟨e0, e1, e2⟩ := index_all t
  blk_simp
  rw [after0_2]
  frame_out
  unfold nt
  pointwise [k0_pay1]
  blk_point [iblk, V, e0, e1, e2]

end Cert.OutDxIdeal.Product

namespace Cert.OutDxIdeal.Product

open Idealize.ShloMosaic Idealize.SL.Sem

/-- The reference runs, keeps its arguments, and declares no semaphore. -/
theorem reference_frame : Cert.quiescent_OutDxRefIdeal (hOutDxRefIdeal := Cert.OutDxRefIdeal.Gen.facts) := fun m g _ =>
  (θ_run Cert.OutDxRefIdeal.defs _ _).mono
    (fun r h => ⟨fun c => (h c).2, sem_eq_zero_of_no_sems (by decide) r.2⟩) (Cert.OutDxRefIdeal.Value.run m g)

/-- From equal arguments the two programs leave equal results. -/
theorem agree : Cert.algebraic_OutDxIdeal_OutDxRefIdeal (hOutDxIdeal := Cert.OutDxIdeal.Gen.facts)
    (hOutDxRefIdeal := Cert.OutDxRefIdeal.Gen.facts) := by
  intro m g m' g' _ hagree
  refine ⟨_, Cert.OutDxIdeal.Value.run_blocks m g, ?_⟩
  refine (θ_run Cert.OutDxRefIdeal.defs _ _).mono (fun r h c => ⟨?_, (h c).2⟩) (Cert.OutDxRefIdeal.Value.run m' g')
  rw [(h c).1, (hagree c).1, (hagree c).2, final m c]
  funext i
  unfold Mm.nt
  pointwise

end Cert.OutDxIdeal.Product

end
-- ==== Proof.BranchDx.lean ====
/-
  THE GRADIENTS OF THE BRANCHES' OUTPUTS: what the call leaves, and that it is what the reference computes.
-/
module

public import proofs.«01_k».proof.Defs
public import proofs.«01_k».proof.Proof.Products
public import proofs.«01_k».proof.Proof.Gen.BranchDxIdeal.Value
public import proofs.«01_k».proof.Proof.Gen.BranchDxRefIdeal.Run
public import Idealize.ShloMosaic.Lib.Pipeline.ValueKit
public import Idealize.ShloMosaic.Lib.Pipeline.ReadBack
public import Idealize.ShloMosaic.Lib.Claim

@[expose] public section

noncomputable section

namespace Cert.BranchDxIdeal.Product

open Idealize.ShloMosaic
open Idealize.ShloMosaic.TcCoe Cert.BranchDxIdeal Cert.BranchDxIdeal.Gen Cert.BranchDxIdeal.Value Cert.Mm Idealize.ShloMosaic.Pipeline

variable (m : (ℓ : Loc nD τ sig) → Buf (Elt Ideal) ℓ) (c : Dev nD)

/-- Which block of each array a grid point sees. -/
theorem index_all : ∀ t : Fin cfg0.N, win0_0.index t = ![t.val / 2, 0] ∧ win0_1.index t = ![t.val % 2, 0]
    ∧ win0_2.index t = ![t.val / 2, t.val % 2] :=
  (by decide +kernel : ∀ t : Fin grid0.N, win0_0.index t = ![t.val / 2, 0] ∧ win0_1.index t = ![t.val % 2, 0]
    ∧ win0_2.index t = ![t.val / 2, t.val % 2])

/-- The array the call leaves: the first factor times the second transposed. -/
theorem final : (dats m 0 c).arrAt 2 cfg0.N =
    nt (M := 4096) (N := 2048) (K := 2048) (m ((c : Thread nD τ).loc main_arg0)) (m ((c : Thread nD τ).loc main_arg1)) := by
  refine (dats m 0 c).arrAt_eq_of_covers 2 _ (by decide +kernel) fun t hf y => ?_
  obtain ⟨e0, e1, e2⟩ := index_all t
  blk_simp
  rw [after0_2]
  frame_out
  unfold nt
  pointwise [k0_pay1]
  blk_point [iblk, V, e0, e1, e2]

end Cert.BranchDxIdeal.Product

namespace Cert.BranchDxIdeal.Product

open Idealize.ShloMosaic Idealize.SL.Sem

/-- The reference runs, keeps its arguments, and declares no semaphore. -/
theorem reference_frame : Cert.quiescent_BranchDxRefIdeal (hBranchDxRefIdeal := Cert.BranchDxRefIdeal.Gen.facts) := fun m g _ =>
  (θ_run Cert.BranchDxRefIdeal.defs _ _).mono
    (fun r h => ⟨fun c => (h c).2, sem_eq_zero_of_no_sems (by decide) r.2⟩) (Cert.BranchDxRefIdeal.Value.run m g)

/-- From equal arguments the two programs leave equal results. -/
theorem agree : Cert.algebraic_BranchDxIdeal_BranchDxRefIdeal (hBranchDxIdeal := Cert.BranchDxIdeal.Gen.facts)
    (hBranchDxRefIdeal := Cert.BranchDxRefIdeal.Gen.facts) := by
  intro m g m' g' _ hagree
  refine ⟨_, Cert.BranchDxIdeal.Value.run_blocks m g, ?_⟩
  refine (θ_run Cert.BranchDxRefIdeal.defs _ _).mono (fun r h c => ⟨?_, (h c).2⟩) (Cert.BranchDxRefIdeal.Value.run m' g')
  rw [(h c).1, (hagree c).1, (hagree c).2, final m c]
  funext i
  unfold Mm.nt
  pointwise

end Cert.BranchDxIdeal.Product

end
-- ==== Proof.SquareDw.lean ====
/-
  THE GRADIENTS OF THE BRANCHES' AND THE MIXER'S WEIGHTS: what the call leaves, and that it is what the reference computes.
-/
module

public import proofs.«01_k».proof.Defs
public import proofs.«01_k».proof.Proof.Products
public import proofs.«01_k».proof.Proof.Gen.SquareDwIdeal.Value
public import proofs.«01_k».proof.Proof.Gen.SquareDwRefIdeal.Run
public import Idealize.ShloMosaic.Lib.Pipeline.ValueKit
public import Idealize.ShloMosaic.Lib.Pipeline.ReadBack
public import Idealize.ShloMosaic.Lib.Claim

@[expose] public section

noncomputable section

namespace Cert.SquareDwIdeal.Product

open Idealize.ShloMosaic
open Idealize.ShloMosaic.TcCoe Cert.SquareDwIdeal Cert.SquareDwIdeal.Gen Cert.SquareDwIdeal.Value Cert.Mm Idealize.ShloMosaic.Pipeline

variable (m : (ℓ : Loc nD τ sig) → Buf (Elt Ideal) ℓ) (c : Dev nD)

/-- The running sum after a point: the result at the last chunk, the carried scratch before. -/
def left (n : ℕ) (h : n < cfg0.N) : Mat 1024 1024 :=
  if n % 2 = 1 then (outsAt0 m c n h).1 else (outsAt0 m c n h).2

/-- The product of a point's blocks. -/
def term (t : Fin cfg0.N) : Mat 1024 1024 := tn (K := 2048) (iblk m c 0 t) (iblk m c 1 t)

theorem left_first (t : Fin cfg0.N) (h : t.val % 2 = 0) (j : S1024x1024.Idx) :
    left m c t.val t.isLt j = 0 + term m c t j := by
  unfold left term tn
  rw [if_neg (by omega), outsAt0_A m c t h (by omega)]
  frame_out
  pointwise [k0_pay1]

theorem left_next (t : Fin cfg0.N) (h : ¬t.val % 2 = 0) (j : S1024x1024.Idx) :
    left m c t.val t.isLt j = left m c (t.val - 1) (Nat.lt_of_le_of_lt (Nat.sub_le _ _) t.isLt) j + term m c t j := by
  unfold left term tn
  rw [if_neg (show ¬(t.val - 1) % 2 = 1 by omega)]
  rw [if_pos (show t.val % 2 = 1 by omega), outsAt0_B m c t h (by omega)]
  frame_out
  pointwise [k0_pay3, read_unread_whole]

/-- Which block of each array a grid point sees. -/
theorem index_all : ∀ t : Fin cfg0.N, win0_0.index t = ![t.val % 2, t.val / 4] ∧ win0_1.index t = ![t.val % 2, t.val / 2 % 2]
    ∧ win0_2.index t = ![t.val / 4, t.val / 2 % 2] :=
  (by decide +kernel : ∀ t : Fin grid0.N, win0_0.index t = ![t.val % 2, t.val / 4] ∧ win0_1.index t = ![t.val % 2, t.val / 2 % 2]
    ∧ win0_2.index t = ![t.val / 4, t.val / 2 % 2])

/-- The array the call leaves: the first factor transposed times the second. -/
theorem final : (dats m 0 c).arrAt 2 cfg0.N =
    tn (M := 2048) (N := 2048) (K := 4096) (m ((c : Thread nD τ).loc main_arg0)) (m ((c : Thread nD τ).loc main_arg1)) := by
  refine (dats m 0 c).arrAt_eq_of_covers 2 _ (by decide +kernel) fun t hf y => ?_
  have hr : t.val % 2 = 1 := (flush0_2 t).mp hf
  blk_simp
  rw [after0_2]
  have e : (outsAt0 m c t.val t.isLt).1 y = left m c t.val t.isLt y := by unfold left; rw [if_pos hr]
  rw [e, Pipeline.eq_sum_fin_of_reset_step_apply_of_flush (left m c) 2 (fun _ => 0) (term m c) (left_first m c) (left_next m c) t hr, zero_add]
  unfold term tn
  refine Fin.sum_mul_add_congr fun s k hl => ?_
  have ht := index_all t
  have hs := index_all ⟨_, Pipeline.run_point_lt_of_flush t hr s⟩
  blk_point [iblk, V, ht.2.2, hs.1, hs.2.1]

end Cert.SquareDwIdeal.Product

namespace Cert.SquareDwIdeal.Product

open Idealize.ShloMosaic Idealize.SL.Sem

/-- The reference runs, keeps its arguments, and declares no semaphore. -/
theorem reference_frame : Cert.quiescent_SquareDwRefIdeal (hSquareDwRefIdeal := Cert.SquareDwRefIdeal.Gen.facts) := fun m g _ =>
  (θ_run Cert.SquareDwRefIdeal.defs _ _).mono
    (fun r h => ⟨fun c => (h c).2, sem_eq_zero_of_no_sems (by decide) r.2⟩) (Cert.SquareDwRefIdeal.Value.run m g)

/-- From equal arguments the two programs leave equal results. -/
theorem agree : Cert.algebraic_SquareDwIdeal_SquareDwRefIdeal (hSquareDwIdeal := Cert.SquareDwIdeal.Gen.facts)
    (hSquareDwRefIdeal := Cert.SquareDwRefIdeal.Gen.facts) := by
  intro m g m' g' _ hagree
  refine ⟨_, Cert.SquareDwIdeal.Value.run_blocks m g, ?_⟩
  refine (θ_run Cert.SquareDwRefIdeal.defs _ _).mono (fun r h c => ⟨?_, (h c).2⟩) (Cert.SquareDwRefIdeal.Value.run m' g')
  rw [(h c).1, (hagree c).1, (hagree c).2, final m c]
  funext i
  unfold Mm.tn
  pointwise
  exact Finset.sum_congr rfl fun k _ => mul_comm _ _

end Cert.SquareDwIdeal.Product

end
-- ==== Proof.ProjDx.lean ====
/-
  THE GRADIENT OF THE INPUT PROJECTION'S INPUT: what the call leaves, and that it is what the reference computes.
-/
module

public import proofs.«01_k».proof.Defs
public import proofs.«01_k».proof.Proof.Products
public import proofs.«01_k».proof.Proof.Gen.ProjDxIdeal.Value
public import proofs.«01_k».proof.Proof.Gen.ProjDxRefIdeal.Run
public import Idealize.ShloMosaic.Lib.Pipeline.ValueKit
public import Idealize.ShloMosaic.Lib.Pipeline.ReadBack
public import Idealize.ShloMosaic.Lib.Claim

@[expose] public section

noncomputable section

namespace Cert.ProjDxIdeal.Product

open Idealize.ShloMosaic
open Idealize.ShloMosaic.TcCoe Cert.ProjDxIdeal Cert.ProjDxIdeal.Gen Cert.ProjDxIdeal.Value Cert.Mm Idealize.ShloMosaic.Pipeline

variable (m : (ℓ : Loc nD τ sig) → Buf (Elt Ideal) ℓ) (c : Dev nD)

/-- The running sum after a point: the result at the last chunk, the carried scratch before. -/
def left (n : ℕ) (h : n < cfg0.N) : Mat 1024 1024 :=
  if n % 8 = 7 then (outsAt0 m c n h).1 else (outsAt0 m c n h).2

/-- The product of a point's blocks. -/
def term (t : Fin cfg0.N) : Mat 1024 1024 := nt (K := 1920) (iblk m c 0 t) (iblk m c 1 t)

theorem left_first (t : Fin cfg0.N) (h : t.val % 8 = 0) (j : S1024x1024.Idx) :
    left m c t.val t.isLt j = 0 + term m c t j := by
  unfold left term nt
  rw [if_neg (by omega), outsAt0_A m c t h (by omega) (by omega)]
  frame_out
  pointwise [k0_pay1]

theorem left_next (t : Fin cfg0.N) (h : ¬t.val % 8 = 0) (j : S1024x1024.Idx) :
    left m c t.val t.isLt j = left m c (t.val - 1) (Nat.lt_of_le_of_lt (Nat.sub_le _ _) t.isLt) j + term m c t j := by
  unfold left term nt
  rw [if_neg (show ¬(t.val - 1) % 8 = 7 by omega)]
  by_cases h3 : t.val % 8 = 7
  · rw [if_pos h3, outsAt0_C m c t h (by omega) h3]
    frame_out
    pointwise [k0_pay3, read_unread_whole]
  · rw [if_neg h3, outsAt0_B m c t h (by omega) h3]
    frame_out
    pointwise [k0_pay2, read_unread_whole]

/-- Which block of each array a grid point sees. -/
theorem index_all : ∀ t : Fin cfg0.N, win0_0.index t = ![t.val / 16, t.val % 8] ∧ win0_1.index t = ![t.val / 8 % 2, t.val % 8]
    ∧ win0_2.index t = ![t.val / 16, t.val / 8 % 2] :=
  (by decide +kernel : ∀ t : Fin grid0.N, win0_0.index t = ![t.val / 16, t.val % 8] ∧ win0_1.index t = ![t.val / 8 % 2, t.val % 8]
    ∧ win0_2.index t = ![t.val / 16, t.val / 8 % 2])

/-- The array the call leaves: the first factor times the second transposed. -/
theorem final : (dats m 0 c).arrAt 2 cfg0.N =
    nt (M := 4096) (N := 2048) (K := 15360) (m ((c : Thread nD τ).loc main_arg0)) (m ((c : Thread nD τ).loc main_arg1)) := by
  refine (dats m 0 c).arrAt_eq_of_covers 2 _ (by decide +kernel) fun t hf y => ?_
  have hr : t.val % 8 = 7 := (flush0_2 t).mp hf
  blk_simp
  rw [after0_2]
  have e : (outsAt0 m c t.val t.isLt).1 y = left m c t.val t.isLt y := by unfold left; rw [if_pos hr]
  rw [e, Pipeline.eq_sum_fin_of_reset_step_apply_of_flush (left m c) 8 (fun _ => 0) (term m c) (left_first m c) (left_next m c) t hr, zero_add]
  unfold term nt
  refine Fin.sum_mul_add_congr fun s k hl => ?_
  have ht := index_all t
  have hs := index_all ⟨_, Pipeline.run_point_lt_of_flush t hr s⟩
  blk_point [iblk, V, ht.2.2, hs.1, hs.2.1]

end Cert.ProjDxIdeal.Product

namespace Cert.ProjDxIdeal.Product

open Idealize.ShloMosaic Idealize.SL.Sem

/-- The reference runs, keeps its arguments, and declares no semaphore. -/
theorem reference_frame : Cert.quiescent_ProjDxRefIdeal (hProjDxRefIdeal := Cert.ProjDxRefIdeal.Gen.facts) := fun m g _ =>
  (θ_run Cert.ProjDxRefIdeal.defs _ _).mono
    (fun r h => ⟨fun c => (h c).2, sem_eq_zero_of_no_sems (by decide) r.2⟩) (Cert.ProjDxRefIdeal.Value.run m g)

/-- From equal arguments the two programs leave equal results. -/
theorem agree : Cert.algebraic_ProjDxIdeal_ProjDxRefIdeal (hProjDxIdeal := Cert.ProjDxIdeal.Gen.facts)
    (hProjDxRefIdeal := Cert.ProjDxRefIdeal.Gen.facts) := by
  intro m g m' g' _ hagree
  refine ⟨_, Cert.ProjDxIdeal.Value.run_blocks m g, ?_⟩
  refine (θ_run Cert.ProjDxRefIdeal.defs _ _).mono (fun r h c => ⟨?_, (h c).2⟩) (Cert.ProjDxRefIdeal.Value.run m' g')
  rw [(h c).1, (hagree c).1, (hagree c).2, final m c]
  funext i
  unfold Mm.nt
  pointwise

end Cert.ProjDxIdeal.Product

end
-- ==== Proof.ProjDw.lean ====
/-
  THE GRADIENT OF THE INPUT PROJECTION'S WEIGHTS: what the call leaves, and that it is what the reference computes.
-/
module

public import proofs.«01_k».proof.Defs
public import proofs.«01_k».proof.Proof.Products
public import proofs.«01_k».proof.Proof.Gen.ProjDwIdeal.Value
public import proofs.«01_k».proof.Proof.Gen.ProjDwRefIdeal.Run
public import Idealize.ShloMosaic.Lib.Pipeline.ValueKit
public import Idealize.ShloMosaic.Lib.Pipeline.ReadBack
public import Idealize.ShloMosaic.Lib.Claim

@[expose] public section

noncomputable section

namespace Cert.ProjDwIdeal.Product

open Idealize.ShloMosaic
open Idealize.ShloMosaic.TcCoe Cert.ProjDwIdeal Cert.ProjDwIdeal.Gen Cert.ProjDwIdeal.Value Cert.Mm Idealize.ShloMosaic.Pipeline

variable (m : (ℓ : Loc nD τ sig) → Buf (Elt Ideal) ℓ) (c : Dev nD)

/-- The running sum after a point: the result at the last chunk, the carried scratch before. -/
def left (n : ℕ) (h : n < cfg0.N) : Mat 1024 1024 :=
  if n % 2 = 1 then (outsAt0 m c n h).1 else (outsAt0 m c n h).2

/-- The product of a point's blocks. -/
def term (t : Fin cfg0.N) : Mat 1024 1024 := tn (K := 2048) (iblk m c 0 t) (iblk m c 1 t)

theorem left_first (t : Fin cfg0.N) (h : t.val % 2 = 0) (j : S1024x1024.Idx) :
    left m c t.val t.isLt j = 0 + term m c t j := by
  unfold left term tn
  rw [if_neg (by omega), outsAt0_A m c t h (by omega)]
  frame_out
  pointwise [k0_pay1]

theorem left_next (t : Fin cfg0.N) (h : ¬t.val % 2 = 0) (j : S1024x1024.Idx) :
    left m c t.val t.isLt j = left m c (t.val - 1) (Nat.lt_of_le_of_lt (Nat.sub_le _ _) t.isLt) j + term m c t j := by
  unfold left term tn
  rw [if_neg (show ¬(t.val - 1) % 2 = 1 by omega)]
  rw [if_pos (show t.val % 2 = 1 by omega), outsAt0_B m c t h (by omega)]
  frame_out
  pointwise [k0_pay3, read_unread_whole]

/-- Which block of each array a grid point sees. -/
theorem index_all : ∀ t : Fin cfg0.N, win0_0.index t = ![t.val % 2, t.val / 30] ∧ win0_1.index t = ![t.val % 2, t.val / 2 % 15]
    ∧ win0_2.index t = ![t.val / 30, t.val / 2 % 15] :=
  (by decide +kernel : ∀ t : Fin grid0.N, win0_0.index t = ![t.val % 2, t.val / 30] ∧ win0_1.index t = ![t.val % 2, t.val / 2 % 15]
    ∧ win0_2.index t = ![t.val / 30, t.val / 2 % 15])

/-- The array the call leaves: the first factor transposed times the second. -/
theorem final : (dats m 0 c).arrAt 2 cfg0.N =
    tn (M := 2048) (N := 15360) (K := 4096) (m ((c : Thread nD τ).loc main_arg0)) (m ((c : Thread nD τ).loc main_arg1)) := by
  refine (dats m 0 c).arrAt_eq_of_covers 2 _ (by decide +kernel) fun t hf y => ?_
  have hr : t.val % 2 = 1 := (flush0_2 t).mp hf
  blk_simp
  rw [after0_2]
  have e : (outsAt0 m c t.val t.isLt).1 y = left m c t.val t.isLt y := by unfold left; rw [if_pos hr]
  rw [e, Pipeline.eq_sum_fin_of_reset_step_apply_of_flush (left m c) 2 (fun _ => 0) (term m c) (left_first m c) (left_next m c) t hr, zero_add]
  unfold term tn
  refine Fin.sum_mul_add_congr fun s k hl => ?_
  have ht := index_all t
  have hs := index_all ⟨_, Pipeline.run_point_lt_of_flush t hr s⟩
  blk_point [iblk, V, ht.2.2, hs.1, hs.2.1]

end Cert.ProjDwIdeal.Product

namespace Cert.ProjDwIdeal.Product

open Idealize.ShloMosaic Idealize.SL.Sem

/-- The reference runs, keeps its arguments, and declares no semaphore. -/
theorem reference_frame : Cert.quiescent_ProjDwRefIdeal (hProjDwRefIdeal := Cert.ProjDwRefIdeal.Gen.facts) := fun m g _ =>
  (θ_run Cert.ProjDwRefIdeal.defs _ _).mono
    (fun r h => ⟨fun c => (h c).2, sem_eq_zero_of_no_sems (by decide) r.2⟩) (Cert.ProjDwRefIdeal.Value.run m g)

/-- From equal arguments the two programs leave equal results. -/
theorem agree : Cert.algebraic_ProjDwIdeal_ProjDwRefIdeal (hProjDwIdeal := Cert.ProjDwIdeal.Gen.facts)
    (hProjDwRefIdeal := Cert.ProjDwRefIdeal.Gen.facts) := by
  intro m g m' g' _ hagree
  refine ⟨_, Cert.ProjDwIdeal.Value.run_blocks m g, ?_⟩
  refine (θ_run Cert.ProjDwRefIdeal.defs _ _).mono (fun r h c => ⟨?_, (h c).2⟩) (Cert.ProjDwRefIdeal.Value.run m' g')
  rw [(h c).1, (hagree c).1, (hagree c).2, final m c]
  funext i
  unfold Mm.tn
  pointwise
  exact Finset.sum_congr rfl fun k _ => mul_comm _ _

end Cert.ProjDwIdeal.Product

end
-- ==== Proof.Proj.lean ====
/-
  THE INPUT PROJECTION: what the call leaves, and that it is what the reference computes.
-/
module

public import proofs.«01_k».proof.Defs
public import proofs.«01_k».proof.Proof.Products
public import proofs.«01_k».proof.Proof.Gen.ProjIdeal.Value
public import proofs.«01_k».proof.Proof.Gen.ProjRefIdeal.Run
public import Idealize.ShloMosaic.Lib.Pipeline.ValueKit
public import Idealize.ShloMosaic.Lib.Pipeline.ReadBack
public import Idealize.ShloMosaic.Lib.Claim

@[expose] public section

noncomputable section

namespace Cert.ProjIdeal.Product

open Idealize.ShloMosaic
open Idealize.ShloMosaic.TcCoe Cert.ProjIdeal Cert.ProjIdeal.Gen Cert.ProjIdeal.Value Cert.Mm Idealize.ShloMosaic.Pipeline

variable (m : (ℓ : Loc nD τ sig) → Buf (Elt Ideal) ℓ) (c : Dev nD)

/-- Which block of each array a grid point sees. -/
theorem index_all : ∀ t : Fin cfg0.N, win0_0.index t = ![t.val / 15, 0] ∧ win0_1.index t = ![0, t.val % 15]
    ∧ win0_2.index t = ![t.val / 15, t.val % 15] :=
  (by decide +kernel : ∀ t : Fin grid0.N, win0_0.index t = ![t.val / 15, 0] ∧ win0_1.index t = ![0, t.val % 15]
    ∧ win0_2.index t = ![t.val / 15, t.val % 15])

/-- The array the call leaves: the product. -/
theorem final : (dats m 0 c).arrAt 2 cfg0.N =
    nn (M := 4096) (N := 15360) (K := 2048) (m ((c : Thread nD τ).loc main_arg0)) (m ((c : Thread nD τ).loc main_arg1)) := by
  refine (dats m 0 c).arrAt_eq_of_covers 2 _ (by decide +kernel) fun t hf y => ?_
  obtain ⟨e0, e1, e2⟩ := index_all t
  blk_simp
  rw [after0_2]
  frame_out
  unfold nn
  pointwise [k0_pay1]
  blk_point [iblk, V, e0, e1, e2]

end Cert.ProjIdeal.Product

namespace Cert.ProjIdeal.Product

open Idealize.ShloMosaic Idealize.SL.Sem

/-- The reference runs, keeps its arguments, and declares no semaphore. -/
theorem reference_frame : Cert.quiescent_ProjRefIdeal (hProjRefIdeal := Cert.ProjRefIdeal.Gen.facts) := fun m g _ =>
  (θ_run Cert.ProjRefIdeal.defs _ _).mono
    (fun r h => ⟨fun c => (h c).2, sem_eq_zero_of_no_sems (by decide) r.2⟩) (Cert.ProjRefIdeal.Value.run m g)

/-- From equal arguments the two programs leave equal results. -/
theorem agree : Cert.algebraic_ProjIdeal_ProjRefIdeal (hProjIdeal := Cert.ProjIdeal.Gen.facts)
    (hProjRefIdeal := Cert.ProjRefIdeal.Gen.facts) := by
  intro m g m' g' _ hagree
  refine ⟨_, Cert.ProjIdeal.Value.run_blocks m g, ?_⟩
  refine (θ_run Cert.ProjRefIdeal.defs _ _).mono (fun r h c => ⟨?_, (h c).2⟩) (Cert.ProjRefIdeal.Value.run m' g')
  rw [(h c).1, (hagree c).1, (hagree c).2, final m c]
  funext i
  unfold Mm.nn
  pointwise

end Cert.ProjIdeal.Product

end
-- ==== Proof.Branch.lean ====
/-
  A BRANCH'S OUTPUT PROJECTION: what the call leaves, and that it is what the reference computes.
-/
module

public import proofs.«01_k».proof.Defs
public import proofs.«01_k».proof.Proof.Products
public import proofs.«01_k».proof.Proof.Gen.BranchIdeal.Value
public import proofs.«01_k».proof.Proof.Gen.BranchRefIdeal.Run
public import Idealize.ShloMosaic.Lib.Pipeline.ValueKit
public import Idealize.ShloMosaic.Lib.Pipeline.ReadBack
public import Idealize.ShloMosaic.Lib.Claim

@[expose] public section

noncomputable section

namespace Cert.BranchIdeal.Product

open Idealize.ShloMosaic
open Idealize.ShloMosaic.TcCoe Cert.BranchIdeal Cert.BranchIdeal.Gen Cert.BranchIdeal.Value Cert.Mm Idealize.ShloMosaic.Pipeline

variable (m : (ℓ : Loc nD τ sig) → Buf (Elt Ideal) ℓ) (c : Dev nD)

/-- Which block of each array a grid point sees. -/
theorem index_all : ∀ t : Fin cfg0.N, win0_0.index t = ![t.val / 2, 0] ∧ win0_1.index t = ![0, t.val % 2]
    ∧ win0_2.index t = ![t.val / 2, t.val % 2] :=
  (by decide +kernel : ∀ t : Fin grid0.N, win0_0.index t = ![t.val / 2, 0] ∧ win0_1.index t = ![0, t.val % 2]
    ∧ win0_2.index t = ![t.val / 2, t.val % 2])

/-- The array the call leaves: the product. -/
theorem final : (dats m 0 c).arrAt 2 cfg0.N =
    nn (M := 4096) (N := 2048) (K := 2048) (m ((c : Thread nD τ).loc main_arg0)) (m ((c : Thread nD τ).loc main_arg1)) := by
  refine (dats m 0 c).arrAt_eq_of_covers 2 _ (by decide +kernel) fun t hf y => ?_
  obtain ⟨e0, e1, e2⟩ := index_all t
  blk_simp
  rw [after0_2]
  frame_out
  unfold nn
  pointwise [k0_pay1]
  blk_point [iblk, V, e0, e1, e2]

end Cert.BranchIdeal.Product

namespace Cert.BranchIdeal.Product

open Idealize.ShloMosaic Idealize.SL.Sem

/-- The reference runs, keeps its arguments, and declares no semaphore. -/
theorem reference_frame : Cert.quiescent_BranchRefIdeal (hBranchRefIdeal := Cert.BranchRefIdeal.Gen.facts) := fun m g _ =>
  (θ_run Cert.BranchRefIdeal.defs _ _).mono
    (fun r h => ⟨fun c => (h c).2, sem_eq_zero_of_no_sems (by decide) r.2⟩) (Cert.BranchRefIdeal.Value.run m g)

/-- From equal arguments the two programs leave equal results. -/
theorem agree : Cert.algebraic_BranchIdeal_BranchRefIdeal (hBranchIdeal := Cert.BranchIdeal.Gen.facts)
    (hBranchRefIdeal := Cert.BranchRefIdeal.Gen.facts) := by
  intro m g m' g' _ hagree
  refine ⟨_, Cert.BranchIdeal.Value.run_blocks m g, ?_⟩
  refine (θ_run Cert.BranchRefIdeal.defs _ _).mono (fun r h c => ⟨?_, (h c).2⟩) (Cert.BranchRefIdeal.Value.run m' g')
  rw [(h c).1, (hagree c).1, (hagree c).2, final m c]
  funext i
  unfold Mm.nn
  pointwise

end Cert.BranchIdeal.Product

end
-- ==== Proof.Out.lean ====
/-
  THE MIXER'S OUTPUT PROJECTION AND THE RESIDUAL: what the call leaves, and that it is what the reference computes.
-/
module

public import proofs.«01_k».proof.Defs
public import proofs.«01_k».proof.Proof.Products
public import proofs.«01_k».proof.Proof.Gen.OutIdeal.Value
public import proofs.«01_k».proof.Proof.Gen.OutRefIdeal.Run
public import Idealize.ShloMosaic.Lib.Pipeline.ValueKit
public import Idealize.ShloMosaic.Lib.Pipeline.ReadBack
public import Idealize.ShloMosaic.Lib.Claim

@[expose] public section

noncomputable section

namespace Cert.OutIdeal.Product

open Idealize.ShloMosaic
open Idealize.ShloMosaic.TcCoe Cert.OutIdeal Cert.OutIdeal.Gen Cert.OutIdeal.Value Cert.Mm Idealize.ShloMosaic.Pipeline

variable (m : (ℓ : Loc nD τ sig) → Buf (Elt Ideal) ℓ) (c : Dev nD)

/-- Which block of each array a grid point sees. -/
theorem index_all : ∀ t : Fin cfg0.N, win0_0.index t = ![t.val / 2, 0] ∧ win0_1.index t = ![0, t.val % 2]
    ∧ win0_2.index t = ![t.val / 2, t.val % 2] ∧ win0_3.index t = ![t.val / 2, t.val % 2] :=
  (by decide +kernel : ∀ t : Fin grid0.N, win0_0.index t = ![t.val / 2, 0] ∧ win0_1.index t = ![0, t.val % 2]
    ∧ win0_2.index t = ![t.val / 2, t.val % 2] ∧ win0_3.index t = ![t.val / 2, t.val % 2])

/-- The array the call leaves: the residual and the product. -/
theorem final : (dats m 0 c).arrAt 3 cfg0.N =
    plus (m ((c : Thread nD τ).loc main_arg2)) (nn (M := 4096) (N := 2048) (K := 2048) (m ((c : Thread nD τ).loc main_arg0)) (m ((c : Thread nD τ).loc main_arg1))) := by
  refine (dats m 0 c).arrAt_eq_of_covers 3 _ (by decide +kernel) fun t hf y => ?_
  obtain ⟨e0, e1, e2, e3⟩ := index_all t
  blk_simp
  rw [after0_3]
  frame_out
  unfold plus nn
  pointwise [k0_pay1]
  blk_point [iblk, V, e0, e1, e2, e3]

end Cert.OutIdeal.Product

namespace Cert.OutIdeal.Product

open Idealize.ShloMosaic Idealize.SL.Sem

/-- The reference runs, keeps its arguments, and declares no semaphore. -/
theorem reference_frame : Cert.quiescent_OutRefIdeal (hOutRefIdeal := Cert.OutRefIdeal.Gen.facts) := fun m g _ =>
  (θ_run Cert.OutRefIdeal.defs _ _).mono
    (fun r h => ⟨fun c => (h c).2, sem_eq_zero_of_no_sems (by decide) r.2⟩) (Cert.OutRefIdeal.Value.run m g)

/-- From equal arguments the two programs leave equal results. -/
theorem agree : Cert.algebraic_OutIdeal_OutRefIdeal (hOutIdeal := Cert.OutIdeal.Gen.facts)
    (hOutRefIdeal := Cert.OutRefIdeal.Gen.facts) := by
  intro m g m' g' _ hagree
  refine ⟨_, Cert.OutIdeal.Value.run_blocks m g, ?_⟩
  refine (θ_run Cert.OutRefIdeal.defs _ _).mono (fun r h c => ⟨?_, (h c).2⟩) (Cert.OutRefIdeal.Value.run m' g')
  rw [(h c).1, (hagree c).1, (hagree c).2.1, (hagree c).2.2, final m c]
  funext i
  unfold Mm.plus Mm.nn
  pointwise

end Cert.OutIdeal.Product

end
-- ==== Proof.Up.lean ====
/-
  THE MLP'S FIRST PRODUCT AND ITS SQUARED RELU: what the call leaves, and that it is what the reference computes.
-/
module

public import proofs.«01_k».proof.Defs
public import proofs.«01_k».proof.Proof.Products
public import proofs.«01_k».proof.Proof.Gen.UpIdeal.Value
public import proofs.«01_k».proof.Proof.Gen.UpRefIdeal.Run
public import Idealize.ShloMosaic.Lib.Pipeline.ValueKit
public import Idealize.ShloMosaic.Lib.Pipeline.ReadBack
public import Idealize.ShloMosaic.Lib.Claim

@[expose] public section

noncomputable section

namespace Cert.UpIdeal.Product

open Idealize.ShloMosaic
open Idealize.ShloMosaic.TcCoe Cert.UpIdeal Cert.UpIdeal.Gen Cert.UpIdeal.Value Cert.Mm Idealize.ShloMosaic.Pipeline

variable (m : (ℓ : Loc nD τ sig) → Buf (Elt Ideal) ℓ) (c : Dev nD)

/-- Which block of each array a grid point sees. -/
theorem index_all : ∀ t : Fin cfg0.N, win0_0.index t = ![t.val / 8, 0] ∧ win0_1.index t = ![0, t.val % 8]
    ∧ win0_2.index t = ![t.val / 8, t.val % 8] ∧ win0_3.index t = ![t.val / 8, t.val % 8] :=
  (by decide +kernel : ∀ t : Fin grid0.N, win0_0.index t = ![t.val / 8, 0] ∧ win0_1.index t = ![0, t.val % 8]
    ∧ win0_2.index t = ![t.val / 8, t.val % 8] ∧ win0_3.index t = ![t.val / 8, t.val % 8])

/-- The first array the call leaves: the product. -/
theorem final2 : (dats m 0 c).arrAt 2 cfg0.N =
    nn (M := 4096) (N := 8192) (K := 2048) (m ((c : Thread nD τ).loc main_arg0)) (m ((c : Thread nD τ).loc main_arg1)) := by
  refine (dats m 0 c).arrAt_eq_of_covers 2 _ (by decide +kernel) fun t hf y => ?_
  obtain ⟨e0, e1, e2, e3⟩ := index_all t
  blk_simp
  rw [after0_2]
  frame_out
  unfold nn
  pointwise [k0_pay1]
  blk_point [iblk, V, e0, e1, e2, e3]

/-- The second array the call leaves: the squares of the product's positive parts. -/
theorem final3 : (dats m 0 c).arrAt 3 cfg0.N =
    reluSq (nn (M := 4096) (N := 8192) (K := 2048) (m ((c : Thread nD τ).loc main_arg0)) (m ((c : Thread nD τ).loc main_arg1))) := by
  refine (dats m 0 c).arrAt_eq_of_covers 3 _ (by decide +kernel) fun t hf y => ?_
  obtain ⟨e0, e1, e2, e3⟩ := index_all t
  blk_simp
  rw [after0_3]
  frame_out
  unfold reluSq nn
  pointwise [k0_pay2, k0_pay1]
  blk_point [iblk, V, e0, e1, e2, e3]

end Cert.UpIdeal.Product

namespace Cert.UpIdeal.Product

open Idealize.ShloMosaic Idealize.SL.Sem

/-- The reference runs, keeps its arguments, and declares no semaphore. -/
theorem reference_frame : Cert.quiescent_UpRefIdeal (hUpRefIdeal := Cert.UpRefIdeal.Gen.facts) := fun m g _ =>
  (θ_run Cert.UpRefIdeal.defs _ _).mono
    (fun r h => ⟨fun c => (h c).2.2, sem_eq_zero_of_no_sems (by decide) r.2⟩) (Cert.UpRefIdeal.Value.run m g)

/-- From equal arguments the two programs leave equal results. -/
theorem agree : Cert.algebraic_UpIdeal_UpRefIdeal (hUpIdeal := Cert.UpIdeal.Gen.facts)
    (hUpRefIdeal := Cert.UpRefIdeal.Gen.facts) := by
  intro m g m' g' _ hagree
  refine ⟨_, _, Cert.UpIdeal.Value.run_blocks m g, ?_⟩
  refine (θ_run Cert.UpRefIdeal.defs _ _).mono (fun r h c => ⟨?_, ?_, (h c).2.2⟩) (Cert.UpRefIdeal.Value.run m' g')
  · rw [(h c).1, (hagree c).1, (hagree c).2, final2 m c]
    funext i
    unfold Mm.nn
    pointwise
  · rw [(h c).2.1, (hagree c).1, (hagree c).2, final3 m c]
    funext i
    unfold Mm.reluSq Mm.nn
    pointwise

end Cert.UpIdeal.Product

end
-- ==== Proof.Down.lean ====
/-
  THE MLP'S SECOND PRODUCT AND THE RESIDUAL: what the call leaves, and that it is what the reference computes.
-/
module

public import proofs.«01_k».proof.Defs
public import proofs.«01_k».proof.Proof.Products
public import proofs.«01_k».proof.Proof.Gen.DownIdeal.Value
public import proofs.«01_k».proof.Proof.Gen.DownRefIdeal.Run
public import Idealize.ShloMosaic.Lib.Pipeline.ValueKit
public import Idealize.ShloMosaic.Lib.Pipeline.ReadBack
public import Idealize.ShloMosaic.Lib.Claim

@[expose] public section

noncomputable section

namespace Cert.DownIdeal.Product

open Idealize.ShloMosaic
open Idealize.ShloMosaic.TcCoe Cert.DownIdeal Cert.DownIdeal.Gen Cert.DownIdeal.Value Cert.Mm Idealize.ShloMosaic.Pipeline

variable (m : (ℓ : Loc nD τ sig) → Buf (Elt Ideal) ℓ) (c : Dev nD)

/-- The product of a point's blocks. -/
def term (t : Fin cfg0.N) : Mat 1024 1024 := nn (K := 2048) (iblk m c 0 t) (iblk m c 1 t)

/-- The running sum after a point, without the residual that the last chunk adds. -/
def left (n : ℕ) (h : n < cfg0.N) : Mat 1024 1024 :=
  if n % 4 = 3 then fun j => (outsAt0 m c (n - 1) (Nat.lt_of_le_of_lt (Nat.sub_le _ _) h)).2 j + term m c ⟨n, h⟩ j
  else (outsAt0 m c n h).2

theorem left_first (t : Fin cfg0.N) (h : t.val % 4 = 0) (j : S1024x1024.Idx) :
    left m c t.val t.isLt j = 0 + term m c t j := by
  unfold left term nn
  rw [if_neg (by omega), outsAt0_A m c t h (by omega) (by omega)]
  frame_out
  pointwise [k0_pay1]

theorem left_next (t : Fin cfg0.N) (h : ¬t.val % 4 = 0) (j : S1024x1024.Idx) :
    left m c t.val t.isLt j = left m c (t.val - 1) (Nat.lt_of_le_of_lt (Nat.sub_le _ _) t.isLt) j + term m c t j := by
  unfold left
  rw [if_neg (show ¬(t.val - 1) % 4 = 3 by omega)]
  by_cases h3 : t.val % 4 = 3
  · rw [if_pos h3]
  · unfold term nn
    rw [if_neg h3, outsAt0_B m c t h (by omega) h3]
    frame_out
    pointwise [k0_pay2, read_unread_whole]

/-- The last chunk adds the residual's block to the running sum. -/
theorem last (t : Fin cfg0.N) (h3 : t.val % 4 = 3) (j : S1024x1024.Idx) :
    ((outsAt0 m c t.val t.isLt).1 j : EReal) = plus (M := 1024) (N := 1024) (iblk m c 2 t) (left m c t.val t.isLt) j := by
  unfold plus left term nn
  rw [if_pos h3, outsAt0_C m c t (by omega) (by omega) h3]
  frame_out
  pointwise [k0_pay3, read_unread_whole]

/-- Which block of each array a grid point sees. -/
theorem index_all : ∀ t : Fin cfg0.N, win0_0.index t = ![t.val / 8, t.val % 4] ∧ win0_1.index t = ![t.val % 4, t.val / 4 % 2]
    ∧ win0_2.index t = ![t.val / 8, t.val / 4 % 2] ∧ win0_3.index t = ![t.val / 8, t.val / 4 % 2] :=
  (by decide +kernel : ∀ t : Fin grid0.N, win0_0.index t = ![t.val / 8, t.val % 4] ∧ win0_1.index t = ![t.val % 4, t.val / 4 % 2]
    ∧ win0_2.index t = ![t.val / 8, t.val / 4 % 2] ∧ win0_3.index t = ![t.val / 8, t.val / 4 % 2])

/-- The array the call leaves: the residual and the product. -/
theorem final : (dats m 0 c).arrAt 3 cfg0.N =
    plus (m ((c : Thread nD τ).loc main_arg2)) (nn (M := 4096) (N := 2048) (K := 8192) (m ((c : Thread nD τ).loc main_arg0)) (m ((c : Thread nD τ).loc main_arg1))) := by
  refine (dats m 0 c).arrAt_eq_of_covers 3 _ (by decide +kernel) fun t hf y => ?_
  have hr : t.val % 4 = 3 := (flush0_3 t).mp hf
  have ht := index_all t
  blk_simp
  rw [after0_3]
  have e : (outsAt0 m c t.val t.isLt).1 y = plus (M := 1024) (N := 1024) (iblk m c 2 t) (left m c t.val t.isLt) y := last m c t hr y
  rw [e]
  unfold plus
  rw [Pipeline.eq_sum_fin_of_reset_step_apply_of_flush (left m c) 4 (fun _ => 0) (term m c) (left_first m c) (left_next m c) t hr, zero_add]
  unfold term nn
  refine congrArg₂ (fun x y : EReal => x + y) ?_ ?_
  · blk_ext [iblk, V, ht.2.2.1, ht.2.2.2]
  refine Fin.sum_mul_add_congr fun s k hl => ?_
  have hs := index_all ⟨_, Pipeline.run_point_lt_of_flush t hr s⟩
  blk_point [iblk, V, ht.2.2.2, hs.1, hs.2.1]

end Cert.DownIdeal.Product

namespace Cert.DownIdeal.Product

open Idealize.ShloMosaic Idealize.SL.Sem

/-- The reference runs, keeps its arguments, and declares no semaphore. -/
theorem reference_frame : Cert.quiescent_DownRefIdeal (hDownRefIdeal := Cert.DownRefIdeal.Gen.facts) := fun m g _ =>
  (θ_run Cert.DownRefIdeal.defs _ _).mono
    (fun r h => ⟨fun c => (h c).2, sem_eq_zero_of_no_sems (by decide) r.2⟩) (Cert.DownRefIdeal.Value.run m g)

/-- From equal arguments the two programs leave equal results. -/
theorem agree : Cert.algebraic_DownIdeal_DownRefIdeal (hDownIdeal := Cert.DownIdeal.Gen.facts)
    (hDownRefIdeal := Cert.DownRefIdeal.Gen.facts) := by
  intro m g m' g' _ hagree
  refine ⟨_, Cert.DownIdeal.Value.run_blocks m g, ?_⟩
  refine (θ_run Cert.DownRefIdeal.defs _ _).mono (fun r h c => ⟨?_, (h c).2⟩) (Cert.DownRefIdeal.Value.run m' g')
  rw [(h c).1, (hagree c).1, (hagree c).2.1, (hagree c).2.2, final m c]
  funext i
  unfold Mm.plus Mm.nn
  pointwise

end Cert.DownIdeal.Product

end
-- ==== Proof.NormAlgebra.lean ====
/-
  THE NORM OF A ROW, BACKWARD, AS ARITHMETIC OF EXTENDED REALS. The kernel carries the normalised row through its formula;
  the derivative of the norm has the reciprocal of the mean square where the kernel has a reciprocal root squared. The two
  agree on every extended real: a finite mean square has a positive real root, and an infinite one makes both sides' second
  terms vanish.
-/
module

public import proofs.«01_k».proof.Proof.Products

@[expose] public section

noncomputable section

namespace Cert.Norm

open Idealize.ShloMosaic Cert.Mm

theorem bits_width : Ideal.ofBits .f32 0x45000000#32 = ((2048 : ℝ) : EReal) := by
  simp [Ideal.ofBits, Ideal.ieee, -EReal.coe_mul]; norm_num

theorem bits_minus_half : Ideal.ofBits .f32 0xBF000000#32 = ((-(1 / 2) : ℝ) : EReal) := by
  simp [Ideal.ofBits, Ideal.ieee, -EReal.coe_mul]; norm_num

/-- The constant added to a mean square is a positive real. -/
theorem bits_eps : ∃ e : ℝ, 0 < e ∧ Ideal.ofBits .f32 0x358637BD#32 = (e : EReal) := by
  refine ⟨_, ?_, by simp [Ideal.ofBits, Ideal.ieee, -EReal.coe_mul]; rfl⟩
  norm_num

/-- A sum of squares is not negative. -/
theorem squares_nonneg {n : ℕ} (x : Fin n → EReal) : 0 ≤ ∑ k, x k * x k :=
  Finset.sum_nonneg fun k _ => EReal.mul_nonneg_iff.mpr ((le_total 0 (x k)).imp (fun h => ⟨h, h⟩) fun h => ⟨h, h⟩)

/-- A mean square with the constant added is infinite or a positive real. -/
theorem mean_square {n : ℕ} (x : Fin n → EReal) :
    Ideal.div (∑ k, x k * x k) (Ideal.ofBits .f32 0x45000000#32) + Ideal.ofBits .f32 0x358637BD#32 = ⊤
      ∨ ∃ w : ℝ, 0 < w ∧ Ideal.div (∑ k, x k * x k) (Ideal.ofBits .f32 0x45000000#32) + Ideal.ofBits .f32 0x358637BD#32 = (w : EReal) := by
  obtain ⟨e, he, hb⟩ := bits_eps
  have hs := squares_nonneg x
  rw [hb, bits_width, Ideal.div_coe (by norm_num)]
  generalize ∑ k, x k * x k = s at hs ⊢
  induction s using EReal.rec with
  | bot => exact absurd hs (by simp)
  | top => exact .inl (by rw [EReal.top_mul_coe_of_pos (by norm_num), EReal.top_add_coe])
  | coe s =>
    rw [← EReal.coe_mul, ← EReal.coe_add]
    have := EReal.coe_nonneg.mp hs
    exact .inr ⟨_, by positivity, rfl⟩

/-- A factor that is a nonnegative real comes out of a sum. -/
theorem sum_scaled {n : ℕ} (r : ℝ) (hr : 0 ≤ r) (f : Fin n → EReal) : ∑ k, f k * (r : EReal) = (∑ k, f k) * (r : EReal) := by
  suffices ∀ s : Finset (Fin n), ∑ k ∈ s, f k * (r : EReal) = (∑ k ∈ s, f k) * (r : EReal) from this _
  intro s
  classical
  induction s using Finset.induction_on with
  | empty => simp
  | insert a s ha ih =>
    rw [Finset.sum_insert ha, Finset.sum_insert ha, ih,
      EReal.right_distrib_of_nonneg_of_ne_top (EReal.coe_nonneg.mpr hr) (EReal.coe_ne_top r)]

/-- The opposite of a doubled element. -/
theorem neg_twice (a : EReal) : -(a + a) = -a + -a := by
  rw [EReal.neg_add, sub_eq_add_neg] <;> by_cases h : a = ⊥ <;> simp [h]

/-- One element of the gradient: the kernel's formula on the left, the derivative of the norm on the right. `d` is the
    gradient that comes around the norm, `y k` the gradient of the normalised row, `x k` the row. -/
theorem back_eq {n : ℕ} (d : EReal) (x y : Fin n → EReal) (j : Fin n) (v : EReal)
    (hv : v = ⊤ ∨ ∃ w : ℝ, 0 < w ∧ v = (w : EReal)) :
    d + Ideal.rsqrt v * (y j - x j * Ideal.rsqrt v * Ideal.div (∑ k, y k * (x k * Ideal.rsqrt v)) (Ideal.ofBits .f32 0x45000000#32))
      = d + y j * Ideal.rsqrt v
        + x j * Ideal.div ((∑ k, x k * y k) * (Ideal.ofBits .f32 0xBF000000#32 * Ideal.div (Ideal.rsqrt v) v)) (Ideal.ofBits .f32 0x45000000#32)
        + Ideal.div ((∑ k, x k * y k) * (Ideal.ofBits .f32 0xBF000000#32 * Ideal.div (Ideal.rsqrt v) v)) (Ideal.ofBits .f32 0x45000000#32) * x j := by
  rw [bits_width, Ideal.div_coe (by norm_num), Ideal.div_coe (by norm_num)]
  rcases hv with rfl | ⟨w, hw, rfl⟩
  · have : Ideal.div 0 ⊤ = 0 := by simp [Ideal.div]
    simp [this]
  · have hr : Ideal.rsqrt (w : EReal) = (((Real.sqrt w)⁻¹ : ℝ) : EReal) := by
      rw [Ideal.rsqrt_coe, if_neg (not_lt.mpr hw.le), if_neg hw.ne']
    have hρ : 0 ≤ (Real.sqrt w)⁻¹ := inv_nonneg.mpr (Real.sqrt_nonneg w)
    have hρ2 : (Real.sqrt w)⁻¹ * (Real.sqrt w)⁻¹ = w⁻¹ := by rw [← mul_inv, Real.mul_self_sqrt hw.le]
    rw [hr, bits_minus_half, Ideal.div_coe hw.ne']
    generalize (Real.sqrt w)⁻¹ = ρ at hρ hρ2
    have hs : ∑ k, y k * (x k * (ρ : EReal)) = (∑ k, x k * y k) * (ρ : EReal) := by
      rw [← sum_scaled ρ hρ]; exact Finset.sum_congr rfl fun k _ => by rw [← mul_assoc, mul_comm (y k)]
    rw [hs]
    generalize ∑ k, x k * y k = S
    have hq : (0 : EReal) ≤ ((ρ * w⁻¹ * (1 / 2048) / 2 : ℝ) : EReal) := EReal.coe_nonneg.mpr (by positivity)
    have hT : S * (((-(1 / 2) : ℝ) : EReal) * ((ρ : EReal) * ((1 / w : ℝ) : EReal))) * ((1 / 2048 : ℝ) : EReal)
        = -(S * ((ρ * w⁻¹ * (1 / 2048) / 2 : ℝ) : EReal)) := by
      rw [← EReal.coe_mul, ← EReal.coe_mul, mul_assoc, ← EReal.coe_mul, ← mul_neg, ← EReal.coe_neg]
      congr 2; ring
    have hZ : (ρ : EReal) * (x j * (ρ : EReal) * (S * (ρ : EReal) * ((1 / 2048 : ℝ) : EReal)))
        = x j * S * ((ρ * w⁻¹ * (1 / 2048) / 2 : ℝ) : EReal) + x j * S * ((ρ * w⁻¹ * (1 / 2048) / 2 : ℝ) : EReal) := by
      rw [← EReal.left_distrib_of_nonneg hq hq, ← EReal.coe_add, show ρ * w⁻¹ * (1 / 2048) / 2 + ρ * w⁻¹ * (1 / 2048) / 2
        = ρ * (ρ * (ρ * (1 / 2048))) by rw [← hρ2]; ring, EReal.coe_mul, EReal.coe_mul, EReal.coe_mul]
      ac_rfl
    rw [hT, EReal.mul_sub_of_nonneg_of_ne_top (EReal.coe_nonneg.mpr hρ) (EReal.coe_ne_top ρ), hZ, mul_neg, mul_comm (-_) (x j), mul_neg,
      ← mul_assoc, sub_eq_add_neg, neg_twice, mul_comm (y j), add_assoc, add_assoc]

end Cert.Norm

end
-- ==== Proof.Norm.lean ====
/-
  THE NORMS, BACKWARD: what the call leaves in its three arrays, and that the derivative of the norm is the same. The rows
  of the input's gradient are independent; the gradient of the scale is summed over the rows, one tile of them per grid point.
-/
module

public import proofs.«01_k».proof.Defs
public import proofs.«01_k».proof.Proof.NormAlgebra
public import proofs.«01_k».proof.Proof.Gen.NormBwdIdeal.Value
public import proofs.«01_k».proof.Proof.Gen.NormBwdRefIdeal.Run
public import Idealize.ShloMosaic.Lib.Pipeline.ValueKit
public import Idealize.ShloMosaic.Lib.Pipeline.ReadBack
public import Idealize.ShloMosaic.Lib.Claim

@[expose] public section

noncomputable section

namespace Cert.Norm

open Idealize.ShloMosaic Cert.Mm

variable {M : ℕ}

/-- The mean square of row `i`, with the constant added. -/
def meanSquare (x : Mat M 2048) (i : Fin M) : EReal :=
  Ideal.div (∑ k : Fin 2048, x (ix2 i k) * x (ix2 i k)) (Ideal.ofBits .f32 0x45000000#32) + Ideal.ofBits .f32 0x358637BD#32

/-- The gradient of the norm's input, `d` being the gradient that comes around the norm. -/
def inputGrad (y x : Mat M 2048) (g : (⟨1, ![2048]⟩ : Shape).Idx → EReal) (d : Mat M 2048) : Mat M 2048 := fun j =>
  d j + Ideal.rsqrt (meanSquare x (j 0)) * (y j * g (ix1 (j 1)) - x j * Ideal.rsqrt (meanSquare x (j 0))
    * Ideal.div (∑ k : Fin 2048, y (ix2 (j 0) k) * g (ix1 k) * (x (ix2 (j 0) k) * Ideal.rsqrt (meanSquare x (j 0))))
        (Ideal.ofBits .f32 0x45000000#32))

/-- The gradient of the norm's scale. -/
def scaleGrad (y x : Mat M 2048) : Mat 1 2048 := fun j =>
  ∑ k : Fin M, y (ix2 k (j 1)) * (x (ix2 k (j 1)) * Ideal.rsqrt (meanSquare x k))

/-- The same gradient as the derivative of the norm gives it: the scale's part, and the mean square's part twice. -/
theorem inputGrad_eq (y x : Mat M 2048) (g : (⟨1, ![2048]⟩ : Shape).Idx → EReal) (d : Mat M 2048) (j : (⟨2, ![M, 2048]⟩ : Shape).Idx) :
    inputGrad y x g d j = d j + y j * g (ix1 (j 1)) * Ideal.rsqrt (meanSquare x (j 0))
      + x j * Ideal.div ((∑ k : Fin 2048, x (ix2 (j 0) k) * (y (ix2 (j 0) k) * g (ix1 k)))
          * (Ideal.ofBits .f32 0xBF000000#32 * Ideal.div (Ideal.rsqrt (meanSquare x (j 0))) (meanSquare x (j 0)))) (Ideal.ofBits .f32 0x45000000#32)
      + Ideal.div ((∑ k : Fin 2048, x (ix2 (j 0) k) * (y (ix2 (j 0) k) * g (ix1 k)))
          * (Ideal.ofBits .f32 0xBF000000#32 * Ideal.div (Ideal.rsqrt (meanSquare x (j 0))) (meanSquare x (j 0)))) (Ideal.ofBits .f32 0x45000000#32) * x j := by
  obtain ⟨a, b, rfl⟩ : ∃ (a : Fin M) (b : Fin 2048), j = ix2 a b := ⟨j 0, j 1, by funext l; match l with | 0 => rfl | 1 => rfl⟩
  exact back_eq (d (ix2 a b)) (fun k => x (ix2 a k)) (fun k => y (ix2 a k) * g (ix1 k)) b _ (mean_square fun k => x (ix2 a k))

end Cert.Norm

namespace Cert.NormBwdIdeal.Back

open Idealize.ShloMosaic Idealize.SL.Sem
open Idealize.ShloMosaic.TcCoe Cert.NormBwdIdeal Cert.NormBwdIdeal.Gen Cert.NormBwdIdeal.Value Cert.Mm Cert.Norm Idealize.ShloMosaic.Pipeline

variable (m : (ℓ : Loc nD τ sig) → Buf (Elt Ideal) ℓ) (c : Dev nD)

/-- Which block of each array a grid point sees. -/
theorem index_all : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![0, 0] :=
  (by decide +kernel : ∀ t : Fin grid0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![0, 0])

/-- What a point leaves in its block of the input's gradient. -/
theorem rows4 (t : Fin cfg0.N) : (outsAt0 m c t.val t.isLt).1 = k0_pay5 (iblk m c 1 t) (iblk m c 0 t) (iblk m c 2 t) (iblk m c 3 t) := by
  funext y
  by_cases h : t.val % 16 = 0
  · rw [outsAt0_A m c t h]; frame_out
  · rw [outsAt0_B m c t h]; frame_out

theorem rows5 (t : Fin cfg0.N) : (outsAt0 m c t.val t.isLt).2.1 = k0_pay6 (iblk m c 1 t) (iblk m c 0 t) (iblk m c 2 t) (iblk m c 3 t) := by
  funext y
  by_cases h : t.val % 16 = 0
  · rw [outsAt0_A m c t h]; frame_out
  · rw [outsAt0_B m c t h]; frame_out

/-- The first array the call leaves. -/
theorem final4 : (dats m 0 c).arrAt 4 cfg0.N = inputGrad (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  obtain ⟨e0, e1, e2, e3, e4, e5, e6⟩ := index_all t
  blk_simp
  rw [after0_4, rows4]
  unfold inputGrad meanSquare
  pointwise [k0_pay5, k0_pay4, k0_pay3]
  blk_point [iblk, V, e0, e1, e2, e3, e4]

/-- The second array the call leaves: the same numbers. -/
theorem final5 : (dats m 0 c).arrAt 5 cfg0.N = inputGrad (m ((c : Thread nD τ).loc main_arg0)) (m ((c : Thread nD τ).loc main_arg1))
    (m ((c : Thread nD τ).loc main_arg2)) (m ((c : Thread nD τ).loc main_arg3)) := by
  refine (dats m 0 c).arrAt_eq_of_covers 5 _ (by decide +kernel) fun t hf y => ?_
  obtain ⟨e0, e1, e2, e3, e4, e5, e6⟩ := index_all t
  blk_simp
  rw [after0_5, rows5]
  unfold inputGrad meanSquare
  pointwise [k0_pay6, k0_pay5, k0_pay4, k0_pay3]
  blk_point [iblk, V, e0, e1, e2, e3, e5]

/-- The scale's gradient after a point. -/
def left (n : ℕ) (h : n < cfg0.N) : Mat 1 2048 := (outsAt0 m c n h).2.2

/-- What a point's rows add to it. -/
def term (t : Fin cfg0.N) : Mat 1 2048 := scaleGrad (M := 256) (iblk m c 0 t) (iblk m c 1 t)

theorem left_first (t : Fin cfg0.N) (h : t.val % 16 = 0) (j : S1x2048.Idx) : left m c t.val t.isLt j = 0 + term m c t j := by
  unfold left term scaleGrad meanSquare
  rw [outsAt0_A m c t h]
  frame_out
  pointwise [k0_pay1, k0_pay2, k0_pay3, k0_pay4, read_unread_whole]

theorem left_next (t : Fin cfg0.N) (h : ¬t.val % 16 = 0) (j : S1x2048.Idx) :
    left m c t.val t.isLt j = left m c (t.val - 1) (Nat.lt_of_le_of_lt (Nat.sub_le _ _) t.isLt) j + term m c t j := by
  unfold left term scaleGrad meanSquare
  rw [outsAt0_B m c t h]
  frame_out
  pointwise [k0_pay1, k0_pay3, k0_pay4, read_unread_whole]

/-- The third array the call leaves. -/
theorem final6 : (dats m 0 c).arrAt 6 cfg0.N = scaleGrad (m ((c : Thread nD τ).loc main_arg0)) (m ((c : Thread nD τ).loc main_arg1)) := by
  refine (dats m 0 c).arrAt_eq_of_covers 6 _ (by decide +kernel) fun t hf y => ?_
  have hr : t.val % 16 = 15 := (flush0_6 t).mp hf
  blk_simp
  rw [after0_6]
  have e : (outsAt0 m c t.val t.isLt).2.2 y = left m c t.val t.isLt y := rfl
  rw [e, Pipeline.eq_sum_fin_of_reset_step_apply_of_flush (left m c) 16 (fun _ => 0) (term m c) (left_first m c) (left_next m c) t hr, zero_add]
  unfold term scaleGrad meanSquare
  refine Fin.sum_mul_add_congr fun s k hl => ?_
  have ht := index_all t
  have hs := index_all ⟨_, Pipeline.run_point_lt_of_flush t hr s⟩
  have hN : t.val < 16 := t.isLt
  blk_point [iblk, V, ht.2.2.2.2.2.2, hs.1, hs.2.1]

/-- The reference runs, keeps its arguments, and declares no semaphore. -/
theorem reference_frame : Cert.quiescent_NormBwdRefIdeal (hNormBwdRefIdeal := Cert.NormBwdRefIdeal.Gen.facts) := fun m g _ =>
  (θ_run Cert.NormBwdRefIdeal.defs _ _).mono
    (fun r h => ⟨fun c => (h c).2.2.2, sem_eq_zero_of_no_sems (by decide) r.2⟩) (Cert.NormBwdRefIdeal.Value.run m g)

/-- From equal arguments the two programs leave equal results. -/
theorem agree : Cert.algebraic_NormBwdIdeal_NormBwdRefIdeal (hNormBwdIdeal := Cert.NormBwdIdeal.Gen.facts)
    (hNormBwdRefIdeal := Cert.NormBwdRefIdeal.Gen.facts) := by
  intro m g m' g' _ hagree
  refine ⟨_, _, _, Cert.NormBwdIdeal.Value.run_blocks m g, ?_⟩
  refine (θ_run Cert.NormBwdRefIdeal.defs _ _).mono (fun r h c => ⟨?_, ?_, ?_, (h c).2.2.2⟩) (Cert.NormBwdRefIdeal.Value.run m' g')
  · rw [(h c).1, (hagree c).1, (hagree c).2.1, (hagree c).2.2.1, (hagree c).2.2.2, final4 m c]
    funext i
    rw [inputGrad_eq]
    unfold meanSquare
    pointwise
    simp only [Finset.univ_unique, Finset.sum_singleton]
  · rw [(h c).2.1, (hagree c).1, (hagree c).2.1, (hagree c).2.2.1, (hagree c).2.2.2, final5 m c]
    funext i
    rw [inputGrad_eq]
    unfold meanSquare
    pointwise
    simp only [Finset.univ_unique, Finset.sum_singleton]
  · rw [(h c).2.2.1, (hagree c).1, (hagree c).2.1, final6 m c]
    funext i
    unfold scaleGrad meanSquare
    pointwise
    refine (Fin.sum_univ_one _).trans (Finset.sum_congr rfl fun k _ => mul_comm _ _)

end Cert.NormBwdIdeal.Back

end
-- ==== Proof.Merge.lean ====
/-
  THE MERGE OF THE TWO BRANCHES, BACKWARD: the gradient of a branch is the incoming gradient times that branch's gate.
-/
module

public import proofs.«01_k».proof.Defs
public import proofs.«01_k».proof.Proof.Products
public import proofs.«01_k».proof.Proof.Gen.MergeBwdIdeal.Value
public import proofs.«01_k».proof.Proof.Gen.MergeBwdRefIdeal.Run
public import Idealize.ShloMosaic.Lib.Pipeline.ValueKit
public import Idealize.ShloMosaic.Lib.Claim

@[expose] public section

noncomputable section

namespace Cert.MergeBwdIdeal.Merge

open Idealize.ShloMosaic Idealize.SL.Sem
open Idealize.ShloMosaic.TcCoe Cert.MergeBwdIdeal Cert.MergeBwdIdeal.Gen Cert.MergeBwdIdeal.Value Cert.Mm Idealize.ShloMosaic.Pipeline

/-- The gradient `d` times the gates that stand in the columns of `p` from column `o` on. -/
def gated (o : ℕ) (h : o + 2048 ≤ 15360) (d : Mat 4096 2048) (p : Mat 4096 15360) : Mat 4096 2048 := fun j =>
  d j * Ideal.div (Ideal.ofBits .f32 0x3F800000#32) (Ideal.ofBits .f32 0x3F800000#32
    + Ideal.exp (Ideal.ofBits .f32 0x00000000#32 - p (ix2 (j 0) ⟨o + (j 1).val, Nat.lt_of_lt_of_le (Nat.add_lt_add_left (j 1).isLt o) h⟩)))

variable (m : (ℓ : Loc nD τ sig) → Buf (Elt Ideal) ℓ) (c : Dev nD)

/-- Which block of each array a grid point sees. -/
theorem index_all : ∀ t : Fin cfg0.N, win0_0.index t = ![t.val, 0] ∧ win0_1.index t = ![t.val, 2]
    ∧ win0_4.index t = ![t.val, 0] ∧ win0_5.index t = ![t.val, 0] :=
  (by decide +kernel : ∀ t : Fin grid0.N, win0_0.index t = ![t.val, 0] ∧ win0_1.index t = ![t.val, 2]
    ∧ win0_4.index t = ![t.val, 0] ∧ win0_5.index t = ![t.val, 0])

/-- The staged gates are the rows of the projections that the point fetches. -/
theorem staged (t : Fin cfg0.N) (j : S128x4096.Idx) (i : S4096x15360.Idx) (h0 : (i 0).val = t.val * 128 + (j 0).val)
    (h1 : (i 1).val = 8192 + (j 1).val) : X0_1 m c t j = m ((c : Thread nD τ).loc main_arg1) i := by
  obtain ⟨e0, e1, e4, e5⟩ := index_all t
  unfold X0_1 Pipeline.Window.fill
  rw [dif_pos (moved0_1 t j)]
  blk_ext [iblk, V, e1]

/-- The first array the call leaves. -/
theorem final4 : (dats m 0 c).arrAt 4 cfg0.N =
    gated 8192 (by decide) (m ((c : Thread nD τ).loc main_arg0)) (m ((c : Thread nD τ).loc main_arg1)) := by
  refine (dats m 0 c).arrAt_eq_of_covers 4 _ (by decide +kernel) fun t hf y => ?_
  obtain ⟨e0, e1, e4, e5⟩ := index_all t
  blk_simp
  rw [after0_4]
  unfold outsAt0
  dsimp only
  frame_out
  have hx := staged m c t
  generalize X0_1 m c t = x at hx ⊢
  unfold gated
  pointwise [k0_pay4, k0_pay2]
  blk_point [iblk, V, e0, e1, e4]
  exact hx _ _ (by blk_simp [e4]) rfl

/-- The second array the call leaves. -/
theorem final5 : (dats m 0 c).arrAt 5 cfg0.N =
    gated 10240 (by decide) (m ((c : Thread nD τ).loc main_arg0)) (m ((c : Thread nD τ).loc main_arg1)) := by
  refine (dats m 0 c).arrAt_eq_of_covers 5 _ (by decide +kernel) fun t hf y => ?_
  obtain ⟨e0, e1, e4, e5⟩ := index_all t
  blk_simp
  rw [after0_5]
  frame_out
  have hx := staged m c t
  generalize X0_1 m c t = x at hx ⊢
  unfold gated
  pointwise [k0_pay5, k0_pay3]
  blk_point [iblk, V, e0, e1, e5]
  exact hx _ _ (by blk_simp [e5]) (by show 10240 + _ = 8192 + (2048 + _); omega)

/-- The reference runs, keeps its arguments, and declares no semaphore. -/
theorem reference_frame : Cert.quiescent_MergeBwdRefIdeal (hMergeBwdRefIdeal := Cert.MergeBwdRefIdeal.Gen.facts) := fun m g _ =>
  (θ_run Cert.MergeBwdRefIdeal.defs _ _).mono
    (fun r h => ⟨fun c => (h c).2.2, sem_eq_zero_of_no_sems (by decide) r.2⟩) (Cert.MergeBwdRefIdeal.Value.run m g)

/-- From equal arguments the two programs leave equal results. -/
theorem agree : Cert.algebraic_MergeBwdIdeal_MergeBwdRefIdeal (hMergeBwdIdeal := Cert.MergeBwdIdeal.Gen.facts)
    (hMergeBwdRefIdeal := Cert.MergeBwdRefIdeal.Gen.facts) := by
  intro m g m' g' _ hagree
  refine ⟨_, _, (θ_run Cert.MergeBwdIdeal.defs _ _).mono (fun r h c => ⟨(h c).1, (h c).2.1, (h c).2.2.2⟩)
    (Cert.MergeBwdIdeal.Value.run_blocks m g), ?_⟩
  refine (θ_run Cert.MergeBwdRefIdeal.defs _ _).mono (fun r h c => ⟨?_, ?_, (h c).2.2⟩) (Cert.MergeBwdRefIdeal.Value.run m' g')
  · rw [(h c).1, (hagree c).1, (hagree c).2.1, final4 m c]
    funext i
    unfold gated
    pointwise
    rw [zero_sub, mul_comm]
  · rw [(h c).2.1, (hagree c).1, (hagree c).2.1, final5 m c]
    funext i
    unfold gated
    pointwise
    rw [zero_sub, mul_comm]
    simp only [← Nat.add_assoc, Nat.reduceAdd]

end Cert.MergeBwdIdeal.Merge

end
-- ==== Proof.Conv.lean ====
/-
  THE CONVOLUTION, BACKWARD: what the call leaves in its two arrays. The gradient of the input at a row reads the rows from it to
  three on, the gradient of the weights the rows from three back to it; a tile's neighbours come in blocks of eight rows.
-/
module

public import proofs.«01_k».proof.Defs
public import proofs.«01_k».proof.Proof.Products
public import proofs.«01_k».proof.Proof.Pieces
public import proofs.«01_k».proof.Proof.Gen.ConvBwdIdeal.Value
public import Idealize.ShloMosaic.Lib.Pipeline.ValueKit
public import Idealize.ShloMosaic.Lib.Pipeline.ReadBack
public import Idealize.ShloMosaic.Lib.Claim

@[expose] public section

noncomputable section

namespace Cert.Conv

open Idealize.ShloMosaic Cert.Mm

/-- The gradient of the convolution's output at a row and a column, the three planes side by side; zero past the last row. -/
def planes (dy : (⟨3, ![3, 4096, 2048]⟩ : Shape).Idx → EReal) (n l : ℕ) : EReal :=
  if h : n < 4096 ∧ l < 6144 then dy (ix3 ⟨l / 2048, by omega⟩ ⟨n, h.1⟩ ⟨l % 2048, by omega⟩) else 0

/-- The convolution's input with eight rows of zeros before it. -/
def padded (x : Mat 4096 15360) (n l : ℕ) : EReal :=
  if h : 8 ≤ n ∧ n < 4104 ∧ l < 6144 then x (ix2 ⟨n - 8, by omega⟩ ⟨l, by omega⟩) else 0

end Cert.Conv

namespace Cert.ConvBwdIdeal.Conv

open Idealize.ShloMosaic Idealize.SL.Sem
open Idealize.ShloMosaic.TcCoe Cert.ConvBwdIdeal Cert.ConvBwdIdeal.Gen Cert.ConvBwdIdeal.Value Cert.Mm Cert.Conv Idealize.ShloMosaic.Pipeline

variable (m : (ℓ : Loc nD τ sig) → Buf (Elt Ideal) ℓ) (c : Dev nD)

/-- Which block of each array a grid point sees. -/
theorem index_all : ∀ t : Fin cfg0.N, win0_0.index t = ![t.val / 64, t.val % 8, t.val / 8 % 8]
    ∧ win0_1.index t = ![t.val / 64, min (t.val % 8 * 64 + 64) 511, t.val / 8 % 8]
    ∧ win0_2.index t = ![t.val % 8, t.val / 8] ∧ win0_3.index t = ![t.val % 8 * 64 - 1, t.val / 8]
    ∧ win0_4.index t = ![0, t.val / 8] ∧ win0_5.index t = ![t.val % 8, t.val / 8] ∧ win0_6.index t = ![0, t.val / 8] :=
  (by decide +kernel : ∀ t : Fin grid0.N, win0_0.index t = ![t.val / 64, t.val % 8, t.val / 8 % 8]
    ∧ win0_1.index t = ![t.val / 64, min (t.val % 8 * 64 + 64) 511, t.val / 8 % 8]
    ∧ win0_2.index t = ![t.val % 8, t.val / 8] ∧ win0_3.index t = ![t.val % 8 * 64 - 1, t.val / 8]
    ∧ win0_4.index t = ![0, t.val / 8] ∧ win0_5.index t = ![t.val % 8, t.val / 8] ∧ win0_6.index t = ![0, t.val / 8])

/-- The body's tests for the first and the last tile of a column. -/
theorem edges : ∀ t : Fin cfg0.N, (Scalar.cmpi .eq (BitVec.ofNat 32 (grid0.coords t 1).val) 0#32 = 1#1 ↔ t.val % 8 = 0)
    ∧ (Scalar.cmpi .eq (BitVec.ofNat 32 (grid0.coords t 1).val) 7#32 = 1#1 ↔ t.val % 8 = 7) :=
  (by decide +kernel : ∀ t : Fin grid0.N, (Scalar.cmpi .eq (BitVec.ofNat 32 (grid0.coords t 1).val) 0#32 = 1#1 ↔ t.val % 8 = 0)
    ∧ (Scalar.cmpi .eq (BitVec.ofNat 32 (grid0.coords t 1).val) 7#32 = 1#1 ↔ t.val % 8 = 7))

theorem select_first (t : Fin cfg0.N) (a b : EReal) :
    Scalar.select (Scalar.cmpi .eq (BitVec.ofNat 32 (grid0.coords t 1).val) 0#32) a b = if t.val % 8 = 0 then a else b :=
  if_congr (edges t).1 rfl rfl

theorem select_last (t : Fin cfg0.N) (a b : EReal) :
    Scalar.select (Scalar.cmpi .eq (BitVec.ofNat 32 (grid0.coords t 1).val) 7#32) a b = if t.val % 8 = 7 then a else b :=
  if_congr (edges t).2 rfl rfl

/-- A tile of the output's gradient. -/
theorem tile (t : Fin cfg0.N) (r : Fin 512) (l : Fin 256) : k0_pay4 (F := Ideal) (iblk m c 0 t) (ix2 r l)
    = planes (m ((c : Thread nD τ).loc main_arg0)) (t.val % 8 * 512 + r.val) (t.val / 8 * 256 + l.val) := by
  have e0 := (index_all t).1
  have ht : t.val < 192 := t.isLt
  unfold planes
  rw [dif_pos (by omega)]
  pointwise [k0_pay4]
  blk_point [iblk, V, e0]
  all_goals omega

/-- The tile with the eight rows after it. -/
theorem after (t : Fin cfg0.N) (r : Fin 520) (l : Fin 256) :
    k0_pay5 (F := Ideal) (grid0.coords t) (iblk m c 0 t) (iblk m c 1 t) (ix2 r l)
    = planes (m ((c : Thread nD τ).loc main_arg0)) (t.val % 8 * 512 + r.val) (t.val / 8 * 256 + l.val) := by
  have e1 := (index_all t).2.1
  have ht : t.val < 192 := t.isLt
  pointwise [k0_pay5]
  by_cases h : r.val < 512
  · rw [dif_pos h, tile]
  · rw [dif_neg h]
    refine (select_last t _ _).trans ?_
    unfold planes
    by_cases h7 : t.val % 8 = 7
    · rw [if_pos h7, dif_neg (by omega)]
    · rw [if_neg h7, dif_pos (by omega)]
      blk_point [iblk, V, e1]
      all_goals omega

/-- The input's tile with the eight rows before it. -/
theorem before (t : Fin cfg0.N) (r : Fin 520) (l : Fin 256) :
    k0_pay6 (F := Ideal) (grid0.coords t) (iblk m c 3 t) (iblk m c 2 t) (ix2 r l)
    = padded (m ((c : Thread nD τ).loc main_arg1)) (t.val % 8 * 512 + r.val) (t.val / 8 * 256 + l.val) := by
  have e2 := (index_all t).2.2.1
  have e3 := (index_all t).2.2.2.1
  have ht : t.val < 192 := t.isLt
  pointwise [k0_pay6]
  unfold padded
  by_cases h : r.val < 8
  · rw [dif_pos h]
    refine (select_first t _ _).trans ?_
    by_cases h0 : t.val % 8 = 0
    · rw [if_pos h0, dif_neg (by omega)]
    · rw [if_neg h0, dif_pos (by omega)]
      blk_point [iblk, V, e3]
      all_goals omega
  · rw [dif_neg h, dif_pos (by omega)]
    blk_point [iblk, V, e2]
    all_goals omega

/-- What a point's rows add to the weights' gradient. -/
def term (t : Fin cfg0.N) : Mat 4 256 := fun j => ∑ k : Fin 512,
  planes (m ((c : Thread nD τ).loc main_arg0)) (t.val % 8 * 512 + k.val) (t.val / 8 * 256 + (j 1).val)
    * padded (m ((c : Thread nD τ).loc main_arg1)) (t.val % 8 * 512 + (k.val + 5 + (j 0).val)) (t.val / 8 * 256 + (j 1).val)

theorem row3 (t : Fin cfg0.N) (v : FVec Ideal S1x256 .f32) (l : Fin 256) :
    k0_pay8 (F := Ideal) (grid0.coords t) (iblk m c 0 t) (iblk m c 3 t) (iblk m c 2 t) v (ix2 0 l) = v (ix2 0 l) + term m c t (ix2 3 l) := by
  unfold term
  pointwise [k0_pay8]
  exact congrArg (_ + ·) (Finset.sum_congr rfl fun k _ => by rw [tile, before]; congr 2; show _ + _ = _ + _; dsimp only; omega)

theorem row2 (t : Fin cfg0.N) (v : FVec Ideal S1x256 .f32) (l : Fin 256) :
    k0_pay10 (F := Ideal) (k0_pay4 (iblk m c 0 t)) (k0_pay6 (grid0.coords t) (iblk m c 3 t) (iblk m c 2 t)) v (ix2 0 l)
      = v (ix2 0 l) + term m c t (ix2 2 l) := by
  unfold term
  pointwise [k0_pay10]
  exact congrArg (_ + ·) (Finset.sum_congr rfl fun k _ => by rw [tile, before]; congr 2; show _ + _ = _ + _; dsimp only; omega)

theorem row1 (t : Fin cfg0.N) (v : FVec Ideal S1x256 .f32) (l : Fin 256) :
    k0_pay11 (F := Ideal) (k0_pay4 (iblk m c 0 t)) (k0_pay6 (grid0.coords t) (iblk m c 3 t) (iblk m c 2 t)) v (ix2 0 l)
      = v (ix2 0 l) + term m c t (ix2 1 l) := by
  unfold term
  pointwise [k0_pay11]
  exact congrArg (_ + ·) (Finset.sum_congr rfl fun k _ => by rw [tile, before]; congr 2; show _ + _ = _ + _; dsimp only; omega)

theorem row0 (t : Fin cfg0.N) (v : FVec Ideal S1x256 .f32) (l : Fin 256) :
    k0_pay1 (F := Ideal) (k0_pay4 (iblk m c 0 t)) (k0_pay13 v) (k0_pay14 (k0_pay6 (grid0.coords t) (iblk m c 3 t) (iblk m c 2 t))) (ix2 0 l)
      = v (ix2 0 l) + term m c t (ix2 0 l) := by
  unfold term
  pointwise [k0_pay1, k0_pay13, k0_pay14]
  exact congrArg (_ + ·) (Finset.sum_congr rfl fun k _ => by rw [tile, before]; congr 2; show _ + _ = _ + _; dsimp only; omega)

/-- The gradient of the convolution's input, beside the columns the call does not write. -/
def inputGrad (dy : (⟨3, ![3, 4096, 2048]⟩ : Shape).Idx → EReal) (w : Mat 4 6144) (d : Mat 4096 15360) : Mat 4096 15360 := fun j =>
  if h : (j 1).val < 6144 then
    planes dy (j 0).val (j 1).val * w (ix2 3 ⟨(j 1).val, h⟩) + planes dy ((j 0).val + 1) (j 1).val * w (ix2 2 ⟨(j 1).val, h⟩)
      + planes dy ((j 0).val + 2) (j 1).val * w (ix2 1 ⟨(j 1).val, h⟩) + planes dy ((j 0).val + 3) (j 1).val * w (ix2 0 ⟨(j 1).val, h⟩)
  else d j

theorem inputGrad_written (dy : (⟨3, ![3, 4096, 2048]⟩ : Shape).Idx → EReal) (w : Mat 4 6144) (d : Mat 4096 15360) (n : Fin 4096) (l : Fin 15360)
    (h : l.val < 6144) : inputGrad dy w d (ix2 n l) = planes dy n.val l.val * w (ix2 3 ⟨l.val, h⟩) + planes dy (n.val + 1) l.val * w (ix2 2 ⟨l.val, h⟩)
      + planes dy (n.val + 2) l.val * w (ix2 1 ⟨l.val, h⟩) + planes dy (n.val + 3) l.val * w (ix2 0 ⟨l.val, h⟩) := dif_pos h

theorem inputGrad_kept (dy : (⟨3, ![3, 4096, 2048]⟩ : Shape).Idx → EReal) (w : Mat 4 6144) (d : Mat 4096 15360) (j : (⟨2, ![4096, 15360]⟩ : Shape).Idx)
    (h : ¬(j 1).val < 6144) : inputGrad dy w d j = d j := dif_neg h

/-- What a point leaves in its block of the input's gradient. -/
theorem rows5 (t : Fin cfg0.N) (r : Fin 512) (l : Fin 256) : (outsAt0 m c t.val t.isLt).1 (ix2 r l)
    = planes (m ((c : Thread nD τ).loc main_arg0)) (t.val % 8 * 512 + r.val) (t.val / 8 * 256 + l.val) * iblk m c 4 t (ix2 3 l)
      + planes (m ((c : Thread nD τ).loc main_arg0)) (t.val % 8 * 512 + r.val + 1) (t.val / 8 * 256 + l.val) * iblk m c 4 t (ix2 2 l)
      + planes (m ((c : Thread nD τ).loc main_arg0)) (t.val % 8 * 512 + r.val + 2) (t.val / 8 * 256 + l.val) * iblk m c 4 t (ix2 1 l)
      + planes (m ((c : Thread nD τ).loc main_arg0)) (t.val % 8 * 512 + r.val + 3) (t.val / 8 * 256 + l.val) * iblk m c 4 t (ix2 0 l) := by
  have e (n : ℕ) (hn : n ≤ 3) (h) : k0_pay5 (F := Ideal) (grid0.coords t) (iblk m c 0 t) (iblk m c 1 t) (ix2 ⟨(r.val + 520 - (520 - n)) % 520, h⟩ l)
      = planes (m ((c : Thread nD τ).loc main_arg0)) (t.val % 8 * 512 + r.val + n) (t.val / 8 * 256 + l.val) := by
    rw [after]; congr 1; dsimp only; omega
  have e1 := e 1 (by omega)
  have e2 := e 2 (by omega)
  have e3 := e 3 (by omega)
  by_cases h : t.val % 8 = 0
  · rw [outsAt0_A m c t h]
    dsimp only
    frame_out
    pointwise [k0_pay2, k0_pay12, k0_pay7, k0_pay9]
    rw [tile, e1, e2, e3]
  · rw [outsAt0_B m c t h]
    dsimp only
    frame_out
    pointwise [k0_pay2, k0_pay12, k0_pay7, k0_pay9]
    rw [tile, e1, e2, e3]

theorem emb5 (t : Fin cfg0.N) (a : Fin 512) (b : Fin 256) (h0 : t.val % 8 * 512 + a.val < 4096) (h1 : t.val / 8 * 256 + b.val < 15360) :
    (win0_5.blk t).view.emb (ix2 a b) = (ix2 ⟨t.val % 8 * 512 + a.val, h0⟩ ⟨t.val / 8 * 256 + b.val, h1⟩ : S4096x15360.Idx) := by
  have e5 := (index_all t).2.2.2.2.2.1
  funext l
  match l with
  | 0 => exact Fin.ext (by blk_simp [e5])
  | 1 => exact Fin.ext (by blk_simp [e5])

theorem weight_block (t : Fin cfg0.N) (κ : Fin 4) (b : Fin 256) (h : t.val / 8 * 256 + b.val < 6144) :
    iblk m c 4 t (ix2 κ b) = m ((c : Thread nD τ).loc main_arg2) (ix2 κ ⟨t.val / 8 * 256 + b.val, h⟩) := by
  have e4 := (index_all t).2.2.2.2.1
  blk_point [iblk, V, e4]

theorem point5 (t : Fin cfg0.N) (a : Fin 512) (b : Fin 256) (h0 : t.val % 8 * 512 + a.val < 4096) (h1 : t.val / 8 * 256 + b.val < 15360)
    (h : t.val / 8 * 256 + b.val < 6144) : (outsAt0 m c t.val t.isLt).1 (ix2 a b)
    = inputGrad (m ((c : Thread nD τ).loc main_arg0)) (m ((c : Thread nD τ).loc main_arg2)) (m ((c : Thread nD τ).loc main_arg3))
        (ix2 ⟨t.val % 8 * 512 + a.val, h0⟩ ⟨t.val / 8 * 256 + b.val, h1⟩) := by
  refine (rows5 m c t a b).trans ?_
  refine Eq.trans ?_ (inputGrad_written _ _ _ ⟨t.val % 8 * 512 + a.val, h0⟩ ⟨t.val / 8 * 256 + b.val, h1⟩ h).symm
  rw [weight_block m c t 0 b h, weight_block m c t 1 b h, weight_block m c t 2 b h, weight_block m c t 3 b h]

/-- The blocks the call writes of the first array: those of the first columns. -/
theorem covers5 : (cfg0.win 5).CoversWhere (fun β => β 1 < 24) := by decide +kernel

/-- The first array the call leaves. -/
theorem final5 : (dats m 0 c).arrAt 5 cfg0.N = inputGrad (m ((c : Thread nD τ).loc main_arg0)) (m ((c : Thread nD τ).loc main_arg2))
    (m ((c : Thread nD τ).loc main_arg3)) := by
  refine (dats m 0 c).arrAt_eq_of_coversWhere_of_agree 5 _ (fun β => β 1 < 24) covers5 (fun t hf y => ?_) (fun j hj => ?_)
  · blk_simp
    rw [after0_5]
    have ht : t.val < 192 := t.isLt
    obtain ⟨a, b, rfl⟩ : ∃ (a : Fin 512) (b : Fin 256), y = ix2 a b := ⟨y 0, y 1, by funext l; match l with | 0 => rfl | 1 => rfl⟩
    refine (point5 m c t a b (by omega) (by omega) (by omega)).trans ?_
    exact congrArg _ (emb5 t a b _ _).symm
  · blk_simp [Pipeline.Window.cell_apply] at hj
    refine (congrFun (A_eq m c 5) _).trans ?_
    refine Eq.trans ?_ (inputGrad_kept _ _ _ _ fun x => hj ((Nat.div_lt_iff_lt_mul (by norm_num)).mpr x)).symm
    rfl

/-- The rows of the weights' gradient, last first. -/
abbrev row (κ : Fin 4) : Rect S4x256 := Rect.unit ![3 - κ.val, 0] ![1, 256] (by intro a; have := κ.isLt; fin_cases a <;> simp <;> omega)

theorem row_disjoint (κ κ' : Fin 4) (h : κ ≠ κ') : Disjoint (row κ).set (row κ').set :=
  Rect.unit_disjoint (0 : Fin 2) (by have : κ.val ≠ κ'.val := fun x => h (Fin.ext x); show 3 - κ.val + 1 ≤ 3 - κ'.val ∨ 3 - κ'.val + 1 ≤ 3 - κ.val; omega)

theorem row_emb (κ : Fin 4) (l : Fin 256) : (row κ).emb (ix2 0 l) = (ix2 ⟨3 - κ.val, by omega⟩ l : S4x256.Idx) := by
  funext a
  match a with
  | 0 => exact Fin.ext (by show 3 - κ.val + 1 * 0 = 3 - κ.val; omega)
  | 1 => exact Fin.ext (by show 0 + 1 * l.val = l.val; omega)

/-- Four rows stored one after another: each is the one stored there. -/
theorem rows_apply (w : Fin 4 → FVec Ideal S1x256 .f32) (L : List (View.Piece (Elt Ideal) S4x256 .f32)) (κ : Fin 4) (l : Fin 256) :
    View.canon (Val := Elt Ideal) (⟨Rect.unit ![0, 0] ![1, 256] inb_S4x256_S1x256_0_0, w 3⟩ :: ⟨Rect.unit ![1, 0] ![1, 256] inb_S4x256_S1x256_1_0, w 2⟩
      :: ⟨Rect.unit ![2, 0] ![1, 256] inb_S4x256_S1x256_2_0, w 1⟩ :: ⟨Rect.unit ![3, 0] ![1, 256] inb_S4x256_S1x256_3_0, w 0⟩ :: L)
      (ix2 ⟨3 - κ.val, by omega⟩ l) = w κ (ix2 0 l) := by
  have h := Cert.KernelIdeal.Swa.canon_four row w L row_disjoint κ (ix2 0 l)
  rw [row_emb] at h
  exact h

/-- A load passes over a row stored elsewhere. -/
theorem readCov_skip {sig : RefSig} {κ : Kind} {sp : Space} {d n a b : ℕ} {e : EltTy} (v : View sig κ sp ⟨2, ![d, n]⟩ e)
    (inb : ∀ x, (![a, 0] : Fin 2 → ℕ) x + (![1, n] : Fin 2 → ℕ) x ≤ (⟨2, ![d, n]⟩ : Shape).size x)
    (inb' : ∀ x, (![b, 0] : Fin 2 → ℕ) x + (![1, n] : Fin 2 → ℕ) x ≤ (⟨2, ![d, n]⟩ : Shape).size x)
    (w : (Rect.unit (s := ⟨2, ![d, n]⟩) ![a, 0] ![1, n] inb).shape.Idx → Elt Ideal e) (L : List (View.Piece (Elt Ideal) ⟨2, ![d, n]⟩ e))
    (h : b < a) :
    v.readCov (⟨Rect.unit ![a, 0] ![1, n] inb, w⟩ :: L) (Rect.unit ![b, 0] ![1, n] inb').toLoadRect
      = v.readCov L (Rect.unit ![b, 0] ![1, n] inb').toLoadRect :=
  View.readCov_cons_of_disjoint v _ L _ (Rect.unit_disjoint (inb := inb) (inb' := inb') (0 : Fin 2) (Or.inr h))

/-- A load of a row of a buffer stored whole reads that row of what was stored. -/
theorem readCov_whole {sig : RefSig} {κ : Kind} {sp : Space} {d n : ℕ} {e : EltTy} (v : View sig κ sp ⟨2, ![d, n]⟩ e)
    (inb : ∀ x, (![0, 0] : Fin 2 → ℕ) x + (![d, n] : Fin 2 → ℕ) x ≤ (⟨2, ![d, n]⟩ : Shape).size x)
    (w : (⟨2, ![d, n]⟩ : Shape).Idx → Elt Ideal e) (B : Rect ⟨2, ![d, n]⟩) :
    v.readCov [(⟨Rect.unit ![0, 0] ![d, n] inb, w⟩ : View.Piece (Elt Ideal) ⟨2, ![d, n]⟩ e)] B.toLoadRect = View.ld w B := by
  rw [View.readCov_eq_canon', View.canon_cons_unit_lit inb w [] (by intro a; fin_cases a <;> rfl)]

/-- The weights' gradient after a point. -/
def left (n : ℕ) (h : n < cfg0.N) : Mat 4 256 := (outsAt0 m c n h).2

/-- A load of a row. -/
theorem row_load (z : Mat 4 256) (κ : Fin 4) (n : ℕ) (h : n = κ.val) (inb) (l : Fin 256) :
    View.ld (Val := Elt Ideal) (e' := .f32) z (Rect.unit (s := S4x256) ![n, 0] ![1, 256] inb) (ix2 0 l) = z (ix2 κ l) := by
  subst h
  refine congrArg z (funext fun a => ?_)
  match a with
  | 0 => exact Fin.ext (by show κ.val + 1 * 0 = κ.val; omega)
  | 1 => exact Fin.ext (by show 0 + 1 * l.val = l.val; omega)

theorem left_first (t : Fin cfg0.N) (h : t.val % 8 = 0) (j : S4x256.Idx) : left m c t.val t.isLt j = 0 + term m c t j := by
  obtain ⟨κ, l, rfl⟩ : ∃ (κ : Fin 4) (l : Fin 256), j = ix2 κ l := ⟨j 0, j 1, by funext l; match l with | 0 => rfl | 1 => rfl⟩
  have z (i : S4x256.Idx) : k0_pay3 (F := Ideal) i = 0 := by pointwise [k0_pay3]
  unfold left
  rw [outsAt0_A m c t h]
  dsimp only
  frame_out
  simp only [readCov_skip, Nat.reduceLT, readCov_whole]
  fin_cases κ
  · exact (rows_apply ![_, _, _, _] _ 3 l).trans ((row0 m c t _ l).trans (congrArg (· + _) ((row_load _ 0 0 rfl _ l).trans (z _))))
  · exact (rows_apply ![_, _, _, _] _ 2 l).trans ((row1 m c t _ l).trans (congrArg (· + _) ((row_load _ 1 1 rfl _ l).trans (z _))))
  · exact (rows_apply ![_, _, _, _] _ 1 l).trans ((row2 m c t _ l).trans (congrArg (· + _) ((row_load _ 2 2 rfl _ l).trans (z _))))
  · exact (rows_apply ![_, _, _, _] _ 0 l).trans ((row3 m c t _ l).trans (congrArg (· + _) ((row_load _ 3 3 rfl _ l).trans (z _))))

theorem left_next (t : Fin cfg0.N) (h : ¬t.val % 8 = 0) (j : S4x256.Idx) :
    left m c t.val t.isLt j = left m c (t.val - 1) (Nat.lt_of_le_of_lt (Nat.sub_le _ _) t.isLt) j + term m c t j := by
  obtain ⟨κ, l, rfl⟩ : ∃ (κ : Fin 4) (l : Fin 256), j = ix2 κ l := ⟨j 0, j 1, by funext l; match l with | 0 => rfl | 1 => rfl⟩
  unfold left
  rw [outsAt0_B m c t h]
  dsimp only
  frame_out
  fin_cases κ
  · exact (rows_apply ![_, _, _, _] [] 3 l).trans ((row0 m c t _ l).trans (congrArg (· + _) (row_load _ 0 0 rfl _ l)))
  · exact (rows_apply ![_, _, _, _] [] 2 l).trans ((row1 m c t _ l).trans (congrArg (· + _) (row_load _ 1 1 rfl _ l)))
  · exact (rows_apply ![_, _, _, _] [] 1 l).trans ((row2 m c t _ l).trans (congrArg (· + _) (row_load _ 2 2 rfl _ l)))
  · exact (rows_apply ![_, _, _, _] [] 0 l).trans ((row3 m c t _ l).trans (congrArg (· + _) (row_load _ 3 3 rfl _ l)))

/-- The gradient of the weights. -/
def weightGrad (dy : (⟨3, ![3, 4096, 2048]⟩ : Shape).Idx → EReal) (x : Mat 4096 15360) : Mat 4 6144 := fun j =>
  ∑ k : Fin 4096, planes dy k.val (j 1).val * padded x (k.val + (5 + (j 0).val)) (j 1).val

/-- The second array the call leaves. -/
theorem final6 : (dats m 0 c).arrAt 6 cfg0.N = weightGrad (m ((c : Thread nD τ).loc main_arg0)) (m ((c : Thread nD τ).loc main_arg1)) := by
  refine (dats m 0 c).arrAt_eq_of_covers 6 _ (by decide +kernel) fun t hf y => ?_
  have hr : t.val % 8 = 7 := (flush0_6 t).mp hf
  blk_simp
  rw [after0_6]
  have e : (outsAt0 m c t.val t.isLt).2 y = left m c t.val t.isLt y := rfl
  rw [e, Pipeline.eq_sum_fin_of_reset_step_apply_of_flush (left m c) 8 (fun _ => 0) (term m c) (left_first m c) (left_next m c) t hr, zero_add]
  unfold term weightGrad
  have e6 := (index_all t).2.2.2.2.2.2
  have v0 : ((win0_6.blk t).view.emb y 0).val = (y 0).val := by blk_simp [e6]
  have v1 : ((win0_6.blk t).view.emb y 1).val = t.val / 8 * 256 + (y 1).val := by blk_simp [e6]
  refine Fin.sum_mul_add_congr fun s k hl => ?_
  have a1 : (8 * (t.val / 8) + s.val) % 8 = s.val := by omega
  have a2 : (8 * (t.val / 8) + s.val) / 8 = t.val / 8 := by omega
  rw [v0, v1]
  dsimp only
  rw [a1, a2]
  refine congrArg₂ (· * ·) rfl (congrArg₂ (padded _) ?_ rfl)
  omega

end Cert.ConvBwdIdeal.Conv

end
-- ==== Proof.ConvSame.lean ====
/-
  THE CONVOLUTION, BACKWARD: the derivative of the sum of shifted products is what the call leaves.
-/
module

public import proofs.«01_k».proof.Proof.Conv
public import proofs.«01_k».proof.Proof.Gen.ConvBwdRefIdeal.Run

@[expose] public section

noncomputable section

namespace Cert.Conv

open Idealize.ShloMosaic Cert.Mm

variable (dy : (⟨3, ![3, 4096, 2048]⟩ : Shape).Idx → EReal) (x : Mat 4096 15360)

/-- The three planes laid side by side. -/
theorem planes_eq (n : Fin 4096) (p l : ℕ) (hp : n.val = p) (hl : l < 6144) (g : ¬l < 2048 → ¬l - 2048 < 2048 → l - 2048 - 2048 < 2048) :
    (if h : l < 2048 then dy (ix3 0 n ⟨l, h⟩) else if h' : l - 2048 < 2048 then dy (ix3 1 n ⟨l - 2048, h'⟩)
      else dy (ix3 2 n ⟨l - 2048 - 2048, g h h'⟩)) = planes dy p l := by
  have hn := n.isLt
  subst hp
  have e : planes dy n.val l = dy (ix3 ⟨l / 2048, by omega⟩ n ⟨l % 2048, by omega⟩) := dif_pos ⟨hn, hl⟩
  rw [e]
  by_cases h : l < 2048
  · have e1 : (⟨l / 2048, by omega⟩ : Fin 3) = 0 := Fin.ext (show l / 2048 = 0 by omega)
    have e2 : (⟨l % 2048, by omega⟩ : Fin 2048) = ⟨l, h⟩ := Fin.ext (show l % 2048 = l by omega)
    rw [dif_pos h, e1, e2]
  · rw [dif_neg h]
    by_cases h' : l - 2048 < 2048
    · have e1 : (⟨l / 2048, by omega⟩ : Fin 3) = 1 := Fin.ext (show l / 2048 = 1 by omega)
      have e2 : (⟨l % 2048, by omega⟩ : Fin 2048) = ⟨l - 2048, h'⟩ := Fin.ext (show l % 2048 = l - 2048 by omega)
      rw [dif_pos h', e1, e2]
    · have e1 : (⟨l / 2048, by omega⟩ : Fin 3) = 2 := Fin.ext (show l / 2048 = 2 by omega)
      have e2 : (⟨l % 2048, by omega⟩ : Fin 2048) = ⟨l - 2048 - 2048, g h h'⟩ := Fin.ext (show l % 2048 = l - 2048 - 2048 by omega)
      rw [dif_neg h', e1, e2]

/-- A shifted product: past the last row it is zero. -/
theorem shifted (w : EReal) (p l : ℕ) {C : Prop} [Decidable C] {u v : C → EReal} (hC : p < 4096 → C) (hu : ∀ h, u h = w) (hv : ∀ h, v h = planes dy p l) :
    (if h : C then u h * v h else 0) = planes dy p l * w := by
  by_cases h : C
  · rw [dif_pos h, hu h, hv h, mul_comm]
  · rw [dif_neg h]
    unfold planes
    rw [dif_neg fun a => h (hC a.1), zero_mul]

theorem padded_row (n : Fin 4096) (l : Fin 15360) (p : ℕ) (hp : p = n.val + 8) (hl : l.val < 6144) : x (ix2 n l) = padded x p l.val := by
  subst hp
  have hn := n.isLt
  unfold padded
  rw [dif_pos (by omega)]
  rfl

theorem padded_early (p l : ℕ) (hp : p < 8) : 0 = padded x p l := by
  unfold padded
  rw [dif_neg (by omega)]

theorem padded_shift (κ k p : ℕ) (l : Fin 15360) (hp : p = k + (5 + κ)) (hl : l.val < 6144) (g : ¬κ + k < 3 → κ + k - 3 < 4096) :
    (if h : κ + k < 3 then 0 else x (ix2 ⟨κ + k - 3, g h⟩ l)) = padded x p l.val := by
  by_cases h : κ + k < 3
  · rw [dif_pos h]
    exact padded_early x _ _ (by omega)
  · rw [dif_neg h]
    exact padded_row x _ l _ (show p = κ + k - 3 + 8 by omega) hl

end Cert.Conv

namespace Cert.ConvBwdIdeal.Conv

open Idealize.ShloMosaic Idealize.SL.Sem
open Idealize.ShloMosaic.TcCoe Cert.ConvBwdIdeal Cert.ConvBwdIdeal.Gen Cert.ConvBwdIdeal.Value Cert.Mm Cert.Conv Idealize.ShloMosaic.Pipeline

/-- The reference runs, keeps its arguments, and declares no semaphore. -/
theorem reference_frame : Cert.quiescent_ConvBwdRefIdeal (hConvBwdRefIdeal := Cert.ConvBwdRefIdeal.Gen.facts) := fun m g _ =>
  (θ_run Cert.ConvBwdRefIdeal.defs _ _).mono
    (fun r h => ⟨fun c => (h c).2.2, sem_eq_zero_of_no_sems (by decide) r.2⟩) (Cert.ConvBwdRefIdeal.Value.run m g)

set_option maxHeartbeats 1000000 in
theorem agree_input (m' : (ℓ : Loc Cert.ConvBwdRefIdeal.nD Cert.ConvBwdRefIdeal.τ Cert.ConvBwdRefIdeal.sig) → Buf (Elt Ideal) ℓ) (c : Dev Cert.ConvBwdRefIdeal.nD) :
    Cert.ConvBwdRefIdeal.Value.res_main_v86 (F := Ideal) m' c
      = inputGrad (m' ((c.tc : Thread Cert.ConvBwdRefIdeal.nD Cert.ConvBwdRefIdeal.τ).loc Cert.ConvBwdRefIdeal.main_arg0))
        (m' ((c.tc : Thread Cert.ConvBwdRefIdeal.nD Cert.ConvBwdRefIdeal.τ).loc Cert.ConvBwdRefIdeal.main_arg2))
        (m' ((c.tc : Thread Cert.ConvBwdRefIdeal.nD Cert.ConvBwdRefIdeal.τ).loc Cert.ConvBwdRefIdeal.main_arg3)) := by
  unfold Cert.ConvBwdRefIdeal.Value.res_main_v86
  generalize m' ((c.tc : Thread Cert.ConvBwdRefIdeal.nD Cert.ConvBwdRefIdeal.τ).loc Cert.ConvBwdRefIdeal.main_arg0) = dy
  generalize m' ((c.tc : Thread Cert.ConvBwdRefIdeal.nD Cert.ConvBwdRefIdeal.τ).loc Cert.ConvBwdRefIdeal.main_arg2) = w
  generalize m' ((c.tc : Thread Cert.ConvBwdRefIdeal.nD Cert.ConvBwdRefIdeal.τ).loc Cert.ConvBwdRefIdeal.main_arg3) = d
  funext i
  obtain ⟨n, l, rfl⟩ : ∃ (n : Fin 4096) (l : Fin 15360), i = ix2 n l := ⟨i 0, i 1, by funext a; match a with | 0 => rfl | 1 => rfl⟩
  have hn := n.isLt
  by_cases hl : l.val < 6144
  · rw [inputGrad_written _ _ _ _ _ hl]
    pointwise
    rw [dif_pos hl]
    refine congrArg₂ (· + ·) (congrArg₂ (· + ·) (congrArg₂ (· + ·) ?_ ?_) ?_) ?_
    · refine shifted dy _ _ _ (fun _ => hl) (fun _ => rfl) fun h => ?_
      exact planes_eq dy n (n.val) l.val rfl hl fun _ _ => by omega
    · refine shifted dy _ _ _ (fun _ => by omega) (fun _ => rfl) fun h => ?_
      exact planes_eq dy ⟨3 + n.val - 2, by omega⟩ (n.val + 1) l.val (show 3 + n.val - 2 = n.val + 1 by omega) hl fun _ _ => by omega
    · refine shifted dy _ _ _ (fun _ => by omega) (fun _ => rfl) fun h => ?_
      exact planes_eq dy ⟨3 + n.val - 1, by omega⟩ (n.val + 2) l.val (show 3 + n.val - 1 = n.val + 2 by omega) hl fun _ _ => by omega
    · refine shifted dy _ _ _ (fun _ => by omega) (fun _ => rfl) fun h => ?_
      exact planes_eq dy ⟨3 + n.val, by omega⟩ (n.val + 3) l.val (show 3 + n.val = n.val + 3 by omega) hl fun _ _ => by omega
  · rw [inputGrad_kept _ _ _ _ hl]
    pointwise
    rw [dif_neg hl]
    exact congrArg (fun z => d (ix2 n z)) (Fin.ext (show 6144 + (l.val - 6144) = l.val by omega))

set_option maxHeartbeats 1000000 in
theorem agree_weights (m' : (ℓ : Loc Cert.ConvBwdRefIdeal.nD Cert.ConvBwdRefIdeal.τ Cert.ConvBwdRefIdeal.sig) → Buf (Elt Ideal) ℓ) (c : Dev Cert.ConvBwdRefIdeal.nD) :
    Cert.ConvBwdRefIdeal.Value.res_main_v81 (F := Ideal) m' c
      = weightGrad (m' ((c.tc : Thread Cert.ConvBwdRefIdeal.nD Cert.ConvBwdRefIdeal.τ).loc Cert.ConvBwdRefIdeal.main_arg0))
        (m' ((c.tc : Thread Cert.ConvBwdRefIdeal.nD Cert.ConvBwdRefIdeal.τ).loc Cert.ConvBwdRefIdeal.main_arg1)) := by
  unfold Cert.ConvBwdRefIdeal.Value.res_main_v81
  generalize m' ((c.tc : Thread Cert.ConvBwdRefIdeal.nD Cert.ConvBwdRefIdeal.τ).loc Cert.ConvBwdRefIdeal.main_arg0) = dy
  generalize m' ((c.tc : Thread Cert.ConvBwdRefIdeal.nD Cert.ConvBwdRefIdeal.τ).loc Cert.ConvBwdRefIdeal.main_arg1) = x
  funext i
  obtain ⟨κ, l, rfl⟩ : ∃ (κ : Fin 4) (l : Fin 6144), i = ix2 κ l := ⟨i 0, i 1, by funext a; match a with | 0 => rfl | 1 => rfl⟩
  have hl := l.isLt
  unfold weightGrad
  pointwise
  fin_cases κ
  · rw [dif_neg (by decide), dif_neg (by decide), dif_neg (by decide), dif_pos (by decide), zero_add, zero_add, zero_add]
    refine (Fin.sum_univ_one _).trans (Eq.trans ?_ (Fin.sum_univ_add (a := 3) (b := 4093)
      fun k => planes dy k.val l.val * padded x (k.val + (5 + 0)) l.val).symm)
    refine congrArg₂ (· + ·) (Finset.sum_congr rfl fun k _ => ?_) (Finset.sum_congr rfl fun k _ => ?_)
    · have hk := k.isLt
      exact congrArg₂ (· * ·) (planes_eq dy ⟨k.val, by omega⟩ _ l.val rfl hl fun _ _ => by omega) (padded_early x _ _ (show k.val + (5 + 0) < 8 by omega))
    · have hk := k.isLt
      exact congrArg₂ (· * ·) (planes_eq dy ⟨3 + k.val, by omega⟩ _ l.val rfl hl fun _ _ => by omega)
        (padded_row x ⟨k.val, by omega⟩ ⟨l.val, by omega⟩ _ (show 3 + k.val + (5 + 0) = k.val + 8 by omega) hl)
  · rw [dif_neg (by decide), dif_neg (by decide), dif_pos (by decide), dif_neg (by decide), zero_add, zero_add, add_zero]
    refine (Fin.sum_univ_one _).trans (Finset.sum_congr rfl fun k _ => ?_)
    exact congrArg₂ (· * ·) (planes_eq dy k _ l.val rfl hl fun _ _ => by omega) (padded_shift x 1 k.val _ ⟨l.val, by omega⟩ rfl hl fun _ => by omega)
  · rw [dif_neg (by decide), dif_pos (by decide), dif_neg (by decide), dif_neg (by decide), zero_add, add_zero, add_zero]
    refine (Fin.sum_univ_one _).trans (Finset.sum_congr rfl fun k _ => ?_)
    exact congrArg₂ (· * ·) (planes_eq dy k _ l.val rfl hl fun _ _ => by omega) (padded_shift x 2 k.val _ ⟨l.val, by omega⟩ rfl hl fun _ => by omega)
  · rw [dif_pos (by decide), dif_neg (by decide), dif_neg (by decide), dif_neg (by decide), add_zero, add_zero, add_zero]
    refine (Fin.sum_univ_one _).trans (Finset.sum_congr rfl fun k _ => ?_)
    exact congrArg₂ (· * ·) (planes_eq dy k _ l.val rfl hl fun _ _ => by omega) (padded_row x k ⟨l.val, by omega⟩ _ (show k.val + (5 + 3) = k.val + 8 by omega) hl)

/-- From equal arguments the two programs leave equal results. -/
theorem agree : Cert.algebraic_ConvBwdIdeal_ConvBwdRefIdeal (hConvBwdIdeal := Cert.ConvBwdIdeal.Gen.facts)
    (hConvBwdRefIdeal := Cert.ConvBwdRefIdeal.Gen.facts) := by
  intro m g m' g' _ hagree
  refine ⟨_, _, Cert.ConvBwdIdeal.Value.run_blocks m g, ?_⟩
  refine (θ_run Cert.ConvBwdRefIdeal.defs _ _).mono (fun r h c => ⟨?_, ?_, (h c).2.2⟩) (Cert.ConvBwdRefIdeal.Value.run m' g')
  · rw [(h c).1, agree_input, (hagree c).1, (hagree c).2.2.1, (hagree c).2.2.2, final5 m c]
  · rw [(h c).2.1, agree_weights, (hagree c).1, (hagree c).2.1, final6 m c]

end Cert.ConvBwdIdeal.Conv

end
-- ==== Proof.NormFwd.lean ====
/-
  THE NORMS, FORWARD: each row divided by the root of its mean square, times the scale.
-/
module

public import proofs.«01_k».proof.Defs
public import proofs.«01_k».proof.Proof.Norm
public import proofs.«01_k».proof.Proof.Gen.NormFwdIdeal.Value
public import proofs.«01_k».proof.Proof.Gen.NormFwdRefIdeal.Run

@[expose] public section

noncomputable section

namespace Cert.NormFwdIdeal.Fwd

open Idealize.ShloMosaic Idealize.SL.Sem
open Idealize.ShloMosaic.TcCoe Cert.NormFwdIdeal Cert.NormFwdIdeal.Gen Cert.NormFwdIdeal.Value Cert.Mm Cert.Norm Idealize.ShloMosaic.Pipeline

/-- The norm of each row of `x`, times the scale `g`. -/
def normed (x : Mat 4096 2048) (g : (⟨1, ![2048]⟩ : Shape).Idx → EReal) : Mat 4096 2048 := fun j =>
  x j * Ideal.rsqrt (meanSquare x (j 0)) * g (ix1 (j 1))

variable (m : (ℓ : Loc nD τ sig) → Buf (Elt Ideal) ℓ) (c : Dev nD)

/-- Which block of each array a grid point sees. -/
theorem index_all : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- The array the call leaves. -/
theorem final2 : (dats m 0 c).arrAt 2 cfg0.N = normed (m ((c : Thread nD τ).loc main_arg0)) (m ((c : Thread nD τ).loc main_arg1)) := by
  refine (dats m 0 c).arrAt_eq_of_covers 2 _ (by decide +kernel) fun t hf y => ?_
  obtain ⟨e0, e1, e2⟩ := index_all t
  blk_simp
  rw [after0_2]
  unfold out0_2
  frame_out
  unfold normed meanSquare
  pointwise [k0_pay1]
  blk_point [iblk, V, e0, e1, e2]

/-- The reference runs, keeps its arguments, and declares no semaphore. -/
theorem reference_frame : Cert.quiescent_NormFwdRefIdeal (hNormFwdRefIdeal := Cert.NormFwdRefIdeal.Gen.facts) := fun m g _ =>
  (θ_run Cert.NormFwdRefIdeal.defs _ _).mono
    (fun r h => ⟨fun c => (h c).2, sem_eq_zero_of_no_sems (by decide) r.2⟩) (Cert.NormFwdRefIdeal.Value.run m g)

/-- From equal arguments the two programs leave equal results. -/
theorem agree : Cert.algebraic_NormFwdIdeal_NormFwdRefIdeal (hNormFwdIdeal := Cert.NormFwdIdeal.Gen.facts)
    (hNormFwdRefIdeal := Cert.NormFwdRefIdeal.Gen.facts) := by
  intro m g m' g' _ hagree
  refine ⟨_, Cert.NormFwdIdeal.Value.run_blocks m g, ?_⟩
  refine (θ_run Cert.NormFwdRefIdeal.defs _ _).mono (fun r h c => ⟨?_, (h c).2⟩) (Cert.NormFwdRefIdeal.Value.run m' g')
  rw [(h c).1, (hagree c).1, (hagree c).2, final2 m c]
  funext i
  unfold normed meanSquare
  pointwise

end Cert.NormFwdIdeal.Fwd

end
-- ==== Proof.MergeFwd.lean ====
/-
  THE MERGE OF THE TWO BRANCHES, FORWARD: each branch times its gate, summed.
-/
module

public import proofs.«01_k».proof.Defs
public import proofs.«01_k».proof.Proof.Products
public import proofs.«01_k».proof.Proof.Gen.MergeFwdIdeal.Value
public import proofs.«01_k».proof.Proof.Gen.MergeFwdRefIdeal.Run
public import Idealize.ShloMosaic.Lib.Pipeline.ValueKit
public import Idealize.ShloMosaic.Lib.Claim

@[expose] public section

noncomputable section

namespace Cert.MergeFwdIdeal.Fwd

open Idealize.ShloMosaic Idealize.SL.Sem
open Idealize.ShloMosaic.TcCoe Cert.MergeFwdIdeal Cert.MergeFwdIdeal.Gen Cert.MergeFwdIdeal.Value Cert.Mm Idealize.ShloMosaic.Pipeline

/-- The gate of a row and a column, `p` holding the gates from column `o` on. -/
def gate (o : ℕ) (h : o + 2048 ≤ 15360) (p : Mat 4096 15360) : Mat 4096 2048 := fun j =>
  Ideal.div (Ideal.ofBits .f32 0x3F800000#32) (Ideal.ofBits .f32 0x3F800000#32
    + Ideal.exp (Ideal.ofBits .f32 0x00000000#32 - p (ix2 (j 0) ⟨o + (j 1).val, Nat.lt_of_lt_of_le (Nat.add_lt_add_left (j 1).isLt o) h⟩)))

/-- The two branches, each times its gate. -/
def merged (p : Mat 4096 15360) (a b : Mat 4096 2048) : Mat 4096 2048 := fun j =>
  gate 8192 (by decide) p j * a j + gate 10240 (by decide) p j * b j

variable (m : (ℓ : Loc nD τ sig) → Buf (Elt Ideal) ℓ) (c : Dev nD)

/-- Which block of each array a grid point sees. -/
theorem index_all : ∀ t : Fin cfg0.N, win0_0.index t = ![t.val / 4, t.val % 4 + 16] ∧ win0_1.index t = ![t.val / 4, t.val % 4 + 20]
    ∧ win0_2.index t = ![t.val / 4, t.val % 4] ∧ win0_3.index t = ![t.val / 4, t.val % 4] ∧ win0_4.index t = ![t.val / 4, t.val % 4] :=
  (by decide +kernel : ∀ t : Fin grid0.N, win0_0.index t = ![t.val / 4, t.val % 4 + 16] ∧ win0_1.index t = ![t.val / 4, t.val % 4 + 20]
    ∧ win0_2.index t = ![t.val / 4, t.val % 4] ∧ win0_3.index t = ![t.val / 4, t.val % 4] ∧ win0_4.index t = ![t.val / 4, t.val % 4])

/-- The array the call leaves. -/
theorem final4 : (dats m 0 c).arrAt 4 cfg0.N = merged (m ((c : Thread nD τ).loc main_arg0)) (m ((c : Thread nD τ).loc main_arg1))
    (m ((c : Thread nD τ).loc main_arg2)) := by
  refine (dats m 0 c).arrAt_eq_of_covers 4 _ (by decide +kernel) fun t hf y => ?_
  obtain ⟨e0, e1, e2, e3, e4⟩ := index_all t
  blk_simp
  rw [after0_4]
  unfold out0_4
  frame_out
  unfold merged gate
  pointwise [k0_pay1]
  blk_point [iblk, V, e0, e1, e2, e3, e4]

/-- The reference runs, keeps its arguments, and declares no semaphore. -/
theorem reference_frame : Cert.quiescent_MergeFwdRefIdeal (hMergeFwdRefIdeal := Cert.MergeFwdRefIdeal.Gen.facts) := fun m g _ =>
  (θ_run Cert.MergeFwdRefIdeal.defs _ _).mono
    (fun r h => ⟨fun c => (h c).2, sem_eq_zero_of_no_sems (by decide) r.2⟩) (Cert.MergeFwdRefIdeal.Value.run m g)

/-- From equal arguments the two programs leave equal results. -/
theorem agree : Cert.algebraic_MergeFwdIdeal_MergeFwdRefIdeal (hMergeFwdIdeal := Cert.MergeFwdIdeal.Gen.facts)
    (hMergeFwdRefIdeal := Cert.MergeFwdRefIdeal.Gen.facts) := by
  intro m g m' g' _ hagree
  refine ⟨_, Cert.MergeFwdIdeal.Value.run_blocks m g, ?_⟩
  refine (θ_run Cert.MergeFwdRefIdeal.defs _ _).mono (fun r h c => ⟨?_, (h c).2⟩) (Cert.MergeFwdRefIdeal.Value.run m' g')
  rw [(h c).1, (hagree c).1, (hagree c).2.1, (hagree c).2.2, final4 m c]
  funext i
  unfold merged gate
  pointwise
  simp only [zero_sub, ← Nat.add_assoc, Nat.reduceAdd]

end Cert.MergeFwdIdeal.Fwd

end
-- ==== Proof.ConvFwd.lean ====
/-
  THE CONVOLUTION, FORWARD: four shifted rows times their weights, summed; a tile's rows before it come in a block of eight.
-/
module

public import proofs.«01_k».proof.Defs
public import proofs.«01_k».proof.Proof.ConvSame
public import proofs.«01_k».proof.Proof.Gen.ConvFwdIdeal.Value
public import proofs.«01_k».proof.Proof.Gen.ConvFwdRefIdeal.Run

@[expose] public section

noncomputable section

namespace Cert.ConvFwdIdeal.Fwd

open Idealize.ShloMosaic Idealize.SL.Sem
open Idealize.ShloMosaic.TcCoe Cert.ConvFwdIdeal Cert.ConvFwdIdeal.Gen Cert.ConvFwdIdeal.Value Cert.Mm Cert.Conv Idealize.ShloMosaic.Pipeline

/-- The convolution: the row itself and the three before it. -/
def conv (x : Mat 4096 15360) (w : Mat 4 6144) : Mat 4096 6144 := fun j =>
  padded x ((j 0).val + 8) (j 1).val * w (ix2 3 (j 1)) + padded x ((j 0).val + 5) (j 1).val * w (ix2 0 (j 1))
    + padded x ((j 0).val + 6) (j 1).val * w (ix2 1 (j 1)) + padded x ((j 0).val + 7) (j 1).val * w (ix2 2 (j 1))

variable (m : (ℓ : Loc nD τ sig) → Buf (Elt Ideal) ℓ) (c : Dev nD)

/-- Which block of each array a grid point sees. -/
theorem index_all : ∀ t : Fin cfg0.N, win0_0.index t = ![t.val % 8, t.val / 8] ∧ win0_1.index t = ![t.val % 8 * 64 - 1, t.val / 8]
    ∧ win0_2.index t = ![0, t.val / 8] ∧ win0_3.index t = ![t.val % 8, t.val / 8] :=
  (by decide +kernel : ∀ t : Fin grid0.N, win0_0.index t = ![t.val % 8, t.val / 8] ∧ win0_1.index t = ![t.val % 8 * 64 - 1, t.val / 8]
    ∧ win0_2.index t = ![0, t.val / 8] ∧ win0_3.index t = ![t.val % 8, t.val / 8])

/-- The body's test for the first tile of a column. -/
theorem edge : ∀ t : Fin cfg0.N, (Scalar.cmpi .eq (BitVec.ofNat 32 (grid0.coords t 1).val) 0#32 = 1#1 ↔ t.val % 8 = 0) :=
  (by decide +kernel : ∀ t : Fin grid0.N, (Scalar.cmpi .eq (BitVec.ofNat 32 (grid0.coords t 1).val) 0#32 = 1#1 ↔ t.val % 8 = 0))

theorem select_first (t : Fin cfg0.N) (a b : EReal) :
    Scalar.select (Scalar.cmpi .eq (BitVec.ofNat 32 (grid0.coords t 1).val) 0#32) a b = if t.val % 8 = 0 then a else b :=
  if_congr (edge t) rfl rfl

/-- The eight rows before the tile. -/
theorem before (t : Fin cfg0.N) (r : Fin 8) (l : Fin 256) :
    Scalar.select (Scalar.cmpi .eq (BitVec.ofNat 32 (grid0.coords t 1).val) 0#32) (0 : EReal) (iblk m c 1 t (ix2 r l))
    = padded (m ((c : Thread nD τ).loc main_arg0)) (t.val % 8 * 512 + r.val) (t.val / 8 * 256 + l.val) := by
  have e1 := (index_all t).2.1
  have ht : t.val < 192 := t.isLt
  refine (select_first t _ _).trans ?_
  unfold padded
  by_cases h0 : t.val % 8 = 0
  · rw [if_pos h0, dif_neg (by omega)]
  · rw [if_neg h0, dif_pos (by omega)]
    blk_point [iblk, V, e1]
    all_goals omega

/-- The tile. -/
theorem tile (t : Fin cfg0.N) (r : Fin 512) (l : Fin 256) : iblk m c 0 t (ix2 r l)
    = padded (m ((c : Thread nD τ).loc main_arg0)) (t.val % 8 * 512 + (r.val + 8)) (t.val / 8 * 256 + l.val) := by
  have e0 := (index_all t).1
  have ht : t.val < 192 := t.isLt
  unfold padded
  rw [dif_pos (by omega)]
  blk_point [iblk, V, e0]
  all_goals omega

theorem weight_block (t : Fin cfg0.N) (κ : Fin 4) (b : Fin 256) (h : t.val / 8 * 256 + b.val < 6144) :
    iblk m c 2 t (ix2 κ b) = m ((c : Thread nD τ).loc main_arg1) (ix2 κ ⟨t.val / 8 * 256 + b.val, h⟩) := by
  have e2 := (index_all t).2.2.1
  blk_point [iblk, V, e2]

theorem emb3 (t : Fin cfg0.N) (a : Fin 512) (b : Fin 256) (h0 : t.val % 8 * 512 + a.val < 4096) (h1 : t.val / 8 * 256 + b.val < 6144) :
    (win0_3.blk t).view.emb (ix2 a b) = (ix2 ⟨t.val % 8 * 512 + a.val, h0⟩ ⟨t.val / 8 * 256 + b.val, h1⟩ : S4096x6144.Idx) := by
  have e3 := (index_all t).2.2.2
  funext l
  match l with
  | 0 => exact Fin.ext (by blk_simp [e3])
  | 1 => exact Fin.ext (by blk_simp [e3])

/-- The eight rows and the tile, one after the other. -/
theorem joined (t : Fin cfg0.N) (r p : ℕ) (b : Fin 256) (g : ¬r < 8 → r - 8 < 512) (hp : p = t.val % 8 * 512 + r) :
    (if h : r < 8 then Scalar.select (Scalar.cmpi .eq (BitVec.ofNat 32 (grid0.coords t 1).val) 0#32) (0 : EReal) (iblk m c 1 t (ix2 ⟨r, h⟩ b))
      else iblk m c 0 t (ix2 ⟨r - 8, g h⟩ b)) = padded (m ((c : Thread nD τ).loc main_arg0)) p (t.val / 8 * 256 + b.val) := by
  subst hp
  by_cases h : r < 8
  · rw [dif_pos h]
    exact before m c t ⟨r, h⟩ b
  · rw [dif_neg h]
    refine (tile m c t ⟨r - 8, g h⟩ b).trans ?_
    have e : t.val % 8 * 512 + (r - 8 + 8) = t.val % 8 * 512 + r := by omega
    exact congrArg (fun k => padded (m ((c : Thread nD τ).loc main_arg0)) k (t.val / 8 * 256 + b.val)) e

set_option maxHeartbeats 1000000 in
/-- What a point leaves in its block. -/
theorem rows3 (t : Fin cfg0.N) (a : Fin 512) (b : Fin 256) (h0 : t.val % 8 * 512 + a.val < 4096) (h1 : t.val / 8 * 256 + b.val < 6144) :
    out0_3 (F := Ideal) (grid0.coords t) (iblk m c 0 t) (iblk m c 1 t) (iblk m c 2 t) (ix2 a b)
    = conv (m ((c : Thread nD τ).loc main_arg0)) (m ((c : Thread nD τ).loc main_arg1))
        (ix2 ⟨t.val % 8 * 512 + a.val, h0⟩ ⟨t.val / 8 * 256 + b.val, h1⟩) := by
  have w (κ : Fin 4) := weight_block m c t κ b h1
  unfold out0_3
  frame_out
  unfold conv
  pointwise [k0_pay1]
  exact congrArg₂ (fun u v : EReal => u + v) (congrArg₂ (fun u v : EReal => u + v) (congrArg₂ (fun u v : EReal => u + v)
      (congrArg₂ (fun u v : EReal => u * v) (tile m c t a b) (w 3))
      (congrArg₂ (fun u v : EReal => u * v) (joined m c t _ _ b _ (by omega)) (w 0)))
      (congrArg₂ (fun u v : EReal => u * v) (joined m c t _ _ b _ (by omega)) (w 1)))
      (congrArg₂ (fun u v : EReal => u * v) (joined m c t _ _ b _ (by omega)) (w 2))

/-- The array the call leaves. -/
theorem final3 : (dats m 0 c).arrAt 3 cfg0.N = conv (m ((c : Thread nD τ).loc main_arg0)) (m ((c : Thread nD τ).loc main_arg1)) := by
  refine (dats m 0 c).arrAt_eq_of_covers 3 _ (by decide +kernel) fun t hf y => ?_
  blk_simp
  rw [after0_3]
  have ht : t.val < 192 := t.isLt
  obtain ⟨a, b, rfl⟩ : ∃ (a : Fin 512) (b : Fin 256), y = ix2 a b := ⟨y 0, y 1, by funext l; match l with | 0 => rfl | 1 => rfl⟩
  refine (rows3 m c t a b (by omega) (by omega)).trans ?_
  exact congrArg _ (emb3 t a b _ _).symm

/-- The same four products in the other order. -/
theorem reorder (a b c d p q r s : EReal) : a * p + b * q + c * r + d * s = s * d + p * a + q * b + r * c := by
  rw [add_comm _ (d * s), mul_comm a, mul_comm b, mul_comm c, mul_comm d, add_assoc, add_assoc, add_assoc]

theorem padded_first (x : Mat 4096 15360) (k p : ℕ) (l : Fin 15360) (hp : p = k + 5) (hl : l.val < 6144) (g : ¬k < 3 → k - 3 < 4096) :
    (if h : k < 3 then 0 else x (ix2 ⟨k - 3, g h⟩ l)) = padded x p l.val := by
  by_cases h : k < 3
  · rw [dif_pos h]
    exact padded_early x _ _ (by omega)
  · rw [dif_neg h]
    exact padded_row x _ l _ (show p = k - 3 + 8 by omega) hl

/-- The reference runs, keeps its arguments, and declares no semaphore. -/
theorem reference_frame : Cert.quiescent_ConvFwdRefIdeal (hConvFwdRefIdeal := Cert.ConvFwdRefIdeal.Gen.facts) := fun m g _ =>
  (θ_run Cert.ConvFwdRefIdeal.defs _ _).mono
    (fun r h => ⟨fun c => (h c).2, sem_eq_zero_of_no_sems (by decide) r.2⟩) (Cert.ConvFwdRefIdeal.Value.run m g)

set_option maxHeartbeats 1000000 in
/-- From equal arguments the two programs leave equal results. -/
theorem agree : Cert.algebraic_ConvFwdIdeal_ConvFwdRefIdeal (hConvFwdIdeal := Cert.ConvFwdIdeal.Gen.facts)
    (hConvFwdRefIdeal := Cert.ConvFwdRefIdeal.Gen.facts) := by
  intro m g m' g' _ hagree
  refine ⟨_, Cert.ConvFwdIdeal.Value.run_blocks m g, ?_⟩
  refine (θ_run Cert.ConvFwdRefIdeal.defs _ _).mono (fun r h c => ⟨?_, (h c).2⟩) (Cert.ConvFwdRefIdeal.Value.run m' g')
  rw [(h c).1, (hagree c).1, (hagree c).2, final3 m c]
  generalize m ((c : Thread nD τ).loc main_arg0) = x
  generalize m ((c : Thread nD τ).loc main_arg1) = w
  funext i
  obtain ⟨n, l, rfl⟩ : ∃ (n : Fin 4096) (l : Fin 6144), i = ix2 n l := ⟨i 0, i 1, by funext a; match a with | 0 => rfl | 1 => rfl⟩
  have hl := l.isLt
  unfold conv
  pointwise
  exact (congrArg₂ (fun u v : EReal => u + v) (congrArg₂ (fun u v : EReal => u + v) (congrArg₂ (fun u v : EReal => u + v)
      (congrArg₂ (fun u v : EReal => u * v) (@rfl EReal (w (ix2 0 l))) (padded_first x n.val (n.val + 5) ⟨l.val, by omega⟩ (by omega) hl _))
      (congrArg₂ (fun u v : EReal => u * v) (@rfl EReal (w (ix2 1 l))) (padded_shift x 1 n.val (n.val + 6) ⟨l.val, by omega⟩ (by omega) hl _)))
      (congrArg₂ (fun u v : EReal => u * v) (@rfl EReal (w (ix2 2 l))) (padded_shift x 2 n.val (n.val + 7) ⟨l.val, by omega⟩ (by omega) hl _)))
      (congrArg₂ (fun u v : EReal => u * v) (@rfl EReal (w (ix2 3 l))) (padded_row x n ⟨l.val, by omega⟩ (n.val + 8) rfl hl))).trans (reorder _ _ _ _ _ _ _ _)

end Cert.ConvFwdIdeal.Fwd

end
-- ==== Proof.SwaFwdCell.lean ====
/-
  ONE ATTENTION CELL'S FORWARD PASS OVER THE EXTENDED REALS: a block of 128 queries of the eight heads that share a
  key-value head, against a band of 256 keys. Padding before the first block changes nothing: a masked key has weight
  zero, and when the denominator itself is zero the values of the padding repeat those of the block.
-/
module

public import proofs.«01_k».proof.Proof.Whole

@[expose] public section

noncomputable section

namespace Cert.SwaFwd

open Idealize.ShloMosaic Cert.Swa

/-- What a cell is computed from: the queries, the band's keys and values, the sinks and the slopes of the distance bias;
    `prev` says that the band's first half is the block before (and not padding). -/
structure Cell where
  prev : Prop
  q : Fin 8 → Fin 128 → Fin 64 → EReal
  k : Fin 256 → Fin 64 → EReal
  v : Fin 256 → Fin 64 → EReal
  sink : Fin 8 → EReal
  slope : Fin 8 → ℝ

namespace Cell

variable (C : Cell)

/-- Query `a` may look at the band's key `j`: not after it, fewer than 128 before it, and not padding. -/
def ok (a : Fin 128) (j : Fin 256) : Prop := (a.val < j.val ∧ j.val ≤ a.val + 128) ∧ (C.prev ∨ 128 ≤ j.val)

/-- The score before masking: the scaled product and the distance bias. -/
def raw (g : Fin 8) (a : Fin 128) (j : Fin 256) : EReal :=
  (∑ x, C.q g a x * C.k j x) * ((1 / 8 : ℝ) : EReal) + ((-C.slope g * (((a.val : ℤ) + 128 - (j.val : ℤ) : ℤ) : ℝ) : ℝ) : EReal)

open Classical in
/-- The masked score. -/
def score (g : Fin 8) (a : Fin 128) (j : Fin 256) : EReal := if C.ok a j then C.raw g a j else ⊥

/-- The row maximum, the sink included. -/
def top (g : Fin 8) (a : Fin 128) : EReal := max (Finset.univ.fold max ⊥ (C.score g a)) (C.sink g)

/-- The exponential of a score less the row maximum. -/
def p (g : Fin 8) (a : Fin 128) (j : Fin 256) : EReal := Ideal.exp (C.score g a j - C.top g a)

/-- The softmax's denominator. -/
def den (g : Fin 8) (a : Fin 128) : EReal := (∑ j, C.p g a j) + Ideal.exp (C.sink g - C.top g a)

/-- The weighted values. -/
def out (g : Fin 8) (a : Fin 128) (x : Fin 64) : EReal := ∑ j, Ideal.div (C.p g a j) (C.den g a) * C.v j x

/-- Two cells that differ in padding only, the first's padding repeating the block, the second's zero. -/
structure Padded (C D : Cell) : Prop where
  prev : C.prev ↔ D.prev
  q : C.q = D.q
  k : ∀ j x, (C.prev ∨ 128 ≤ j.val) → C.k j x = D.k j x
  v : ∀ j x, (C.prev ∨ 128 ≤ j.val) → C.v j x = D.v j x
  again : ¬C.prev → ∀ (a : Fin 128) x, C.v ⟨a.val, by omega⟩ x = C.v ⟨128 + a.val, by omega⟩ x
  zero : ¬C.prev → ∀ (a : Fin 128) x, D.v ⟨a.val, by omega⟩ x = 0
  sink : C.sink = D.sink
  slope : C.slope = D.slope

theorem exp_nonneg (x : EReal) : 0 ≤ Ideal.exp x := by
  induction x with
  | bot => exact le_rfl
  | top => exact le_top
  | coe r => exact EReal.coe_nonneg.mpr (Real.exp_pos r).le

theorem p_of_not_ok {g : Fin 8} {a : Fin 128} {j : Fin 256} (h : ¬C.ok a j) : C.p g a j = 0 := by
  unfold p score
  rw [if_neg h, EReal.bot_sub, Ideal.exp_bot]

/-- If the denominator is zero then so is every weight. -/
theorem p_of_den {g : Fin 8} {a : Fin 128} (h : C.den g a = 0) (j : Fin 256) : C.p g a j = 0 := by
  have hp : ∀ j ∈ Finset.univ, 0 ≤ C.p g a j := fun j _ => exp_nonneg _
  have hs : 0 ≤ ∑ j, C.p g a j := Finset.sum_nonneg hp
  have h1 : ∑ j, C.p g a j ≤ 0 := h ▸ (le_add_of_nonneg_right (exp_nonneg _) : ∑ j, C.p g a j ≤ C.den g a)
  exact le_antisymm ((Finset.single_le_sum hp (Finset.mem_univ j)).trans h1) (hp j (Finset.mem_univ j))

theorem div_zero_of_ne {y : EReal} (h : y ≠ 0) : Ideal.div 0 y = 0 := by
  unfold Ideal.div
  rw [if_neg h, zero_mul]

theorem div_zero_zero : Ideal.div 0 0 = ⊥ := by
  unfold Ideal.div
  rw [if_pos rfl, if_neg (lt_irrefl _)]

/-- A product with minus infinity taken twice is that product. -/
theorem twice (v : EReal) : (⊥ : EReal) * v + ⊥ * v = ⊥ * v := by
  rcases lt_trichotomy v 0 with h | h | h
  · rw [EReal.bot_mul_of_neg h]; rfl
  · rw [h, mul_zero, add_zero]
  · rw [EReal.bot_mul_of_pos h]; rfl

/-- Such products' sum taken twice is that sum. -/
theorem sum_twice {ι : Type*} (s : Finset ι) (f : ι → EReal) : (∑ i ∈ s, (⊥ : EReal) * f i) + ∑ i ∈ s, ⊥ * f i = ∑ i ∈ s, ⊥ * f i := by
  rw [← Finset.sum_add_distrib]
  exact Finset.sum_congr rfl fun i _ => twice _

/-- A sum over a band is a sum over its two halves. -/
theorem sum_halves (f : Fin 256 → EReal) : ∑ j, f j = (∑ a : Fin 128, f ⟨a.val, by omega⟩) + ∑ a : Fin 128, f ⟨128 + a.val, by omega⟩ :=
  Fin.sum_univ_add (a := 128) (b := 128) f

namespace Padded
variable {C D : Cell} (H : Padded C D)
include H

theorem ok_iff (a : Fin 128) (j : Fin 256) : C.ok a j ↔ D.ok a j := and_congr_right fun _ => or_congr_left H.prev

theorem score_eq : C.score = D.score := by
  funext g a j
  unfold score
  by_cases h : C.ok a j
  · rw [if_pos h, if_pos ((H.ok_iff a j).mp h)]
    unfold raw
    rw [H.q, H.slope]
    exact congrArg (fun u : EReal => u * _ + _) (Finset.sum_congr rfl fun x _ => congrArg _ (H.k j x h.2))
  · rw [if_neg h, if_neg (fun h' => h ((H.ok_iff a j).mpr h'))]

theorem top_eq : C.top = D.top := by unfold top; rw [H.score_eq, H.sink]

theorem p_eq : C.p = D.p := by unfold p; rw [H.score_eq, H.top_eq]

theorem den_eq : C.den = D.den := by unfold den; rw [H.p_eq, H.sink, H.top_eq]

/-- The padding does not matter. -/
theorem out_eq : C.out = D.out := by
  funext g a x
  by_cases hd : D.den g a = 0
  · by_cases hp : C.prev
    · unfold out
      rw [H.p_eq, H.den_eq]
      exact Finset.sum_congr rfl fun j _ => congrArg _ (H.v j x (Or.inl hp))
    · have e : ∀ (E : Cell), E.den g a = 0 → E.out g a x
          = (∑ b : Fin 128, ⊥ * E.v ⟨b.val, by omega⟩ x) + ∑ b : Fin 128, ⊥ * E.v ⟨128 + b.val, by omega⟩ x := by
        intro E hE
        unfold out
        rw [sum_halves]
        simp only [E.p_of_den hE, hE, div_zero_zero]
      rw [e C (H.den_eq ▸ hd), e D hd]
      have e1 : ∀ b : Fin 128, (⊥ : EReal) * C.v ⟨b.val, by omega⟩ x = ⊥ * C.v ⟨128 + b.val, by omega⟩ x := fun b => congrArg _ (H.again hp b x)
      have e2 : ∀ b : Fin 128, (⊥ : EReal) * D.v ⟨b.val, by omega⟩ x = 0 := fun b => by rw [H.zero hp b x, mul_zero]
      have e3 : ∀ b : Fin 128, (⊥ : EReal) * D.v ⟨128 + b.val, by omega⟩ x = ⊥ * C.v ⟨128 + b.val, by omega⟩ x :=
        fun b => congrArg _ (H.v _ x (Or.inr (Nat.le_add_right _ _))).symm
      simp only [e1, e2, e3]
      rw [sum_twice, Finset.sum_const_zero, zero_add]
  · unfold out
    rw [H.p_eq, H.den_eq]
    refine Finset.sum_congr rfl fun j _ => ?_
    by_cases h : C.prev ∨ 128 ≤ j.val
    · rw [H.v j x h]
    · have hk : ¬D.ok a j := fun h' => h (((H.ok_iff a j).mpr h').2)
      rw [D.p_of_not_ok hk, div_zero_of_ne hd, zero_mul, zero_mul]

end Padded

end Cell

/-! ## The layer's cells -/

variable (q : (⟨2, ![4096, 2048]⟩ : Shape).Idx → EReal) (k v : (⟨2, ![4096, 256]⟩ : Shape).Idx → EReal) (s : (⟨1, ![32]⟩ : Shape).Idx → EReal)

/-- The cell of block `n` and key-value head `κ`. -/
def cell (n : Fin 32) (κ : Fin 4) : Cell where
  prev := 0 < n.val
  q g a x := q (ValueIdx.ix2 (rowIn n a) (colQ (headOf κ g) x))
  k j x := k (ValueIdx.ix2 (rowBand n j) (colK κ x))
  v j x := v (ValueIdx.ix2 (rowBand n j) (colK κ x))
  sink g := s (ValueIdx.ix1 (headOf κ g))
  slope g := slopeOf (headOf κ g)

open Classical in
/-- The same cell with a zero block of keys and values before the first block. -/
def cellZ (n : Fin 32) (κ : Fin 4) : Cell where
  prev := 0 < n.val
  q g a x := q (ValueIdx.ix2 (rowIn n a) (colQ (headOf κ g) x))
  k j x := if 0 < n.val ∨ 128 ≤ j.val then k (ValueIdx.ix2 (rowBand n j) (colK κ x)) else 0
  v j x := if 0 < n.val ∨ 128 ≤ j.val then v (ValueIdx.ix2 (rowBand n j) (colK κ x)) else 0
  sink g := s (ValueIdx.ix1 (headOf κ g))
  slope g := slopeOf (headOf κ g)

theorem padded (n : Fin 32) (κ : Fin 4) : Cell.Padded (cell q k v s n κ) (cellZ q k v s n κ) where
  prev := Iff.rfl
  q := rfl
  k j x h := (if_pos h).symm
  v j x h := (if_pos h).symm
  again h a x := by
    have hn : n.val = 0 := Nat.eq_zero_of_not_pos h
    have e : rowBand n ⟨a.val, by omega⟩ = rowBand n ⟨128 + a.val, by omega⟩ := by
      apply Fin.ext
      unfold rowBand
      simp [hn]
    show v _ = v _
    rw [e]
  zero h a x := if_neg (fun h' => h'.elim h (fun h'' => by
    have := a.isLt
    have : 128 ≤ a.val := h''
    omega))
  sink := rfl
  slope := rfl

end Cert.SwaFwd

end
-- ==== Proof.SwaFwdEval.lean ====
/-
  THE FORWARD ATTENTION'S WORK READ AT AN INDEX: from the loaded blocks, the operations the body does for one key-value
  head leave the cell's weighted values.
-/
module

public import proofs.«01_k».proof.Proof.SwaFwdCell
public import proofs.«01_k».proof.Proof.Eval

@[expose] public section

noncomputable section

namespace Cert.SwaFwd

open Idealize.ShloMosaic Idealize.ShloMosaic.ValueIdx Cert.KernelIdeal Cert.KernelIdeal.Gen Cert.KernelIdeal.Swa Cert.Swa

section Chain
variable {F : FTy → Type} [FloatOps F]

/-- The blocks the body loads for one key-value head. -/
structure Loads (F : FTy → Type) [FloatOps F] where
  hp : BitVec 1
  q : FVec F S8x128x64 .f32
  k₀ : FVec F S1x128x64 .f32
  k₁ : FVec F S1x128x64 .f32
  v₀ : FVec F S1x128x64 .f32
  v₁ : FVec F S1x128x64 .f32
  sink : FVec F S8x1x1 .f32
  slope : FVec F S8x1x1 .f32

/-- The head's masked scores. -/
def Loads.s (L : Loads F) : FVec F S8x128x256 .f32 := score L.hp L.q (band L.k₀ L.k₁) L.slope

/-- The head's weighted values. -/
def Loads.out (L : Loads F) : FVec F S8x128x64 .bf16 :=
  truncf .bf16 (shapeCast S8x128x64 (matmul dot_S1024x256_S256x64_S1024x64_1_0_0_1_n_n none
    (truncf .bf16 (shapeCast S1024x256 (divf (pexp L.s L.sink) (wide (den L.s L.sink))) shapeCasts_S8x128x256_S1024x256) bitsLt_bf16_f32)
    (truncf .bf16 (band L.v₀ L.v₁) bitsLt_bf16_f32) (constant S1024x64 .f32 0x00000000#32)) shapeCasts_S1024x64_S8x128x64) bitsLt_bf16_f32

end Chain

/-- The band reads its first half in the block before and its second half in the block. -/
theorem band_apply (k₀ k₁ : FVec Ideal S1x128x64 .f32) (K : Fin 256 → Fin 64 → EReal)
    (h₀ : ∀ (a : Fin 128) x, k₀ (ix3 0 a x) = K ⟨a.val, by omega⟩ x)
    (h₁ : ∀ (a : Fin 128) x, k₁ (ix3 0 a x) = K ⟨128 + a.val, by omega⟩ x) (j : Fin 256) (x : Fin 64) :
    band k₀ k₁ (ix2 j x) = K j x := by
  unfold band
  by_cases hj : j.val < 128
  · refine (concatenate_pair_apply_left (t := S256x64) (s₁ := S128x64) (s₂ := S128x64) 0 _ _ _ _ rfl (ix2 ⟨j.val, hj⟩ x) ?_).trans ?_
    · intro b; fin_cases b <;> rfl
    · rw [block_apply, h₀]
  · refine (concatenate_pair_apply_right (t := S256x64) (s₁ := S128x64) (s₂ := S128x64) 0 _ _ _ _ rfl rfl (ix2 ⟨j.val - 128, by omega⟩ x) ?_ ?_).trans ?_
    · intro b hb; fin_cases b
      · exact absurd rfl hb
      · rfl
    · show j.val - 128 + 128 = j.val; omega
    · rw [block_apply, h₁]
      have : (⟨128 + (j.val - 128), by omega⟩ : Fin 256) = j := Fin.ext (by show 128 + (j.val - 128) = j.val; omega)
      rw [this]

/-- What the loaded blocks hold. -/
structure Reads (L : Loads Ideal) (C : Cell) : Prop where
  hp : ∀ {inst : Decidable C.prev}, L.hp = BitVec.ofBool (decide C.prev)
  q : ∀ g a x, L.q (ix3 g a x) = C.q g a x
  k₀ : ∀ (a : Fin 128) x, L.k₀ (ix3 0 a x) = C.k ⟨a.val, by omega⟩ x
  k₁ : ∀ (a : Fin 128) x, L.k₁ (ix3 0 a x) = C.k ⟨128 + a.val, by omega⟩ x
  v₀ : ∀ (a : Fin 128) x, L.v₀ (ix3 0 a x) = C.v ⟨a.val, by omega⟩ x
  v₁ : ∀ (a : Fin 128) x, L.v₁ (ix3 0 a x) = C.v ⟨128 + a.val, by omega⟩ x
  sink : ∀ g, L.sink (ix3 g 0 0) = C.sink g
  slope : ∀ g, L.slope (ix3 g 0 0) = ((C.slope g : ℝ) : EReal)

namespace Reads
variable {L : Loads Ideal} {C : Cell} (H : Reads L C)
include H

theorem s_apply (g : Fin 8) (a : Fin 128) (j : Fin 256) : L.s (ix3 g a j) = C.score g a j := by
  classical
  have e1 : prod (rows L.q) (band L.k₀ L.k₁) (ix3 g a j) = ∑ x, C.q g a x * C.k j x := by
    rw [prod_apply]
    refine Finset.sum_congr rfl fun x _ => ?_
    rw [rows_apply, H.q, band_apply _ _ C.k H.k₀ H.k₁]
  have e2 : broadcastTo S8x128x256 (shapeCast S8x1x1 L.slope shapeCasts_S8x1x1_S8x1x1) broadcasts_S8x1x1_S8x128x256 (ix3 g a j)
      = ((C.slope g : ℝ) : EReal) := by
    refine (broadcastTo_apply _ _ _ (ix3 g (0 : Fin 1) (0 : Fin 1)) (by intro b; fin_cases b <;> rfl)).trans ?_
    rw [shapeCast_self]; exact H.slope g
  have e3 : broadcastTo S8x128x256 (sitofp (F := Ideal) .f32 dist) broadcasts_S1x128x256_S8x128x256 (ix3 g a j)
      = ((((a.val : ℤ) + 128 - (j.val : ℤ) : ℤ) : ℝ) : EReal) := by
    refine (broadcastTo_apply _ _ _ (ix3 (0 : Fin 1) a j) (by intro b; fin_cases b <;> rfl)).trans ?_
    rw [← dist_toInt]; rfl
  unfold Loads.s score
  rw [select_apply, mask_apply _ C.prev H.hp, subf_apply, mulf_apply, mulf_apply, e1, e2, e3, splat_apply, splat_apply, bits_eighth, bits_bot]
  unfold Cell.score Cell.raw
  by_cases h : C.ok a j
  · rw [if_pos h]
    have h' := h; unfold Cell.ok at h'
    rw [decide_eq_true h', neg_mul, EReal.coe_neg, EReal.coe_mul (C.slope g)]; rfl
  · rw [if_neg h]
    have h' := h; unfold Cell.ok at h'
    rw [decide_eq_false h']; rfl

theorem top_apply (g : Fin 8) (a : Fin 128) : top L.s L.sink (ix3 g a 0) = C.top g a := by
  unfold top
  rw [maximumf_apply, sinks_apply, H.sink, rowMax_apply]
  unfold Cell.top
  have e : (fun j => (L.s (ix3 g a j) : EReal)) = C.score g a := funext fun j => H.s_apply g a j
  rw [e]

theorem pexp_apply (g : Fin 8) (a : Fin 128) (j : Fin 256) : pexp L.s L.sink (ix3 g a j) = C.p g a j := by
  unfold Cell.p
  rw [← H.top_apply, ← H.s_apply, ← wide_apply (top L.s L.sink) g a j]; rfl

theorem sexp_apply (g : Fin 8) (a : Fin 128) : sexp L.s L.sink (ix3 g a 0) = Ideal.exp (C.sink g - C.top g a) := by
  have e : sexp L.s L.sink (ix3 g a 0) = Ideal.exp (sinks L.sink (ix3 g a 0) - top L.s L.sink (ix3 g a 0)) := rfl
  rw [e, H.top_apply, sinks_apply, H.sink]

theorem den_apply (g : Fin 8) (a : Fin 128) : den L.s L.sink (ix3 g a 0) = C.den g a := by
  unfold den
  rw [addf_apply, rowSum_apply, H.sexp_apply]
  unfold Cell.den
  exact congrArg (fun u : EReal => u + _) (Finset.sum_congr rfl fun j _ => H.pexp_apply g a j)

/-- The head's weighted values. -/
theorem out_apply (g : Fin 8) (a : Fin 128) (x : Fin 64) : L.out (ix3 g a x) = C.out g a x := by
  unfold Loads.out Cell.out
  refine (spread_apply _ (band L.v₀ L.v₁) _ g a x).trans ?_
  refine Finset.sum_congr rfl fun j _ => ?_
  rw [band_apply _ _ C.v H.v₀ H.v₁]
  refine congrArg (fun u : EReal => u * _) ((cast_merge _ _ g a j (rowOf g a) rfl).trans ?_)
  rw [divf_apply, wide_apply, H.pexp_apply, H.den_apply]

end Reads

end Cert.SwaFwd

end
-- ==== Proof.SwaFwd.lean ====
/-
  SLIDING-WINDOW ATTENTION, FORWARD: what the kernel leaves. Every grid point handles one block of 128 positions, and its
  four stores hold the four key-value heads' weighted values.
-/
module

public import proofs.«01_k».proof.Proof.SwaFwdEval
public import proofs.«01_k».proof.Proof.Pieces
public import proofs.«01_k».proof.Proof.Blocks
public import proofs.«01_k».proof.Proof.Gen.SwaFwdIdeal.Value

@[expose] public section

set_option maxRecDepth 16384

noncomputable section

namespace Cert.SwaFwdIdeal.Fwd

open Idealize.ShloMosaic hiding ix1 ix2 ix3 eq_ix3
open Idealize.ShloMosaic.TcCoe Idealize.ShloMosaic.ValueIdx Cert.SwaFwdIdeal Cert.SwaFwdIdeal.Gen Cert.SwaFwdIdeal.Value Cert.SwaFwd
open Cert.Swa hiding Cell
open Cert.KernelIdeal.Swa (rq rk rs canon_four rq_disjoint heads_apply column_apply emb_rq emb_rk emb_rs row_second)

section Point
variable {F : FTy → Type} [FloatOps F]

/-- What a point at coordinates `i` loads for key-value head `κ` of the blocks staged for it. -/
def pick (i : grid0.Coords) (x0 : Vec F S32x128x64 .f32) (x1 x2 x3 x4 : Vec F S4x128x64 .f32) (x5 x6 : Vec F S32x1x1 .f32) (κ : Fin 4) : Loads F where
  hp := Scalar.cmpi .sgt (BitVec.ofNat 32 (i 1).val) 0#32
  q := View.ld x0 (rq κ)
  k₀ := View.ld x1 (rk κ)
  k₁ := View.ld x2 (rk κ)
  v₀ := View.ld x3 (rk κ)
  v₁ := View.ld x4 (rk κ)
  sink := View.ld x5 (rs κ)
  slope := View.ld x6 (rs κ)

theorem out_point (i : grid0.Coords) (x0 : Vec F S32x128x64 .f32) (x1 x2 x3 x4 : Vec F S4x128x64 .f32) (x5 x6 : Vec F S32x1x1 .f32) (κ : Fin 4)
    (y : (rq κ).shape.Idx) : out0_7 i x0 x1 x2 x3 x4 x5 x6 ((rq κ).emb y) = (pick i x0 x1 x2 x3 x4 x5 x6 κ).out y := by
  refine Eq.trans ?_ (canon_four (F := F) (e := .bf16) rq (fun κ => (pick i x0 x1 x2 x3 x4 x5 x6 κ).out) [] rq_disjoint κ y)
  refine congrFun ?_ _
  rfl

end Point

variable (m : (ℓ : Loc nD τ sig) → Buf (Elt Ideal) ℓ) (c : Dev nD)

/-! ## The arrays the kernel's call is given -/

theorem V_q (h : Fin 32) (r : Fin 4096) (x : Fin 64) : V m c main_v1 (ix3 h r x) = m ((c : Thread nD τ).loc main_arg0) (ix2 r (colQ h x)) := by
  entry_read
  exact heads_apply _ _ _ h r x (colQ h x) rfl rfl

theorem V_k (h : Fin 4) (r : Fin 4096) (x : Fin 64) : V m c main_v3 (ix3 h r x) = m ((c : Thread nD τ).loc main_arg1) (ix2 r (colK h x)) := by
  entry_read
  exact heads_apply _ _ _ h r x (colK h x) rfl rfl

theorem V_v (h : Fin 4) (r : Fin 4096) (x : Fin 64) : V m c main_v5 (ix3 h r x) = m ((c : Thread nD τ).loc main_arg2) (ix2 r (colK h x)) := by
  entry_read
  exact heads_apply _ _ _ h r x (colK h x) rfl rfl

theorem V_s (h : Fin 32) : V m c main_v6 (ix3 h 0 0) = m ((c : Thread nD τ).loc main_arg3) (ix1 h) := by
  entry_read
  exact column_apply _ _ h

theorem V_slope (h : Fin 32) : (V m c main_v16 (ix3 h 0 0) : EReal) = ((slopeOf h : ℝ) : EReal) := by
  entry_read
  exact (column_apply _ _ h).trans (slope_scalar h _ rfl)

/-! ## The blocks -/

theorem index_all : ∀ t : Fin cfg0.N, win0_0.index t = ![0, t.val, 0] ∧ win0_1.index t = ![0, t.val - 1, 0] ∧ win0_2.index t = ![0, t.val, 0] ∧ win0_3.index t = ![0, t.val - 1, 0] ∧ win0_4.index t = ![0, t.val, 0] ∧ win0_5.index t = ![0, 0, 0] ∧ win0_6.index t = ![0, 0, 0] ∧ win0_7.index t = ![0, t.val, 0] ∧ (grid0.coords t 1).val = t.val :=
  (by decide +kernel : ∀ t : Fin grid0.N, win0_0.index t = ![0, t.val, 0] ∧ win0_1.index t = ![0, t.val - 1, 0] ∧ win0_2.index t = ![0, t.val, 0] ∧ win0_3.index t = ![0, t.val - 1, 0] ∧ win0_4.index t = ![0, t.val, 0] ∧ win0_5.index t = ![0, 0, 0] ∧ win0_6.index t = ![0, 0, 0] ∧ win0_7.index t = ![0, t.val, 0] ∧ (grid0.coords t 1).val = t.val)

/-- The block that point `t` handles. -/
def blockOf (t : Fin cfg0.N) : Fin 32 := ⟨t.val, t.isLt⟩

/-- The block before it, or itself if it is the first. -/
def blockBefore (t : Fin cfg0.N) : Fin 32 := ⟨t.val - 1, Nat.lt_of_le_of_lt (Nat.sub_le _ _) t.isLt⟩

theorem row_first (t : Fin cfg0.N) (a : Fin 128) : rowBand (blockOf t) ⟨a.val, by omega⟩ = rowIn (blockBefore t) a := by
  apply Fin.ext
  unfold rowBand rowIn blockOf blockBefore
  simp only [a.isLt, if_true]

theorem blk_q (t : Fin cfg0.N) (h : Fin 32) (a : Fin 128) (x : Fin 64) :
    iblk m c 0 t (ix3 h a x) = m ((c : Thread nD τ).loc main_arg0) (ix2 (rowIn (blockOf t) a) (colQ h x)) := by
  rw [← V_q m c]
  have e := (index_all t).1
  blk_ext [iblk, e, rowIn, blockOf]
  show t.val * 128 + a.val = 128 * t.val + a.val
  omega

theorem blk_k₀ (t : Fin cfg0.N) (h : Fin 4) (a : Fin 128) (x : Fin 64) :
    iblk m c 1 t (ix3 h a x) = m ((c : Thread nD τ).loc main_arg1) (ix2 (rowIn (blockBefore t) a) (colK h x)) := by
  rw [← V_k m c]
  have e := (index_all t).2.1
  blk_ext [iblk, e, rowIn, blockBefore]
  show (t.val - 1) * 128 + a.val = 128 * (t.val - 1) + a.val
  omega

theorem blk_k₁ (t : Fin cfg0.N) (h : Fin 4) (a : Fin 128) (x : Fin 64) :
    iblk m c 2 t (ix3 h a x) = m ((c : Thread nD τ).loc main_arg1) (ix2 (rowIn (blockOf t) a) (colK h x)) := by
  rw [← V_k m c]
  have e := (index_all t).2.2.1
  blk_ext [iblk, e, rowIn, blockOf]
  show t.val * 128 + a.val = 128 * t.val + a.val
  omega

theorem blk_v₀ (t : Fin cfg0.N) (h : Fin 4) (a : Fin 128) (x : Fin 64) :
    iblk m c 3 t (ix3 h a x) = m ((c : Thread nD τ).loc main_arg2) (ix2 (rowIn (blockBefore t) a) (colK h x)) := by
  rw [← V_v m c]
  have e := (index_all t).2.2.2.1
  blk_ext [iblk, e, rowIn, blockBefore]
  show (t.val - 1) * 128 + a.val = 128 * (t.val - 1) + a.val
  omega

theorem blk_v₁ (t : Fin cfg0.N) (h : Fin 4) (a : Fin 128) (x : Fin 64) :
    iblk m c 4 t (ix3 h a x) = m ((c : Thread nD τ).loc main_arg2) (ix2 (rowIn (blockOf t) a) (colK h x)) := by
  rw [← V_v m c]
  have e := (index_all t).2.2.2.2.1
  blk_ext [iblk, e, rowIn, blockOf]
  show t.val * 128 + a.val = 128 * t.val + a.val
  omega

theorem blk_s (t : Fin cfg0.N) (h : Fin 32) : iblk m c 5 t (ix3 h 0 0) = m ((c : Thread nD τ).loc main_arg3) (ix1 h) := by
  rw [← V_s m c]
  have e := (index_all t).2.2.2.2.2.1
  blk_ext [iblk, e]

theorem blk_slope (t : Fin cfg0.N) (h : Fin 32) : (iblk m c 6 t (ix3 h 0 0) : EReal) = ((slopeOf h : ℝ) : EReal) := by
  rw [← V_slope m c]
  have e := (index_all t).2.2.2.2.2.2.1
  blk_ext [iblk, e]

/-! ## The loads of a point -/

/-- The loads of point `t` for key-value head `κ`. -/
abbrev loads (t : Fin cfg0.N) (κ : Fin 4) : Loads Ideal :=
  pick (grid0.coords t) (iblk m c 0 t) (iblk m c 1 t) (iblk m c 2 t) (iblk m c 3 t) (iblk m c 4 t) (iblk m c 5 t) (iblk m c 6 t) κ

/-- The arguments' cell of block `n` and key-value head `κ`. -/
abbrev cellOf (n : Fin 32) (κ : Fin 4) : Cell :=
  cell (m ((c : Thread nD τ).loc main_arg0)) (m ((c : Thread nD τ).loc main_arg1)) (m ((c : Thread nD τ).loc main_arg2))
    (m ((c : Thread nD τ).loc main_arg3)) n κ

/-- The word that says whether a block stands before. -/
theorem loads_hp (t : Fin cfg0.N) (κ : Fin 4) : (loads m c t κ).hp = BitVec.ofBool (decide (0 < (blockOf t).val)) := by
  show Scalar.cmpi .sgt (BitVec.ofNat 32 (grid0.coords t 1).val) 0#32 = _
  have ht : t.val < 32 := t.isLt
  rw [(index_all t).2.2.2.2.2.2.2.2]
  have en : (BitVec.ofNat 32 t.val).toInt = (t.val : ℤ) := WordCmp.toInt_ofNat_of_lt (by omega)
  have e0 : (0#32).toInt = 0 := rfl
  refine (WordCmp.cmpi_sgt_eq _ _).trans ?_
  rw [en, e0]
  refine congrArg _ (decide_eq_decide.mpr ?_)
  show (0 : ℤ) < (t.val : ℤ) ↔ 0 < t.val
  omega

/-- Those loads hold the cell of the block. -/
theorem reads (t : Fin cfg0.N) (κ : Fin 4) : Reads (loads m c t κ) (cellOf m c (blockOf t) κ) where
  hp := by intro inst; rw [loads_hp]; congr
  q g a x := (congrArg (iblk m c 0 t) (emb_rq κ g a x)).trans (blk_q m c t _ a x)
  k₀ a x := ((congrArg (iblk m c 1 t) (emb_rk κ a x)).trans (blk_k₀ m c t κ a x)).trans
    (congrArg (fun r => m ((c : Thread nD τ).loc main_arg1) (ix2 r (colK κ x))) (row_first t a).symm)
  k₁ a x := ((congrArg (iblk m c 2 t) (emb_rk κ a x)).trans (blk_k₁ m c t κ a x)).trans
    (congrArg (fun r => m ((c : Thread nD τ).loc main_arg1) (ix2 r (colK κ x))) (row_second (blockOf t) a).symm)
  v₀ a x := ((congrArg (iblk m c 3 t) (emb_rk κ a x)).trans (blk_v₀ m c t κ a x)).trans
    (congrArg (fun r => m ((c : Thread nD τ).loc main_arg2) (ix2 r (colK κ x))) (row_first t a).symm)
  v₁ a x := ((congrArg (iblk m c 4 t) (emb_rk κ a x)).trans (blk_v₁ m c t κ a x)).trans
    (congrArg (fun r => m ((c : Thread nD τ).loc main_arg2) (ix2 r (colK κ x))) (row_second (blockOf t) a).symm)
  sink g := (congrArg (iblk m c 5 t) (emb_rs κ g)).trans (blk_s m c t _)
  slope g := (congrArg (iblk m c 6 t) (emb_rs κ g)).trans (blk_slope m c t _)

/-! ## The result -/

/-- What the call leaves at an index. -/
theorem final_out (n : Fin 32) (κ : Fin 4) (g : Fin 8) (a : Fin 128) (x : Fin 64) :
    ((dats m 0 c).arrAt 7 cfg0.N (ix3 (headOf κ g) (rowIn n a) x) : EReal) = (cellOf m c n κ).out g a x := by
  have b := congrFun (blocks7 m c ⟨n.val, n.isLt⟩ (flush0_7 _)) (ix3 (headOf κ g) a x)
  rw [flushed7] at b
  have i := (index_all ⟨n.val, n.isLt⟩).2.2.2.2.2.2.2.1
  refine Eq.trans (Eq.trans ?_ b) ?_
  · blk_ext [i, rowIn]
    show 128 * n.val + a.val = n.val * 128 + a.val
    omega
  · rw [← emb_rq]
    refine (out_point _ _ _ _ _ _ _ _ κ (ix3 g a x)).trans ?_
    exact (reads m c ⟨n.val, n.isLt⟩ κ).out_apply g a x

end Cert.SwaFwdIdeal.Fwd

end
-- ==== Proof.SwaFwdSame.lean ====
/-
  SLIDING-WINDOW ATTENTION, FORWARD: the reference read at an index, and the comparison with what the kernel leaves.
-/
module

public import proofs.«01_k».proof.Defs
public import proofs.«01_k».proof.Proof.SwaFwd
public import proofs.«01_k».proof.Proof.RefForward
public import proofs.«01_k».proof.Proof.Agree
public import proofs.«01_k».proof.Proof.Gen.SwaFwdRefIdeal.Read
public import proofs.«01_k».proof.Proof.Gen.SwaFwdRefIdeal.Run

@[expose] public section

noncomputable section

namespace Cert.SwaFwdRefIdeal.Fwd

open Idealize.ShloMosaic hiding ix1 ix2 ix3 ix4 ix5 eq_ix1 eq_ix2 eq_ix3 eq_ix4 eq_ix5
open Idealize.ShloMosaic.ValueIdx Idealize.ShloMosaic.WordCmp Cert.SwaFwdRefIdeal Cert.SwaFwdRefIdeal.Gen
  Cert.SwaFwdRefIdeal.Read Cert.SwaFwd
open Cert.Swa hiding Cell
open Cert.ReferenceIdeal.Swa (split_q split_k)

open Classical in
/-- The band of a block: the block before it, zeros before the first, and the block. -/
theorem band_at (z : S1x128x4x64.Idx → EReal) (y : S32x128x4x64.Idx → EReal) (f : Fin 4096 → Fin 256 → EReal) (hz : ∀ i, z i = 0)
    (hy : ∀ n a κ u, y (ix4 n a κ u) = f (rowIn n a) (colK κ u)) (n : Fin 32) (j : Fin 256) (κ : Fin 4) (u : Fin 64) :
    concatenate S32x256x4x64 1 [⟨S32x128x4x64, concatenate S32x128x4x64 0 [⟨S1x128x4x64, z⟩, ⟨S31x128x4x64,
        extractStridedSlice S31x128x4x64 ![0, 0, 0, 0] y slices_S32x128x4x64_S31x128x4x64_0_0_0_0⟩]
        concatenates_S1x128x4x64_S31x128x4x64_S32x128x4x64_d0⟩, ⟨S32x128x4x64, y⟩]
      concatenates_S32x128x4x64_S32x128x4x64_S32x256x4x64_d1 (ix4 n j κ u)
      = if 0 < n.val ∨ 128 ≤ j.val then f (rowBand n j) (colK κ u) else 0 := by
  by_cases hj : j.val < 128
  · refine (concatenate_pair_apply_left (t := S32x256x4x64) (s₁ := S32x128x4x64) (s₂ := S32x128x4x64) 1 _ _ _ _ rfl
      (ix4 n ⟨j.val, hj⟩ κ u) (by intro b; fin_cases b <;> rfl)).trans ?_
    by_cases hn : n.val < 1
    · rw [if_neg (by omega)]
      refine (concatenate_pair_apply_left (t := S32x128x4x64) (s₁ := S1x128x4x64) (s₂ := S31x128x4x64) 0 _ _ _ _ rfl
        (ix4 ⟨n.val, hn⟩ ⟨j.val, hj⟩ κ u) (by intro b; fin_cases b <;> rfl)).trans ?_
      exact hz _
    · rw [if_pos (by omega)]
      refine (concatenate_pair_apply_right (t := S32x128x4x64) (s₁ := S1x128x4x64) (s₂ := S31x128x4x64) 0 _ _ _ _ rfl rfl
        (ix4 ⟨n.val - 1, by omega⟩ ⟨j.val, hj⟩ κ u) ?_ ?_).trans ?_
      · intro b hb; fin_cases b
        · exact absurd rfl hb
        all_goals rfl
      · show n.val - 1 + 1 = n.val; omega
      · refine (extractStridedSlice_apply _ _ _ _ (ix4 ⟨n.val - 1, by omega⟩ ⟨j.val, hj⟩ κ u) ?_).trans ?_
        · intro b; fin_cases b <;> simp
        · rw [hy]
          have e : rowIn ⟨n.val - 1, by omega⟩ ⟨j.val, hj⟩ = rowBand n j :=
            Fin.ext (by show 128 * (n.val - 1) + j.val = if j.val < 128 then _ else _; rw [if_pos hj])
          rw [e]
  · rw [if_pos (by omega)]
    refine (concatenate_pair_apply_right (t := S32x256x4x64) (s₁ := S32x128x4x64) (s₂ := S32x128x4x64) 1 _ _ _ _ rfl rfl
      (ix4 n ⟨j.val - 128, by omega⟩ κ u) ?_ ?_).trans ?_
    · intro b hb; fin_cases b
      · rfl
      · exact absurd rfl hb
      all_goals rfl
    · show j.val - 128 + 128 = j.val; omega
    · rw [hy]
      have e : rowIn n ⟨j.val - 128, by omega⟩ = rowBand n j :=
        Fin.ext (by show 128 * n.val + (j.val - 128) = if j.val < 128 then _ else _; rw [if_neg hj])
      rw [e]

theorem dist_at (a : Fin 128) (j : Fin 256) : (val_main_v23 (F := Ideal) (ix2 a j)).toInt = (a.val : ℤ) + 128 - (j.val : ℤ) := by
  have e : val_main_v23 (F := Ideal) (ix2 a j) = BitVec.ofNat 32 a.val + 128#32 - BitVec.ofNat 32 j.val := by
    rw [val_main_v23_apply, val_main_v21_apply, val_main_v20_apply, val_main_v16_apply, val_main_v19_apply, val_main_v22_apply,
      val_main_v18_apply]
    rfl
  rw [e]
  have := a.isLt; have := j.isLt
  have ea : (BitVec.ofNat 32 a.val).toInt = (a.val : ℤ) := toInt_ofNat_of_lt (by omega)
  have ej : (BitVec.ofNat 32 j.val).toInt = (j.val : ℤ) := toInt_ofNat_of_lt (by omega)
  have e128 : (128#32).toInt = 128 := rfl
  rw [BitVec.toInt_sub, BitVec.toInt_add, ea, ej, e128]
  simp only [Int.bmod_def]; omega

open Classical in
theorem mask_at (n : Fin 32) (κ : Fin 4) (g : Fin 8) (a : Fin 128) (j : Fin 256) :
    val_main_call0_v1 (F := Ideal) (ix5 n κ g a j)
      = BitVec.ofBool (decide ((a.val < j.val ∧ j.val ≤ a.val + 128) ∧ (0 < n.val ∨ 128 ≤ j.val))) := by
  have e : val_main_call0_v1 (F := Ideal) (ix5 n κ g a j) = IntOp.andi
      (IntOp.andi (IntOp.cmpi .sge (val_main_v23 (F := Ideal) (ix2 a j)) 0#32) (IntOp.cmpi .slt (val_main_v23 (F := Ideal) (ix2 a j)) 128#32))
      (IntOp.ori (IntOp.cmpi .sgt (BitVec.ofNat 32 n.val) 0#32) (IntOp.cmpi .sge (BitVec.ofNat 32 j.val) 128#32)) := by
    rw [val_main_call0_v1_apply, val_main_v60_apply, val_main_v42_apply, val_main_v40_apply, val_main_v39_apply, val_main_v28_apply,
      val_main_v25_apply, val_main_v27_apply, val_main_v24_apply, val_main_v26_apply, val_main_v41_apply, val_main_v38_apply,
      val_main_v36_apply, val_main_v32_apply, val_main_v30_apply, val_main_v31_apply, val_main_v37_apply, val_main_v35_apply,
      val_main_v34_apply, val_main_v18_apply, val_main_v33_apply]
    have h2 : idx_main_v39 (idx_main_v40 (idx_main_v60 (idx_main_call0_v1 (ix5 n κ g a j)))) = ix2 a j := eq_ix2 _
    rw [h2]
    rfl
  have := a.isLt; have := j.isLt; have := n.isLt
  have ej : (BitVec.ofNat 32 j.val).toInt = (j.val : ℤ) := toInt_ofNat_of_lt (by omega)
  have en : (BitVec.ofNat 32 n.val).toInt = (n.val : ℤ) := toInt_ofNat_of_lt (by omega)
  have e128 : (128#32).toInt = 128 := rfl
  have e0 : (0#32).toInt = 0 := rfl
  rw [e, cmpi_sge_eq, cmpi_slt_eq, cmpi_sge_eq, cmpi_sgt_eq, dist_at, ej, en, e128, e0]
  refine (congrArg₂ _ (BitVec.ofBool_and_ofBool ..) (BitVec.ofBool_or_ofBool ..)).trans ((BitVec.ofBool_and_ofBool ..).trans ?_)
  rw [← Bool.decide_and, ← Bool.decide_or, ← Bool.decide_and]
  refine congrArg _ (decide_eq_decide.mpr ?_)
  show _ ↔ ((a.val < j.val ∧ j.val ≤ a.val + 128) ∧ (0 < n.val ∨ 128 ≤ j.val))
  exact and_congr (by omega) (or_congr (by omega) (by omega))

theorem slope_at (κ : Fin 4) (g : Fin 8) (i : S4x8x1x1.Idx) (h0 : i 0 = κ) (h1 : i 1 = g) :
    val_main_v54 (F := Ideal) i = ((-slopeOf (headOf κ g) : ℝ) : EReal) := by
  subst h0; subst h1
  rw [val_main_v54_apply, val_main_v53_apply]
  have e : val_main_v52 (F := Ideal) (idx_main_v53 i) = val_main_v51 (F := Ideal) (ix1 (headOf (i 0) (i 1))) :=
    shapeCast_apply _ _ _ (ix1 (headOf (i 0) (i 1))) (by
      rw [Shape.rowMajor_val_one, Shape.rowMajor_val_two]
      show 8 * (i 0).val + (i 1).val = (i 0).val * 8 + (i 1).val
      omega)
  rw [e, EReal.coe_neg]
  refine congrArg (fun y : EReal => -y) (Eq.trans ?_ (slope_scalar (headOf (i 0) (i 1)) _ rfl))
  rw [val_main_v51_apply, val_main_v50_apply, val_main_v49_apply, val_main_v47_apply, val_main_v46_apply, val_main_v45_apply,
    val_main_v44_apply, val_main_v48_apply]
  rfl

theorem zero_word (i : S_.Idx) : (constant (F := Ideal) S_ .f32 0x00000000#32 i : EReal) = 0 := Ideal.ofBits_zero_f32

section At
variable (x0 : (⟨S4096x2048, .f32⟩ : BufTy).Contents (Elt Ideal)) (x1 x2 : (⟨S4096x256, .f32⟩ : BufTy).Contents (Elt Ideal))
  (x3 : (⟨S32, .f32⟩ : BufTy).Contents (Elt Ideal))

/-- The reference's cell. -/
abbrev cz (n : Fin 32) (κ : Fin 4) : Cell := cellZ x0 x1 x2 x3 n κ

theorem q_at (n : Fin 32) (a : Fin 128) (κ : Fin 4) (g : Fin 8) (u : Fin 64) :
    val_main_v0 (F := Ideal) x0 (ix5 n a κ g u) = (cz x0 x1 x2 x3 n κ).q g a u := split_q x0 _ n a κ g u

theorem k_at (n : Fin 32) (j : Fin 256) (κ : Fin 4) (u : Fin 64) :
    val_main_v5 (F := Ideal) x1 (ix4 n j κ u) = (cz x0 x1 x2 x3 n κ).k j u :=
  band_at _ _ (fun r u => x1 (ix2 r u)) (fun i => by rw [val_main_v2_apply]; exact zero_word _) (fun n a κ u => split_k x1 _ n a κ u) n j κ u

theorem v_at (n : Fin 32) (j : Fin 256) (κ : Fin 4) (u : Fin 64) :
    val_main_v10 (F := Ideal) x2 (ix4 n j κ u) = (cz x0 x1 x2 x3 n κ).v j u :=
  band_at _ _ (fun r u => x2 (ix2 r u)) (fun i => by rw [val_main_v7_apply]; exact zero_word _) (fun n a κ u => split_k x2 _ n a κ u) n j κ u

theorem prod_at (n : Fin 32) (κ : Fin 4) (j : Fin 256) (a : Fin 128) (g : Fin 8) :
    val_main_v11 (F := Ideal) x0 x1 (ix5 n κ j a g) = ∑ u, (cz x0 x1 x2 x3 n κ).q g a u * (cz x0 x1 x2 x3 n κ).k j u := by
  refine (val_main_v11_apply x0 x1 _).trans ?_
  refine Finset.sum_congr rfl fun u _ => (mul_comm _ _).trans ?_
  exact congrArg₂ (fun u v : EReal => u * v) ((congrArg _ (eq_ix5 _)).trans (q_at x0 x1 x2 x3 n a κ g u))
    ((congrArg _ (eq_ix4 _)).trans (k_at x0 x1 x2 x3 n j κ u))

theorem score_at (n : Fin 32) (κ : Fin 4) (g : Fin 8) (a : Fin 128) (j : Fin 256) :
    val_main_v64 (F := Ideal) x0 x1 (ix5 n κ g a j) = (cz x0 x1 x2 x3 n κ).score g a j := by
  classical
  have e1 : val_main_v12 (F := Ideal) x0 x1 (ix5 n κ g a j) = ∑ u, (cz x0 x1 x2 x3 n κ).q g a u * (cz x0 x1 x2 x3 n κ).k j u := by
    rw [val_main_v12_apply]
    exact (congrArg _ (eq_ix5 _)).trans (prod_at x0 x1 x2 x3 n κ j a g)
  have e2 : val_main_v62 (F := Ideal) (ix5 n κ g a j)
      = (((-slopeOf (headOf κ g)) * (((a.val : ℤ) + 128 - (j.val : ℤ) : ℤ) : ℝ) : ℝ) : EReal) := by
    rw [val_main_v62_apply, val_main_v61_apply, val_main_v59_apply, val_main_v57_apply, val_main_v58_apply, val_main_v56_apply,
      slope_at κ g _ rfl rfl, EReal.coe_mul, ← dist_at]
    exact congrArg (fun u : EReal => _ * u) (congrArg (val_main_v55 (F := Ideal)) (eq_ix2 _))
  rw [val_main_v64_apply, mask_at, val_main_v63_apply, val_main_v14_apply, e1, e2, val_main_v13_apply]
  unfold Cert.SwaFwd.Cell.score Cert.SwaFwd.Cell.raw
  by_cases h : (cz x0 x1 x2 x3 n κ).ok a j
  · rw [if_pos h]
    have h' : ((a.val < j.val ∧ j.val ≤ a.val + 128) ∧ (0 < n.val ∨ 128 ≤ j.val)) := h
    rw [decide_eq_true h', ← Cert.KernelIdeal.Swa.bits_eighth]
    rfl
  · rw [if_neg h]
    have h' : ¬ ((a.val < j.val ∧ j.val ≤ a.val + 128) ∧ (0 < n.val ∨ 128 ≤ j.val)) := h
    rw [decide_eq_false h', val_main_call0_v2_apply]
    exact Cert.KernelIdeal.Swa.bits_bot

/-- The maximum of a row's scores. -/
theorem max_at (n : Fin 32) (κ : Fin 4) (g : Fin 8) (a : Fin 128) :
    val_main_v67 (F := Ideal) x0 x1 (ix4 n κ g a) = Finset.univ.fold max ⊥ ((cz x0 x1 x2 x3 n κ).score g a) := by
  have e : ∀ y : FVec Ideal S32x4x8x128x256 .f32, Host.reduce FloatOps.maximumf y (val_main_cst_11 (F := Ideal))
      reducesTo_S32x4x8x128x256_S32x4x8x128_d4 h_S_ (ix4 n κ g a)
      = (Finset.univ : Finset (Fin 256)).fold max ⊥ fun j => (y (ix5 n κ g a j) : EReal) := by
    intro y
    refine (Host.reduce_eq_fold_single (max : EReal → EReal → EReal) y (val_main_cst_11 (F := Ideal)) _ (by decide) _ _).trans ?_
    rw [← Cert.KernelIdeal.Swa.bits_bot]
    refine congrArg (fun f => Finset.univ.fold max _ f) (funext fun j => congrArg y ?_)
    funext b; fin_cases b <;> rfl
  refine (e (val_main_v64 (F := Ideal) x0 x1)).trans ?_
  exact congrArg (fun f => Finset.univ.fold max ⊥ f) (funext fun j => score_at x0 x1 x2 x3 n κ g a j)

theorem sink_at (n : Fin 32) (κ : Fin 4) (g : Fin 8) (i : S4x8x1x1.Idx) (h0 : i 0 = κ) (h1 : i 1 = g) :
    val_main_v66 (F := Ideal) x3 i = (cz x0 x1 x2 x3 n κ).sink g := by
  subst h0; subst h1
  rw [val_main_v66_apply]
  exact shapeCast_apply _ _ _ (ix1 (headOf (i 0) (i 1))) (by
    rw [Shape.rowMajor_val_one, Shape.rowMajor_val_two]
    show 8 * (i 0).val + (i 1).val = (i 0).val * 8 + (i 1).val
    omega)

theorem top_at (n : Fin 32) (κ : Fin 4) (g : Fin 8) (a : Fin 128) :
    val_main_v71 (F := Ideal) x0 x1 x3 (ix5 n κ g a 0) = (cz x0 x1 x2 x3 n κ).top g a := by
  have e1 : val_main_v68 (F := Ideal) x0 x1 (ix5 n κ g a 0) = Finset.univ.fold max ⊥ ((cz x0 x1 x2 x3 n κ).score g a) := by
    rw [val_main_v68_apply]; exact (congrArg _ (eq_ix4 _)).trans (max_at x0 x1 x2 x3 n κ g a)
  rw [val_main_v71_apply, val_main_v70_apply, val_main_v69_apply, sink_at x0 x1 x2 x3 n κ g _ rfl rfl, e1, Ideal.maximumf_def]; rfl

theorem p_at (n : Fin 32) (κ : Fin 4) (g : Fin 8) (a : Fin 128) (j : Fin 256) :
    val_main_v74 (F := Ideal) x0 x1 x3 (ix5 n κ g a j) = (cz x0 x1 x2 x3 n κ).p g a j := by
  have e1 : val_main_v72 (F := Ideal) x0 x1 x3 (ix5 n κ g a j) = (cz x0 x1 x2 x3 n κ).top g a := by
    rw [val_main_v72_apply]; exact (congrArg _ (eq_ix5 _)).trans (top_at x0 x1 x2 x3 n κ g a)
  rw [val_main_v74_apply, val_main_v73_apply, score_at x0 x1 x2 x3, e1, Ideal.hostUnary_exp_def, Ideal.subf_def]; rfl

theorem e_at (n : Fin 32) (κ : Fin 4) (g : Fin 8) (a : Fin 128) :
    val_main_v80 (F := Ideal) x0 x1 x3 (ix5 n κ g a 0) = Ideal.exp ((cz x0 x1 x2 x3 n κ).sink g - (cz x0 x1 x2 x3 n κ).top g a) := by
  have e1 : val_main_v78 (F := Ideal) x3 (ix5 n κ g a 0) = (cz x0 x1 x2 x3 n κ).sink g := by
    rw [val_main_v78_apply, val_main_v77_apply]; exact sink_at x0 x1 x2 x3 n κ g _ rfl rfl
  rw [val_main_v80_apply, val_main_v79_apply, e1, top_at x0 x1 x2 x3, Ideal.hostUnary_exp_def, Ideal.subf_def]

theorem den_at (n : Fin 32) (κ : Fin 4) (g : Fin 8) (a : Fin 128) :
    val_main_v81 (F := Ideal) x0 x1 x3 (ix5 n κ g a 0) = (cz x0 x1 x2 x3 n κ).den g a := by
  rw [val_main_v81_apply, e_at x0 x1 x2 x3, val_main_v76_apply, val_main_v75_apply]
  unfold Cert.SwaFwd.Cell.den
  refine congrArg (fun u : EReal => u + _) ((congrArg₂ (fun u v : EReal => u + v) (zero_word _) (Finset.sum_congr rfl fun j _ => ?_)).trans (zero_add _))
  exact (congrArg _ (eq_ix5 _)).trans (p_at x0 x1 x2 x3 n κ g a j)

theorem prob_at (n : Fin 32) (κ : Fin 4) (g : Fin 8) (a : Fin 128) (j : Fin 256) :
    val_main_v83 (F := Ideal) x0 x1 x3 (ix5 n κ g a j) = Ideal.div ((cz x0 x1 x2 x3 n κ).p g a j) ((cz x0 x1 x2 x3 n κ).den g a) := by
  rw [val_main_v83_apply, p_at x0 x1 x2 x3, val_main_v82_apply]
  exact congrArg (Ideal.div _) ((congrArg _ (eq_ix5 _)).trans (den_at x0 x1 x2 x3 n κ g a))

theorem mix_at (n : Fin 32) (κ : Fin 4) (u : Fin 64) (g : Fin 8) (a : Fin 128) :
    val_main_v84 (F := Ideal) x0 x1 x2 x3 (ix5 n κ u g a) = (cz x0 x1 x2 x3 n κ).out g a u := by
  refine (val_main_v84_apply x0 x1 x2 x3 _).trans ?_
  refine Finset.sum_congr rfl fun j _ => (mul_comm _ _).trans ?_
  exact congrArg₂ (fun u v : EReal => u * v) ((congrArg _ (eq_ix5 _)).trans (prob_at x0 x1 x2 x3 n κ g a j))
    ((congrArg _ (eq_ix4 _)).trans (v_at x0 x1 x2 x3 n j κ u))

/-- The reference's result at an index. -/
theorem out_at (n : Fin 32) (κ : Fin 4) (g : Fin 8) (a : Fin 128) (u : Fin 64) :
    val_main_v89 (F := Ideal) x0 x1 x2 x3 (ix3 (headOf κ g) (rowIn n a) u) = (cz x0 x1 x2 x3 n κ).out g a u := by
  rw [val_main_v89_apply]
  refine Eq.trans (b := val_main_v88 (F := Ideal) x0 x1 x2 x3 (ix3 (headOf κ g) (rowIn n a) u)) rfl ?_
  rw [val_main_v88_apply, val_main_v87_apply]
  have e : val_main_v86 (F := Ideal) x0 x1 x2 x3 (ix2 (rowIn n a) (colQ (headOf κ g) u)) = val_main_v85 (F := Ideal) x0 x1 x2 x3 (ix5 n a κ g u) :=
    shapeCast_apply _ _ _ (ix5 n a κ g u) (by
      rw [Shape.rowMajor_val_two, Shape.rowMajor_val_five]
      show (((n.val * 128 + a.val) * 4 + κ.val) * 8 + g.val) * 64 + u.val
        = (128 * n.val + a.val) * 2048 + (64 * (8 * κ.val + g.val) + u.val)
      omega)
  have e' : idx_main_v87 (idx_main_v88 (ix3 (headOf κ g) (rowIn n a) u)) = ix2 (rowIn n a) (colQ (headOf κ g) u) := by
    funext b
    have hκ := κ.isLt; have hg := g.isLt; have hu := u.isLt
    match b with
    | ⟨0, _⟩ =>
      refine Fin.ext ?_
      show (((128 * n.val + a.val) * 32 + (8 * κ.val + g.val)) * 64 + u.val) / 2048 = 128 * n.val + a.val
      omega
    | ⟨1, _⟩ =>
      refine Fin.ext ?_
      show (((128 * n.val + a.val) * 32 + (8 * κ.val + g.val)) * 64 + u.val) % 2048 = 64 * (8 * κ.val + g.val) + u.val
      omega
  rw [e', e, val_main_v85_apply]
  exact (congrArg _ (eq_ix5 _)).trans (mix_at x0 x1 x2 x3 n κ u g a)

end At

end Cert.SwaFwdRefIdeal.Fwd

namespace Cert.SwaFwdIdeal.Fwd

open Idealize.ShloMosaic hiding ix1 ix2 ix3 ix4 ix5 eq_ix1 eq_ix2 eq_ix3 eq_ix4 eq_ix5
open Idealize.SL.Sem
open Idealize.ShloMosaic.TcCoe Idealize.ShloMosaic.ValueIdx Cert.SwaFwdIdeal Cert.SwaFwdIdeal.Gen Cert.SwaFwd Cert.Swa

/-- The reference runs, keeps its arguments, and declares no semaphore. -/
theorem reference_frame : Cert.quiescent_SwaFwdRefIdeal (hSwaFwdRefIdeal := Cert.SwaFwdRefIdeal.Gen.facts) := fun m g _ =>
  (θ_run Cert.SwaFwdRefIdeal.defs _ _).mono
    (fun r h => ⟨fun c => (h c).2, sem_eq_zero_of_no_sems (by decide) r.2⟩) (Cert.SwaFwdRefIdeal.Value.run m g)

/-- From equal arguments the two programs leave equal results. -/
theorem agree : Cert.algebraic_SwaFwdIdeal_SwaFwdRefIdeal (hSwaFwdIdeal := Cert.SwaFwdIdeal.Gen.facts)
    (hSwaFwdRefIdeal := Cert.SwaFwdRefIdeal.Gen.facts) := by
  intro m g m' g' _ hagree
  refine ⟨_, Cert.SwaFwdIdeal.Value.run_blocks m g, ?_⟩
  refine (θ_run Cert.SwaFwdRefIdeal.defs _ _).mono (fun r h c => ⟨?_, (h c).2⟩) (Cert.SwaFwdRefIdeal.Value.run m' g')
  rw [(h c).1, Cert.SwaFwdRefIdeal.Read.val_main_v89_eq, (hagree c).1, (hagree c).2.1, (hagree c).2.2.1, (hagree c).2.2.2]
  refine ext_heads fun n κ g a u => ?_
  refine (Cert.SwaFwdRefIdeal.Fwd.out_at _ _ _ _ n κ g a u).trans ?_
  refine (congrFun (congrFun (congrFun (padded _ _ _ _ n κ).out_eq g) a) u).symm.trans ?_
  exact (final_out m c n κ g a u).symm

end Cert.SwaFwdIdeal.Fwd

end
-- ==== Proof.AdamSmall.lean ====
/-
  THE OPTIMISER'S STEP OF THE SMALL WEIGHTS: from the gradient, the weight and the two running means, the weight's change and the
  new running means, entry by entry.
-/
module

public import proofs.«01_k».proof.Defs
public import proofs.«01_k».proof.Proof.Norm
public import proofs.«01_k».proof.Proof.Gen.AdamSmallIdeal.Value
public import proofs.«01_k».proof.Proof.Gen.AdamSmallRefIdeal.Run

@[expose] public section

noncomputable section

namespace Cert.Adam

open Idealize.ShloMosaic

/-- The new running mean of the gradient. -/
def mean (g m : EReal) : EReal := Ideal.ofBits .f32 0x3F666666#32 * m + Ideal.ofBits .f32 0x3DCCCCCD#32 * g

/-- The new running mean of its square. -/
def square (g v : EReal) : EReal := Ideal.ofBits .f32 0x3F7FBE77#32 * v + Ideal.ofBits .f32 0x3A83126F#32 * (g * g)

/-- The weight's change. -/
def delta (g w m v : EReal) : EReal := Ideal.ofBits .f32 0xBA83126F#32 *
  (Ideal.div (Ideal.div (mean g m) (Ideal.ofBits .f32 0x3F26BD02#32))
    (Ideal.sqrt (Ideal.div (square g v) (Ideal.ofBits .f32 0x3C231ACC#32)) + Ideal.ofBits .f32 0x322BCC77#32)
    + Ideal.ofBits .f32 0x3C23D70A#32 * w)

end Cert.Adam

namespace Cert.AdamSmallIdeal.Fwd

open Idealize.ShloMosaic Idealize.SL.Sem
open Idealize.ShloMosaic.TcCoe Cert.AdamSmallIdeal Cert.AdamSmallIdeal.Gen Cert.AdamSmallIdeal.Value Cert.Mm Cert.Adam Idealize.ShloMosaic.Pipeline

variable (m : (ℓ : Loc nD τ sig) → Buf (Elt Ideal) ℓ) (c : Dev nD)

/-- The one point of the call sees each array whole. -/
theorem index_all : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0])

/-- The weight's change. -/
theorem final4 : (dats m 0 c).arrAt 4 cfg0.N = fun j : S160x128.Idx => delta (m ((c : Thread nD τ).loc main_arg0) j)
    (m ((c : Thread nD τ).loc main_arg1) j) (m ((c : Thread nD τ).loc main_arg2) j) (m ((c : Thread nD τ).loc main_arg3) j) := by
  refine (dats m 0 c).arrAt_eq_of_covers 4 _ (by decide +kernel) fun t hf y => ?_
  obtain ⟨e0, e1, e2, e3, e4, e5, e6⟩ := index_all t
  blk_simp
  rw [after0_4]
  unfold out0_4
  frame_out
  unfold delta mean square
  pointwise [k0_pay3, k0_pay1, k0_pay2]
  blk_point [iblk, V, e0, e1, e2, e3, e4]

/-- The new running mean of the gradient. -/
theorem final5 : (dats m 0 c).arrAt 5 cfg0.N = fun j : S160x128.Idx => mean (m ((c : Thread nD τ).loc main_arg0) j)
    (m ((c : Thread nD τ).loc main_arg2) j) := by
  refine (dats m 0 c).arrAt_eq_of_covers 5 _ (by decide +kernel) fun t hf y => ?_
  obtain ⟨e0, e1, e2, e3, e4, e5, e6⟩ := index_all t
  blk_simp
  rw [after0_5]
  unfold out0_5
  frame_out
  unfold mean
  pointwise [k0_pay1]
  blk_point [iblk, V, e0, e2, e5]

/-- The new running mean of its square. -/
theorem final6 : (dats m 0 c).arrAt 6 cfg0.N = fun j : S160x128.Idx => square (m ((c : Thread nD τ).loc main_arg0) j)
    (m ((c : Thread nD τ).loc main_arg3) j) := by
  refine (dats m 0 c).arrAt_eq_of_covers 6 _ (by decide +kernel) fun t hf y => ?_
  obtain ⟨e0, e1, e2, e3, e4, e5, e6⟩ := index_all t
  blk_simp
  rw [after0_6]
  unfold out0_6
  frame_out
  unfold square
  pointwise [k0_pay2]
  blk_point [iblk, V, e0, e3, e6]

/-- The reference runs, keeps its arguments, and declares no semaphore. -/
theorem reference_frame : Cert.quiescent_AdamSmallRefIdeal (hAdamSmallRefIdeal := Cert.AdamSmallRefIdeal.Gen.facts) := fun m g _ =>
  (θ_run Cert.AdamSmallRefIdeal.defs _ _).mono
    (fun r h => ⟨fun c => (h c).2.2.2, sem_eq_zero_of_no_sems (by decide) r.2⟩) (Cert.AdamSmallRefIdeal.Value.run m g)

/-- From equal arguments the two programs leave equal results. -/
theorem agree : Cert.algebraic_AdamSmallIdeal_AdamSmallRefIdeal (hAdamSmallIdeal := Cert.AdamSmallIdeal.Gen.facts)
    (hAdamSmallRefIdeal := Cert.AdamSmallRefIdeal.Gen.facts) := by
  intro m g m' g' _ hagree
  refine ⟨_, _, _, Cert.AdamSmallIdeal.Value.run_blocks m g, ?_⟩
  refine (θ_run Cert.AdamSmallRefIdeal.defs _ _).mono (fun r h c => ⟨?_, ?_, ?_, (h c).2.2.2⟩) (Cert.AdamSmallRefIdeal.Value.run m' g')
  · rw [(h c).1, (hagree c).1, (hagree c).2.1, (hagree c).2.2.1, (hagree c).2.2.2, final4 m c]
    funext i
    unfold delta mean square
    pointwise
  · rw [(h c).2.1, (hagree c).1, (hagree c).2.2.1, final5 m c]
    funext i
    unfold mean
    pointwise
  · rw [(h c).2.2.1, (hagree c).1, (hagree c).2.2.2, final6 m c]
    funext i
    unfold square
    pointwise

end Cert.AdamSmallIdeal.Fwd

end
-- ==== Proof.AdamSquare.lean ====
/-
  THE OPTIMISER'S STEP OF THE SQUARE WEIGHTS: each layer's gradient is the sum of the eight devices' parts, and the step of
  the weight is taken entry by entry.
-/
module

public import proofs.«01_k».proof.Defs
public import proofs.«01_k».proof.Proof.AdamSmall
public import proofs.«01_k».proof.Proof.Gen.AdamSquareIdeal.Value
public import proofs.«01_k».proof.Proof.Gen.AdamSquareRefIdeal.Run

@[expose] public section

noncomputable section

namespace Cert.AdamSquareIdeal.Fwd

open Idealize.ShloMosaic Idealize.SL.Sem
open Idealize.ShloMosaic.TcCoe Cert.AdamSquareIdeal Cert.AdamSquareIdeal.Gen Cert.AdamSquareIdeal.Value Cert.Mm Cert.Adam Idealize.ShloMosaic.Pipeline

/-- The sum of the eight devices' parts of a layer's gradient, at a row and a column. -/
def summed (p : S8x256x2048.Idx → EReal) (r : Fin 256) (k : Fin 2048) : EReal := ∑ d : Fin 8, p (ix3 d r k)

/-- The gradient of the four layers' weights, one under the other. -/
def grad (p0 p1 p2 p3 : S8x256x2048.Idx → EReal) : Mat 1024 2048 := fun j =>
  if h : (j 0).val < 256 then summed p0 ⟨(j 0).val, h⟩ (j 1)
  else if h : (j 0).val - 256 < 256 then summed p1 ⟨(j 0).val - 256, h⟩ (j 1)
  else if h : (j 0).val - 256 - 256 < 256 then summed p2 ⟨(j 0).val - 256 - 256, h⟩ (j 1)
  else summed p3 ⟨(j 0).val - 256 - 256 - 256, by have h : (j 0).val < 1024 := (j 0).isLt; omega⟩ (j 1)

variable (m : (ℓ : Loc nD τ sig) → Buf (Elt Ideal) ℓ) (c : Dev nD)

/-- The gradient of the call's arguments. -/
def total : Mat 1024 2048 := grad (m ((c : Thread nD τ).loc main_arg0)) (m ((c : Thread nD τ).loc main_arg1))
  (m ((c : Thread nD τ).loc main_arg2)) (m ((c : Thread nD τ).loc main_arg3))

/-- Which block of each array a grid point sees. -/
theorem index_all : ∀ t : Fin cfg0.N, (t.val < 2 → win0_0.index t = ![0, t.val, 0]) ∧ (t.val / 2 % 4 = 1 → win0_1.index t = ![0, t.val - 2, 0])
    ∧ (t.val / 2 % 4 = 2 → win0_2.index t = ![0, t.val - 4, 0]) ∧ (6 ≤ t.val → win0_3.index t = ![0, t.val - 6, 0])
    ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0] :=
  (by decide +kernel : ∀ t : Fin grid0.N, (t.val < 2 → win0_0.index t = ![0, t.val, 0]) ∧ (t.val / 2 % 4 = 1 → win0_1.index t = ![0, t.val - 2, 0])
    ∧ (t.val / 2 % 4 = 2 → win0_2.index t = ![0, t.val - 4, 0]) ∧ (6 ≤ t.val → win0_3.index t = ![0, t.val - 6, 0])
    ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0])

/-- The block of gradients a point adds up. -/
def added (t : Fin cfg0.N) (y : S128x2048.Idx) : EReal :=
  if t.val < 2 then ∑ d : Fin 8, (iblk m c 0 t : S8x128x2048.Idx → EReal) (ix3 d (y 0) (y 1))
  else if t.val / 2 % 4 = 1 then ∑ d : Fin 8, (iblk m c 1 t : S8x128x2048.Idx → EReal) (ix3 d (y 0) (y 1))
  else if t.val / 2 % 4 = 2 then ∑ d : Fin 8, (iblk m c 2 t : S8x128x2048.Idx → EReal) (ix3 d (y 0) (y 1))
  else ∑ d : Fin 8, (iblk m c 3 t : S8x128x2048.Idx → EReal) (ix3 d (y 0) (y 1))

theorem rows7 (t : Fin cfg0.N) (y : S128x2048.Idx) : (outsAt0 m c t.val t.isLt).1 y = added m c t y := by
  unfold added
  have ht : t.val < 8 := t.isLt
  by_cases h0 : t.val < 2
  · rw [outsAt0_A m c t h0 (by omega) (by omega) (by omega), if_pos h0, Fin.sum_univ_eight]
    frame_out
    pointwise [k0_pay13, k0_pay14, k0_pay15, k0_pay16]
  rw [if_neg h0]
  by_cases h1 : t.val / 2 % 4 = 1
  · rw [outsAt0_B m c t h0 h1 (by omega) (by omega), if_pos h1, Fin.sum_univ_eight]
    frame_out
    pointwise [k0_pay13, k0_pay14, k0_pay15, k0_pay16]
  rw [if_neg h1]
  by_cases h2 : t.val / 2 % 4 = 2
  · rw [outsAt0_C m c t h0 h1 h2 (by omega), if_pos h2, Fin.sum_univ_eight]
    frame_out
    pointwise [k0_pay13, k0_pay14, k0_pay15, k0_pay16]
  · rw [outsAt0_D m c t h0 h1 h2 (by omega), if_neg h2, Fin.sum_univ_eight]
    frame_out
    pointwise [k0_pay13, k0_pay14, k0_pay15, k0_pay16]

theorem rows8 (t : Fin cfg0.N) (y : S128x2048.Idx) : (outsAt0 m c t.val t.isLt).2.1 y
    = delta (added m c t y) ((iblk m c 4 t : S128x2048.Idx → EReal) y) ((iblk m c 5 t : S128x2048.Idx → EReal) y)
      ((iblk m c 6 t : S128x2048.Idx → EReal) y) := by
  unfold added
  have ht : t.val < 8 := t.isLt
  by_cases h0 : t.val < 2
  · rw [outsAt0_A m c t h0 (by omega) (by omega) (by omega), if_pos h0, Fin.sum_univ_eight]
    unfold delta mean square
    frame_out
    pointwise [k0_pay13, k0_pay14, k0_pay15, k0_pay16, k0_pay1, k0_pay2, k0_pay3, k0_pay4, k0_pay5, k0_pay6, k0_pay7, k0_pay8, k0_pay9, k0_pay10, k0_pay11, k0_pay12]
  rw [if_neg h0]
  by_cases h1 : t.val / 2 % 4 = 1
  · rw [outsAt0_B m c t h0 h1 (by omega) (by omega), if_pos h1, Fin.sum_univ_eight]
    unfold delta mean square
    frame_out
    pointwise [k0_pay13, k0_pay14, k0_pay15, k0_pay16, k0_pay1, k0_pay2, k0_pay3, k0_pay4, k0_pay5, k0_pay6, k0_pay7, k0_pay8, k0_pay9, k0_pay10, k0_pay11, k0_pay12]
  rw [if_neg h1]
  by_cases h2 : t.val / 2 % 4 = 2
  · rw [outsAt0_C m c t h0 h1 h2 (by omega), if_pos h2, Fin.sum_univ_eight]
    unfold delta mean square
    frame_out
    pointwise [k0_pay13, k0_pay14, k0_pay15, k0_pay16, k0_pay1, k0_pay2, k0_pay3, k0_pay4, k0_pay5, k0_pay6, k0_pay7, k0_pay8, k0_pay9, k0_pay10, k0_pay11, k0_pay12]
  · rw [outsAt0_D m c t h0 h1 h2 (by omega), if_neg h2, Fin.sum_univ_eight]
    unfold delta mean square
    frame_out
    pointwise [k0_pay13, k0_pay14, k0_pay15, k0_pay16, k0_pay1, k0_pay2, k0_pay3, k0_pay4, k0_pay5, k0_pay6, k0_pay7, k0_pay8, k0_pay9, k0_pay10, k0_pay11, k0_pay12]

theorem rows9 (t : Fin cfg0.N) (y : S128x2048.Idx) : (outsAt0 m c t.val t.isLt).2.2.1 y
    = mean (added m c t y) ((iblk m c 5 t : S128x2048.Idx → EReal) y) := by
  unfold added
  have ht : t.val < 8 := t.isLt
  by_cases h0 : t.val < 2
  · rw [outsAt0_A m c t h0 (by omega) (by omega) (by omega), if_pos h0, Fin.sum_univ_eight]
    unfold mean
    frame_out
    pointwise [k0_pay13, k0_pay14, k0_pay15, k0_pay16, k0_pay1, k0_pay4, k0_pay7, k0_pay10]
  rw [if_neg h0]
  by_cases h1 : t.val / 2 % 4 = 1
  · rw [outsAt0_B m c t h0 h1 (by omega) (by omega), if_pos h1, Fin.sum_univ_eight]
    unfold mean
    frame_out
    pointwise [k0_pay13, k0_pay14, k0_pay15, k0_pay16, k0_pay1, k0_pay4, k0_pay7, k0_pay10]
  rw [if_neg h1]
  by_cases h2 : t.val / 2 % 4 = 2
  · rw [outsAt0_C m c t h0 h1 h2 (by omega), if_pos h2, Fin.sum_univ_eight]
    unfold mean
    frame_out
    pointwise [k0_pay13, k0_pay14, k0_pay15, k0_pay16, k0_pay1, k0_pay4, k0_pay7, k0_pay10]
  · rw [outsAt0_D m c t h0 h1 h2 (by omega), if_neg h2, Fin.sum_univ_eight]
    unfold mean
    frame_out
    pointwise [k0_pay13, k0_pay14, k0_pay15, k0_pay16, k0_pay1, k0_pay4, k0_pay7, k0_pay10]

theorem rows10 (t : Fin cfg0.N) (y : S128x2048.Idx) : (outsAt0 m c t.val t.isLt).2.2.2 y
    = square (added m c t y) ((iblk m c 6 t : S128x2048.Idx → EReal) y) := by
  unfold added
  have ht : t.val < 8 := t.isLt
  by_cases h0 : t.val < 2
  · rw [outsAt0_A m c t h0 (by omega) (by omega) (by omega), if_pos h0, Fin.sum_univ_eight]
    unfold square
    frame_out
    pointwise [k0_pay13, k0_pay14, k0_pay15, k0_pay16, k0_pay2, k0_pay5, k0_pay8, k0_pay11]
  rw [if_neg h0]
  by_cases h1 : t.val / 2 % 4 = 1
  · rw [outsAt0_B m c t h0 h1 (by omega) (by omega), if_pos h1, Fin.sum_univ_eight]
    unfold square
    frame_out
    pointwise [k0_pay13, k0_pay14, k0_pay15, k0_pay16, k0_pay2, k0_pay5, k0_pay8, k0_pay11]
  rw [if_neg h1]
  by_cases h2 : t.val / 2 % 4 = 2
  · rw [outsAt0_C m c t h0 h1 h2 (by omega), if_pos h2, Fin.sum_univ_eight]
    unfold square
    frame_out
    pointwise [k0_pay13, k0_pay14, k0_pay15, k0_pay16, k0_pay2, k0_pay5, k0_pay8, k0_pay11]
  · rw [outsAt0_D m c t h0 h1 h2 (by omega), if_neg h2, Fin.sum_univ_eight]
    unfold square
    frame_out
    pointwise [k0_pay13, k0_pay14, k0_pay15, k0_pay16, k0_pay2, k0_pay5, k0_pay8, k0_pay11]

/-- What a point adds up is its rows of the gradient. -/
theorem added_eq (t : Fin cfg0.N) (y : S128x2048.Idx) (j : S1024x2048.Idx) (hr : (j 0).val = t.val * 128 + (y 0).val) (hk : j 1 = y 1) :
    added m c t y = total m c j := by
  have ht : t.val < 8 := t.isLt
  have hy : (y 0).val < 128 := (y 0).isLt
  obtain ⟨e0, e1, e2, e3, -⟩ := index_all t
  unfold added total grad summed
  rw [hk]
  by_cases h0 : t.val < 2
  · have g0 : (j 0).val < 256 := by omega
    rw [if_pos h0, dif_pos g0]
    refine Finset.sum_congr rfl fun d _ => ?_
    have := e0 h0
    blk_point [iblk, V, this]
    all_goals omega
  have g0 : ¬(j 0).val < 256 := by omega
  rw [if_neg h0, dif_neg g0]
  by_cases h1 : t.val / 2 % 4 = 1
  · have g1 : (j 0).val - 256 < 256 := by omega
    rw [if_pos h1, dif_pos g1]
    refine Finset.sum_congr rfl fun d _ => ?_
    have := e1 h1
    blk_point [iblk, V, this]
    all_goals omega
  have g1 : ¬(j 0).val - 256 < 256 := by omega
  rw [if_neg h1, dif_neg g1]
  by_cases h2 : t.val / 2 % 4 = 2
  · have g2 : (j 0).val - 256 - 256 < 256 := by omega
    rw [if_pos h2, dif_pos g2]
    refine Finset.sum_congr rfl fun d _ => ?_
    have := e2 h2
    blk_point [iblk, V, this]
    all_goals omega
  have g2 : ¬(j 0).val - 256 - 256 < 256 := by omega
  rw [if_neg h2, dif_neg g2]
  refine Finset.sum_congr rfl fun d _ => ?_
  have := e3 (by omega)
  blk_point [iblk, V, this]
  all_goals omega

/-- The gradient. -/
theorem final7 : (dats m 0 c).arrAt 7 cfg0.N = total m c := by
  refine (dats m 0 c).arrAt_eq_of_covers 7 _ (by decide +kernel) fun t hf y => ?_
  obtain ⟨-, -, -, -, e4, e5, e6, e7, e8, e9, e10⟩ := index_all t
  blk_simp
  rw [after0_7, rows7]
  refine added_eq m c t _ _ ((win0_7.rect_emb_val t y 0).trans ?_) (Fin.ext ((win0_7.rect_emb_val t y 1).trans ?_))
  · rw [e7]; rfl
  · rw [e7]; simp

/-- The weight's change. -/
theorem final8 : (dats m 0 c).arrAt 8 cfg0.N = fun j : S1024x2048.Idx => delta (total m c j) (m ((c : Thread nD τ).loc main_arg4) j)
    (m ((c : Thread nD τ).loc main_arg5) j) (m ((c : Thread nD τ).loc main_arg6) j) := by
  refine (dats m 0 c).arrAt_eq_of_covers 8 _ (by decide +kernel) fun t hf y => ?_
  obtain ⟨-, -, -, -, e4, e5, e6, e7, e8, e9, e10⟩ := index_all t
  blk_simp
  rw [after0_8, rows8]
  congr 1
  · refine added_eq m c t _ _ ((win0_8.rect_emb_val t y 0).trans ?_) (Fin.ext ((win0_8.rect_emb_val t y 1).trans ?_))
    · rw [e8]; rfl
    · rw [e8]; simp

/-- The new running mean of the gradient. -/
theorem final9 : (dats m 0 c).arrAt 9 cfg0.N = fun j : S1024x2048.Idx => mean (total m c j) (m ((c : Thread nD τ).loc main_arg5) j) := by
  refine (dats m 0 c).arrAt_eq_of_covers 9 _ (by decide +kernel) fun t hf y => ?_
  obtain ⟨-, -, -, -, e4, e5, e6, e7, e8, e9, e10⟩ := index_all t
  blk_simp
  rw [after0_9, rows9]
  congr 1
  · refine added_eq m c t _ _ ((win0_9.rect_emb_val t y 0).trans ?_) (Fin.ext ((win0_9.rect_emb_val t y 1).trans ?_))
    · rw [e9]; rfl
    · rw [e9]; simp

/-- The new running mean of its square. -/
theorem final10 : (dats m 0 c).arrAt 10 cfg0.N = fun j : S1024x2048.Idx => square (total m c j) (m ((c : Thread nD τ).loc main_arg6) j) := by
  refine (dats m 0 c).arrAt_eq_of_covers 10 _ (by decide +kernel) fun t hf y => ?_
  obtain ⟨-, -, -, -, e4, e5, e6, e7, e8, e9, e10⟩ := index_all t
  blk_simp
  rw [after0_10, rows10]
  congr 1
  · refine added_eq m c t _ _ ((win0_10.rect_emb_val t y 0).trans ?_) (Fin.ext ((win0_10.rect_emb_val t y 1).trans ?_))
    · rw [e10]; rfl
    · rw [e10]; simp

/-- The reference runs, keeps its arguments, and declares no semaphore. -/
theorem reference_frame : Cert.quiescent_AdamSquareRefIdeal (hAdamSquareRefIdeal := Cert.AdamSquareRefIdeal.Gen.facts) := fun m g _ =>
  (θ_run Cert.AdamSquareRefIdeal.defs _ _).mono
    (fun r h => ⟨fun c => (h c).2.2.2.2, sem_eq_zero_of_no_sems (by decide) r.2⟩) (Cert.AdamSquareRefIdeal.Value.run m g)

/-- From equal arguments the two programs leave equal results. -/
theorem agree : Cert.algebraic_AdamSquareIdeal_AdamSquareRefIdeal (hAdamSquareIdeal := Cert.AdamSquareIdeal.Gen.facts)
    (hAdamSquareRefIdeal := Cert.AdamSquareRefIdeal.Gen.facts) := by
  intro m g m' g' _ hagree
  refine ⟨_, _, _, _, Cert.AdamSquareIdeal.Value.run_blocks m g, ?_⟩
  refine (θ_run Cert.AdamSquareRefIdeal.defs _ _).mono (fun r h c => ⟨?_, ?_, ?_, ?_, (h c).2.2.2.2⟩) (Cert.AdamSquareRefIdeal.Value.run m' g')
  · rw [(h c).1, (hagree c).1, (hagree c).2.1, (hagree c).2.2.1, (hagree c).2.2.2.1, final7 m c]
    funext i
    unfold total grad summed
    pointwise
  · rw [(h c).2.1]
    unfold Cert.AdamSquareRefIdeal.Value.res_main_v32
    rw [(hagree c).1, (hagree c).2.1, (hagree c).2.2.1, (hagree c).2.2.2.1, (hagree c).2.2.2.2.1, (hagree c).2.2.2.2.2.1, (hagree c).2.2.2.2.2.2, final8 m c]
    funext i
    unfold delta mean square total grad summed
    pointwise
  · rw [(h c).2.2.1, (hagree c).1, (hagree c).2.1, (hagree c).2.2.1, (hagree c).2.2.2.1, (hagree c).2.2.2.2.2.1, final9 m c]
    funext i
    unfold mean total grad summed
    pointwise
  · rw [(h c).2.2.2.1, (hagree c).1, (hagree c).2.1, (hagree c).2.2.1, (hagree c).2.2.2.1, (hagree c).2.2.2.2.2.2, final10 m c]
    funext i
    unfold square total grad summed
    pointwise

end Cert.AdamSquareIdeal.Fwd

end
-- ==== Proof.LossHead.lean ====
/-
  THE LOSS: the squared distance of the last norm from the target, and its gradients by the norm's input and scale. The rows of
  the input's gradient are independent; the loss and the gradient of the scale are summed over the rows, one tile of them
  per grid point.
-/
module

public import proofs.«01_k».proof.Defs
public import proofs.«01_k».proof.Proof.Norm
public import proofs.«01_k».proof.Proof.Gen.LossHeadIdeal.Value
public import proofs.«01_k».proof.Proof.Gen.LossHeadRefIdeal.Run

@[expose] public section

noncomputable section

namespace Cert.Loss

open Idealize.ShloMosaic Cert.Mm Cert.Norm

theorem bits_step : Ideal.ofBits .f32 0x3A000000#32 = ((1 / 2048 : ℝ) : EReal) := by
  simp [Ideal.ofBits, Ideal.ieee, -EReal.coe_mul]; norm_num

theorem bits_half_step : Ideal.ofBits .f32 0x39800000#32 = ((1 / 4096 : ℝ) : EReal) := by
  simp [Ideal.ofBits, Ideal.ieee, -EReal.coe_mul]; norm_num

theorem bits_half : Ideal.ofBits .f32 0x3F000000#32 = ((1 / 2 : ℝ) : EReal) := by
  simp [Ideal.ofBits, Ideal.ieee, -EReal.coe_mul]; norm_num

theorem bits_one : Ideal.ofBits .f32 0x3F800000#32 = ((1 : ℝ) : EReal) := by
  simp [Ideal.ofBits, Ideal.ieee, -EReal.coe_mul]; norm_num

theorem bits_two : Ideal.ofBits .f32 0x40000000#32 = ((2 : ℝ) : EReal) := by
  simp [Ideal.ofBits, Ideal.ieee, -EReal.coe_mul]; norm_num

/-- The derivative of half a mean of squares. -/
theorem half_twice (e : EReal) : Ideal.div (Ideal.ofBits .f32 0x3F000000#32 * Ideal.ofBits .f32 0x3F800000#32) (Ideal.ofBits .f32 0x45000000#32)
    * (Ideal.ofBits .f32 0x40000000#32 * e) = e * Ideal.ofBits .f32 0x3A000000#32 := by
  rw [bits_half, bits_one, bits_two, bits_width, bits_step, Ideal.div_coe (by norm_num), ← EReal.coe_mul, ← EReal.coe_mul, ← mul_assoc,
    ← EReal.coe_mul, mul_comm]
  congr 2; norm_num

/-- A real factor that is not negative goes into a sum. -/
theorem scaled_sum {n : ℕ} (f : Fin n → EReal) :
    Ideal.ofBits .f32 0x39800000#32 * ∑ k, f k = ∑ k, Ideal.ofBits .f32 0x39800000#32 * f k := by
  rw [bits_half_step, mul_comm, ← sum_scaled _ (by norm_num)]
  exact Finset.sum_congr rfl fun k _ => mul_comm _ _

/-- Half the sum of the means is the sum, the factors taken together. -/
theorem half_means {n : ℕ} (f : Fin n → EReal) : Ideal.ofBits .f32 0x3F000000#32 * ∑ k, Ideal.div (f k) (Ideal.ofBits .f32 0x45000000#32)
    = ∑ k, Ideal.ofBits .f32 0x39800000#32 * f k := by
  rw [← scaled_sum, bits_half, bits_width, bits_half_step]
  simp only [Ideal.div_coe (show (2048 : ℝ) ≠ 0 by norm_num)]
  rw [sum_scaled _ (by norm_num), mul_comm (∑ k, f k), ← mul_assoc, ← EReal.coe_mul]
  congr 2; norm_num

variable {M : ℕ}

/-- The norm's distance from the target. -/
def err (x : Mat M 2048) (g : (⟨1, ![2048]⟩ : Shape).Idx → EReal) (y : Mat M 2048) : Mat M 2048 := fun j =>
  x j * Ideal.rsqrt (meanSquare x (j 0)) * g (ix1 (j 1)) - y j

/-- The loss's gradient by the norm. -/
def back (x : Mat M 2048) (g : (⟨1, ![2048]⟩ : Shape).Idx → EReal) (y : Mat M 2048) : Mat M 2048 := fun j =>
  err x g y j * Ideal.ofBits .f32 0x3A000000#32

/-- The loss. -/
def total (x : Mat M 2048) (g : (⟨1, ![2048]⟩ : Shape).Idx → EReal) (y : Mat M 2048) : EReal :=
  ∑ r : Fin M, Ideal.ofBits .f32 0x39800000#32 * ∑ k : Fin 2048, err x g y (ix2 r k) * err x g y (ix2 r k)

end Cert.Loss

namespace Cert.LossHeadIdeal.Fwd

open Idealize.ShloMosaic Idealize.SL.Sem
open Idealize.ShloMosaic.TcCoe Cert.LossHeadIdeal Cert.LossHeadIdeal.Gen Cert.LossHeadIdeal.Value Cert.Mm Cert.Norm Cert.Loss Idealize.ShloMosaic.Pipeline

variable (m : (ℓ : Loc nD τ sig) → Buf (Elt Ideal) ℓ) (c : Dev nD)

/-- Which block of each array a grid point sees. -/
theorem index_all : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0])

/-- What a point leaves in its block of the input's gradient. -/
theorem rows4 (t : Fin cfg0.N) : (outsAt0 m c t.val t.isLt).2.1
    = k0_pay1 (k0_pay6 (iblk m c 0 t)) (k0_pay7 (iblk m c 0 t)) (k0_pay10 (iblk m c 0 t) (iblk m c 1 t) (iblk m c 2 t)) (k0_pay11 (iblk m c 1 t)) := by
  funext y
  by_cases h : t.val % 16 = 0
  · rw [outsAt0_A m c t h]; frame_out
  · rw [outsAt0_B m c t h]; frame_out

theorem rows5 (t : Fin cfg0.N) : (outsAt0 m c t.val t.isLt).2.2.1
    = k0_pay2 (k0_pay6 (iblk m c 0 t)) (k0_pay7 (iblk m c 0 t)) (k0_pay10 (iblk m c 0 t) (iblk m c 1 t) (iblk m c 2 t)) (k0_pay11 (iblk m c 1 t)) := by
  funext y
  by_cases h : t.val % 16 = 0
  · rw [outsAt0_A m c t h]; frame_out
  · rw [outsAt0_B m c t h]; frame_out

/-- The second array the call leaves. -/
theorem final4 : (dats m 0 c).arrAt 4 cfg0.N = inputGrad
    (back (m ((c : Thread nD τ).loc main_arg0)) (m ((c : Thread nD τ).loc main_arg1)) (m ((c : Thread nD τ).loc main_arg2)))
    (m ((c : Thread nD τ).loc main_arg0)) (m ((c : Thread nD τ).loc main_arg1)) (fun _ => 0) := by
  refine (dats m 0 c).arrAt_eq_of_covers 4 _ (by decide +kernel) fun t hf y => ?_
  obtain ⟨e0, e1, e2, e3, e4, e5, e6⟩ := index_all t
  blk_simp
  rw [after0_4, rows4]
  unfold inputGrad
  rw [zero_add]
  unfold back err meanSquare
  pointwise [k0_pay1, k0_pay6, k0_pay7, k0_pay8, k0_pay10, k0_pay11]
  blk_point [iblk, V, e0, e1, e2, e4]

/-- The third array the call leaves: the same numbers. -/
theorem final5 : (dats m 0 c).arrAt 5 cfg0.N = inputGrad
    (back (m ((c : Thread nD τ).loc main_arg0)) (m ((c : Thread nD τ).loc main_arg1)) (m ((c : Thread nD τ).loc main_arg2)))
    (m ((c : Thread nD τ).loc main_arg0)) (m ((c : Thread nD τ).loc main_arg1)) (fun _ => 0) := by
  refine (dats m 0 c).arrAt_eq_of_covers 5 _ (by decide +kernel) fun t hf y => ?_
  obtain ⟨e0, e1, e2, e3, e4, e5, e6⟩ := index_all t
  blk_simp
  rw [after0_5, rows5]
  unfold inputGrad
  rw [zero_add]
  unfold back err meanSquare
  pointwise [k0_pay2, k0_pay1, k0_pay6, k0_pay7, k0_pay8, k0_pay10, k0_pay11]
  blk_point [iblk, V, e0, e1, e2, e5]

/-- The scale as a point sees it. -/
def scale (t : Fin cfg0.N) : (⟨1, ![2048]⟩ : Shape).Idx → EReal := fun i => iblk m c 1 t (ix2 0 (i 0))

/-- The loss after a point. -/
def lossLeft (n : ℕ) (h : n < cfg0.N) : Mat 1 128 := (outsAt0 m c n h).1

/-- What a point's rows add to it. -/
def lossTerm (t : Fin cfg0.N) : Mat 1 128 := fun _ => total (M := 256) (iblk m c 0 t) (scale m c t) (iblk m c 2 t)

theorem loss_first (t : Fin cfg0.N) (h : t.val % 16 = 0) (j : S1x128.Idx) : lossLeft m c t.val t.isLt j = 0 + lossTerm m c t j := by
  unfold lossLeft lossTerm total
  rw [outsAt0_A m c t h, ← scaled_sum]
  unfold scale err meanSquare
  frame_out
  pointwise [k0_pay5, k0_pay6, k0_pay7, k0_pay8, k0_pay9, read_unread_whole]

theorem loss_next (t : Fin cfg0.N) (h : ¬t.val % 16 = 0) (j : S1x128.Idx) :
    lossLeft m c t.val t.isLt j = lossLeft m c (t.val - 1) (Nat.lt_of_le_of_lt (Nat.sub_le _ _) t.isLt) j + lossTerm m c t j := by
  unfold lossLeft lossTerm total
  rw [outsAt0_B m c t h, ← scaled_sum]
  unfold scale err meanSquare
  frame_out
  pointwise [k0_pay6, k0_pay7, k0_pay8, k0_pay9, read_unread_whole]

/-- The first array the call leaves. -/
theorem final3 : (dats m 0 c).arrAt 3 cfg0.N
    = fun _ => total (m ((c : Thread nD τ).loc main_arg0)) (m ((c : Thread nD τ).loc main_arg1)) (m ((c : Thread nD τ).loc main_arg2)) := by
  refine (dats m 0 c).arrAt_eq_of_covers 3 _ (by decide +kernel) fun t hf y => ?_
  have hr : t.val % 16 = 15 := (flush0_3 t).mp hf
  blk_simp
  rw [after0_3]
  have e : (outsAt0 m c t.val t.isLt).1 y = lossLeft m c t.val t.isLt y := rfl
  rw [e, Pipeline.eq_sum_fin_of_reset_step_apply_of_flush (lossLeft m c) 16 (fun _ => 0) (lossTerm m c) (loss_first m c) (loss_next m c) t hr, zero_add]
  unfold lossTerm total scale err meanSquare
  refine Fin.sum_mul_add_congr fun s k hl => ?_
  have ht := index_all t
  have hs := index_all ⟨_, Pipeline.run_point_lt_of_flush t hr s⟩
  have hN : t.val < 16 := t.isLt
  blk_point [iblk, V, hs.1, hs.2.1, hs.2.2.1]

/-- The scale's gradient after a point. -/
def left (n : ℕ) (h : n < cfg0.N) : Mat 1 2048 := (outsAt0 m c n h).2.2.2

/-- What a point's rows add to it. -/
def term (t : Fin cfg0.N) : Mat 1 2048 := scaleGrad (M := 256) (back (iblk m c 0 t) (scale m c t) (iblk m c 2 t)) (iblk m c 0 t)

theorem left_first (t : Fin cfg0.N) (h : t.val % 16 = 0) (j : S1x2048.Idx) : left m c t.val t.isLt j = 0 + term m c t j := by
  unfold left term scaleGrad back scale err meanSquare
  rw [outsAt0_A m c t h]
  frame_out
  pointwise [k0_pay3, k0_pay4, k0_pay6, k0_pay7, k0_pay8, k0_pay10, read_unread_whole]

theorem left_next (t : Fin cfg0.N) (h : ¬t.val % 16 = 0) (j : S1x2048.Idx) :
    left m c t.val t.isLt j = left m c (t.val - 1) (Nat.lt_of_le_of_lt (Nat.sub_le _ _) t.isLt) j + term m c t j := by
  unfold left term scaleGrad back scale err meanSquare
  rw [outsAt0_B m c t h]
  frame_out
  pointwise [k0_pay3, k0_pay6, k0_pay7, k0_pay8, k0_pay10, read_unread_whole]

/-- The fourth array the call leaves. -/
theorem final6 : (dats m 0 c).arrAt 6 cfg0.N = scaleGrad
    (back (m ((c : Thread nD τ).loc main_arg0)) (m ((c : Thread nD τ).loc main_arg1)) (m ((c : Thread nD τ).loc main_arg2)))
    (m ((c : Thread nD τ).loc main_arg0)) := by
  refine (dats m 0 c).arrAt_eq_of_covers 6 _ (by decide +kernel) fun t hf y => ?_
  have hr : t.val % 16 = 15 := (flush0_6 t).mp hf
  blk_simp
  rw [after0_6]
  have e : (outsAt0 m c t.val t.isLt).2.2.2 y = left m c t.val t.isLt y := rfl
  rw [e, Pipeline.eq_sum_fin_of_reset_step_apply_of_flush (left m c) 16 (fun _ => 0) (term m c) (left_first m c) (left_next m c) t hr, zero_add]
  unfold term scaleGrad back scale err meanSquare
  refine Fin.sum_mul_add_congr fun s k hl => ?_
  have ht := index_all t
  have hs := index_all ⟨_, Pipeline.run_point_lt_of_flush t hr s⟩
  have hN : t.val < 16 := t.isLt
  blk_point [iblk, V, ht.2.2.2.2.2.2, hs.1, hs.2.1, hs.2.2.1]

/-- The reference runs, keeps its arguments, and declares no semaphore. -/
theorem reference_frame : Cert.quiescent_LossHeadRefIdeal (hLossHeadRefIdeal := Cert.LossHeadRefIdeal.Gen.facts) := fun m g _ =>
  (θ_run Cert.LossHeadRefIdeal.defs _ _).mono
    (fun r h => ⟨fun c => (h c).2.2.2.2, sem_eq_zero_of_no_sems (by decide) r.2⟩) (Cert.LossHeadRefIdeal.Value.run m g)

/-- From equal arguments the two programs leave equal results. -/
theorem agree : Cert.algebraic_LossHeadIdeal_LossHeadRefIdeal (hLossHeadIdeal := Cert.LossHeadIdeal.Gen.facts)
    (hLossHeadRefIdeal := Cert.LossHeadRefIdeal.Gen.facts) := by
  intro m g m' g' _ hagree
  refine ⟨_, _, _, _, Cert.LossHeadIdeal.Value.run_blocks m g, ?_⟩
  refine (θ_run Cert.LossHeadRefIdeal.defs _ _).mono (fun r h c => ⟨?_, ?_, ?_, ?_, (h c).2.2.2.2⟩) (Cert.LossHeadRefIdeal.Value.run m' g')
  · rw [(h c).1, (hagree c).1, (hagree c).2.1, (hagree c).2.2, final3 m c]
    funext i
    unfold total
    rw [← half_means]
    unfold err meanSquare
    pointwise
  · rw [(h c).2.1]
    unfold Cert.LossHeadRefIdeal.Value.res_main_v50
    rw [(hagree c).1, (hagree c).2.1, (hagree c).2.2, final4 m c]
    funext i
    rw [inputGrad_eq, zero_add]
    unfold back err meanSquare
    simp only [← half_twice]
    pointwise
    simp only [Finset.univ_unique, Finset.sum_singleton]
  · rw [(h c).2.2.1]
    unfold Cert.LossHeadRefIdeal.Value.res_main_v52
    rw [(hagree c).1, (hagree c).2.1, (hagree c).2.2, final5 m c]
    funext i
    rw [inputGrad_eq, zero_add]
    unfold back err meanSquare
    simp only [← half_twice]
    pointwise
    simp only [Finset.univ_unique, Finset.sum_singleton]
  · rw [(h c).2.2.2.1, (hagree c).1, (hagree c).2.1, (hagree c).2.2, final6 m c]
    funext i
    unfold scaleGrad back err meanSquare
    simp only [← half_twice]
    pointwise
    refine (Fin.sum_univ_one _).trans (Finset.sum_congr rfl fun k _ => mul_comm _ _)

end Cert.LossHeadIdeal.Fwd

end
-- ==== Proof.lean ====
/-
  THE CLAIM. The frames are the generated ones; the gradients of sliding-window attention are compared in Proof/Agree.lean, each
  product in a module of its name.
-/
module

public import proofs.«01_k».proof.Proof.Gen.NormBwdIdeal.Value
public import proofs.«01_k».proof.Proof.Gen.NormBwdRefIdeal.Run
public import proofs.«01_k».proof.Proof.Gen.NormBwdRefIdeal.Read
public import proofs.«01_k».proof.Proof.Gen.NormBwd.Frame
public import proofs.«01_k».proof.Proof.Gen.MergeBwdIdeal.Value
public import proofs.«01_k».proof.Proof.Gen.MergeBwdRefIdeal.Run
public import proofs.«01_k».proof.Proof.Gen.MergeBwdRefIdeal.Read
public import proofs.«01_k».proof.Proof.Gen.MergeBwd.Frame
public import proofs.«01_k».proof.Proof.Gen.NormFwdIdeal.Value
public import proofs.«01_k».proof.Proof.Gen.NormFwdRefIdeal.Run
public import proofs.«01_k».proof.Proof.Gen.NormFwdRefIdeal.Read
public import proofs.«01_k».proof.Proof.Gen.NormFwd.Frame
public import proofs.«01_k».proof.Proof.Gen.MergeFwdIdeal.Value
public import proofs.«01_k».proof.Proof.Gen.MergeFwdRefIdeal.Run
public import proofs.«01_k».proof.Proof.Gen.MergeFwdRefIdeal.Read
public import proofs.«01_k».proof.Proof.Gen.MergeFwd.Frame
public import proofs.«01_k».proof.Proof.Gen.ConvFwdIdeal.Value
public import proofs.«01_k».proof.Proof.Gen.ConvFwdRefIdeal.Run
public import proofs.«01_k».proof.Proof.Gen.ConvFwdRefIdeal.Read
public import proofs.«01_k».proof.Proof.Gen.ConvFwd.Frame
public import proofs.«01_k».proof.Proof.Gen.SwaFwdIdeal.Value
public import proofs.«01_k».proof.Proof.Gen.SwaFwdRefIdeal.Run
public import proofs.«01_k».proof.Proof.Gen.SwaFwdRefIdeal.Read
public import proofs.«01_k».proof.Proof.Gen.SwaFwd.Frame
public import proofs.«01_k».proof.Proof.Gen.LossHeadIdeal.Value
public import proofs.«01_k».proof.Proof.Gen.LossHeadRefIdeal.Run
public import proofs.«01_k».proof.Proof.Gen.LossHeadRefIdeal.Read
public import proofs.«01_k».proof.Proof.Gen.LossHead.Frame
public import proofs.«01_k».proof.Proof.Gen.AdamSmallIdeal.Value
public import proofs.«01_k».proof.Proof.Gen.AdamSmallRefIdeal.Run
public import proofs.«01_k».proof.Proof.Gen.AdamSmallRefIdeal.Read
public import proofs.«01_k».proof.Proof.Gen.AdamSmall.Frame
public import proofs.«01_k».proof.Proof.Gen.AdamSquareIdeal.Value
public import proofs.«01_k».proof.Proof.Gen.AdamSquareRefIdeal.Run
public import proofs.«01_k».proof.Proof.Gen.AdamSquareRefIdeal.Read
public import proofs.«01_k».proof.Proof.Gen.AdamSquare.Frame
public import proofs.«01_k».proof.Proof.Gen.ConvBwdIdeal.Value
public import proofs.«01_k».proof.Proof.Gen.ConvBwdRefIdeal.Run
public import proofs.«01_k».proof.Proof.Gen.ConvBwdRefIdeal.Read
public import proofs.«01_k».proof.Proof.Gen.ConvBwd.Frame
public import proofs.«01_k».proof.Proof.Gen.DownDx.Frame
public import proofs.«01_k».proof.Proof.Gen.DownDw.Frame
public import proofs.«01_k».proof.Proof.Gen.UpDx.Frame
public import proofs.«01_k».proof.Proof.Gen.UpDw.Frame
public import proofs.«01_k».proof.Proof.Gen.OutDx.Frame
public import proofs.«01_k».proof.Proof.Gen.BranchDx.Frame
public import proofs.«01_k».proof.Proof.Gen.SquareDw.Frame
public import proofs.«01_k».proof.Proof.Gen.ProjDx.Frame
public import proofs.«01_k».proof.Proof.Gen.ProjDw.Frame
public import proofs.«01_k».proof.Proof.Gen.Proj.Frame
public import proofs.«01_k».proof.Proof.Gen.Branch.Frame
public import proofs.«01_k».proof.Proof.Gen.Out.Frame
public import proofs.«01_k».proof.Proof.Gen.Up.Frame
public import proofs.«01_k».proof.Proof.Gen.Down.Frame
public import proofs.«01_k».proof.Proof.Gen.KernelIdeal.Value
public import proofs.«01_k».proof.Proof.Gen.ReferenceIdeal.Run
public import proofs.«01_k».proof.Proof.Gen.ReferenceIdeal.Read
public import proofs.«01_k».proof.Defs
public import proofs.«01_k».proof.Proof.Gen.Kernel.Frame
public import proofs.«01_k».proof.Proof.Agree
public import proofs.«01_k».proof.Proof.DownDx
public import proofs.«01_k».proof.Proof.DownDw
public import proofs.«01_k».proof.Proof.UpDx
public import proofs.«01_k».proof.Proof.UpDw
public import proofs.«01_k».proof.Proof.OutDx
public import proofs.«01_k».proof.Proof.BranchDx
public import proofs.«01_k».proof.Proof.SquareDw
public import proofs.«01_k».proof.Proof.ProjDx
public import proofs.«01_k».proof.Proof.ProjDw
public import proofs.«01_k».proof.Proof.Proj
public import proofs.«01_k».proof.Proof.Branch
public import proofs.«01_k».proof.Proof.Out
public import proofs.«01_k».proof.Proof.Up
public import proofs.«01_k».proof.Proof.Down
public import proofs.«01_k».proof.Proof.Norm
public import proofs.«01_k».proof.Proof.Merge
public import proofs.«01_k».proof.Proof.ConvSame
public import proofs.«01_k».proof.Proof.NormFwd
public import proofs.«01_k».proof.Proof.MergeFwd
public import proofs.«01_k».proof.Proof.ConvFwd
public import proofs.«01_k».proof.Proof.SwaFwdSame
public import proofs.«01_k».proof.Proof.AdamSmall
public import proofs.«01_k».proof.Proof.AdamSquare
public import proofs.«01_k».proof.Proof.LossHead

@[expose] public section

noncomputable section

namespace Cert.Proof

open Idealize.ShloMosaic Idealize.SL.Sem

/-- The reference runs, keeps its arguments, and declares no semaphore. -/
theorem reference_frame : Cert.quiescent_ReferenceIdeal (hReferenceIdeal := Cert.ReferenceIdeal.Gen.facts) := fun m g _ =>
  (θ_run Cert.ReferenceIdeal.defs _ _).mono
    (fun r h => ⟨fun c => (h c).2.2.2.2, sem_eq_zero_of_no_sems (by decide) r.2⟩) (Cert.ReferenceIdeal.Value.run m g)

/-- From equal real arguments the two programs leave equal gradients. -/
theorem attention : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  refine ⟨_, _, _, _, Cert.KernelIdeal.Value.run_blocks m g, ?_⟩
  refine (θ_run Cert.ReferenceIdeal.defs _ _).mono (fun r h c => ?_) (Cert.ReferenceIdeal.Value.run m' g')
  obtain ⟨r0, r1, r2, r3, k0, k1, k2, k3, k4⟩ := h c
  obtain ⟨a0, a1, a2, a3, a4⟩ := hargs c
  obtain ⟨e0, e1, e2, e3⟩ := Cert.Swa.agree m c (hpre c)
  have b0 : StableHlo.launchContents m' c (Proc.devRef .tc Cert.ReferenceIdeal.main_arg0) = _ := a0
  have b1 : StableHlo.launchContents m' c (Proc.devRef .tc Cert.ReferenceIdeal.main_arg1) = _ := a1
  have b2 : StableHlo.launchContents m' c (Proc.devRef .tc Cert.ReferenceIdeal.main_arg2) = _ := a2
  have b3 : StableHlo.launchContents m' c (Proc.devRef .tc Cert.ReferenceIdeal.main_arg3) = _ := a3
  have b4 : StableHlo.launchContents m' c (Proc.devRef .tc Cert.ReferenceIdeal.main_arg4) = _ := a4
  refine ⟨(r0.trans (Cert.ReferenceIdeal.Read.val_main_v186_eq _)).trans ?_,
    (r1.trans (Cert.ReferenceIdeal.Read.val_main_v187_eq _)).trans ?_,
    (r2.trans (Cert.ReferenceIdeal.Read.val_main_v188_eq _)).trans ?_,
    (r3.trans (Cert.ReferenceIdeal.Read.val_main_v189_eq _)).trans ?_, k0, k1, k2, k3, k4⟩
  · rw [b0, b1, b2, b3, b4]; exact e0
  · rw [b0, b1, b2, b3, b4]; exact e1
  · rw [b0, b1, b3, b4]; exact e2
  · rw [b0, b1, b2, b3, b4]; exact e3

theorem claim : Cert.Claim :=
  ⟨Cert.Kernel.Gen.facts, Cert.KernelIdeal.Gen.facts, Cert.ReferenceIdeal.Gen.facts,
    Cert.DownDx.Gen.facts, Cert.DownDxIdeal.Gen.facts, Cert.DownDxRefIdeal.Gen.facts,
    Cert.DownDw.Gen.facts, Cert.DownDwIdeal.Gen.facts, Cert.DownDwRefIdeal.Gen.facts,
    Cert.UpDx.Gen.facts, Cert.UpDxIdeal.Gen.facts, Cert.UpDxRefIdeal.Gen.facts,
    Cert.UpDw.Gen.facts, Cert.UpDwIdeal.Gen.facts, Cert.UpDwRefIdeal.Gen.facts,
    Cert.OutDx.Gen.facts, Cert.OutDxIdeal.Gen.facts, Cert.OutDxRefIdeal.Gen.facts,
    Cert.BranchDx.Gen.facts, Cert.BranchDxIdeal.Gen.facts, Cert.BranchDxRefIdeal.Gen.facts,
    Cert.SquareDw.Gen.facts, Cert.SquareDwIdeal.Gen.facts, Cert.SquareDwRefIdeal.Gen.facts,
    Cert.ProjDx.Gen.facts, Cert.ProjDxIdeal.Gen.facts, Cert.ProjDxRefIdeal.Gen.facts,
    Cert.ProjDw.Gen.facts, Cert.ProjDwIdeal.Gen.facts, Cert.ProjDwRefIdeal.Gen.facts,
    Cert.Proj.Gen.facts, Cert.ProjIdeal.Gen.facts, Cert.ProjRefIdeal.Gen.facts,
    Cert.Branch.Gen.facts, Cert.BranchIdeal.Gen.facts, Cert.BranchRefIdeal.Gen.facts,
    Cert.Out.Gen.facts, Cert.OutIdeal.Gen.facts, Cert.OutRefIdeal.Gen.facts,
    Cert.Up.Gen.facts, Cert.UpIdeal.Gen.facts, Cert.UpRefIdeal.Gen.facts,
    Cert.Down.Gen.facts, Cert.DownIdeal.Gen.facts, Cert.DownRefIdeal.Gen.facts,
    Cert.NormBwd.Gen.facts, Cert.NormBwdIdeal.Gen.facts, Cert.NormBwdRefIdeal.Gen.facts,
    Cert.MergeBwd.Gen.facts, Cert.MergeBwdIdeal.Gen.facts, Cert.MergeBwdRefIdeal.Gen.facts,
    Cert.ConvBwd.Gen.facts, Cert.ConvBwdIdeal.Gen.facts, Cert.ConvBwdRefIdeal.Gen.facts,
    Cert.NormFwd.Gen.facts, Cert.NormFwdIdeal.Gen.facts, Cert.NormFwdRefIdeal.Gen.facts,
    Cert.MergeFwd.Gen.facts, Cert.MergeFwdIdeal.Gen.facts, Cert.MergeFwdRefIdeal.Gen.facts,
    Cert.ConvFwd.Gen.facts, Cert.ConvFwdIdeal.Gen.facts, Cert.ConvFwdRefIdeal.Gen.facts,
    Cert.SwaFwd.Gen.facts, Cert.SwaFwdIdeal.Gen.facts, Cert.SwaFwdRefIdeal.Gen.facts,
    Cert.AdamSmall.Gen.facts, Cert.AdamSmallIdeal.Gen.facts, Cert.AdamSmallRefIdeal.Gen.facts,
    Cert.AdamSquare.Gen.facts, Cert.AdamSquareIdeal.Gen.facts, Cert.AdamSquareRefIdeal.Gen.facts,
    Cert.LossHead.Gen.facts, Cert.LossHeadIdeal.Gen.facts, Cert.LossHeadRefIdeal.Gen.facts,
    Cert.Pre_finite.Gen.facts,
    fun m g _ => Cert.Kernel.Gen.frame m g, fun m g _ => Cert.KernelIdeal.Gen.frame m g,
    fun m g _ => Cert.KernelIdeal.Gen.frame m g, reference_frame, fun m g _ => reference_frame m g trivial,
    fun m g _ => Cert.DownDx.Gen.frame m g, fun m g _ => Cert.DownDxIdeal.Gen.frame m g, Cert.DownDxIdeal.Product.reference_frame,
    fun m g _ => Cert.DownDw.Gen.frame m g, fun m g _ => Cert.DownDwIdeal.Gen.frame m g, Cert.DownDwIdeal.Product.reference_frame,
    fun m g _ => Cert.UpDx.Gen.frame m g, fun m g _ => Cert.UpDxIdeal.Gen.frame m g, Cert.UpDxIdeal.Product.reference_frame,
    fun m g _ => Cert.UpDw.Gen.frame m g, fun m g _ => Cert.UpDwIdeal.Gen.frame m g, Cert.UpDwIdeal.Product.reference_frame,
    fun m g _ => Cert.OutDx.Gen.frame m g, fun m g _ => Cert.OutDxIdeal.Gen.frame m g, Cert.OutDxIdeal.Product.reference_frame,
    fun m g _ => Cert.BranchDx.Gen.frame m g, fun m g _ => Cert.BranchDxIdeal.Gen.frame m g, Cert.BranchDxIdeal.Product.reference_frame,
    fun m g _ => Cert.SquareDw.Gen.frame m g, fun m g _ => Cert.SquareDwIdeal.Gen.frame m g, Cert.SquareDwIdeal.Product.reference_frame,
    fun m g _ => Cert.ProjDx.Gen.frame m g, fun m g _ => Cert.ProjDxIdeal.Gen.frame m g, Cert.ProjDxIdeal.Product.reference_frame,
    fun m g _ => Cert.ProjDw.Gen.frame m g, fun m g _ => Cert.ProjDwIdeal.Gen.frame m g, Cert.ProjDwIdeal.Product.reference_frame,
    fun m g _ => Cert.Proj.Gen.frame m g, fun m g _ => Cert.ProjIdeal.Gen.frame m g, Cert.ProjIdeal.Product.reference_frame,
    fun m g _ => Cert.Branch.Gen.frame m g, fun m g _ => Cert.BranchIdeal.Gen.frame m g, Cert.BranchIdeal.Product.reference_frame,
    fun m g _ => Cert.Out.Gen.frame m g, fun m g _ => Cert.OutIdeal.Gen.frame m g, Cert.OutIdeal.Product.reference_frame,
    fun m g _ => Cert.Up.Gen.frame m g, fun m g _ => Cert.UpIdeal.Gen.frame m g, Cert.UpIdeal.Product.reference_frame,
    fun m g _ => Cert.Down.Gen.frame m g, fun m g _ => Cert.DownIdeal.Gen.frame m g, Cert.DownIdeal.Product.reference_frame,
    fun m g _ => Cert.NormBwd.Gen.frame m g, fun m g _ => Cert.NormBwdIdeal.Gen.frame m g, Cert.NormBwdIdeal.Back.reference_frame,
    fun m g _ => Cert.MergeBwd.Gen.frame m g, fun m g _ => Cert.MergeBwdIdeal.Gen.frame m g, Cert.MergeBwdIdeal.Merge.reference_frame,
    fun m g _ => Cert.ConvBwd.Gen.frame m g, fun m g _ => Cert.ConvBwdIdeal.Gen.frame m g, Cert.ConvBwdIdeal.Conv.reference_frame,
    fun m g _ => Cert.NormFwd.Gen.frame m g, fun m g _ => Cert.NormFwdIdeal.Gen.frame m g, Cert.NormFwdIdeal.Fwd.reference_frame,
    fun m g _ => Cert.MergeFwd.Gen.frame m g, fun m g _ => Cert.MergeFwdIdeal.Gen.frame m g, Cert.MergeFwdIdeal.Fwd.reference_frame,
    fun m g _ => Cert.ConvFwd.Gen.frame m g, fun m g _ => Cert.ConvFwdIdeal.Gen.frame m g, Cert.ConvFwdIdeal.Fwd.reference_frame,
    fun m g _ => Cert.SwaFwd.Gen.frame m g, fun m g _ => Cert.SwaFwdIdeal.Gen.frame m g, Cert.SwaFwdIdeal.Fwd.reference_frame,
    fun m g _ => Cert.AdamSmall.Gen.frame m g, fun m g _ => Cert.AdamSmallIdeal.Gen.frame m g, Cert.AdamSmallIdeal.Fwd.reference_frame,
    fun m g _ => Cert.AdamSquare.Gen.frame m g, fun m g _ => Cert.AdamSquareIdeal.Gen.frame m g, Cert.AdamSquareIdeal.Fwd.reference_frame,
    fun m g _ => Cert.LossHead.Gen.frame m g, fun m g _ => Cert.LossHeadIdeal.Gen.frame m g, Cert.LossHeadIdeal.Fwd.reference_frame,
    trivial, attention,
    trivial, Cert.DownDxIdeal.Product.agree,
    trivial, Cert.DownDwIdeal.Product.agree,
    trivial, Cert.UpDxIdeal.Product.agree,
    trivial, Cert.UpDwIdeal.Product.agree,
    trivial, Cert.OutDxIdeal.Product.agree,
    trivial, Cert.BranchDxIdeal.Product.agree,
    trivial, Cert.SquareDwIdeal.Product.agree,
    trivial, Cert.ProjDxIdeal.Product.agree,
    trivial, Cert.ProjDwIdeal.Product.agree,
    trivial, Cert.ProjIdeal.Product.agree,
    trivial, Cert.BranchIdeal.Product.agree,
    trivial, Cert.OutIdeal.Product.agree,
    trivial, Cert.UpIdeal.Product.agree,
    trivial, Cert.DownIdeal.Product.agree,
    trivial, Cert.NormBwdIdeal.Back.agree,
    trivial, Cert.MergeBwdIdeal.Merge.agree,
    trivial, Cert.ConvBwdIdeal.Conv.agree,
    trivial, Cert.NormFwdIdeal.Fwd.agree,
    trivial, Cert.MergeFwdIdeal.Fwd.agree,
    trivial, Cert.ConvFwdIdeal.Fwd.agree,
    trivial, Cert.SwaFwdIdeal.Fwd.agree,
    trivial, Cert.AdamSmallIdeal.Fwd.agree,
    trivial, Cert.AdamSquareIdeal.Fwd.agree,
    trivial, Cert.LossHeadIdeal.Fwd.agree⟩

end Cert.Proof

end
